-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v63) = v1 c
          ∧ r.2.mem ((c.tc : Thread Cert.Reference9Ideal.nD Cert.Reference9Ideal.τ).loc Cert.Reference9Ideal.main_v62) = v2 c
          ∧ r.2.mem ((c.tc : Thread Cert.Reference9Ideal.nD Cert.Reference9Ideal.τ).loc Cert.Reference9Ideal.main_v64) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v54) = v0 c
          ∧ r.2.mem ((c.tc : Thread Cert.Reference11Ideal.nD Cert.Reference11Ideal.τ).loc Cert.Reference11Ideal.main_v55) = v1 c
          ∧ r.2.mem ((c.tc : Thread Cert.Reference11Ideal.nD Cert.Reference11Ideal.τ).loc Cert.Reference11Ideal.main_v56) = v2 c
          ∧ r.2.mem ((c.tc : Thread Cert.Reference11Ideal.nD Cert.Reference11Ideal.τ).loc Cert.Reference11Ideal.main_v57) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v12) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v1) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v5) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v5) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v5) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v1) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v2) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v4) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v3) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v5) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v4) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v5) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v0) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v2) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v0)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v3) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hPre_finite : Cert.Pre_finite.Facts) (hPre_finite2 : Cert.Pre_finite2.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
-- ==== Pre_finite.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S_ : Shape := ⟨0, ![]⟩

class Facts : Prop where
  bitsLt_bf16_f32 : FTy.bits .bf16 < FTy.bits .f32
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x384 : S_.BroadcastsInDim S2048x384 (![] : Fin 0 → Fin S2048x384.rank)
  reducesTo_S2048x384_S_d0_1 : S2048x384.ReducesTo [0, 1] S_
  bcast_S_S2048x1536 : S_.BroadcastsInDim S2048x1536 (![] : Fin 0 → Fin S2048x1536.rank)
  reducesTo_S2048x1536_S_d0_1 : S2048x1536.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x768 .f32) (main_v15 : IVec S_ 1) (main_v16 : FVec F S2048x64 .f32) (main_cst_4 : FVec F S_ .f32) : IVec S_ 1 :=
  let main_v17 : FVec F S2048x64 .f32 := broadcastInDim S2048x64 ![] bcast_S_S2048x64 main_cst_4
  let main_v18 : IVec S2048x64 1 := cmpf .olt main_v16 main_v17
  let main_c_5 : IVec S_ 1 := constantI S_ 1 1#1
  let main_v19 : IVec S_ 1 := (fun x v => Host.reduce IntOp.andi x v reducesTo_S2048x64_S_d0_1 h_S_) main_v18 main_c_5
  let main_v20 : IVec S_ 1 := andi main_v15 main_v19
  let main_v21 : FVec F S2048x768 .f32 := Host.absf main_arg4
  let main_cst_6 : FVec F S_ .f32 := constant S_ .f32 0x7F800000#32
  let main_v22 : FVec F S2048x768 .f32 := broadcastInDim S2048x768 ![] bcast_S_S2048x768 main_cst_6
  let main_v23 : IVec S2048x768 1 := cmpf .olt main_v21 main_v22
  let main_c_7 : IVec S_ 1 := constantI S_ 1 1#1
  let main_v24 : IVec S_ 1 := (fun x v => Host.reduce IntOp.andi x v reducesTo_S2048x768_S_d0_1 h_S_) main_v23 main_c_7
  let main_v25 : IVec S_ 1 := andi main_v20 main_v24
  main_v25

def fn {F : FTy → Type} [FloatOps F] (main_arg0 : FVec F S2048x768 .bf16) (main_arg1 : FVec F S2048x384 .f32) (main_arg2 : FVec F S2048x1536 .bf16) (main_arg3 : FVec F S2048x64 .f32) (main_arg4 : FVec F S2048x768 .f32) : IVec S_ 1 :=
  let main_v0 : FVec F S2048x768 .f32 := (extf .f32 · bitsLt_bf16_f32) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_c : IVec S_ 1 := constantI S_ 1 1#1
  let main_v4 : IVec S_ 1 := (fun x v => Host.reduce IntOp.andi x v reducesTo_S2048x768_S_d0_1 h_S_) main_v3 main_c
  let main_v5 : FVec F S2048x384 .f32 := Host.absf main_arg1
  let main_cst_0 : FVec F S_ .f32 := constant S_ .f32 0x7F800000#32
  let main_v6 : FVec F S2048x384 .f32 := broadcastInDim S2048x384 ![] bcast_S_S2048x384 main_cst_0
  let main_v7 : IVec S2048x384 1 := cmpf .olt main_v5 main_v6
  let main_c_1 : IVec S_ 1 := constantI S_ 1 1#1
  let main_v8 : IVec S_ 1 := (fun x v => Host.reduce IntOp.andi x v reducesTo_S2048x384_S_d0_1 h_S_) main_v7 main_c_1
  let main_v9 : IVec S_ 1 := andi main_v4 main_v8
  let main_v10 : FVec F S2048x1536 .f32 := (extf .f32 · bitsLt_bf16_f32) main_arg2
  let main_v11 : FVec F S2048x1536 .f32 := Host.absf main_v10
  let main_cst_2 : FVec F S_ .f32 := constant S_ .f32 0x7F800000#32
  let main_v12 : FVec F S2048x1536 .f32 := broadcastInDim S2048x1536 ![] bcast_S_S2048x1536 main_cst_2
  let main_v13 : IVec S2048x1536 1 := cmpf .olt main_v11 main_v12
  let main_c_3 : IVec S_ 1 := constantI S_ 1 1#1
  let main_v14 : IVec S_ 1 := (fun x v => Host.reduce IntOp.andi x v reducesTo_S2048x1536_S_d0_1 h_S_) main_v13 main_c_3
  let main_v15 : IVec S_ 1 := andi main_v9 main_v14
  let main_v16 : FVec F S2048x64 .f32 := Host.absf main_arg3
  let main_cst_4 : FVec F S_ .f32 := constant S_ .f32 0x7F800000#32
  fn_part1 (F := F) main_arg4 main_v15 main_v16 main_cst_4
-- ==== Pre_finite10.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) (main_arg2 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite2.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S_ : Shape := ⟨0, ![]⟩

class Facts : Prop where
  bitsLt_bf16_f32 : FTy.bits .bf16 < FTy.bits .f32
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x384 : S_.BroadcastsInDim S2048x384 (![] : Fin 0 → Fin S2048x384.rank)
  reducesTo_S2048x384_S_d0_1 : S2048x384.ReducesTo [0, 1] S_
  bcast_S_S2048x1536 : S_.BroadcastsInDim S2048x1536 (![] : Fin 0 → Fin S2048x1536.rank)
  reducesTo_S2048x1536_S_d0_1 : S2048x1536.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v15 : IVec S_ 1) (main_v16 : FVec F S2048x64 .f32) (main_cst_4 : FVec F S_ .f32) : IVec S_ 1 :=
  let main_v17 : FVec F S2048x64 .f32 := broadcastInDim S2048x64 ![] bcast_S_S2048x64 main_cst_4
  let main_v18 : IVec S2048x64 1 := cmpf .olt main_v16 main_v17
  let main_c_5 : IVec S_ 1 := constantI S_ 1 1#1
  let main_v19 : IVec S_ 1 := (fun x v => Host.reduce IntOp.andi x v reducesTo_S2048x64_S_d0_1 h_S_) main_v18 main_c_5
  let main_v20 : IVec S_ 1 := andi main_v15 main_v19
  main_v20

def fn {F : FTy → Type} [FloatOps F] (main_arg0 : FVec F S2048x768 .bf16) (main_arg1 : FVec F S2048x384 .f32) (main_arg2 : FVec F S2048x1536 .bf16) (main_arg3 : FVec F S2048x64 .f32) : IVec S_ 1 :=
  let main_v0 : FVec F S2048x768 .f32 := (extf .f32 · bitsLt_bf16_f32) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_c : IVec S_ 1 := constantI S_ 1 1#1
  let main_v4 : IVec S_ 1 := (fun x v => Host.reduce IntOp.andi x v reducesTo_S2048x768_S_d0_1 h_S_) main_v3 main_c
  let main_v5 : FVec F S2048x384 .f32 := Host.absf main_arg1
  let main_cst_0 : FVec F S_ .f32 := constant S_ .f32 0x7F800000#32
  let main_v6 : FVec F S2048x384 .f32 := broadcastInDim S2048x384 ![] bcast_S_S2048x384 main_cst_0
  let main_v7 : IVec S2048x384 1 := cmpf .olt main_v5 main_v6
  let main_c_1 : IVec S_ 1 := constantI S_ 1 1#1
  let main_v8 : IVec S_ 1 := (fun x v => Host.reduce IntOp.andi x v reducesTo_S2048x384_S_d0_1 h_S_) main_v7 main_c_1
  let main_v9 : IVec S_ 1 := andi main_v4 main_v8
  let main_v10 : FVec F S2048x1536 .f32 := (extf .f32 · bitsLt_bf16_f32) main_arg2
  let main_v11 : FVec F S2048x1536 .f32 := Host.absf main_v10
  let main_cst_2 : FVec F S_ .f32 := constant S_ .f32 0x7F800000#32
  let main_v12 : FVec F S2048x1536 .f32 := broadcastInDim S2048x1536 ![] bcast_S_S2048x1536 main_cst_2
  let main_v13 : IVec S2048x1536 1 := cmpf .olt main_v11 main_v12
  let main_c_3 : IVec S_ 1 := constantI S_ 1 1#1
  let main_v14 : IVec S_ 1 := (fun x v => Host.reduce IntOp.andi x v reducesTo_S2048x1536_S_d0_1 h_S_) main_v13 main_c_3
  let main_v15 : IVec S_ 1 := andi main_v9 main_v14
  let main_v16 : FVec F S2048x64 .f32 := Host.absf main_arg3
  let main_cst_4 : FVec F S_ .f32 := constant S_ .f32 0x7F800000#32
  fn_part1 (F := F) main_v15 main_v16 main_cst_4
-- ==== Kernel.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S2048x6x128 : Shape := ⟨3, ![2048, 6, 128]⟩
abbrev S2048x6x64 : Shape := ⟨3, ![2048, 6, 64]⟩
abbrev S2048x6x256 : Shape := ⟨3, ![2048, 6, 256]⟩
abbrev S6x2048x2048 : Shape := ⟨3, ![6, 2048, 2048]⟩
abbrev S2048x2048x6 : Shape := ⟨3, ![2048, 2048, 6]⟩
abbrev S_ : Shape := ⟨0, ![]⟩
abbrev S6x2048 : Shape := ⟨2, ![6, 2048]⟩
abbrev S6x2048x1 : Shape := ⟨3, ![6, 2048, 1]⟩
abbrev S6x128x2048 : Shape := ⟨3, ![6, 128, 2048]⟩
abbrev S2048x1x64 : Shape := ⟨3, ![2048, 1, 64]⟩
abbrev S2048x1x128 : Shape := ⟨3, ![2048, 1, 128]⟩
abbrev S2048x128 : Shape := ⟨2, ![2048, 128]⟩
abbrev S1024x128 : Shape := ⟨2, ![1024, 128]⟩
abbrev S1x1024x1 : Shape := ⟨3, ![1, 1024, 1]⟩
abbrev S2048x256 : Shape := ⟨2, ![2048, 256]⟩
abbrev S1024x256 : Shape := ⟨2, ![1024, 256]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 51
  | .vmem => 25
  | .smem => 0
  | _ => 0

abbrev bufTy : (tb : Table) → Fin (tcTables nBuf tb) → BufTy
  | .hbm, ⟨0, _⟩ => ⟨S2048x768, .bf16⟩
  | .hbm, ⟨1, _⟩ => ⟨S2048x384, .f32⟩
  | .hbm, ⟨2, _⟩ => ⟨S2048x1536, .bf16⟩
  | .hbm, ⟨3, _⟩ => ⟨S2048x64, .f32⟩
  | .hbm, ⟨4, _⟩ => ⟨S2048x768, .f32⟩
  | .hbm, ⟨5, _⟩ => ⟨S2048x768, .f32⟩
  | .hbm, ⟨6, _⟩ => ⟨S2048x6x128, .f32⟩
  | .hbm, ⟨7, _⟩ => ⟨S2048x6x64, .f32⟩
  | .hbm, ⟨8, _⟩ => ⟨S2048x1536, .f32⟩
  | .hbm, ⟨9, _⟩ => ⟨S2048x6x256, .f32⟩
  | .hbm, ⟨10, _⟩ => ⟨S2048x6x128, .f32⟩
  | .hbm, ⟨11, _⟩ => ⟨S2048x6x128, .f32⟩
  | .hbm, ⟨12, _⟩ => ⟨S6x2048x2048, .f32⟩
  | .hbm, ⟨13, _⟩ => ⟨S2048x2048x6, .f32⟩
  | .hbm, ⟨14, _⟩ => ⟨S6x2048x2048, .f32⟩
  | .hbm, ⟨15, _⟩ => ⟨S6x2048x2048, .f32⟩
  | .hbm, ⟨16, _⟩ => ⟨S_, .f32⟩
  | .hbm, ⟨17, _⟩ => ⟨S6x2048x2048, .f32⟩
  | .hbm, ⟨18, _⟩ => ⟨S6x2048x2048, .f32⟩
  | .hbm, ⟨19, _⟩ => ⟨S_, .f32⟩
  | .hbm, ⟨20, _⟩ => ⟨S6x2048, .f32⟩
  | .hbm, ⟨21, _⟩ => ⟨S6x2048x1, .f32⟩
  | .hbm, ⟨22, _⟩ => ⟨S6x2048x2048, .f32⟩
  | .hbm, ⟨23, _⟩ => ⟨S6x2048x2048, .f32⟩
  | .hbm, ⟨24, _⟩ => ⟨S6x2048x2048, .f32⟩
  | .hbm, ⟨25, _⟩ => ⟨S_, .f32⟩
  | .hbm, ⟨26, _⟩ => ⟨S6x2048, .f32⟩
  | .hbm, ⟨27, _⟩ => ⟨S6x2048x1, .f32⟩
  | .hbm, ⟨28, _⟩ => ⟨S6x2048x2048, .f32⟩
  | .hbm, ⟨29, _⟩ => ⟨S6x2048x2048, .f32⟩
  | .hbm, ⟨30, _⟩ => ⟨S6x128x2048, .f32⟩
  | .hbm, ⟨31, _⟩ => ⟨S2048x6x128, .f32⟩
  | .hbm, ⟨32, _⟩ => ⟨S2048x768, .f32⟩
  | .hbm, ⟨33, _⟩ => ⟨S6x2048x1, .f32⟩
  | .hbm, ⟨34, _⟩ => ⟨S6x2048x1, .f32⟩
  | .hbm, ⟨35, _⟩ => ⟨S2048x6x64, .f32⟩
  | .hbm, ⟨36, _⟩ => ⟨S_, .i32⟩
  | .hbm, ⟨37, _⟩ => ⟨S_, .f32⟩
  | .hbm, ⟨38, _⟩ => ⟨S2048x6x128, .f32⟩
  | .hbm, ⟨39, _⟩ => ⟨S2048x768, .f32⟩
  | .hbm, ⟨40, _⟩ => ⟨S2048x768, .bf16⟩
  | .hbm, ⟨41, _⟩ => ⟨S2048x1x64, .f32⟩
  | .hbm, ⟨42, _⟩ => ⟨S_, .i32⟩
  | .hbm, ⟨43, _⟩ => ⟨S_, .f32⟩
  | .hbm, ⟨44, _⟩ => ⟨S2048x1x128, .f32⟩
  | .hbm, ⟨45, _⟩ => ⟨S2048x128, .f32⟩
  | .hbm, ⟨46, _⟩ => ⟨S2048x128, .bf16⟩
  | .hbm, ⟨47, _⟩ => ⟨S2048x768, .bf16⟩
  | .hbm, ⟨48, _⟩ => ⟨S2048x768, .bf16⟩
  | .hbm, ⟨49, _⟩ => ⟨S2048x1536, .bf16⟩
  | .hbm, ⟨50, _⟩ => ⟨S2048x128, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | .local _ .vmem, ⟨11, _⟩ => ⟨S1x1024x1, .f32⟩
  | .local _ .vmem, ⟨12, _⟩ => ⟨S1x1024x1, .f32⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S2048x256, .bf16⟩
  | .local _ .vmem, ⟨20, _⟩ => ⟨S2048x256, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_call1_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![6, 2], ![false, false]⟩

def k0_cond7 (i : grid0.Coords) : BitVec 1 :=
  let arg1 : BitVec 32 := BitVec.ofNat 32 (i 1).val
  let c1_i32_41 : BitVec 32 := 1#32
  let v65 : BitVec 1 := Scalar.cmpi .eq arg1 c1_i32_41
  let v66 : BitVec 32 := Scalar.extui v65
  let c0_i32_42 : BitVec 32 := 0#32
  let v67 : BitVec 1 := Scalar.cmpi .ne v66 c0_i32_42
  v67

def k0_cond8 (i : grid0.Coords) : BitVec 1 :=
  let arg0 : BitVec 32 := BitVec.ofNat 32 (i 0).val
  let c5_i32 : BitVec 32 := 5#32
  let v68 : BitVec 1 := Scalar.cmpi .eq arg0 c5_i32
  let arg1 : BitVec 32 := BitVec.ofNat 32 (i 1).val
  let c1_i32_43 : BitVec 32 := 1#32
  let v69 : BitVec 1 := Scalar.cmpi .eq arg1 c1_i32_43
  let v70 : BitVec 1 := Scalar.andi v68 v69
  let v71 : BitVec 32 := Scalar.extui v70
  let c0_i32_44 : BitVec 32 := 0#32
  let v72 : BitVec 1 := Scalar.cmpi .ne v71 c0_i32_44
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S2048x6x128 : Shape := ⟨3, ![2048, 6, 128]⟩
abbrev S2048x6x64 : Shape := ⟨3, ![2048, 6, 64]⟩
abbrev S2048x6x256 : Shape := ⟨3, ![2048, 6, 256]⟩
abbrev S6x2048x2048 : Shape := ⟨3, ![6, 2048, 2048]⟩
abbrev S2048x2048x6 : Shape := ⟨3, ![2048, 2048, 6]⟩
abbrev S_ : Shape := ⟨0, ![]⟩
abbrev S6x2048 : Shape := ⟨2, ![6, 2048]⟩
abbrev S6x2048x1 : Shape := ⟨3, ![6, 2048, 1]⟩
abbrev S6x128x2048 : Shape := ⟨3, ![6, 128, 2048]⟩
abbrev S6x2048x128 : Shape := ⟨3, ![6, 2048, 128]⟩
abbrev S2048x128 : Shape := ⟨2, ![2048, 128]⟩

abbrev nBuf : Space → Nat
  | .hbm => 102
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x384, .f32⟩
  | .hbm, ⟨2, _⟩ => ⟨S2048x1536, .bf16⟩
  | .hbm, ⟨3, _⟩ => ⟨S2048x64, .f32⟩
  | .hbm, ⟨4, _⟩ => ⟨S2048x768, .f32⟩
  | .hbm, ⟨5, _⟩ => ⟨S2048x768, .f32⟩
  | .hbm, ⟨6, _⟩ => ⟨S2048x6x128, .f32⟩
  | .hbm, ⟨7, _⟩ => ⟨S2048x6x64, .f32⟩
  | .hbm, ⟨8, _⟩ => ⟨S2048x1536, .f32⟩
  | .hbm, ⟨9, _⟩ => ⟨S2048x6x256, .f32⟩
  | .hbm, ⟨10, _⟩ => ⟨S2048x6x128, .f32⟩
  | .hbm, ⟨11, _⟩ => ⟨S2048x6x128, .f32⟩
  | .hbm, ⟨12, _⟩ => ⟨S6x2048x2048, .f32⟩
  | .hbm, ⟨13, _⟩ => ⟨S2048x2048x6, .f32⟩
  | .hbm, ⟨14, _⟩ => ⟨S6x2048x2048, .f32⟩
  | .hbm, ⟨15, _⟩ => ⟨S6x2048x2048, .f32⟩
  | .hbm, ⟨16, _⟩ => ⟨S_, .f32⟩
  | .hbm, ⟨17, _⟩ => ⟨S6x2048x2048, .f32⟩
  | .hbm, ⟨18, _⟩ => ⟨S6x2048x2048, .f32⟩
  | .hbm, ⟨19, _⟩ => ⟨S_, .f32⟩
  | .hbm, ⟨20, _⟩ => ⟨S6x2048, .f32⟩
  | .hbm, ⟨21, _⟩ => ⟨S6x2048x1, .f32⟩
  | .hbm, ⟨22, _⟩ => ⟨S6x2048x2048, .f32⟩
  | .hbm, ⟨23, _⟩ => ⟨S6x2048x2048, .i1⟩
  | .hbm, ⟨24, _⟩ => ⟨S6x2048x2048, .f32⟩
  | .hbm, ⟨25, _⟩ => ⟨S_, .f32⟩
  | .hbm, ⟨26, _⟩ => ⟨S6x2048, .f32⟩
  | .hbm, ⟨27, _⟩ => ⟨S_, .f32⟩
  | .hbm, ⟨28, _⟩ => ⟨S6x2048, .f32⟩
  | .hbm, ⟨29, _⟩ => ⟨S6x2048, .f32⟩
  | .hbm, ⟨30, _⟩ => ⟨S_, .f32⟩
  | .hbm, ⟨31, _⟩ => ⟨S6x2048, .f32⟩
  | .hbm, ⟨32, _⟩ => ⟨S6x2048, .i1⟩
  | .hbm, ⟨33, _⟩ => ⟨S_, .f32⟩
  | .hbm, ⟨34, _⟩ => ⟨S6x2048, .f32⟩
  | .hbm, ⟨35, _⟩ => ⟨S6x2048, .i1⟩
  | .hbm, ⟨36, _⟩ => ⟨S_, .f32⟩
  | .hbm, ⟨37, _⟩ => ⟨S6x2048, .f32⟩
  | .hbm, ⟨38, _⟩ => ⟨S_, .f32⟩
  | .hbm, ⟨39, _⟩ => ⟨S6x2048, .f32⟩
  | .hbm, ⟨40, _⟩ => ⟨S_, .f32⟩
  | .hbm, ⟨41, _⟩ => ⟨S6x2048, .f32⟩
  | .hbm, ⟨42, _⟩ => ⟨S6x2048, .f32⟩
  | .hbm, ⟨43, _⟩ => ⟨S6x2048, .f32⟩
  | .hbm, ⟨44, _⟩ => ⟨S6x2048x1, .f32⟩
  | .hbm, ⟨45, _⟩ => ⟨S6x2048x2048, .f32⟩
  | .hbm, ⟨46, _⟩ => ⟨S6x2048x2048, .f32⟩
  | .hbm, ⟨47, _⟩ => ⟨S6x2048x2048, .f32⟩
  | .hbm, ⟨48, _⟩ => ⟨S_, .f32⟩
  | .hbm, ⟨49, _⟩ => ⟨S6x2048, .f32⟩
  | .hbm, ⟨50, _⟩ => ⟨S6x2048x1, .f32⟩
  | .hbm, ⟨51, _⟩ => ⟨S6x2048x2048, .f32⟩
  | .hbm, ⟨52, _⟩ => ⟨S6x2048x2048, .f32⟩
  | .hbm, ⟨53, _⟩ => ⟨S6x2048x1, .f32⟩
  | .hbm, ⟨54, _⟩ => ⟨S_, .f32⟩
  | .hbm, ⟨55, _⟩ => ⟨S6x2048x1, .f32⟩
  | .hbm, ⟨56, _⟩ => ⟨S6x2048x1, .f32⟩
  | .hbm, ⟨57, _⟩ => ⟨S6x128x2048, .f32⟩
  | .hbm, ⟨58, _⟩ => ⟨S2048x6x128, .f32⟩
  | .hbm, ⟨59, _⟩ => ⟨S2048x6x128, .f32⟩
  | .hbm, ⟨60, _⟩ => ⟨S6x128x2048, .f32⟩
  | .hbm, ⟨61, _⟩ => ⟨S6x2048x2048, .f32⟩
  | .hbm, ⟨62, _⟩ => ⟨S6x128x2048, .f32⟩
  | .hbm, ⟨63, _⟩ => ⟨S2048x6x128, .f32⟩
  | .hbm, ⟨64, _⟩ => ⟨S6x2048x2048, .f32⟩
  | .hbm, ⟨65, _⟩ => ⟨S6x2048x2048, .f32⟩
  | .hbm, ⟨66, _⟩ => ⟨S6x2048x2048, .f32⟩
  | .hbm, ⟨67, _⟩ => ⟨S_, .f32⟩
  | .hbm, ⟨68, _⟩ => ⟨S6x2048, .f32⟩
  | .hbm, ⟨69, _⟩ => ⟨S6x2048x1, .f32⟩
  | .hbm, ⟨70, _⟩ => ⟨S6x2048x1, .f32⟩
  | .hbm, ⟨71, _⟩ => ⟨S6x2048x2048, .f32⟩
  | .hbm, ⟨72, _⟩ => ⟨S6x2048x2048, .f32⟩
  | .hbm, ⟨73, _⟩ => ⟨S_, .f32⟩
  | .hbm, ⟨74, _⟩ => ⟨S6x2048, .f32⟩
  | .hbm, ⟨75, _⟩ => ⟨S6x2048x2048, .f32⟩
  | .hbm, ⟨76, _⟩ => ⟨S6x2048x2048, .f32⟩
  | .hbm, ⟨77, _⟩ => ⟨S6x2048x2048, .f32⟩
  | .hbm, ⟨78, _⟩ => ⟨S_, .f32⟩
  | .hbm, ⟨79, _⟩ => ⟨S6x2048x2048, .f32⟩
  | .hbm, ⟨80, _⟩ => ⟨S6x2048x2048, .f32⟩
  | .hbm, ⟨81, _⟩ => ⟨S2048x2048x6, .f32⟩
  | .hbm, ⟨82, _⟩ => ⟨S2048x6x64, .f32⟩
  | .hbm, ⟨83, _⟩ => ⟨S2048x64, .f32⟩
  | .hbm, ⟨84, _⟩ => ⟨S6x2048x128, .f32⟩
  | .hbm, ⟨85, _⟩ => ⟨S2048x6x128, .f32⟩
  | .hbm, ⟨86, _⟩ => ⟨S6x2048x128, .f32⟩
  | .hbm, ⟨87, _⟩ => ⟨S2048x6x128, .f32⟩
  | .hbm, ⟨88, _⟩ => ⟨S2048x768, .f32⟩
  | .hbm, ⟨89, _⟩ => ⟨S2048x768, .bf16⟩
  | .hbm, ⟨90, _⟩ => ⟨S_, .i32⟩
  | .hbm, ⟨91, _⟩ => ⟨S_, .f32⟩
  | .hbm, ⟨92, _⟩ => ⟨S2048x6x128, .f32⟩
  | .hbm, ⟨93, _⟩ => ⟨S2048x768, .f32⟩
  | .hbm, ⟨94, _⟩ => ⟨S2048x768, .bf16⟩
  | .hbm, ⟨95, _⟩ => ⟨S2048x6x256, .f32⟩
  | .hbm, ⟨96, _⟩ => ⟨S2048x1536, .f32⟩
  | .hbm, ⟨97, _⟩ => ⟨S2048x1536, .bf16⟩
  | .hbm, ⟨98, _⟩ => ⟨S_, .i32⟩
  | .hbm, ⟨99, _⟩ => ⟨S_, .f32⟩
  | .hbm, ⟨100, _⟩ => ⟨S2048x128, .f32⟩
  | .hbm, ⟨101, _⟩ => ⟨S2048x128, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c : Ref sig .tc := ⟨.hbm, 90, rfl⟩
abbrev main_call0_v0 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_13 : Ref sig .tc := ⟨.hbm, 98, rfl⟩
abbrev main_call1_v0 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Kernel2.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S2048x6x64 : Shape := ⟨3, ![2048, 6, 64]⟩
abbrev S_ : Shape := ⟨0, ![]⟩
abbrev S2048x6x128 : Shape := ⟨3, ![2048, 6, 128]⟩
abbrev S2048x1x64 : Shape := ⟨3, ![2048, 1, 64]⟩
abbrev S2048x1x128 : Shape := ⟨3, ![2048, 1, 128]⟩
abbrev S2048x128 : Shape := ⟨2, ![2048, 128]⟩
abbrev S6x2048x1 : Shape := ⟨3, ![6, 2048, 1]⟩
abbrev S256x128 : Shape := ⟨2, ![256, 128]⟩
abbrev S1x256x1 : Shape := ⟨3, ![1, 256, 1]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 13
  | .smem => 0
  | _ => 0

abbrev bufTy : (tb : Table) → Fin (tcTables nBuf tb) → BufTy
  | .hbm, ⟨0, _⟩ => ⟨S2048x768, .bf16⟩
  | .hbm, ⟨1, _⟩ => ⟨S2048x384, .f32⟩
  | .hbm, ⟨2, _⟩ => ⟨S2048x1536, .bf16⟩
  | .hbm, ⟨3, _⟩ => ⟨S2048x64, .f32⟩
  | .hbm, ⟨4, _⟩ => ⟨S2048x6x64, .f32⟩
  | .hbm, ⟨5, _⟩ => ⟨S_, .i32⟩
  | .hbm, ⟨6, _⟩ => ⟨S_, .f32⟩
  | .hbm, ⟨7, _⟩ => ⟨S2048x6x128, .f32⟩
  | .hbm, ⟨8, _⟩ => ⟨S2048x768, .f32⟩
  | .hbm, ⟨9, _⟩ => ⟨S2048x768, .bf16⟩
  | .hbm, ⟨10, _⟩ => ⟨S2048x1x64, .f32⟩
  | .hbm, ⟨11, _⟩ => ⟨S_, .i32⟩
  | .hbm, ⟨12, _⟩ => ⟨S_, .f32⟩
  | .hbm, ⟨13, _⟩ => ⟨S2048x1x128, .f32⟩
  | .hbm, ⟨14, _⟩ => ⟨S2048x128, .f32⟩
  | .hbm, ⟨15, _⟩ => ⟨S2048x128, .bf16⟩
  | .hbm, ⟨16, _⟩ => ⟨S2048x768, .f32⟩
  | .hbm, ⟨17, _⟩ => ⟨S6x2048x1, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S256x128, .f32⟩
  | .local _ .vmem, ⟨10, _⟩ => ⟨S256x128, .f32⟩
  | .local _ .vmem, ⟨11, _⟩ => ⟨S1x256x1, .f32⟩
  | .local _ .vmem, ⟨12, _⟩ => ⟨S1x256x1, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2048x768 : Shape := ⟨2, ![2048, 768]⟩
abbrev S2048x384 : Shape := ⟨2, ![2048, 384]⟩
abbrev S2048x1536 : Shape := ⟨2, ![2048, 1536]⟩
abbrev S2048x64 : Shape := ⟨2, ![2048, 64]⟩
abbrev S2048x6x128 : Shape := ⟨3, ![2048, 6, 128]⟩
abbrev S2048x6x64 : Shape := ⟨3, ![2048, 6, 64]⟩
abbrev S2048x6x256 : Shape := ⟨3, ![2048, 6, 256]⟩
abbrev S6x2048x2048 : Shape := ⟨3, ![6, 2048, 2048]⟩
abbrev S2048x2048x6 : Shape := ⟨3, ![2048, 2048, 6]⟩
abbrev S_ : Shape := ⟨0, ![]⟩
abbrev S6x2048 : Shape := ⟨2, ![6, 2048]⟩
abbrev S6x2048x1 : Shape := ⟨3, ![6, 2048, 1]⟩
abbrev S6x128x2048 : Shape := ⟨3, ![6, 128, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x384, .f32⟩
  | .hbm, ⟨2, _⟩ => ⟨S2048x1536, .bf16⟩
  | .hbm, ⟨3, _⟩ => ⟨S2048x64, .f32⟩
  | .hbm, ⟨4, _⟩ => ⟨S2048x768, .f32⟩
  | .hbm, ⟨5, _⟩ => ⟨S2048x6x128, .f32⟩
  | .hbm, ⟨6, _⟩ => ⟨S2048x6x64, .f32⟩
  | .hbm, ⟨7, _⟩ => ⟨S2048x1536, .f32⟩
  | .hbm, ⟨8, _⟩ => ⟨S2048x6x256, .f32⟩
  | .hbm, ⟨9, _⟩ => ⟨S2048x6x128, .f32⟩
  | .hbm, ⟨10, _⟩ => ⟨S2048x6x128, .f32⟩
  | .hbm, ⟨11, _⟩ => ⟨S6x2048x2048, .f32⟩
  | .hbm, ⟨12, _⟩ => ⟨S2048x2048x6, .f32⟩
  | .hbm, ⟨13, _⟩ => ⟨S6x2048x2048, .f32⟩
  | .hbm, ⟨14, _⟩ => ⟨S6x2048x2048, .f32⟩
  | .hbm, ⟨15, _⟩ => ⟨S_, .f32⟩
  | .hbm, ⟨16, _⟩ => ⟨S6x2048x2048, .f32⟩
  | .hbm, ⟨17, _⟩ => ⟨S6x2048x2048, .f32⟩
  | .hbm, ⟨18, _⟩ => ⟨S_, .f32⟩
  | .hbm, ⟨19, _⟩ => ⟨S6x2048, .f32⟩
  | .hbm, ⟨20, _⟩ => ⟨S_, .f32⟩
  | .hbm, ⟨21, _⟩ => ⟨S6x2048, .f32⟩
  | .hbm, ⟨22, _⟩ => ⟨S6x2048, .f32⟩
  | .hbm, ⟨23, _⟩ => ⟨S6x2048x1, .f32⟩
  | .hbm, ⟨24, _⟩ => ⟨S6x2048x2048, .f32⟩
  | .hbm, ⟨25, _⟩ => ⟨S6x2048x2048, .f32⟩
  | .hbm, ⟨26, _⟩ => ⟨S6x2048x2048, .f32⟩
  | .hbm, ⟨27, _⟩ => ⟨S_, .f32⟩
  | .hbm, ⟨28, _⟩ => ⟨S6x2048, .f32⟩
  | .hbm, ⟨29, _⟩ => ⟨S6x2048x1, .f32⟩
  | .hbm, ⟨30, _⟩ => ⟨S6x2048x2048, .f32⟩
  | .hbm, ⟨31, _⟩ => ⟨S6x2048x2048, .f32⟩
  | .hbm, ⟨32, _⟩ => ⟨S6x128x2048, .f32⟩
  | .hbm, ⟨33, _⟩ => ⟨S2048x6x128, .f32⟩
  | .hbm, ⟨34, _⟩ => ⟨S_, .f32⟩
  | .hbm, ⟨35, _⟩ => ⟨S6x2048, .f32⟩
  | .hbm, ⟨36, _⟩ => ⟨S6x2048x1, .f32⟩
  | .hbm, ⟨37, _⟩ => ⟨S2048x768, .f32⟩
  | .hbm, ⟨38, _⟩ => ⟨S6x2048x2048, .f32⟩
  | .hbm, ⟨39, _⟩ => ⟨S6x2048x2048, .f32⟩
  | .hbm, ⟨40, _⟩ => ⟨S6x2048x2048, .f32⟩
  | .hbm, ⟨41, _⟩ => ⟨S_, .f32⟩
  | .hbm, ⟨42, _⟩ => ⟨S6x2048, .f32⟩
  | .hbm, ⟨43, _⟩ => ⟨S6x2048x1, .f32⟩
  | .hbm, ⟨44, _⟩ => ⟨S6x2048x1, .f32⟩
  | .hbm, ⟨45, _⟩ => ⟨S6x2048x1, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S2048x6144 : Shape := ⟨2, ![2048, 6144]⟩
abbrev S6144x2048 : Shape := ⟨2, ![6144, 2048]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x6144 : Shape := ⟨2, ![2048, 6144]⟩
abbrev S6144x2048 : Shape := ⟨2, ![6144, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x2048, .bf16⟩
  | .hbm, ⟨2, _⟩ => ⟨S_, .f32⟩
  | .hbm, ⟨3, _⟩ => ⟨S2048x2048, .f32⟩
  | .hbm, ⟨4, _⟩ => ⟨S6144x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x2048 : Shape := ⟨2, ![2048, 2048]⟩
abbrev S2048x6144 : Shape := ⟨2, ![2048, 6144]⟩
abbrev S6144x2048 : Shape := ⟨2, ![6144, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S6144x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S6144x2048, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x2048 : Shape := ⟨2, ![2048, 2048]⟩
abbrev S6144x2048 : Shape := ⟨2, ![6144, 2048]⟩
abbrev S2048x6144 : Shape := ⟨2, ![2048, 6144]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x6144, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S6144x2048 : Shape := ⟨2, ![6144, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6144x2048, .bf16⟩
  | .hbm, ⟨2, _⟩ => ⟨S2048x2048, .f32⟩
  | .hbm, ⟨3, _⟩ => ⟨S6144x2048, .f32⟩
  | .hbm, ⟨4, _⟩ => ⟨S2048x6144, .f32⟩
  | .hbm, ⟨5, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x512 : Shape := ⟨2, ![2048, 512]⟩
abbrev S3x512 : Shape := ⟨2, ![3, 512]⟩
abbrev S_ : Shape := ⟨0, ![]⟩
abbrev S5x512 : Shape := ⟨2, ![5, 512]⟩
abbrev S8x512 : Shape := ⟨2, ![8, 512]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S3x512, .f32⟩
  | .hbm, ⟨4, _⟩ => ⟨S2048x512, .f32⟩
  | .hbm, ⟨5, _⟩ => ⟨S_, .f32⟩
  | .hbm, ⟨6, _⟩ => ⟨S5x512, .f32⟩
  | .hbm, ⟨7, _⟩ => ⟨S8x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S8x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | .local _ .vmem, ⟨9, _⟩ => ⟨S8x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S8x128, .f32⟩
  | .local _ .vmem, ⟨17, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2048x512 : Shape := ⟨2, ![2048, 512]⟩
abbrev S3x512 : Shape := ⟨2, ![3, 512]⟩
abbrev S_ : Shape := ⟨0, ![]⟩
abbrev S1x512 : Shape := ⟨2, ![1, 512]⟩
abbrev S2050x512 : Shape := ⟨2, ![2050, 512]⟩
abbrev S512 : Shape := ⟨1, ![512]⟩
abbrev S8x512 : Shape := ⟨2, ![8, 512]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S3x512, .f32⟩
  | .hbm, ⟨4, _⟩ => ⟨S2048x512, .f32⟩
  | .hbm, ⟨5, _⟩ => ⟨S_, .f32⟩
  | .hbm, ⟨6, _⟩ => ⟨S1x512, .f32⟩
  | .hbm, ⟨7, _⟩ => ⟨S2048x512, .f32⟩
  | .hbm, ⟨8, _⟩ => ⟨S2050x512, .f32⟩
  | .hbm, ⟨9, _⟩ => ⟨S_, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S2048x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S2050x512, .f32⟩
  | .hbm, ⟨49, _⟩ => ⟨S2048x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S2050x512, .f32⟩
  | .hbm, ⟨63, _⟩ => ⟨S2050x512, .f32⟩
  | .hbm, ⟨64, _⟩ => ⟨S2048x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S2048x512, .f32⟩
  | .hbm, ⟨69, _⟩ => ⟨S2048x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S2050x512, .f32⟩
  | .hbm, ⟨78, _⟩ => ⟨S2050x512, .f32⟩
  | .hbm, ⟨79, _⟩ => ⟨S1x512, .f32⟩
  | .hbm, ⟨80, _⟩ => ⟨S2048x512, .f32⟩
  | .hbm, ⟨81, _⟩ => ⟨S1x512, .f32⟩
  | .hbm, ⟨82, _⟩ => ⟨S2048x512, .f32⟩
  | .hbm, ⟨83, _⟩ => ⟨S2048x512, .f32⟩
  | .hbm, ⟨84, _⟩ => ⟨S_, .i32⟩
  | .hbm, ⟨85, _⟩ => ⟨S_, .f32⟩
  | .hbm, ⟨86, _⟩ => ⟨S8x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel10.lean ====
abbrev S2048x2048 : Shape := ⟨2, ![2048, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Kernel11.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_15 : BitVec 32 := 0#32
  let v38 : BitVec 1 := Scalar.cmpi .ne v37 c0_i32_15
  v38

def k0_cond2 (i : grid0.Coords) : BitVec 1 :=
  let arg0 : BitVec 32 := BitVec.ofNat 32 (i 0).val
  let c0_i32_16 : BitVec 32 := 0#32
  let v39 : BitVec 1 := Scalar.cmpi .ne arg0 c0_i32_16
  let v40 : BitVec 32 := Scalar.extui v39
  let c0_i32_17 : BitVec 32 := 0#32
  let v41 : BitVec 1 := Scalar.cmpi .ne v40 c0_i32_17
  v41

def k0_cond3 (i : grid0.Coords) : BitVec 1 :=
  let arg0 : BitVec 32 := BitVec.ofNat 32 (i 0).val
  let c0_i32_19 : BitVec 32 := 0#32
  let v47 : BitVec 1 := Scalar.cmpi .eq arg0 c0_i32_19
  let v48 : BitVec 32 := Scalar.extui v47
  let c0_i32_20 : BitVec 32 := 0#32
  let v49 : BitVec 1 := Scalar.cmpi .ne v48 c0_i32_20
  v49

def k0_cond4 (i : grid0.Coords) : BitVec 1 :=
  let arg0 : BitVec 32 := BitVec.ofNat 32 (i 0).val
  let c0_i32_21 : BitVec 32 := 0#32
  let v50 : BitVec 1 := Scalar.cmpi .ne arg0 c0_i32_21
  let v51 : BitVec 32 := Scalar.extui v50
  let c0_i32_22 : BitVec 32 := 0#32
  let v52 : BitVec 1 := Scalar.cmpi .ne v51 c0_i32_22
  v52

def k0_cond5 (i : grid0.Coords) : BitVec 1 :=
  let arg0 : BitVec 32 := BitVec.ofNat 32 (i 0).val
  let c0_i32_24 : BitVec 32 := 0#32
  let v55 : BitVec 1 := Scalar.cmpi .eq arg0 c0_i32_24
  let v56 : BitVec 32 := Scalar.extui v55
  let c0_i32_25 : BitVec 32 := 0#32
  let v57 : BitVec 1 := Scalar.cmpi .ne v56 c0_i32_25
  v57

def k0_cond6 (i : grid0.Coords) : BitVec 1 :=
  let arg0 : BitVec 32 := BitVec.ofNat 32 (i 0).val
  let c0_i32_26 : BitVec 32 := 0#32
  let v58 : BitVec 1 := Scalar.cmpi .ne arg0 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S1x2048, .f32⟩
  | .hbm, ⟨76, _⟩ => ⟨S1x2048, .f32⟩
  | .hbm, ⟨77, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel12.lean ====
abbrev S2048x768 : Shape := ⟨2, ![2048, 768]⟩
abbrev S768 : Shape := ⟨1, ![768]⟩
abbrev S1x768 : Shape := ⟨2, ![1, 768]⟩
abbrev S512x768 : Shape := ⟨2, ![512, 768]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S2048x768, .f32⟩
  | .hbm, ⟨3, _⟩ => ⟨S1x768, .f32⟩
  | .hbm, ⟨4, _⟩ => ⟨S2048x768, .f32⟩
  | .hbm, ⟨5, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S512x768, .f32⟩
  | .local _ .vmem, ⟨6, _⟩ => ⟨S512x768, .f32⟩
  | .local _ .vmem, ⟨7, _⟩ => ⟨S1x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let arg1 : BitVec 32 := BitVec.ofNat 32 (i 1).val
  let c0_i32_11 : BitVec 32 := 0#32
  let v28 : BitVec 1 := Scalar.cmpi .eq arg1 c0_i32_11
  let v29 : BitVec 1 := Scalar.andi v27 v28
  let c0_i32_12 : BitVec 32 := 0#32
  let c1_i32 : BitVec 32 := 1#32
  let v30 : BitVec 32 := Scalar.select v29 c0_i32_12 c1_i32
  let c0_i32_14 : BitVec 32 := 0#32
  let v34 : BitVec 1 := Scalar.cmpi .eq v30 c0_i32_14
  let v35 : BitVec 32 := Scalar.extui v34
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32 : BitVec 32 := 0#32
  let v27 : BitVec 1 := Scalar.cmpi .eq arg0 c0_i32
  let arg1 : BitVec 32 := BitVec.ofNat 32 (i 1).val
  let c0_i32_11 : BitVec 32 := 0#32
  let v28 : BitVec 1 := Scalar.cmpi .eq arg1 c0_i32_11
  let v29 : BitVec 1 := Scalar.andi v27 v28
  let c0_i32_12 : BitVec 32 := 0#32
  let c1_i32 : BitVec 32 := 1#32
  let v30 : BitVec 32 := Scalar.select v29 c0_i32_12 c1_i32
  let c0_i32_16 : BitVec 32 := 0#32
  let v37 : BitVec 1 := Scalar.cmpi .ne v30 c0_i32_16
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference12Ideal.lean ====
abbrev S2048x768 : Shape := ⟨2, ![2048, 768]⟩
abbrev S768 : Shape := ⟨1, ![768]⟩
abbrev S_ : Shape := ⟨0, ![]⟩
abbrev S2048 : Shape := ⟨1, ![2048]⟩
abbrev S2048x1 : Shape := ⟨2, ![2048, 1]⟩
abbrev S1x768 : Shape := ⟨2, ![1, 768]⟩

abbrev nBuf : Space → Nat
  | .hbm => 49
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x768, .f32⟩
  | .hbm, ⟨19, _⟩ => ⟨S2048x768, .f32⟩
  | .hbm, ⟨20, _⟩ => ⟨S1x768, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S768, .f32⟩
  | .hbm, ⟨26, _⟩ => ⟨S1x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S768, .f32⟩
  | .hbm, ⟨31, _⟩ => ⟨S2048x768, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x768, .f32⟩
  | .hbm, ⟨36, _⟩ => ⟨S2048x768, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x768, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S1x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel13.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .ne arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference13Ideal.lean ====
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S_, .f32⟩
  | .hbm, ⟨13, _⟩ => ⟨S2048, .f32⟩
  | .hbm, ⟨14, _⟩ => ⟨S2048x2048, .bf16⟩
  | .hbm, ⟨15, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel14.lean ====
abbrev S2048x768 : Shape := ⟨2, ![2048, 768]⟩
abbrev S768 : Shape := ⟨1, ![768]⟩
abbrev S1x768 : Shape := ⟨2, ![1, 768]⟩
abbrev S512x768 : Shape := ⟨2, ![512, 768]⟩

abbrev nBuf : Space → Nat
  | .hbm => 6
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S2048x768, .f32⟩
  | .hbm, ⟨3, _⟩ => ⟨S1x768, .f32⟩
  | .hbm, ⟨4, _⟩ => ⟨S2048x768, .f32⟩
  | .hbm, ⟨5, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S512x768, .f32⟩
  | .local _ .vmem, ⟨6, _⟩ => ⟨S512x768, .f32⟩
  | .local _ .vmem, ⟨7, _⟩ => ⟨S1x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32_13 : BitVec 32 := 0#32
  let v24 : BitVec 1 := Scalar.cmpi .ne arg0 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S2048x768 : Shape := ⟨2, ![2048, 768]⟩
abbrev S768 : Shape := ⟨1, ![768]⟩
abbrev S1x768 : Shape := ⟨2, ![1, 768]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S2048x768, .f32⟩
  | .hbm, ⟨3, _⟩ => ⟨S1x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .i1⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .i1⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .i1⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x768, .f32⟩
  | .hbm, ⟨43, _⟩ => ⟨S2048x768, .i1⟩
  | .hbm, ⟨44, _⟩ => ⟨S_, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S_, .f32⟩
  | .hbm, ⟨51, _⟩ => ⟨S2048x768, .f32⟩
  | .hbm, ⟨52, _⟩ => ⟨S2048x768, .f32⟩
  | .hbm, ⟨53, _⟩ => ⟨S2048x768, .f32⟩
  | .hbm, ⟨54, _⟩ => ⟨S_, .f32⟩
  | .hbm, ⟨55, _⟩ => ⟨S2048x768, .f32⟩
  | .hbm, ⟨56, _⟩ => ⟨S2048x768, .f32⟩
  | .hbm, ⟨57, _⟩ => ⟨S_, .f32⟩
  | .hbm, ⟨58, _⟩ => ⟨S2048x768, .f32⟩
  | .hbm, ⟨59, _⟩ => ⟨S2048x768, .f32⟩
  | .hbm, ⟨60, _⟩ => ⟨S2048x768, .f32⟩
  | .hbm, ⟨61, _⟩ => ⟨S2048x768, .f32⟩
  | .hbm, ⟨62, _⟩ => ⟨S2048x768, .f32⟩
  | .hbm, ⟨63, _⟩ => ⟨S_, .f32⟩
  | .hbm, ⟨64, _⟩ => ⟨S768, .f32⟩
  | .hbm, ⟨65, _⟩ => ⟨S1x768, .f32⟩
  | .hbm, ⟨66, _⟩ => ⟨S_, .f32⟩
  | .hbm, ⟨67, _⟩ => ⟨S768, .f32⟩
  | .hbm, ⟨68, _⟩ => ⟨S1x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_cst : Ref sig .tc := ⟨.hbm, 54, rfl⟩
abbrev main_v4 : Ref sig .tc := ⟨.hbm, 55, rfl⟩
abbrev main_v5 : Ref sig .tc := ⟨.hbm, 56, rfl⟩
abbrev main_cst_0 : Ref sig .tc := ⟨.hbm, 57, rfl⟩
abbrev main_v6 : Ref sig .tc := ⟨.hbm, 58, rfl⟩
abbrev main_v7 : Ref sig .tc := ⟨.hbm, 59, rfl⟩
abbrev main_call1_v0 : Ref sig .tc := ⟨.hbm, 60, rfl⟩
abbrev main_call1_v1 : Ref sig .tc := ⟨.hbm, 61, rfl⟩
abbrev main_v8 : Ref sig .tc := ⟨.hbm, 62, rfl⟩
abbrev main_cst_1 : Ref sig .tc := ⟨.hbm, 63, rfl⟩
abbrev main_v9 : Ref sig .tc := ⟨.hbm, 64, rfl⟩
abbrev main_v10 : Ref sig .tc := ⟨.hbm, 65, rfl⟩
abbrev main_cst_2 : Ref sig .tc := ⟨.hbm, 66, rfl⟩
abbrev main_v11 : Ref sig .tc := ⟨.hbm, 67, rfl⟩
abbrev main_v12 : Ref sig .tc := ⟨.hbm, 68, rfl⟩

abbrev nD : Nat := 1
abbrev τ : Topo := Topo.v7x

variable {F : FTy → Type} [FloatOps F]
-- ==== Kernel15.lean ====
abbrev S8x2048 : Shape := ⟨2, ![8, 2048]⟩
abbrev S8x1536 : Shape := ⟨2, ![8, 1536]⟩
abbrev S_ : Shape := ⟨0, ![]⟩
abbrev S16x2048 : Shape := ⟨2, ![16, 2048]⟩
abbrev S16x1536 : Shape := ⟨2, ![16, 1536]⟩
abbrev S2048x1536 : Shape := ⟨2, ![2048, 1536]⟩
abbrev S16x512 : Shape := ⟨2, ![16, 512]⟩
abbrev S2048x512 : Shape := ⟨2, ![2048, 512]⟩

abbrev nBuf : Space → Nat
  | .hbm => 18
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S16x2048, .f32⟩
  | .hbm, ⟨14, _⟩ => ⟨S_, .f32⟩
  | .hbm, ⟨15, _⟩ => ⟨S8x1536, .f32⟩
  | .hbm, ⟨16, _⟩ => ⟨S16x1536, .f32⟩
  | .hbm, ⟨17, _⟩ => ⟨S2048x1536, .f32⟩
  | .local _ .vmem, ⟨0, _⟩ => ⟨S16x2048, .f32⟩
  | .local _ .vmem, ⟨1, _⟩ => ⟨S16x512, .f32⟩
  | .local _ .vmem, ⟨2, _⟩ => ⟨S16x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1536, .f32⟩
  | .hbm, ⟨14, _⟩ => ⟨S1536x2048, .f32⟩
  | .hbm, ⟨15, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel16.lean ====
abbrev S8x1x51840 : Shape := ⟨3, ![8, 1, 51840]⟩
abbrev S1x51840 : Shape := ⟨2, ![1, 51840]⟩
abbrev S8x128 : Shape := ⟨2, ![8, 128]⟩
abbrev S1x1x51840 : Shape := ⟨3, ![1, 1, 51840]⟩

abbrev nBuf : Space → Nat
  | .hbm => 3
  | .vmem => 3
  | .smem => 0
  | _ => 0

abbrev bufTy : (tb : Table) → Fin (tcTables nBuf tb) → BufTy
  | .hbm, ⟨0, _⟩ => ⟨S8x1x51840, .f32⟩
  | .hbm, ⟨1, _⟩ => ⟨S1x51840, .f32⟩
  | .hbm, ⟨2, _⟩ => ⟨S8x128, .f32⟩
  | .local _ .vmem, ⟨0, _⟩ => ⟨S8x1x51840, .f32⟩
  | .local _ .vmem, ⟨1, _⟩ => ⟨S1x51840, .f32⟩
  | .local _ .vmem, ⟨2, _⟩ => ⟨S8x128, .f32⟩
  | _, _ => ⟨S8x1x51840, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1x51840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x51840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference16Ideal.lean ====
abbrev S8x1x51840 : Shape := ⟨3, ![8, 1, 51840]⟩
abbrev S_ : Shape := ⟨0, ![]⟩
abbrev S1x51840 : Shape := ⟨2, ![1, 51840]⟩
abbrev S8x128 : Shape := ⟨2, ![8, 128]⟩

abbrev nBuf : Space → Nat
  | .hbm => 5
  | .vmem => 0
  | .smem => 0
  | _ => 0

abbrev bufTy : (tb : Table) → Fin (tcTables nBuf tb) → BufTy
  | .hbm, ⟨0, _⟩ => ⟨S8x1x51840, .f32⟩
  | .hbm, ⟨1, _⟩ => ⟨S_, .f32⟩
  | .hbm, ⟨2, _⟩ => ⟨S1x51840, .f32⟩
  | .hbm, ⟨3, _⟩ => ⟨S_, .f32⟩
  | .hbm, ⟨4, _⟩ => ⟨S8x128, .f32⟩
  | _, _ => ⟨S8x1x51840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S2x2048x1536 : Shape := ⟨3, ![2, 2048, 1536]⟩
abbrev S1x128x1536 : Shape := ⟨3, ![1, 128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel17Ideal.lean ====
abbrev S2x2048x1536 : Shape := ⟨3, ![2, 2048, 1536]⟩
abbrev S1x128x1536 : Shape := ⟨3, ![1, 128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference17Ideal.lean ====
abbrev S2x2048x1536 : Shape := ⟨3, ![2, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x6144 : Shape := ⟨2, ![2, 6144]⟩
abbrev S1x2x6144 : Shape := ⟨3, ![1, 2, 6144]⟩

abbrev nBuf : Space → Nat
  | .hbm => 11
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S1x2x6144, .f32⟩
  | .hbm, ⟨5, _⟩ => ⟨S1x2x6144, .f32⟩
  | .hbm, ⟨6, _⟩ => ⟨S1x2x6144, .f32⟩
  | .hbm, ⟨7, _⟩ => ⟨S1x2x6144, .f32⟩
  | .hbm, ⟨8, _⟩ => ⟨S1x2x6144, .f32⟩
  | .hbm, ⟨9, _⟩ => ⟨S1x2x6144, .f32⟩
  | .hbm, ⟨10, _⟩ => ⟨S1x2x6144, .f32⟩
  | .local _ .vmem, ⟨0, _⟩ => ⟨S1x2x6144, .f32⟩
  | .local _ .vmem, ⟨1, _⟩ => ⟨S1x2x6144, .f32⟩
  | .local _ .vmem, ⟨2, _⟩ => ⟨S1x2x6144, .f32⟩
  | .local _ .vmem, ⟨3, _⟩ => ⟨S1x2x6144, .f32⟩
  | .local _ .vmem, ⟨4, _⟩ => ⟨S1x2x6144, .f32⟩
  | .local _ .vmem, ⟨5, _⟩ => ⟨S1x2x6144, .f32⟩
  | .local _ .vmem, ⟨6, _⟩ => ⟨S1x2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel18Ideal.lean ====
abbrev S2x6144 : Shape := ⟨2, ![2, 6144]⟩
abbrev S1x2x6144 : Shape := ⟨3, ![1, 2, 6144]⟩

abbrev nBuf : Space → Nat
  | .hbm => 11
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S1x2x6144, .f32⟩
  | .hbm, ⟨5, _⟩ => ⟨S1x2x6144, .f32⟩
  | .hbm, ⟨6, _⟩ => ⟨S1x2x6144, .f32⟩
  | .hbm, ⟨7, _⟩ => ⟨S1x2x6144, .f32⟩
  | .hbm, ⟨8, _⟩ => ⟨S1x2x6144, .f32⟩
  | .hbm, ⟨9, _⟩ => ⟨S1x2x6144, .f32⟩
  | .hbm, ⟨10, _⟩ => ⟨S1x2x6144, .f32⟩
  | .local _ .vmem, ⟨0, _⟩ => ⟨S1x2x6144, .f32⟩
  | .local _ .vmem, ⟨1, _⟩ => ⟨S1x2x6144, .f32⟩
  | .local _ .vmem, ⟨2, _⟩ => ⟨S1x2x6144, .f32⟩
  | .local _ .vmem, ⟨3, _⟩ => ⟨S1x2x6144, .f32⟩
  | .local _ .vmem, ⟨4, _⟩ => ⟨S1x2x6144, .f32⟩
  | .local _ .vmem, ⟨5, _⟩ => ⟨S1x2x6144, .f32⟩
  | .local _ .vmem, ⟨6, _⟩ => ⟨S1x2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference18Ideal.lean ====
abbrev S2x6144 : Shape := ⟨2, ![2, 6144]⟩
abbrev S_ : Shape := ⟨0, ![]⟩
abbrev S1x2x6144 : Shape := ⟨3, ![1, 2, 6144]⟩

abbrev nBuf : Space → Nat
  | .hbm => 40
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | .hbm, ⟨37, _⟩ => ⟨S1x2x6144, .f32⟩
  | .hbm, ⟨38, _⟩ => ⟨S1x2x6144, .f32⟩
  | .hbm, ⟨39, _⟩ => ⟨S1x2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x2048 : Shape := ⟨2, ![2, 2048]⟩
abbrev S1x2x2048 : Shape := ⟨3, ![1, 2, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel19Ideal.lean ====
abbrev S2x2048 : Shape := ⟨2, ![2, 2048]⟩
abbrev S1x2x2048 : Shape := ⟨3, ![1, 2, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference19Ideal.lean ====
abbrev S2x2048 : Shape := ⟨2, ![2, 2048]⟩
abbrev S_ : Shape := ⟨0, ![]⟩
abbrev S1x2x2048 : Shape := ⟨3, ![1, 2, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | .hbm, ⟨37, _⟩ => ⟨S1x2x2048, .f32⟩
  | .hbm, ⟨38, _⟩ => ⟨S1x2x2048, .f32⟩
  | .hbm, ⟨39, _⟩ => ⟨S1x2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S2x16x96 : Shape := ⟨3, ![2, 16, 96]⟩
abbrev S1x16x96 : Shape := ⟨3, ![1, 16, 96]⟩

abbrev nBuf : Space → Nat
  | .hbm => 7
  | .vmem => 14
  | .smem => 0
  | _ => 0

abbrev bufTy : (tb : Table) → Fin (tcTables nBuf tb) → BufTy
  | .hbm, ⟨0, _⟩ => ⟨S2x16x96, .f32⟩
  | .hbm, ⟨1, _⟩ => ⟨S2x16x96, .f32⟩
  | .hbm, ⟨2, _⟩ => ⟨S2x16x96, .f32⟩
  | .hbm, ⟨3, _⟩ => ⟨S2x16x96, .f32⟩
  | .hbm, ⟨4, _⟩ => ⟨S2x16x96, .f32⟩
  | .hbm, ⟨5, _⟩ => ⟨S2x16x96, .f32⟩
  | .hbm, ⟨6, _⟩ => ⟨S2x16x96, .f32⟩
  | .local _ .vmem, ⟨0, _⟩ => ⟨S1x16x96, .f32⟩
  | .local _ .vmem, ⟨1, _⟩ => ⟨S1x16x96, .f32⟩
  | .local _ .vmem, ⟨2, _⟩ => ⟨S1x16x96, .f32⟩
  | .local _ .vmem, ⟨3, _⟩ => ⟨S1x16x96, .f32⟩
  | .local _ .vmem, ⟨4, _⟩ => ⟨S1x16x96, .f32⟩
  | .local _ .vmem, ⟨5, _⟩ => ⟨S1x16x96, .f32⟩
  | .local _ .vmem, ⟨6, _⟩ => ⟨S1x16x96, .f32⟩
  | .local _ .vmem, ⟨7, _⟩ => ⟨S1x16x96, .f32⟩
  | .local _ .vmem, ⟨8, _⟩ => ⟨S1x16x96, .f32⟩
  | .local _ .vmem, ⟨9, _⟩ => ⟨S1x16x96, .f32⟩
  | .local _ .vmem, ⟨10, _⟩ => ⟨S1x16x96, .f32⟩
  | .local _ .vmem, ⟨11, _⟩ => ⟨S1x16x96, .f32⟩
  | .local _ .vmem, ⟨12, _⟩ => ⟨S1x16x96, .f32⟩
  | .local _ .vmem, ⟨13, _⟩ => ⟨S1x16x96, .f32⟩
  | _, _ => ⟨S2x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel20Ideal.lean ====
abbrev S2x16x96 : Shape := ⟨3, ![2, 16, 96]⟩
abbrev S1x16x96 : Shape := ⟨3, ![1, 16, 96]⟩

abbrev nBuf : Space → Nat
  | .hbm => 7
  | .vmem => 14
  | .smem => 0
  | _ => 0

abbrev bufTy : (tb : Table) → Fin (tcTables nBuf tb) → BufTy
  | .hbm, ⟨0, _⟩ => ⟨S2x16x96, .f32⟩
  | .hbm, ⟨1, _⟩ => ⟨S2x16x96, .f32⟩
  | .hbm, ⟨2, _⟩ => ⟨S2x16x96, .f32⟩
  | .hbm, ⟨3, _⟩ => ⟨S2x16x96, .f32⟩
  | .hbm, ⟨4, _⟩ => ⟨S2x16x96, .f32⟩
  | .hbm, ⟨5, _⟩ => ⟨S2x16x96, .f32⟩
  | .hbm, ⟨6, _⟩ => ⟨S2x16x96, .f32⟩
  | .local _ .vmem, ⟨0, _⟩ => ⟨S1x16x96, .f32⟩
  | .local _ .vmem, ⟨1, _⟩ => ⟨S1x16x96, .f32⟩
  | .local _ .vmem, ⟨2, _⟩ => ⟨S1x16x96, .f32⟩
  | .local _ .vmem, ⟨3, _⟩ => ⟨S1x16x96, .f32⟩
  | .local _ .vmem, ⟨4, _⟩ => ⟨S1x16x96, .f32⟩
  | .local _ .vmem, ⟨5, _⟩ => ⟨S1x16x96, .f32⟩
  | .local _ .vmem, ⟨6, _⟩ => ⟨S1x16x96, .f32⟩
  | .local _ .vmem, ⟨7, _⟩ => ⟨S1x16x96, .f32⟩
  | .local _ .vmem, ⟨8, _⟩ => ⟨S1x16x96, .f32⟩
  | .local _ .vmem, ⟨9, _⟩ => ⟨S1x16x96, .f32⟩
  | .local _ .vmem, ⟨10, _⟩ => ⟨S1x16x96, .f32⟩
  | .local _ .vmem, ⟨11, _⟩ => ⟨S1x16x96, .f32⟩
  | .local _ .vmem, ⟨12, _⟩ => ⟨S1x16x96, .f32⟩
  | .local _ .vmem, ⟨13, _⟩ => ⟨S1x16x96, .f32⟩
  | _, _ => ⟨S2x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference20Ideal.lean ====
abbrev S2x16x96 : Shape := ⟨3, ![2, 16, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x96, .f32⟩
  | .hbm, ⟨1, _⟩ => ⟨S2x16x96, .f32⟩
  | .hbm, ⟨2, _⟩ => ⟨S2x16x96, .f32⟩
  | .hbm, ⟨3, _⟩ => ⟨S2x16x96, .f32⟩
  | .hbm, ⟨4, _⟩ => ⟨S_, .f32⟩
  | .hbm, ⟨5, _⟩ => ⟨S2x16x96, .f32⟩
  | .hbm, ⟨6, _⟩ => ⟨S2x16x96, .f32⟩
  | .hbm, ⟨7, _⟩ => ⟨S_, .f32⟩
  | .hbm, ⟨8, _⟩ => ⟨S2x16x96, .f32⟩
  | .hbm, ⟨9, _⟩ => ⟨S2x16x96, .f32⟩
  | .hbm, ⟨10, _⟩ => ⟨S2x16x96, .f32⟩
  | .hbm, ⟨11, _⟩ => ⟨S_, .f32⟩
  | .hbm, ⟨12, _⟩ => ⟨S2x16x96, .f32⟩
  | .hbm, ⟨13, _⟩ => ⟨S2x16x96, .f32⟩
  | .hbm, ⟨14, _⟩ => ⟨S2x16x96, .f32⟩
  | .hbm, ⟨15, _⟩ => ⟨S_, .f32⟩
  | .hbm, ⟨16, _⟩ => ⟨S2x16x96, .f32⟩
  | .hbm, ⟨17, _⟩ => ⟨S2x16x96, .f32⟩
  | .hbm, ⟨18, _⟩ => ⟨S2x16x96, .f32⟩
  | .hbm, ⟨19, _⟩ => ⟨S_, .f32⟩
  | .hbm, ⟨20, _⟩ => ⟨S2x16x96, .f32⟩
  | .hbm, ⟨21, _⟩ => ⟨S2x16x96, .f32⟩
  | .hbm, ⟨22, _⟩ => ⟨S_, .f32⟩
  | .hbm, ⟨23, _⟩ => ⟨S2x16x96, .f32⟩
  | .hbm, ⟨24, _⟩ => ⟨S2x16x96, .f32⟩
  | .hbm, ⟨25, _⟩ => ⟨S2x16x96, .f32⟩
  | .hbm, ⟨26, _⟩ => ⟨S_, .f32⟩
  | .hbm, ⟨27, _⟩ => ⟨S2x16x96, .f32⟩
  | .hbm, ⟨28, _⟩ => ⟨S2x16x96, .f32⟩
  | .hbm, ⟨29, _⟩ => ⟨S2x16x96, .f32⟩
  | .hbm, ⟨30, _⟩ => ⟨S_, .f32⟩
  | .hbm, ⟨31, _⟩ => ⟨S2x16x96, .f32⟩
  | .hbm, ⟨32, _⟩ => ⟨S2x16x96, .f32⟩
  | .hbm, ⟨33, _⟩ => ⟨S2x16x96, .f32⟩
  | .hbm, ⟨34, _⟩ => ⟨S_, .f32⟩
  | .hbm, ⟨35, _⟩ => ⟨S2x16x96, .f32⟩
  | .hbm, ⟨36, _⟩ => ⟨S2x16x96, .f32⟩
  | _, _ => ⟨S2x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x384 : Shape := ⟨2, ![2, 384]⟩
abbrev S1x2x384 : Shape := ⟨3, ![1, 2, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S1x2x384, .f32⟩
  | .hbm, ⟨5, _⟩ => ⟨S1x2x384, .f32⟩
  | .hbm, ⟨6, _⟩ => ⟨S1x2x384, .f32⟩
  | .hbm, ⟨7, _⟩ => ⟨S1x2x384, .f32⟩
  | .hbm, ⟨8, _⟩ => ⟨S1x2x384, .f32⟩
  | .hbm, ⟨9, _⟩ => ⟨S1x2x384, .f32⟩
  | .hbm, ⟨10, _⟩ => ⟨S1x2x384, .f32⟩
  | .local _ .vmem, ⟨0, _⟩ => ⟨S1x2x384, .f32⟩
  | .local _ .vmem, ⟨1, _⟩ => ⟨S1x2x384, .f32⟩
  | .local _ .vmem, ⟨2, _⟩ => ⟨S1x2x384, .f32⟩
  | .local _ .vmem, ⟨3, _⟩ => ⟨S1x2x384, .f32⟩
  | .local _ .vmem, ⟨4, _⟩ => ⟨S1x2x384, .f32⟩
  | .local _ .vmem, ⟨5, _⟩ => ⟨S1x2x384, .f32⟩
  | .local _ .vmem, ⟨6, _⟩ => ⟨S1x2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel21Ideal.lean ====
abbrev S2x384 : Shape := ⟨2, ![2, 384]⟩
abbrev S1x2x384 : Shape := ⟨3, ![1, 2, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S1x2x384, .f32⟩
  | .hbm, ⟨5, _⟩ => ⟨S1x2x384, .f32⟩
  | .hbm, ⟨6, _⟩ => ⟨S1x2x384, .f32⟩
  | .hbm, ⟨7, _⟩ => ⟨S1x2x384, .f32⟩
  | .hbm, ⟨8, _⟩ => ⟨S1x2x384, .f32⟩
  | .hbm, ⟨9, _⟩ => ⟨S1x2x384, .f32⟩
  | .hbm, ⟨10, _⟩ => ⟨S1x2x384, .f32⟩
  | .local _ .vmem, ⟨0, _⟩ => ⟨S1x2x384, .f32⟩
  | .local _ .vmem, ⟨1, _⟩ => ⟨S1x2x384, .f32⟩
  | .local _ .vmem, ⟨2, _⟩ => ⟨S1x2x384, .f32⟩
  | .local _ .vmem, ⟨3, _⟩ => ⟨S1x2x384, .f32⟩
  | .local _ .vmem, ⟨4, _⟩ => ⟨S1x2x384, .f32⟩
  | .local _ .vmem, ⟨5, _⟩ => ⟨S1x2x384, .f32⟩
  | .local _ .vmem, ⟨6, _⟩ => ⟨S1x2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference21Ideal.lean ====
abbrev S2x384 : Shape := ⟨2, ![2, 384]⟩
abbrev S_ : Shape := ⟨0, ![]⟩
abbrev S1x2x384 : Shape := ⟨3, ![1, 2, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | .hbm, ⟨37, _⟩ => ⟨S1x2x384, .f32⟩
  | .hbm, ⟨38, _⟩ => ⟨S1x2x384, .f32⟩
  | .hbm, ⟨39, _⟩ => ⟨S1x2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S2x128 : Shape := ⟨2, ![2, 128]⟩
abbrev S1x2x128 : Shape := ⟨3, ![1, 2, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .hbm, ⟨8, _⟩ => ⟨S1x2x128, .f32⟩
  | .hbm, ⟨9, _⟩ => ⟨S1x2x128, .f32⟩
  | .hbm, ⟨10, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel22Ideal.lean ====
abbrev S2x128 : Shape := ⟨2, ![2, 128]⟩
abbrev S1x2x128 : Shape := ⟨3, ![1, 2, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .hbm, ⟨8, _⟩ => ⟨S1x2x128, .f32⟩
  | .hbm, ⟨9, _⟩ => ⟨S1x2x128, .f32⟩
  | .hbm, ⟨10, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference22Ideal.lean ====
abbrev S2x128 : Shape := ⟨2, ![2, 128]⟩
abbrev S_ : Shape := ⟨0, ![]⟩
abbrev S1x2x128 : Shape := ⟨3, ![1, 2, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S1x2x128, .f32⟩
  | .hbm, ⟨38, _⟩ => ⟨S1x2x128, .f32⟩
  | .hbm, ⟨39, _⟩ => ⟨S1x2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2x256 : Shape := ⟨2, ![2, 256]⟩
abbrev S1x2x256 : Shape := ⟨3, ![1, 2, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .hbm, ⟨8, _⟩ => ⟨S1x2x256, .f32⟩
  | .hbm, ⟨9, _⟩ => ⟨S1x2x256, .f32⟩
  | .hbm, ⟨10, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel23Ideal.lean ====
abbrev S2x256 : Shape := ⟨2, ![2, 256]⟩
abbrev S1x2x256 : Shape := ⟨3, ![1, 2, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .hbm, ⟨8, _⟩ => ⟨S1x2x256, .f32⟩
  | .hbm, ⟨9, _⟩ => ⟨S1x2x256, .f32⟩
  | .hbm, ⟨10, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference23Ideal.lean ====
abbrev S2x256 : Shape := ⟨2, ![2, 256]⟩
abbrev S_ : Shape := ⟨0, ![]⟩
abbrev S1x2x256 : Shape := ⟨3, ![1, 2, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | .hbm, ⟨37, _⟩ => ⟨S1x2x256, .f32⟩
  | .hbm, ⟨38, _⟩ => ⟨S1x2x256, .f32⟩
  | .hbm, ⟨39, _⟩ => ⟨S1x2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S2x384x288 : Shape := ⟨3, ![2, 384, 288]⟩
abbrev S1x384x288 : Shape := ⟨3, ![1, 384, 288]⟩

abbrev nBuf : Space → Nat
  | .hbm => 7
  | .vmem => 14
  | .smem => 0
  | _ => 0

abbrev bufTy : (tb : Table) → Fin (tcTables nBuf tb) → BufTy
  | .hbm, ⟨0, _⟩ => ⟨S2x384x288, .f32⟩
  | .hbm, ⟨1, _⟩ => ⟨S2x384x288, .f32⟩
  | .hbm, ⟨2, _⟩ => ⟨S2x384x288, .f32⟩
  | .hbm, ⟨3, _⟩ => ⟨S2x384x288, .f32⟩
  | .hbm, ⟨4, _⟩ => ⟨S2x384x288, .f32⟩
  | .hbm, ⟨5, _⟩ => ⟨S2x384x288, .f32⟩
  | .hbm, ⟨6, _⟩ => ⟨S2x384x288, .f32⟩
  | .local _ .vmem, ⟨0, _⟩ => ⟨S1x384x288, .f32⟩
  | .local _ .vmem, ⟨1, _⟩ => ⟨S1x384x288, .f32⟩
  | .local _ .vmem, ⟨2, _⟩ => ⟨S1x384x288, .f32⟩
  | .local _ .vmem, ⟨3, _⟩ => ⟨S1x384x288, .f32⟩
  | .local _ .vmem, ⟨4, _⟩ => ⟨S1x384x288, .f32⟩
  | .local _ .vmem, ⟨5, _⟩ => ⟨S1x384x288, .f32⟩
  | .local _ .vmem, ⟨6, _⟩ => ⟨S1x384x288, .f32⟩
  | .local _ .vmem, ⟨7, _⟩ => ⟨S1x384x288, .f32⟩
  | .local _ .vmem, ⟨8, _⟩ => ⟨S1x384x288, .f32⟩
  | .local _ .vmem, ⟨9, _⟩ => ⟨S1x384x288, .f32⟩
  | .local _ .vmem, ⟨10, _⟩ => ⟨S1x384x288, .f32⟩
  | .local _ .vmem, ⟨11, _⟩ => ⟨S1x384x288, .f32⟩
  | .local _ .vmem, ⟨12, _⟩ => ⟨S1x384x288, .f32⟩
  | .local _ .vmem, ⟨13, _⟩ => ⟨S1x384x288, .f32⟩
  | _, _ => ⟨S2x384x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x384x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x384x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x384x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x384x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x384x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel24Ideal.lean ====
abbrev S2x384x288 : Shape := ⟨3, ![2, 384, 288]⟩
abbrev S1x384x288 : Shape := ⟨3, ![1, 384, 288]⟩

abbrev nBuf : Space → Nat
  | .hbm => 7
  | .vmem => 14
  | .smem => 0
  | _ => 0

abbrev bufTy : (tb : Table) → Fin (tcTables nBuf tb) → BufTy
  | .hbm, ⟨0, _⟩ => ⟨S2x384x288, .f32⟩
  | .hbm, ⟨1, _⟩ => ⟨S2x384x288, .f32⟩
  | .hbm, ⟨2, _⟩ => ⟨S2x384x288, .f32⟩
  | .hbm, ⟨3, _⟩ => ⟨S2x384x288, .f32⟩
  | .hbm, ⟨4, _⟩ => ⟨S2x384x288, .f32⟩
  | .hbm, ⟨5, _⟩ => ⟨S2x384x288, .f32⟩
  | .hbm, ⟨6, _⟩ => ⟨S2x384x288, .f32⟩
  | .local _ .vmem, ⟨0, _⟩ => ⟨S1x384x288, .f32⟩
  | .local _ .vmem, ⟨1, _⟩ => ⟨S1x384x288, .f32⟩
  | .local _ .vmem, ⟨2, _⟩ => ⟨S1x384x288, .f32⟩
  | .local _ .vmem, ⟨3, _⟩ => ⟨S1x384x288, .f32⟩
  | .local _ .vmem, ⟨4, _⟩ => ⟨S1x384x288, .f32⟩
  | .local _ .vmem, ⟨5, _⟩ => ⟨S1x384x288, .f32⟩
  | .local _ .vmem, ⟨6, _⟩ => ⟨S1x384x288, .f32⟩
  | .local _ .vmem, ⟨7, _⟩ => ⟨S1x384x288, .f32⟩
  | .local _ .vmem, ⟨8, _⟩ => ⟨S1x384x288, .f32⟩
  | .local _ .vmem, ⟨9, _⟩ => ⟨S1x384x288, .f32⟩
  | .local _ .vmem, ⟨10, _⟩ => ⟨S1x384x288, .f32⟩
  | .local _ .vmem, ⟨11, _⟩ => ⟨S1x384x288, .f32⟩
  | .local _ .vmem, ⟨12, _⟩ => ⟨S1x384x288, .f32⟩
  | .local _ .vmem, ⟨13, _⟩ => ⟨S1x384x288, .f32⟩
  | _, _ => ⟨S2x384x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x384x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x384x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x384x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x384x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x384x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference24Ideal.lean ====
abbrev S2x384x288 : Shape := ⟨3, ![2, 384, 288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384x288, .f32⟩
  | .hbm, ⟨1, _⟩ => ⟨S2x384x288, .f32⟩
  | .hbm, ⟨2, _⟩ => ⟨S2x384x288, .f32⟩
  | .hbm, ⟨3, _⟩ => ⟨S2x384x288, .f32⟩
  | .hbm, ⟨4, _⟩ => ⟨S_, .f32⟩
  | .hbm, ⟨5, _⟩ => ⟨S2x384x288, .f32⟩
  | .hbm, ⟨6, _⟩ => ⟨S2x384x288, .f32⟩
  | .hbm, ⟨7, _⟩ => ⟨S_, .f32⟩
  | .hbm, ⟨8, _⟩ => ⟨S2x384x288, .f32⟩
  | .hbm, ⟨9, _⟩ => ⟨S2x384x288, .f32⟩
  | .hbm, ⟨10, _⟩ => ⟨S2x384x288, .f32⟩
  | .hbm, ⟨11, _⟩ => ⟨S_, .f32⟩
  | .hbm, ⟨12, _⟩ => ⟨S2x384x288, .f32⟩
  | .hbm, ⟨13, _⟩ => ⟨S2x384x288, .f32⟩
  | .hbm, ⟨14, _⟩ => ⟨S2x384x288, .f32⟩
  | .hbm, ⟨15, _⟩ => ⟨S_, .f32⟩
  | .hbm, ⟨16, _⟩ => ⟨S2x384x288, .f32⟩
  | .hbm, ⟨17, _⟩ => ⟨S2x384x288, .f32⟩
  | .hbm, ⟨18, _⟩ => ⟨S2x384x288, .f32⟩
  | .hbm, ⟨19, _⟩ => ⟨S_, .f32⟩
  | .hbm, ⟨20, _⟩ => ⟨S2x384x288, .f32⟩
  | .hbm, ⟨21, _⟩ => ⟨S2x384x288, .f32⟩
  | .hbm, ⟨22, _⟩ => ⟨S_, .f32⟩
  | .hbm, ⟨23, _⟩ => ⟨S2x384x288, .f32⟩
  | .hbm, ⟨24, _⟩ => ⟨S2x384x288, .f32⟩
  | .hbm, ⟨25, _⟩ => ⟨S2x384x288, .f32⟩
  | .hbm, ⟨26, _⟩ => ⟨S_, .f32⟩
  | .hbm, ⟨27, _⟩ => ⟨S2x384x288, .f32⟩
  | .hbm, ⟨28, _⟩ => ⟨S2x384x288, .f32⟩
  | .hbm, ⟨29, _⟩ => ⟨S2x384x288, .f32⟩
  | .hbm, ⟨30, _⟩ => ⟨S_, .f32⟩
  | .hbm, ⟨31, _⟩ => ⟨S2x384x288, .f32⟩
  | .hbm, ⟨32, _⟩ => ⟨S2x384x288, .f32⟩
  | .hbm, ⟨33, _⟩ => ⟨S2x384x288, .f32⟩
  | .hbm, ⟨34, _⟩ => ⟨S_, .f32⟩
  | .hbm, ⟨35, _⟩ => ⟨S2x384x288, .f32⟩
  | .hbm, ⟨36, _⟩ => ⟨S2x384x288, .f32⟩
  | _, _ => ⟨S2x384x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x256x384 : Shape := ⟨3, ![2, 256, 384]⟩
abbrev S1x256x384 : Shape := ⟨3, ![1, 256, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x256x384, .f32⟩
  | .hbm, ⟨1, _⟩ => ⟨S2x256x384, .f32⟩
  | .hbm, ⟨2, _⟩ => ⟨S2x256x384, .f32⟩
  | .hbm, ⟨3, _⟩ => ⟨S2x256x384, .f32⟩
  | .hbm, ⟨4, _⟩ => ⟨S2x256x384, .f32⟩
  | .hbm, ⟨5, _⟩ => ⟨S2x256x384, .f32⟩
  | .hbm, ⟨6, _⟩ => ⟨S2x256x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | _, _ => ⟨S2x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel25Ideal.lean ====
abbrev S2x256x384 : Shape := ⟨3, ![2, 256, 384]⟩
abbrev S1x256x384 : Shape := ⟨3, ![1, 256, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x256x384, .f32⟩
  | .hbm, ⟨1, _⟩ => ⟨S2x256x384, .f32⟩
  | .hbm, ⟨2, _⟩ => ⟨S2x256x384, .f32⟩
  | .hbm, ⟨3, _⟩ => ⟨S2x256x384, .f32⟩
  | .hbm, ⟨4, _⟩ => ⟨S2x256x384, .f32⟩
  | .hbm, ⟨5, _⟩ => ⟨S2x256x384, .f32⟩
  | .hbm, ⟨6, _⟩ => ⟨S2x256x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | _, _ => ⟨S2x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference25Ideal.lean ====
abbrev S2x256x384 : Shape := ⟨3, ![2, 256, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x384, .f32⟩
  | .hbm, ⟨1, _⟩ => ⟨S2x256x384, .f32⟩
  | .hbm, ⟨2, _⟩ => ⟨S2x256x384, .f32⟩
  | .hbm, ⟨3, _⟩ => ⟨S2x256x384, .f32⟩
  | .hbm, ⟨4, _⟩ => ⟨S_, .f32⟩
  | .hbm, ⟨5, _⟩ => ⟨S2x256x384, .f32⟩
  | .hbm, ⟨6, _⟩ => ⟨S2x256x384, .f32⟩
  | .hbm, ⟨7, _⟩ => ⟨S_, .f32⟩
  | .hbm, ⟨8, _⟩ => ⟨S2x256x384, .f32⟩
  | .hbm, ⟨9, _⟩ => ⟨S2x256x384, .f32⟩
  | .hbm, ⟨10, _⟩ => ⟨S2x256x384, .f32⟩
  | .hbm, ⟨11, _⟩ => ⟨S_, .f32⟩
  | .hbm, ⟨12, _⟩ => ⟨S2x256x384, .f32⟩
  | .hbm, ⟨13, _⟩ => ⟨S2x256x384, .f32⟩
  | .hbm, ⟨14, _⟩ => ⟨S2x256x384, .f32⟩
  | .hbm, ⟨15, _⟩ => ⟨S_, .f32⟩
  | .hbm, ⟨16, _⟩ => ⟨S2x256x384, .f32⟩
  | .hbm, ⟨17, _⟩ => ⟨S2x256x384, .f32⟩
  | .hbm, ⟨18, _⟩ => ⟨S2x256x384, .f32⟩
  | .hbm, ⟨19, _⟩ => ⟨S_, .f32⟩
  | .hbm, ⟨20, _⟩ => ⟨S2x256x384, .f32⟩
  | .hbm, ⟨21, _⟩ => ⟨S2x256x384, .f32⟩
  | .hbm, ⟨22, _⟩ => ⟨S_, .f32⟩
  | .hbm, ⟨23, _⟩ => ⟨S2x256x384, .f32⟩
  | .hbm, ⟨24, _⟩ => ⟨S2x256x384, .f32⟩
  | .hbm, ⟨25, _⟩ => ⟨S2x256x384, .f32⟩
  | .hbm, ⟨26, _⟩ => ⟨S_, .f32⟩
  | .hbm, ⟨27, _⟩ => ⟨S2x256x384, .f32⟩
  | .hbm, ⟨28, _⟩ => ⟨S2x256x384, .f32⟩
  | .hbm, ⟨29, _⟩ => ⟨S2x256x384, .f32⟩
  | .hbm, ⟨30, _⟩ => ⟨S_, .f32⟩
  | .hbm, ⟨31, _⟩ => ⟨S2x256x384, .f32⟩
  | .hbm, ⟨32, _⟩ => ⟨S2x256x384, .f32⟩
  | .hbm, ⟨33, _⟩ => ⟨S2x256x384, .f32⟩
  | .hbm, ⟨34, _⟩ => ⟨S_, .f32⟩
  | .hbm, ⟨35, _⟩ => ⟨S2x256x384, .f32⟩
  | .hbm, ⟨36, _⟩ => ⟨S2x256x384, .f32⟩
  | _, _ => ⟨S2x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x768 : Shape := ⟨2, ![2, 768]⟩
abbrev S1x2x768 : Shape := ⟨3, ![1, 2, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S1x2x768, .f32⟩
  | .hbm, ⟨5, _⟩ => ⟨S1x2x768, .f32⟩
  | .hbm, ⟨6, _⟩ => ⟨S1x2x768, .f32⟩
  | .hbm, ⟨7, _⟩ => ⟨S1x2x768, .f32⟩
  | .hbm, ⟨8, _⟩ => ⟨S1x2x768, .f32⟩
  | .hbm, ⟨9, _⟩ => ⟨S1x2x768, .f32⟩
  | .hbm, ⟨10, _⟩ => ⟨S1x2x768, .f32⟩
  | .local _ .vmem, ⟨0, _⟩ => ⟨S1x2x768, .f32⟩
  | .local _ .vmem, ⟨1, _⟩ => ⟨S1x2x768, .f32⟩
  | .local _ .vmem, ⟨2, _⟩ => ⟨S1x2x768, .f32⟩
  | .local _ .vmem, ⟨3, _⟩ => ⟨S1x2x768, .f32⟩
  | .local _ .vmem, ⟨4, _⟩ => ⟨S1x2x768, .f32⟩
  | .local _ .vmem, ⟨5, _⟩ => ⟨S1x2x768, .f32⟩
  | .local _ .vmem, ⟨6, _⟩ => ⟨S1x2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel26Ideal.lean ====
abbrev S2x768 : Shape := ⟨2, ![2, 768]⟩
abbrev S1x2x768 : Shape := ⟨3, ![1, 2, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S1x2x768, .f32⟩
  | .hbm, ⟨5, _⟩ => ⟨S1x2x768, .f32⟩
  | .hbm, ⟨6, _⟩ => ⟨S1x2x768, .f32⟩
  | .hbm, ⟨7, _⟩ => ⟨S1x2x768, .f32⟩
  | .hbm, ⟨8, _⟩ => ⟨S1x2x768, .f32⟩
  | .hbm, ⟨9, _⟩ => ⟨S1x2x768, .f32⟩
  | .hbm, ⟨10, _⟩ => ⟨S1x2x768, .f32⟩
  | .local _ .vmem, ⟨0, _⟩ => ⟨S1x2x768, .f32⟩
  | .local _ .vmem, ⟨1, _⟩ => ⟨S1x2x768, .f32⟩
  | .local _ .vmem, ⟨2, _⟩ => ⟨S1x2x768, .f32⟩
  | .local _ .vmem, ⟨3, _⟩ => ⟨S1x2x768, .f32⟩
  | .local _ .vmem, ⟨4, _⟩ => ⟨S1x2x768, .f32⟩
  | .local _ .vmem, ⟨5, _⟩ => ⟨S1x2x768, .f32⟩
  | .local _ .vmem, ⟨6, _⟩ => ⟨S1x2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference26Ideal.lean ====
abbrev S2x768 : Shape := ⟨2, ![2, 768]⟩
abbrev S_ : Shape := ⟨0, ![]⟩
abbrev S1x2x768 : Shape := ⟨3, ![1, 2, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .f32⟩
  | .hbm, ⟨8, _⟩ => ⟨S2x768, .f32⟩
  | .hbm, ⟨9, _⟩ => ⟨S2x768, .f32⟩
  | .hbm, ⟨10, _⟩ => ⟨S2x768, .f32⟩
  | .hbm, ⟨11, _⟩ => ⟨S_, .f32⟩
  | .hbm, ⟨12, _⟩ => ⟨S2x768, .f32⟩
  | .hbm, ⟨13, _⟩ => ⟨S2x768, .f32⟩
  | .hbm, ⟨14, _⟩ => ⟨S2x768, .f32⟩
  | .hbm, ⟨15, _⟩ => ⟨S_, .f32⟩
  | .hbm, ⟨16, _⟩ => ⟨S2x768, .f32⟩
  | .hbm, ⟨17, _⟩ => ⟨S2x768, .f32⟩
  | .hbm, ⟨18, _⟩ => ⟨S2x768, .f32⟩
  | .hbm, ⟨19, _⟩ => ⟨S_, .f32⟩
  | .hbm, ⟨20, _⟩ => ⟨S2x768, .f32⟩
  | .hbm, ⟨21, _⟩ => ⟨S2x768, .f32⟩
  | .hbm, ⟨22, _⟩ => ⟨S_, .f32⟩
  | .hbm, ⟨23, _⟩ => ⟨S2x768, .f32⟩
  | .hbm, ⟨24, _⟩ => ⟨S2x768, .f32⟩
  | .hbm, ⟨25, _⟩ => ⟨S2x768, .f32⟩
  | .hbm, ⟨26, _⟩ => ⟨S_, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S2x768, .f32⟩
  | .hbm, ⟨34, _⟩ => ⟨S_, .f32⟩
  | .hbm, ⟨35, _⟩ => ⟨S2x768, .f32⟩
  | .hbm, ⟨36, _⟩ => ⟨S2x768, .f32⟩
  | .hbm, ⟨37, _⟩ => ⟨S1x2x768, .f32⟩
  | .hbm, ⟨38, _⟩ => ⟨S1x2x768, .f32⟩
  | .hbm, ⟨39, _⟩ => ⟨S1x2x768, .f32⟩
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S2x3x128 : Shape := ⟨3, ![2, 3, 128]⟩
abbrev S1x3x128 : Shape := ⟨3, ![1, 3, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S2x3x128, .f32⟩
  | .hbm, ⟨5, _⟩ => ⟨S2x3x128, .f32⟩
  | .hbm, ⟨6, _⟩ => ⟨S2x3x128, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | .local _ .vmem, ⟨8, _⟩ => ⟨S1x3x128, .f32⟩
  | .local _ .vmem, ⟨9, _⟩ => ⟨S1x3x128, .f32⟩
  | .local _ .vmem, ⟨10, _⟩ => ⟨S1x3x128, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel27Ideal.lean ====
abbrev S2x3x128 : Shape := ⟨3, ![2, 3, 128]⟩
abbrev S1x3x128 : Shape := ⟨3, ![1, 3, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S2x3x128, .f32⟩
  | .hbm, ⟨5, _⟩ => ⟨S2x3x128, .f32⟩
  | .hbm, ⟨6, _⟩ => ⟨S2x3x128, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | .local _ .vmem, ⟨8, _⟩ => ⟨S1x3x128, .f32⟩
  | .local _ .vmem, ⟨9, _⟩ => ⟨S1x3x128, .f32⟩
  | .local _ .vmem, ⟨10, _⟩ => ⟨S1x3x128, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference27Ideal.lean ====
abbrev S2x3x128 : Shape := ⟨3, ![2, 3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S_, .f32⟩
  | .hbm, ⟨5, _⟩ => ⟨S2x3x128, .f32⟩
  | .hbm, ⟨6, _⟩ => ⟨S2x3x128, .f32⟩
  | .hbm, ⟨7, _⟩ => ⟨S_, .f32⟩
  | .hbm, ⟨8, _⟩ => ⟨S2x3x128, .f32⟩
  | .hbm, ⟨9, _⟩ => ⟨S2x3x128, .f32⟩
  | .hbm, ⟨10, _⟩ => ⟨S2x3x128, .f32⟩
  | .hbm, ⟨11, _⟩ => ⟨S_, .f32⟩
  | .hbm, ⟨12, _⟩ => ⟨S2x3x128, .f32⟩
  | .hbm, ⟨13, _⟩ => ⟨S2x3x128, .f32⟩
  | .hbm, ⟨14, _⟩ => ⟨S2x3x128, .f32⟩
  | .hbm, ⟨15, _⟩ => ⟨S_, .f32⟩
  | .hbm, ⟨16, _⟩ => ⟨S2x3x128, .f32⟩
  | .hbm, ⟨17, _⟩ => ⟨S2x3x128, .f32⟩
  | .hbm, ⟨18, _⟩ => ⟨S2x3x128, .f32⟩
  | .hbm, ⟨19, _⟩ => ⟨S_, .f32⟩
  | .hbm, ⟨20, _⟩ => ⟨S2x3x128, .f32⟩
  | .hbm, ⟨21, _⟩ => ⟨S2x3x128, .f32⟩
  | .hbm, ⟨22, _⟩ => ⟨S_, .f32⟩
  | .hbm, ⟨23, _⟩ => ⟨S2x3x128, .f32⟩
  | .hbm, ⟨24, _⟩ => ⟨S2x3x128, .f32⟩
  | .hbm, ⟨25, _⟩ => ⟨S2x3x128, .f32⟩
  | .hbm, ⟨26, _⟩ => ⟨S_, .f32⟩
  | .hbm, ⟨27, _⟩ => ⟨S2x3x128, .f32⟩
  | .hbm, ⟨28, _⟩ => ⟨S2x3x128, .f32⟩
  | .hbm, ⟨29, _⟩ => ⟨S2x3x128, .f32⟩
  | .hbm, ⟨30, _⟩ => ⟨S_, .f32⟩
  | .hbm, ⟨31, _⟩ => ⟨S2x3x128, .f32⟩
  | .hbm, ⟨32, _⟩ => ⟨S2x3x128, .f32⟩
  | .hbm, ⟨33, _⟩ => ⟨S2x3x128, .f32⟩
  | .hbm, ⟨34, _⟩ => ⟨S_, .f32⟩
  | .hbm, ⟨35, _⟩ => ⟨S2x3x128, .f32⟩
  | .hbm, ⟨36, _⟩ => ⟨S2x3x128, .f32⟩
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x512 : Shape := ⟨2, ![2, 512]⟩
abbrev S1x2x512 : Shape := ⟨3, ![1, 2, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .hbm, ⟨8, _⟩ => ⟨S1x2x512, .f32⟩
  | .hbm, ⟨9, _⟩ => ⟨S1x2x512, .f32⟩
  | .hbm, ⟨10, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Kernel28Ideal.lean ====
abbrev S2x512 : Shape := ⟨2, ![2, 512]⟩
abbrev S1x2x512 : Shape := ⟨3, ![1, 2, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .hbm, ⟨8, _⟩ => ⟨S1x2x512, .f32⟩
  | .hbm, ⟨9, _⟩ => ⟨S1x2x512, .f32⟩
  | .hbm, ⟨10, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference28Ideal.lean ====
abbrev S2x512 : Shape := ⟨2, ![2, 512]⟩
abbrev S_ : Shape := ⟨0, ![]⟩
abbrev S1x2x512 : Shape := ⟨3, ![1, 2, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | .hbm, ⟨37, _⟩ => ⟨S1x2x512, .f32⟩
  | .hbm, ⟨38, _⟩ => ⟨S1x2x512, .f32⟩
  | .hbm, ⟨39, _⟩ => ⟨S1x2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S2x512x2048 : Shape := ⟨3, ![2, 512, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel29Ideal.lean ====
abbrev S2x512x2048 : Shape := ⟨3, ![2, 512, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference29Ideal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2048 : Shape := ⟨1, ![2048]⟩
abbrev S1x1x2048 : Shape := ⟨3, ![1, 1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference30Ideal.lean ====
abbrev S2048 : Shape := ⟨1, ![2048]⟩
abbrev S_ : Shape := ⟨0, ![]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x1x2048, .f32⟩
  | .hbm, ⟨38, _⟩ => ⟨S1x1x2048, .f32⟩
  | .hbm, ⟨39, _⟩ => ⟨S1x1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel31.lean ====
abbrev S2x2048x1464 : Shape := ⟨3, ![2, 2048, 1464]⟩
abbrev S2x1464x2048 : Shape := ⟨3, ![2, 1464, 2048]⟩
abbrev S1x1464x128 : Shape := ⟨3, ![1, 1464, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1464, .f32⟩
  | .hbm, ⟨1, _⟩ => ⟨S2x2048x1464, .f32⟩
  | .hbm, ⟨2, _⟩ => ⟨S2x2048x1464, .f32⟩
  | .hbm, ⟨3, _⟩ => ⟨S2x2048x1464, .f32⟩
  | .hbm, ⟨4, _⟩ => ⟨S2x1464x2048, .f32⟩
  | .hbm, ⟨5, _⟩ => ⟨S2x1464x2048, .f32⟩
  | .hbm, ⟨6, _⟩ => ⟨S2x1464x2048, .f32⟩
  | .hbm, ⟨7, _⟩ => ⟨S2x1464x2048, .f32⟩
  | .hbm, ⟨8, _⟩ => ⟨S2x1464x2048, .f32⟩
  | .hbm, ⟨9, _⟩ => ⟨S2x1464x2048, .f32⟩
  | .hbm, ⟨10, _⟩ => ⟨S2x1464x2048, .f32⟩
  | .local _ .vmem, ⟨0, _⟩ => ⟨S1x1464x128, .f32⟩
  | .local _ .vmem, ⟨1, _⟩ => ⟨S1x1464x128, .f32⟩
  | .local _ .vmem, ⟨2, _⟩ => ⟨S1x1464x128, .f32⟩
  | .local _ .vmem, ⟨3, _⟩ => ⟨S1x1464x128, .f32⟩
  | .local _ .vmem, ⟨4, _⟩ => ⟨S1x1464x128, .f32⟩
  | .local _ .vmem, ⟨5, _⟩ => ⟨S1x1464x128, .f32⟩
  | .local _ .vmem, ⟨6, _⟩ => ⟨S1x1464x128, .f32⟩
  | .local _ .vmem, ⟨7, _⟩ => ⟨S1x1464x128, .f32⟩
  | .local _ .vmem, ⟨8, _⟩ => ⟨S1x1464x128, .f32⟩
  | .local _ .vmem, ⟨9, _⟩ => ⟨S1x1464x128, .f32⟩
  | .local _ .vmem, ⟨10, _⟩ => ⟨S1x1464x128, .f32⟩
  | .local _ .vmem, ⟨11, _⟩ => ⟨S1x1464x128, .f32⟩
  | .local _ .vmem, ⟨12, _⟩ => ⟨S1x1464x128, .f32⟩
  | .local _ .vmem, ⟨13, _⟩ => ⟨S1x1464x128, .f32⟩
  | _, _ => ⟨S2x2048x1464, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1464x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1464x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1464x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1464x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1464x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1464x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1464x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference31Ideal.lean ====
abbrev S2x2048x1464 : Shape := ⟨3, ![2, 2048, 1464]⟩
abbrev S_ : Shape := ⟨0, ![]⟩
abbrev S2x1464x2048 : Shape := ⟨3, ![2, 1464, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1464, .f32⟩
  | .hbm, ⟨1, _⟩ => ⟨S2x2048x1464, .f32⟩
  | .hbm, ⟨2, _⟩ => ⟨S2x2048x1464, .f32⟩
  | .hbm, ⟨3, _⟩ => ⟨S2x2048x1464, .f32⟩
  | .hbm, ⟨4, _⟩ => ⟨S_, .f32⟩
  | .hbm, ⟨5, _⟩ => ⟨S2x2048x1464, .f32⟩
  | .hbm, ⟨6, _⟩ => ⟨S2x2048x1464, .f32⟩
  | .hbm, ⟨7, _⟩ => ⟨S_, .f32⟩
  | .hbm, ⟨8, _⟩ => ⟨S2x2048x1464, .f32⟩
  | .hbm, ⟨9, _⟩ => ⟨S2x2048x1464, .f32⟩
  | .hbm, ⟨10, _⟩ => ⟨S2x2048x1464, .f32⟩
  | .hbm, ⟨11, _⟩ => ⟨S_, .f32⟩
  | .hbm, ⟨12, _⟩ => ⟨S2x2048x1464, .f32⟩
  | .hbm, ⟨13, _⟩ => ⟨S2x2048x1464, .f32⟩
  | .hbm, ⟨14, _⟩ => ⟨S2x2048x1464, .f32⟩
  | .hbm, ⟨15, _⟩ => ⟨S_, .f32⟩
  | .hbm, ⟨16, _⟩ => ⟨S2x2048x1464, .f32⟩
  | .hbm, ⟨17, _⟩ => ⟨S2x2048x1464, .f32⟩
  | .hbm, ⟨18, _⟩ => ⟨S2x2048x1464, .f32⟩
  | .hbm, ⟨19, _⟩ => ⟨S_, .f32⟩
  | .hbm, ⟨20, _⟩ => ⟨S2x2048x1464, .f32⟩
  | .hbm, ⟨21, _⟩ => ⟨S2x2048x1464, .f32⟩
  | .hbm, ⟨22, _⟩ => ⟨S_, .f32⟩
  | .hbm, ⟨23, _⟩ => ⟨S2x2048x1464, .f32⟩
  | .hbm, ⟨24, _⟩ => ⟨S2x2048x1464, .f32⟩
  | .hbm, ⟨25, _⟩ => ⟨S2x2048x1464, .f32⟩
  | .hbm, ⟨26, _⟩ => ⟨S_, .f32⟩
  | .hbm, ⟨27, _⟩ => ⟨S2x2048x1464, .f32⟩
  | .hbm, ⟨28, _⟩ => ⟨S2x2048x1464, .f32⟩
  | .hbm, ⟨29, _⟩ => ⟨S2x2048x1464, .f32⟩
  | .hbm, ⟨30, _⟩ => ⟨S_, .f32⟩
  | .hbm, ⟨31, _⟩ => ⟨S2x2048x1464, .f32⟩
  | .hbm, ⟨32, _⟩ => ⟨S2x2048x1464, .f32⟩
  | .hbm, ⟨33, _⟩ => ⟨S2x2048x1464, .f32⟩
  | .hbm, ⟨34, _⟩ => ⟨S_, .f32⟩
  | .hbm, ⟨35, _⟩ => ⟨S2x2048x1464, .f32⟩
  | .hbm, ⟨36, _⟩ => ⟨S2x2048x1464, .f32⟩
  | .hbm, ⟨37, _⟩ => ⟨S2x1464x2048, .f32⟩
  | .hbm, ⟨38, _⟩ => ⟨S2x1464x2048, .f32⟩
  | .hbm, ⟨39, _⟩ => ⟨S2x1464x2048, .f32⟩
  | _, _ => ⟨S2x2048x1464, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S2x4x1464x1024 : Shape := ⟨4, ![2, 4, 1464, 1024]⟩
abbrev S4x1464x1024 : Shape := ⟨3, ![4, 1464, 1024]⟩
abbrev S_ : Shape := ⟨0, ![]⟩
abbrev S1 : Shape := ⟨1, ![1]⟩
abbrev S1x1x1464x256 : Shape := ⟨4, ![1, 1, 1464, 256]⟩
abbrev S1x1464x256 : Shape := ⟨3, ![1, 1464, 256]⟩
abbrev S1464x256 : Shape := ⟨2, ![1464, 256]⟩

abbrev nBuf : Space → Nat
  | .hbm => 4
  | .vmem => 6
  | .smem => 1
  | _ => 0

abbrev bufTy : (tb : Table) → Fin (tcTables nBuf tb) → BufTy
  | .hbm, ⟨0, _⟩ => ⟨S2x4x1464x1024, .bf16⟩
  | .hbm, ⟨1, _⟩ => ⟨S4x1464x1024, .bf16⟩
  | .hbm, ⟨2, _⟩ => ⟨S_, .i32⟩
  | .hbm, ⟨3, _⟩ => ⟨S4x1464x1024, .bf16⟩
  | .local _ .vmem, ⟨0, _⟩ => ⟨S1x1x1464x256, .bf16⟩
  | .local _ .vmem, ⟨1, _⟩ => ⟨S1x1x1464x256, .bf16⟩
  | .local _ .vmem, ⟨2, _⟩ => ⟨S1x1464x256, .bf16⟩
  | .local _ .vmem, ⟨3, _⟩ => ⟨S1x1464x256, .bf16⟩
  | .local _ .vmem, ⟨4, _⟩ => ⟨S1x1464x256, .bf16⟩
  | .local _ .vmem, ⟨5, _⟩ => ⟨S1x1464x256, .bf16⟩
  | .local _ .smem, ⟨0, _⟩ => ⟨S1, .i32⟩
  | _, _ => ⟨S2x4x1464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1464x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1464x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1464x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Kernel32Ideal.lean ====
abbrev S2x4x1464x1024 : Shape := ⟨4, ![2, 4, 1464, 1024]⟩
abbrev S4x1464x1024 : Shape := ⟨3, ![4, 1464, 1024]⟩
abbrev S_ : Shape := ⟨0, ![]⟩
abbrev S1 : Shape := ⟨1, ![1]⟩
abbrev S1x1x1464x256 : Shape := ⟨4, ![1, 1, 1464, 256]⟩
abbrev S1x1464x256 : Shape := ⟨3, ![1, 1464, 256]⟩
abbrev S1464x256 : Shape := ⟨2, ![1464, 256]⟩

abbrev nBuf : Space → Nat
  | .hbm => 4
  | .vmem => 6
  | .smem => 1
  | _ => 0

abbrev bufTy : (tb : Table) → Fin (tcTables nBuf tb) → BufTy
  | .hbm, ⟨0, _⟩ => ⟨S2x4x1464x1024, .bf16⟩
  | .hbm, ⟨1, _⟩ => ⟨S4x1464x1024, .bf16⟩
  | .hbm, ⟨2, _⟩ => ⟨S_, .i32⟩
  | .hbm, ⟨3, _⟩ => ⟨S4x1464x1024, .bf16⟩
  | .local _ .vmem, ⟨0, _⟩ => ⟨S1x1x1464x256, .bf16⟩
  | .local _ .vmem, ⟨1, _⟩ => ⟨S1x1x1464x256, .bf16⟩
  | .local _ .vmem, ⟨2, _⟩ => ⟨S1x1464x256, .bf16⟩
  | .local _ .vmem, ⟨3, _⟩ => ⟨S1x1464x256, .bf16⟩
  | .local _ .vmem, ⟨4, _⟩ => ⟨S1x1464x256, .bf16⟩
  | .local _ .vmem, ⟨5, _⟩ => ⟨S1x1464x256, .bf16⟩
  | .local _ .smem, ⟨0, _⟩ => ⟨S1, .i32⟩
  | _, _ => ⟨S2x4x1464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1464x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1464x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1464x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference32Ideal.lean ====
abbrev S2x4x1464x1024 : Shape := ⟨4, ![2, 4, 1464, 1024]⟩
abbrev S4x1464x1024 : Shape := ⟨3, ![4, 1464, 1024]⟩
abbrev S1x4x1464x1024 : Shape := ⟨4, ![1, 4, 1464, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4x1464x1024, .bf16⟩
  | .hbm, ⟨1, _⟩ => ⟨S4x1464x1024, .bf16⟩
  | .hbm, ⟨2, _⟩ => ⟨S1x4x1464x1024, .bf16⟩
  | .hbm, ⟨3, _⟩ => ⟨S4x1464x1024, .bf16⟩
  | .hbm, ⟨4, _⟩ => ⟨S4x1464x1024, .f32⟩
  | .hbm, ⟨5, _⟩ => ⟨S4x1464x1024, .f32⟩
  | .hbm, ⟨6, _⟩ => ⟨S4x1464x1024, .f32⟩
  | .hbm, ⟨7, _⟩ => ⟨S4x1464x1024, .bf16⟩
  | _, _ => ⟨S2x4x1464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel33.lean ====
abbrev S2x4x256x2048 : Shape := ⟨4, ![2, 4, 256, 2048]⟩
abbrev S4x256x2048 : Shape := ⟨3, ![4, 256, 2048]⟩
abbrev S_ : Shape := ⟨0, ![]⟩
abbrev S1 : Shape := ⟨1, ![1]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S2x4x256x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S2x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Kernel33Ideal.lean ====
abbrev S2x4x256x2048 : Shape := ⟨4, ![2, 4, 256, 2048]⟩
abbrev S4x256x2048 : Shape := ⟨3, ![4, 256, 2048]⟩
abbrev S_ : Shape := ⟨0, ![]⟩
abbrev S1 : Shape := ⟨1, ![1]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S2x4x256x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S2x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference33Ideal.lean ====
abbrev S2x4x256x2048 : Shape := ⟨4, ![2, 4, 256, 2048]⟩
abbrev S4x256x2048 : Shape := ⟨3, ![4, 256, 2048]⟩
abbrev S1x4x256x2048 : Shape := ⟨4, ![1, 4, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4x256x2048, .bf16⟩
  | .hbm, ⟨1, _⟩ => ⟨S4x256x2048, .bf16⟩
  | .hbm, ⟨2, _⟩ => ⟨S1x4x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S2x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel34.lean ====
abbrev S2x4x192x288 : Shape := ⟨4, ![2, 4, 192, 288]⟩
abbrev S4x192x288 : Shape := ⟨3, ![4, 192, 288]⟩
abbrev S_ : Shape := ⟨0, ![]⟩
abbrev S1 : Shape := ⟨1, ![1]⟩
abbrev S1x1x192x288 : Shape := ⟨4, ![1, 1, 192, 288]⟩
abbrev S1x192x288 : Shape := ⟨3, ![1, 192, 288]⟩
abbrev S192x288 : Shape := ⟨2, ![192, 288]⟩

abbrev nBuf : Space → Nat
  | .hbm => 4
  | .vmem => 6
  | .smem => 1
  | _ => 0

abbrev bufTy : (tb : Table) → Fin (tcTables nBuf tb) → BufTy
  | .hbm, ⟨0, _⟩ => ⟨S2x4x192x288, .bf16⟩
  | .hbm, ⟨1, _⟩ => ⟨S4x192x288, .bf16⟩
  | .hbm, ⟨2, _⟩ => ⟨S_, .i32⟩
  | .hbm, ⟨3, _⟩ => ⟨S4x192x288, .bf16⟩
  | .local _ .vmem, ⟨0, _⟩ => ⟨S1x1x192x288, .bf16⟩
  | .local _ .vmem, ⟨1, _⟩ => ⟨S1x1x192x288, .bf16⟩
  | .local _ .vmem, ⟨2, _⟩ => ⟨S1x192x288, .bf16⟩
  | .local _ .vmem, ⟨3, _⟩ => ⟨S1x192x288, .bf16⟩
  | .local _ .vmem, ⟨4, _⟩ => ⟨S1x192x288, .bf16⟩
  | .local _ .vmem, ⟨5, _⟩ => ⟨S1x192x288, .bf16⟩
  | .local _ .smem, ⟨0, _⟩ => ⟨S1, .i32⟩
  | _, _ => ⟨S2x4x192x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x192x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x192x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x192x288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Kernel34Ideal.lean ====
abbrev S2x4x192x288 : Shape := ⟨4, ![2, 4, 192, 288]⟩
abbrev S4x192x288 : Shape := ⟨3, ![4, 192, 288]⟩
abbrev S_ : Shape := ⟨0, ![]⟩
abbrev S1 : Shape := ⟨1, ![1]⟩
abbrev S1x1x192x288 : Shape := ⟨4, ![1, 1, 192, 288]⟩
abbrev S1x192x288 : Shape := ⟨3, ![1, 192, 288]⟩
abbrev S192x288 : Shape := ⟨2, ![192, 288]⟩

abbrev nBuf : Space → Nat
  | .hbm => 4
  | .vmem => 6
  | .smem => 1
  | _ => 0

abbrev bufTy : (tb : Table) → Fin (tcTables nBuf tb) → BufTy
  | .hbm, ⟨0, _⟩ => ⟨S2x4x192x288, .bf16⟩
  | .hbm, ⟨1, _⟩ => ⟨S4x192x288, .bf16⟩
  | .hbm, ⟨2, _⟩ => ⟨S_, .i32⟩
  | .hbm, ⟨3, _⟩ => ⟨S4x192x288, .bf16⟩
  | .local _ .vmem, ⟨0, _⟩ => ⟨S1x1x192x288, .bf16⟩
  | .local _ .vmem, ⟨1, _⟩ => ⟨S1x1x192x288, .bf16⟩
  | .local _ .vmem, ⟨2, _⟩ => ⟨S1x192x288, .bf16⟩
  | .local _ .vmem, ⟨3, _⟩ => ⟨S1x192x288, .bf16⟩
  | .local _ .vmem, ⟨4, _⟩ => ⟨S1x192x288, .bf16⟩
  | .local _ .vmem, ⟨5, _⟩ => ⟨S1x192x288, .bf16⟩
  | .local _ .smem, ⟨0, _⟩ => ⟨S1, .i32⟩
  | _, _ => ⟨S2x4x192x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x192x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x192x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x192x288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference34Ideal.lean ====
abbrev S2x4x192x288 : Shape := ⟨4, ![2, 4, 192, 288]⟩
abbrev S4x192x288 : Shape := ⟨3, ![4, 192, 288]⟩
abbrev S1x4x192x288 : Shape := ⟨4, ![1, 4, 192, 288]⟩

abbrev nBuf : Space → Nat
  | .hbm => 8
  | .vmem => 0
  | .smem => 0
  | _ => 0

abbrev bufTy : (tb : Table) → Fin (tcTables nBuf tb) → BufTy
  | .hbm, ⟨0, _⟩ => ⟨S2x4x192x288, .bf16⟩
  | .hbm, ⟨1, _⟩ => ⟨S4x192x288, .bf16⟩
  | .hbm, ⟨2, _⟩ => ⟨S1x4x192x288, .bf16⟩
  | .hbm, ⟨3, _⟩ => ⟨S4x192x288, .bf16⟩
  | .hbm, ⟨4, _⟩ => ⟨S4x192x288, .f32⟩
  | .hbm, ⟨5, _⟩ => ⟨S4x192x288, .f32⟩
  | .hbm, ⟨6, _⟩ => ⟨S4x192x288, .f32⟩
  | .hbm, ⟨7, _⟩ => ⟨S4x192x288, .bf16⟩
  | _, _ => ⟨S2x4x192x288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel35.lean ====
abbrev S2x4x128x384 : Shape := ⟨4, ![2, 4, 128, 384]⟩
abbrev S4x128x384 : Shape := ⟨3, ![4, 128, 384]⟩
abbrev S_ : Shape := ⟨0, ![]⟩
abbrev S1 : Shape := ⟨1, ![1]⟩
abbrev S1x1x128x384 : Shape := ⟨4, ![1, 1, 128, 384]⟩
abbrev S1x128x384 : Shape := ⟨3, ![1, 128, 384]⟩
abbrev S128x384 : Shape := ⟨2, ![128, 384]⟩

abbrev nBuf : Space → Nat
  | .hbm => 4
  | .vmem => 6
  | .smem => 1
  | _ => 0

abbrev bufTy : (tb : Table) → Fin (tcTables nBuf tb) → BufTy
  | .hbm, ⟨0, _⟩ => ⟨S2x4x128x384, .bf16⟩
  | .hbm, ⟨1, _⟩ => ⟨S4x128x384, .bf16⟩
  | .hbm, ⟨2, _⟩ => ⟨S_, .i32⟩
  | .hbm, ⟨3, _⟩ => ⟨S4x128x384, .bf16⟩
  | .local _ .vmem, ⟨0, _⟩ => ⟨S1x1x128x384, .bf16⟩
  | .local _ .vmem, ⟨1, _⟩ => ⟨S1x1x128x384, .bf16⟩
  | .local _ .vmem, ⟨2, _⟩ => ⟨S1x128x384, .bf16⟩
  | .local _ .vmem, ⟨3, _⟩ => ⟨S1x128x384, .bf16⟩
  | .local _ .vmem, ⟨4, _⟩ => ⟨S1x128x384, .bf16⟩
  | .local _ .vmem, ⟨5, _⟩ => ⟨S1x128x384, .bf16⟩
  | .local _ .smem, ⟨0, _⟩ => ⟨S1, .i32⟩
  | _, _ => ⟨S2x4x128x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![v0.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference35Ideal.lean ====
abbrev S2x4x128x384 : Shape := ⟨4, ![2, 4, 128, 384]⟩
abbrev S4x128x384 : Shape := ⟨3, ![4, 128, 384]⟩
abbrev S1x4x128x384 : Shape := ⟨4, ![1, 4, 128, 384]⟩

abbrev nBuf : Space → Nat
  | .hbm => 8
  | .vmem => 0
  | .smem => 0
  | _ => 0

abbrev bufTy : (tb : Table) → Fin (tcTables nBuf tb) → BufTy
  | .hbm, ⟨0, _⟩ => ⟨S2x4x128x384, .bf16⟩
  | .hbm, ⟨1, _⟩ => ⟨S4x128x384, .bf16⟩
  | .hbm, ⟨2, _⟩ => ⟨S1x4x128x384, .bf16⟩
  | .hbm, ⟨3, _⟩ => ⟨S4x128x384, .bf16⟩
  | .hbm, ⟨4, _⟩ => ⟨S4x128x384, .f32⟩
  | .hbm, ⟨5, _⟩ => ⟨S4x128x384, .f32⟩
  | .hbm, ⟨6, _⟩ => ⟨S4x128x384, .f32⟩
  | .hbm, ⟨7, _⟩ => ⟨S4x128x384, .bf16⟩
  | _, _ => ⟨S2x4x128x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel36.lean ====
abbrev S4x1464x1024 : Shape := ⟨3, ![4, 1464, 1024]⟩
abbrev S3x1464x1024 : Shape := ⟨3, ![3, 1464, 1024]⟩
abbrev S_ : Shape := ⟨0, ![]⟩
abbrev S1 : Shape := ⟨1, ![1]⟩
abbrev S1464x1024 : Shape := ⟨2, ![1464, 1024]⟩
abbrev S1x1464x256 : Shape := ⟨3, ![1, 1464, 256]⟩
abbrev S1464x256 : Shape := ⟨2, ![1464, 256]⟩

abbrev nBuf : Space → Nat
  | .hbm => 4
  | .vmem => 10
  | .smem => 1
  | _ => 0

abbrev bufTy : (tb : Table) → Fin (tcTables nBuf tb) → BufTy
  | .hbm, ⟨0, _⟩ => ⟨S4x1464x1024, .bf16⟩
  | .hbm, ⟨1, _⟩ => ⟨S3x1464x1024, .bf16⟩
  | .hbm, ⟨2, _⟩ => ⟨S_, .i32⟩
  | .hbm, ⟨3, _⟩ => ⟨S1464x1024, .f32⟩
  | .local _ .vmem, ⟨0, _⟩ => ⟨S1x1464x256, .bf16⟩
  | .local _ .vmem, ⟨1, _⟩ => ⟨S1x1464x256, .bf16⟩
  | .local _ .vmem, ⟨2, _⟩ => ⟨S1x1464x256, .bf16⟩
  | .local _ .vmem, ⟨3, _⟩ => ⟨S1x1464x256, .bf16⟩
  | .local _ .vmem, ⟨4, _⟩ => ⟨S1x1464x256, .bf16⟩
  | .local _ .vmem, ⟨5, _⟩ => ⟨S1x1464x256, .bf16⟩
  | .local _ .vmem, ⟨6, _⟩ => ⟨S1x1464x256, .bf16⟩
  | .local _ .vmem, ⟨7, _⟩ => ⟨S1x1464x256, .bf16⟩
  | .local _ .vmem, ⟨8, _⟩ => ⟨S1464x256, .f32⟩
  | .local _ .vmem, ⟨9, _⟩ => ⟨S1464x256, .f32⟩
  | .local _ .smem, ⟨0, _⟩ => ⟨S1, .i32⟩
  | _, _ => ⟨S4x1464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1464x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1464x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1464x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1464x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1464x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel36Ideal.lean ====
abbrev S4x1464x1024 : Shape := ⟨3, ![4, 1464, 1024]⟩
abbrev S3x1464x1024 : Shape := ⟨3, ![3, 1464, 1024]⟩
abbrev S_ : Shape := ⟨0, ![]⟩
abbrev S1 : Shape := ⟨1, ![1]⟩
abbrev S1464x1024 : Shape := ⟨2, ![1464, 1024]⟩
abbrev S1x1464x256 : Shape := ⟨3, ![1, 1464, 256]⟩
abbrev S1464x256 : Shape := ⟨2, ![1464, 256]⟩

abbrev nBuf : Space → Nat
  | .hbm => 4
  | .vmem => 10
  | .smem => 1
  | _ => 0

abbrev bufTy : (tb : Table) → Fin (tcTables nBuf tb) → BufTy
  | .hbm, ⟨0, _⟩ => ⟨S4x1464x1024, .bf16⟩
  | .hbm, ⟨1, _⟩ => ⟨S3x1464x1024, .bf16⟩
  | .hbm, ⟨2, _⟩ => ⟨S_, .i32⟩
  | .hbm, ⟨3, _⟩ => ⟨S1464x1024, .f32⟩
  | .local _ .vmem, ⟨0, _⟩ => ⟨S1x1464x256, .bf16⟩
  | .local _ .vmem, ⟨1, _⟩ => ⟨S1x1464x256, .bf16⟩
  | .local _ .vmem, ⟨2, _⟩ => ⟨S1x1464x256, .bf16⟩
  | .local _ .vmem, ⟨3, _⟩ => ⟨S1x1464x256, .bf16⟩
  | .local _ .vmem, ⟨4, _⟩ => ⟨S1x1464x256, .bf16⟩
  | .local _ .vmem, ⟨5, _⟩ => ⟨S1x1464x256, .bf16⟩
  | .local _ .vmem, ⟨6, _⟩ => ⟨S1x1464x256, .bf16⟩
  | .local _ .vmem, ⟨7, _⟩ => ⟨S1x1464x256, .bf16⟩
  | .local _ .vmem, ⟨8, _⟩ => ⟨S1464x256, .f32⟩
  | .local _ .vmem, ⟨9, _⟩ => ⟨S1464x256, .f32⟩
  | .local _ .smem, ⟨0, _⟩ => ⟨S1, .i32⟩
  | _, _ => ⟨S4x1464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1464x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1464x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1464x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1464x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1464x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference36Ideal.lean ====
abbrev S4x1464x1024 : Shape := ⟨3, ![4, 1464, 1024]⟩
abbrev S3x1464x1024 : Shape := ⟨3, ![3, 1464, 1024]⟩
abbrev S1x1464x1024 : Shape := ⟨3, ![1, 1464, 1024]⟩
abbrev S1464x1024 : Shape := ⟨2, ![1464, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1464x1024, .bf16⟩
  | .hbm, ⟨1, _⟩ => ⟨S3x1464x1024, .bf16⟩
  | .hbm, ⟨2, _⟩ => ⟨S1x1464x1024, .bf16⟩
  | .hbm, ⟨3, _⟩ => ⟨S1464x1024, .bf16⟩
  | .hbm, ⟨4, _⟩ => ⟨S1464x1024, .f32⟩
  | .hbm, ⟨5, _⟩ => ⟨S3x1464x1024, .f32⟩
  | .hbm, ⟨6, _⟩ => ⟨S_, .f32⟩
  | .hbm, ⟨7, _⟩ => ⟨S1464x1024, .f32⟩
  | .hbm, ⟨8, _⟩ => ⟨S1464x1024, .f32⟩
  | _, _ => ⟨S4x1464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel37.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S256x2048 : Shape := ⟨2, ![256, 2048]⟩
abbrev S1x256x2048 : Shape := ⟨3, ![1, 256, 2048]⟩

abbrev nBuf : Space → Nat
  | .hbm => 4
  | .vmem => 5
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Kernel37Ideal.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S256x2048 : Shape := ⟨2, ![256, 2048]⟩
abbrev S1x256x2048 : Shape := ⟨3, ![1, 256, 2048]⟩

abbrev nBuf : Space → Nat
  | .hbm => 4
  | .vmem => 5
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S256x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference37Ideal.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .bf16⟩
  | .hbm, ⟨3, _⟩ => ⟨S256x2048, .bf16⟩
  | .hbm, ⟨4, _⟩ => ⟨S256x2048, .f32⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel38.lean ====
abbrev S4x192x288 : Shape := ⟨3, ![4, 192, 288]⟩
abbrev S3x192x288 : Shape := ⟨3, ![3, 192, 288]⟩
abbrev S_ : Shape := ⟨0, ![]⟩
abbrev S1 : Shape := ⟨1, ![1]⟩
abbrev S192x288 : Shape := ⟨2, ![192, 288]⟩
abbrev S1x192x288 : Shape := ⟨3, ![1, 192, 288]⟩

abbrev nBuf : Space → Nat
  | .hbm => 4
  | .vmem => 5
  | .smem => 1
  | _ => 0

abbrev bufTy : (tb : Table) → Fin (tcTables nBuf tb) → BufTy
  | .hbm, ⟨0, _⟩ => ⟨S4x192x288, .bf16⟩
  | .hbm, ⟨1, _⟩ => ⟨S3x192x288, .bf16⟩
  | .hbm, ⟨2, _⟩ => ⟨S_, .i32⟩
  | .hbm, ⟨3, _⟩ => ⟨S192x288, .f32⟩
  | .local _ .vmem, ⟨0, _⟩ => ⟨S1x192x288, .bf16⟩
  | .local _ .vmem, ⟨1, _⟩ => ⟨S1x192x288, .bf16⟩
  | .local _ .vmem, ⟨2, _⟩ => ⟨S1x192x288, .bf16⟩
  | .local _ .vmem, ⟨3, _⟩ => ⟨S1x192x288, .bf16⟩
  | .local _ .vmem, ⟨4, _⟩ => ⟨S192x288, .f32⟩
  | .local _ .smem, ⟨0, _⟩ => ⟨S1, .i32⟩
  | _, _ => ⟨S4x192x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x192x288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x192x288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x192x288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x192x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S192x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Kernel38Ideal.lean ====
abbrev S4x192x288 : Shape := ⟨3, ![4, 192, 288]⟩
abbrev S3x192x288 : Shape := ⟨3, ![3, 192, 288]⟩
abbrev S_ : Shape := ⟨0, ![]⟩
abbrev S1 : Shape := ⟨1, ![1]⟩
abbrev S192x288 : Shape := ⟨2, ![192, 288]⟩
abbrev S1x192x288 : Shape := ⟨3, ![1, 192, 288]⟩

abbrev nBuf : Space → Nat
  | .hbm => 4
  | .vmem => 5
  | .smem => 1
  | _ => 0

abbrev bufTy : (tb : Table) → Fin (tcTables nBuf tb) → BufTy
  | .hbm, ⟨0, _⟩ => ⟨S4x192x288, .bf16⟩
  | .hbm, ⟨1, _⟩ => ⟨S3x192x288, .bf16⟩
  | .hbm, ⟨2, _⟩ => ⟨S_, .i32⟩
  | .hbm, ⟨3, _⟩ => ⟨S192x288, .f32⟩
  | .local _ .vmem, ⟨0, _⟩ => ⟨S1x192x288, .bf16⟩
  | .local _ .vmem, ⟨1, _⟩ => ⟨S1x192x288, .bf16⟩
  | .local _ .vmem, ⟨2, _⟩ => ⟨S1x192x288, .bf16⟩
  | .local _ .vmem, ⟨3, _⟩ => ⟨S1x192x288, .bf16⟩
  | .local _ .vmem, ⟨4, _⟩ => ⟨S192x288, .f32⟩
  | .local _ .smem, ⟨0, _⟩ => ⟨S1, .i32⟩
  | _, _ => ⟨S4x192x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x192x288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x192x288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x192x288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x192x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S192x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference38Ideal.lean ====
abbrev S4x192x288 : Shape := ⟨3, ![4, 192, 288]⟩
abbrev S3x192x288 : Shape := ⟨3, ![3, 192, 288]⟩
abbrev S1x192x288 : Shape := ⟨3, ![1, 192, 288]⟩
abbrev S192x288 : Shape := ⟨2, ![192, 288]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x192x288, .bf16⟩
  | .hbm, ⟨1, _⟩ => ⟨S3x192x288, .bf16⟩
  | .hbm, ⟨2, _⟩ => ⟨S1x192x288, .bf16⟩
  | .hbm, ⟨3, _⟩ => ⟨S192x288, .bf16⟩
  | .hbm, ⟨4, _⟩ => ⟨S192x288, .f32⟩
  | .hbm, ⟨5, _⟩ => ⟨S3x192x288, .f32⟩
  | .hbm, ⟨6, _⟩ => ⟨S_, .f32⟩
  | .hbm, ⟨7, _⟩ => ⟨S192x288, .f32⟩
  | .hbm, ⟨8, _⟩ => ⟨S192x288, .f32⟩
  | _, _ => ⟨S4x192x288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel39.lean ====
abbrev S4x128x384 : Shape := ⟨3, ![4, 128, 384]⟩
abbrev S3x128x384 : Shape := ⟨3, ![3, 128, 384]⟩
abbrev S_ : Shape := ⟨0, ![]⟩
abbrev S1 : Shape := ⟨1, ![1]⟩
abbrev S128x384 : Shape := ⟨2, ![128, 384]⟩
abbrev S1x128x384 : Shape := ⟨3, ![1, 128, 384]⟩

abbrev nBuf : Space → Nat
  | .hbm => 4
  | .vmem => 5
  | .smem => 1
  | _ => 0

abbrev bufTy : (tb : Table) → Fin (tcTables nBuf tb) → BufTy
  | .hbm, ⟨0, _⟩ => ⟨S4x128x384, .bf16⟩
  | .hbm, ⟨1, _⟩ => ⟨S3x128x384, .bf16⟩
  | .hbm, ⟨2, _⟩ => ⟨S_, .i32⟩
  | .hbm, ⟨3, _⟩ => ⟨S128x384, .f32⟩
  | .local _ .vmem, ⟨0, _⟩ => ⟨S1x128x384, .bf16⟩
  | .local _ .vmem, ⟨1, _⟩ => ⟨S1x128x384, .bf16⟩
  | .local _ .vmem, ⟨2, _⟩ => ⟨S1x128x384, .bf16⟩
  | .local _ .vmem, ⟨3, _⟩ => ⟨S1x128x384, .bf16⟩
  | .local _ .vmem, ⟨4, _⟩ => ⟨S128x384, .f32⟩
  | .local _ .smem, ⟨0, _⟩ => ⟨S1, .i32⟩
  | _, _ => ⟨S4x128x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference39Ideal.lean ====
abbrev S4x128x384 : Shape := ⟨3, ![4, 128, 384]⟩
abbrev S3x128x384 : Shape := ⟨3, ![3, 128, 384]⟩
abbrev S1x128x384 : Shape := ⟨3, ![1, 128, 384]⟩
abbrev S128x384 : Shape := ⟨2, ![128, 384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x128x384, .bf16⟩
  | .hbm, ⟨1, _⟩ => ⟨S3x128x384, .bf16⟩
  | .hbm, ⟨2, _⟩ => ⟨S1x128x384, .bf16⟩
  | .hbm, ⟨3, _⟩ => ⟨S128x384, .bf16⟩
  | .hbm, ⟨4, _⟩ => ⟨S128x384, .f32⟩
  | .hbm, ⟨5, _⟩ => ⟨S3x128x384, .f32⟩
  | .hbm, ⟨6, _⟩ => ⟨S_, .f32⟩
  | .hbm, ⟨7, _⟩ => ⟨S128x384, .f32⟩
  | .hbm, ⟨8, _⟩ => ⟨S128x384, .f32⟩
  | _, _ => ⟨S4x128x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel40.lean ====
abbrev S2048x384 : Shape := ⟨2, ![2048, 384]⟩
abbrev S384x768 : Shape := ⟨2, ![384, 768]⟩
abbrev S2048x768 : Shape := ⟨2, ![2048, 768]⟩
abbrev S2048x128 : Shape := ⟨2, ![2048, 128]⟩
abbrev S128x384 : Shape := ⟨2, ![128, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x384, .f32⟩
  | .hbm, ⟨1, _⟩ => ⟨S384x768, .bf16⟩
  | .hbm, ⟨2, _⟩ => ⟨S2048x768, .bf16⟩
  | .local _ .vmem, ⟨0, _⟩ => ⟨S2048x128, .f32⟩
  | .local _ .vmem, ⟨1, _⟩ => ⟨S2048x128, .f32⟩
  | .local _ .vmem, ⟨2, _⟩ => ⟨S128x384, .bf16⟩
  | .local _ .vmem, ⟨3, _⟩ => ⟨S128x384, .bf16⟩
  | .local _ .vmem, ⟨4, _⟩ => ⟨S2048x384, .bf16⟩
  | .local _ .vmem, ⟨5, _⟩ => ⟨S2048x384, .bf16⟩
  | .local _ .vmem, ⟨6, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel40Ideal.lean ====
abbrev S2048x384 : Shape := ⟨2, ![2048, 384]⟩
abbrev S384x768 : Shape := ⟨2, ![384, 768]⟩
abbrev S2048x768 : Shape := ⟨2, ![2048, 768]⟩
abbrev S2048x128 : Shape := ⟨2, ![2048, 128]⟩
abbrev S128x384 : Shape := ⟨2, ![128, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x384, .f32⟩
  | .hbm, ⟨1, _⟩ => ⟨S384x768, .bf16⟩
  | .hbm, ⟨2, _⟩ => ⟨S2048x768, .bf16⟩
  | .local _ .vmem, ⟨0, _⟩ => ⟨S2048x128, .f32⟩
  | .local _ .vmem, ⟨1, _⟩ => ⟨S2048x128, .f32⟩
  | .local _ .vmem, ⟨2, _⟩ => ⟨S128x384, .bf16⟩
  | .local _ .vmem, ⟨3, _⟩ => ⟨S128x384, .bf16⟩
  | .local _ .vmem, ⟨4, _⟩ => ⟨S2048x384, .bf16⟩
  | .local _ .vmem, ⟨5, _⟩ => ⟨S2048x384, .bf16⟩
  | .local _ .vmem, ⟨6, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S2048x384 : Shape := ⟨2, ![2048, 384]⟩
abbrev S384x768 : Shape := ⟨2, ![384, 768]⟩
abbrev S2048x768 : Shape := ⟨2, ![2048, 768]⟩

abbrev nBuf : Space → Nat
  | .hbm => 5
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x768, .bf16⟩
  | .hbm, ⟨2, _⟩ => ⟨S384x768, .f32⟩
  | .hbm, ⟨3, _⟩ => ⟨S2048x768, .f32⟩
  | .hbm, ⟨4, _⟩ => ⟨S2048x768, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S2048x384 : Shape := ⟨2, ![2048, 384]⟩
abbrev S384x384 : Shape := ⟨2, ![384, 384]⟩
abbrev S2048x128 : Shape := ⟨2, ![2048, 128]⟩
abbrev S128x384 : Shape := ⟨2, ![128, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S2048x384, .f32⟩
  | .local _ .vmem, ⟨0, _⟩ => ⟨S2048x128, .f32⟩
  | .local _ .vmem, ⟨1, _⟩ => ⟨S2048x128, .f32⟩
  | .local _ .vmem, ⟨2, _⟩ => ⟨S128x384, .bf16⟩
  | .local _ .vmem, ⟨3, _⟩ => ⟨S128x384, .bf16⟩
  | .local _ .vmem, ⟨4, _⟩ => ⟨S2048x384, .f32⟩
  | .local _ .vmem, ⟨5, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel41Ideal.lean ====
abbrev S2048x384 : Shape := ⟨2, ![2048, 384]⟩
abbrev S384x384 : Shape := ⟨2, ![384, 384]⟩
abbrev S2048x128 : Shape := ⟨2, ![2048, 128]⟩
abbrev S128x384 : Shape := ⟨2, ![128, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S2048x384, .f32⟩
  | .local _ .vmem, ⟨0, _⟩ => ⟨S2048x128, .f32⟩
  | .local _ .vmem, ⟨1, _⟩ => ⟨S2048x128, .f32⟩
  | .local _ .vmem, ⟨2, _⟩ => ⟨S128x384, .bf16⟩
  | .local _ .vmem, ⟨3, _⟩ => ⟨S128x384, .bf16⟩
  | .local _ .vmem, ⟨4, _⟩ => ⟨S2048x384, .f32⟩
  | .local _ .vmem, ⟨5, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference41Ideal.lean ====
abbrev S2048x384 : Shape := ⟨2, ![2048, 384]⟩
abbrev S384x384 : Shape := ⟨2, ![384, 384]⟩

abbrev nBuf : Space → Nat
  | .hbm => 4
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S384x384, .f32⟩
  | .hbm, ⟨3, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel42.lean ====
abbrev S2048x256 : Shape := ⟨2, ![2048, 256]⟩
abbrev S256x1536 : Shape := ⟨2, ![256, 1536]⟩
abbrev S2048x1536 : Shape := ⟨2, ![2048, 1536]⟩
abbrev S256x512 : Shape := ⟨2, ![256, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x1536, .bf16⟩
  | .hbm, ⟨2, _⟩ => ⟨S2048x1536, .bf16⟩
  | .local _ .vmem, ⟨0, _⟩ => ⟨S2048x256, .f32⟩
  | .local _ .vmem, ⟨1, _⟩ => ⟨S256x512, .bf16⟩
  | .local _ .vmem, ⟨2, _⟩ => ⟨S256x512, .bf16⟩
  | .local _ .vmem, ⟨3, _⟩ => ⟨S2048x512, .bf16⟩
  | .local _ .vmem, ⟨4, _⟩ => ⟨S2048x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference42Ideal.lean ====
abbrev S2048x256 : Shape := ⟨2, ![2048, 256]⟩
abbrev S256x1536 : Shape := ⟨2, ![256, 1536]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1536, .bf16⟩
  | .hbm, ⟨2, _⟩ => ⟨S256x1536, .f32⟩
  | .hbm, ⟨3, _⟩ => ⟨S2048x1536, .f32⟩
  | .hbm, ⟨4, _⟩ => ⟨S2048x1536, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel43.lean ====
abbrev S2048x768 : Shape := ⟨2, ![2048, 768]⟩
abbrev S384x768 : Shape := ⟨2, ![384, 768]⟩
abbrev S2048x384 : Shape := ⟨2, ![2048, 384]⟩
abbrev S2048x256 : Shape := ⟨2, ![2048, 256]⟩
abbrev S384x256 : Shape := ⟨2, ![384, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S384x768, .bf16⟩
  | .hbm, ⟨2, _⟩ => ⟨S2048x384, .f32⟩
  | .local _ .vmem, ⟨0, _⟩ => ⟨S2048x256, .bf16⟩
  | .local _ .vmem, ⟨1, _⟩ => ⟨S2048x256, .bf16⟩
  | .local _ .vmem, ⟨2, _⟩ => ⟨S384x256, .bf16⟩
  | .local _ .vmem, ⟨3, _⟩ => ⟨S384x256, .bf16⟩
  | .local _ .vmem, ⟨4, _⟩ => ⟨S2048x384, .f32⟩
  | .local _ .vmem, ⟨5, _⟩ => ⟨S2048x384, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel43Ideal.lean ====
abbrev S2048x768 : Shape := ⟨2, ![2048, 768]⟩
abbrev S384x768 : Shape := ⟨2, ![384, 768]⟩
abbrev S2048x384 : Shape := ⟨2, ![2048, 384]⟩
abbrev S2048x256 : Shape := ⟨2, ![2048, 256]⟩
abbrev S384x256 : Shape := ⟨2, ![384, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S384x768, .bf16⟩
  | .hbm, ⟨2, _⟩ => ⟨S2048x384, .f32⟩
  | .local _ .vmem, ⟨0, _⟩ => ⟨S2048x256, .bf16⟩
  | .local _ .vmem, ⟨1, _⟩ => ⟨S2048x256, .bf16⟩
  | .local _ .vmem, ⟨2, _⟩ => ⟨S384x256, .bf16⟩
  | .local _ .vmem, ⟨3, _⟩ => ⟨S384x256, .bf16⟩
  | .local _ .vmem, ⟨4, _⟩ => ⟨S2048x384, .f32⟩
  | .local _ .vmem, ⟨5, _⟩ => ⟨S2048x384, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference43Ideal.lean ====
abbrev S2048x768 : Shape := ⟨2, ![2048, 768]⟩
abbrev S384x768 : Shape := ⟨2, ![384, 768]⟩
abbrev S_ : Shape := ⟨0, ![]⟩
abbrev S2048x384 : Shape := ⟨2, ![2048, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S384x768, .bf16⟩
  | .hbm, ⟨2, _⟩ => ⟨S_, .f32⟩
  | .hbm, ⟨3, _⟩ => ⟨S2048x384, .f32⟩
  | .hbm, ⟨4, _⟩ => ⟨S384x768, .f32⟩
  | .hbm, ⟨5, _⟩ => ⟨S2048x768, .f32⟩
  | .hbm, ⟨6, _⟩ => ⟨S2048x768, .f32⟩
  | .hbm, ⟨7, _⟩ => ⟨S2048x384, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel44.lean ====
abbrev S2048x384 : Shape := ⟨2, ![2048, 384]⟩
abbrev S384x384 : Shape := ⟨2, ![384, 384]⟩
abbrev S2048x128 : Shape := ⟨2, ![2048, 128]⟩
abbrev S384x128 : Shape := ⟨2, ![384, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S2048x384, .f32⟩
  | .local _ .vmem, ⟨0, _⟩ => ⟨S2048x128, .f32⟩
  | .local _ .vmem, ⟨1, _⟩ => ⟨S2048x128, .f32⟩
  | .local _ .vmem, ⟨2, _⟩ => ⟨S384x128, .bf16⟩
  | .local _ .vmem, ⟨3, _⟩ => ⟨S384x128, .bf16⟩
  | .local _ .vmem, ⟨4, _⟩ => ⟨S2048x384, .f32⟩
  | .local _ .vmem, ⟨5, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel44Ideal.lean ====
abbrev S2048x384 : Shape := ⟨2, ![2048, 384]⟩
abbrev S384x384 : Shape := ⟨2, ![384, 384]⟩
abbrev S2048x128 : Shape := ⟨2, ![2048, 128]⟩
abbrev S384x128 : Shape := ⟨2, ![384, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S2048x384, .f32⟩
  | .local _ .vmem, ⟨0, _⟩ => ⟨S2048x128, .f32⟩
  | .local _ .vmem, ⟨1, _⟩ => ⟨S2048x128, .f32⟩
  | .local _ .vmem, ⟨2, _⟩ => ⟨S384x128, .bf16⟩
  | .local _ .vmem, ⟨3, _⟩ => ⟨S384x128, .bf16⟩
  | .local _ .vmem, ⟨4, _⟩ => ⟨S2048x384, .f32⟩
  | .local _ .vmem, ⟨5, _⟩ => ⟨S2048x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference44Ideal.lean ====
abbrev S2048x384 : Shape := ⟨2, ![2048, 384]⟩
abbrev S384x384 : Shape := ⟨2, ![384, 384]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x384, .bf16⟩
  | .hbm, ⟨2, _⟩ => ⟨S_, .f32⟩
  | .hbm, ⟨3, _⟩ => ⟨S2048x384, .f32⟩
  | .hbm, ⟨4, _⟩ => ⟨S384x384, .f32⟩
  | .hbm, ⟨5, _⟩ => ⟨S2048x384, .f32⟩
  | .hbm, ⟨6, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel45.lean ====
abbrev S2048x1536 : Shape := ⟨2, ![2048, 1536]⟩
abbrev S256x1536 : Shape := ⟨2, ![256, 1536]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1536, .bf16⟩
  | .hbm, ⟨1, _⟩ => ⟨S256x1536, .bf16⟩
  | .hbm, ⟨2, _⟩ => ⟨S2048x256, .f32⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S2048x256, .f32⟩
  | .local _ .vmem, ⟨5, _⟩ => ⟨S2048x256, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel45Ideal.lean ====
abbrev S2048x1536 : Shape := ⟨2, ![2048, 1536]⟩
abbrev S256x1536 : Shape := ⟨2, ![256, 1536]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1536, .bf16⟩
  | .hbm, ⟨1, _⟩ => ⟨S256x1536, .bf16⟩
  | .hbm, ⟨2, _⟩ => ⟨S2048x256, .f32⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S2048x256, .f32⟩
  | .local _ .vmem, ⟨5, _⟩ => ⟨S2048x256, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference45Ideal.lean ====
abbrev S2048x1536 : Shape := ⟨2, ![2048, 1536]⟩
abbrev S256x1536 : Shape := ⟨2, ![256, 1536]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S256x1536, .bf16⟩
  | .hbm, ⟨2, _⟩ => ⟨S_, .f32⟩
  | .hbm, ⟨3, _⟩ => ⟨S2048x256, .f32⟩
  | .hbm, ⟨4, _⟩ => ⟨S256x1536, .f32⟩
  | .hbm, ⟨5, _⟩ => ⟨S2048x1536, .f32⟩
  | .hbm, ⟨6, _⟩ => ⟨S2048x1536, .f32⟩
  | .hbm, ⟨7, _⟩ => ⟨S2048x256, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel46.lean ====
abbrev S2048x384 : Shape := ⟨2, ![2048, 384]⟩
abbrev S2048x768 : Shape := ⟨2, ![2048, 768]⟩
abbrev S384x768 : Shape := ⟨2, ![384, 768]⟩
abbrev S2048x128 : Shape := ⟨2, ![2048, 128]⟩
abbrev S128x384 : Shape := ⟨2, ![128, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S2048x768, .bf16⟩
  | .hbm, ⟨2, _⟩ => ⟨S384x768, .bf16⟩
  | .local _ .vmem, ⟨0, _⟩ => ⟨S2048x128, .f32⟩
  | .local _ .vmem, ⟨1, _⟩ => ⟨S2048x128, .f32⟩
  | .local _ .vmem, ⟨2, _⟩ => ⟨S2048x384, .bf16⟩
  | .local _ .vmem, ⟨3, _⟩ => ⟨S2048x384, .bf16⟩
  | .local _ .vmem, ⟨4, _⟩ => ⟨S128x384, .bf16⟩
  | .local _ .vmem, ⟨5, _⟩ => ⟨S128x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel46Ideal.lean ====
abbrev S2048x384 : Shape := ⟨2, ![2048, 384]⟩
abbrev S2048x768 : Shape := ⟨2, ![2048, 768]⟩
abbrev S384x768 : Shape := ⟨2, ![384, 768]⟩
abbrev S2048x128 : Shape := ⟨2, ![2048, 128]⟩
abbrev S128x384 : Shape := ⟨2, ![128, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S2048x768, .bf16⟩
  | .hbm, ⟨2, _⟩ => ⟨S384x768, .bf16⟩
  | .local _ .vmem, ⟨0, _⟩ => ⟨S2048x128, .f32⟩
  | .local _ .vmem, ⟨1, _⟩ => ⟨S2048x128, .f32⟩
  | .local _ .vmem, ⟨2, _⟩ => ⟨S2048x384, .bf16⟩
  | .local _ .vmem, ⟨3, _⟩ => ⟨S2048x384, .bf16⟩
  | .local _ .vmem, ⟨4, _⟩ => ⟨S128x384, .bf16⟩
  | .local _ .vmem, ⟨5, _⟩ => ⟨S128x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference46Ideal.lean ====
abbrev S2048x384 : Shape := ⟨2, ![2048, 384]⟩
abbrev S2048x768 : Shape := ⟨2, ![2048, 768]⟩
abbrev S_ : Shape := ⟨0, ![]⟩
abbrev S384x768 : Shape := ⟨2, ![384, 768]⟩
abbrev S768x384 : Shape := ⟨2, ![768, 384]⟩

abbrev nBuf : Space → Nat
  | .hbm => 9
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x768, .bf16⟩
  | .hbm, ⟨2, _⟩ => ⟨S_, .f32⟩
  | .hbm, ⟨3, _⟩ => ⟨S384x768, .f32⟩
  | .hbm, ⟨4, _⟩ => ⟨S2048x768, .f32⟩
  | .hbm, ⟨5, _⟩ => ⟨S2048x768, .f32⟩
  | .hbm, ⟨6, _⟩ => ⟨S768x384, .f32⟩
  | .hbm, ⟨7, _⟩ => ⟨S384x768, .f32⟩
  | .hbm, ⟨8, _⟩ => ⟨S384x768, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel47.lean ====
abbrev S2048x384 : Shape := ⟨2, ![2048, 384]⟩
abbrev S384x384 : Shape := ⟨2, ![384, 384]⟩
abbrev S2048x128 : Shape := ⟨2, ![2048, 128]⟩
abbrev S128x384 : Shape := ⟨2, ![128, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S384x384, .bf16⟩
  | .local _ .vmem, ⟨0, _⟩ => ⟨S2048x128, .f32⟩
  | .local _ .vmem, ⟨1, _⟩ => ⟨S2048x128, .f32⟩
  | .local _ .vmem, ⟨2, _⟩ => ⟨S2048x384, .f32⟩
  | .local _ .vmem, ⟨3, _⟩ => ⟨S128x384, .bf16⟩
  | .local _ .vmem, ⟨4, _⟩ => ⟨S128x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel47Ideal.lean ====
abbrev S2048x384 : Shape := ⟨2, ![2048, 384]⟩
abbrev S384x384 : Shape := ⟨2, ![384, 384]⟩
abbrev S2048x128 : Shape := ⟨2, ![2048, 128]⟩
abbrev S128x384 : Shape := ⟨2, ![128, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S384x384, .bf16⟩
  | .local _ .vmem, ⟨0, _⟩ => ⟨S2048x128, .f32⟩
  | .local _ .vmem, ⟨1, _⟩ => ⟨S2048x128, .f32⟩
  | .local _ .vmem, ⟨2, _⟩ => ⟨S2048x384, .f32⟩
  | .local _ .vmem, ⟨3, _⟩ => ⟨S128x384, .bf16⟩
  | .local _ .vmem, ⟨4, _⟩ => ⟨S128x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference47Ideal.lean ====
abbrev S2048x384 : Shape := ⟨2, ![2048, 384]⟩
abbrev S_ : Shape := ⟨0, ![]⟩
abbrev S384x384 : Shape := ⟨2, ![384, 384]⟩

abbrev nBuf : Space → Nat
  | .hbm => 8
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S_, .f32⟩
  | .hbm, ⟨3, _⟩ => ⟨S384x384, .f32⟩
  | .hbm, ⟨4, _⟩ => ⟨S2048x384, .f32⟩
  | .hbm, ⟨5, _⟩ => ⟨S384x384, .f32⟩
  | .hbm, ⟨6, _⟩ => ⟨S384x384, .f32⟩
  | .hbm, ⟨7, _⟩ => ⟨S384x384, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel48.lean ====
abbrev S2048x256 : Shape := ⟨2, ![2048, 256]⟩
abbrev S2048x1536 : Shape := ⟨2, ![2048, 1536]⟩
abbrev S256x1536 : Shape := ⟨2, ![256, 1536]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1536, .bf16⟩
  | .hbm, ⟨2, _⟩ => ⟨S256x1536, .bf16⟩
  | .local _ .vmem, ⟨0, _⟩ => ⟨S2048x256, .f32⟩
  | .local _ .vmem, ⟨1, _⟩ => ⟨S2048x512, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference48Ideal.lean ====
abbrev S2048x256 : Shape := ⟨2, ![2048, 256]⟩
abbrev S2048x1536 : Shape := ⟨2, ![2048, 1536]⟩
abbrev S_ : Shape := ⟨0, ![]⟩
abbrev S256x1536 : Shape := ⟨2, ![256, 1536]⟩
abbrev S1536x256 : Shape := ⟨2, ![1536, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1536, .bf16⟩
  | .hbm, ⟨2, _⟩ => ⟨S_, .f32⟩
  | .hbm, ⟨3, _⟩ => ⟨S256x1536, .f32⟩
  | .hbm, ⟨4, _⟩ => ⟨S2048x1536, .f32⟩
  | .hbm, ⟨5, _⟩ => ⟨S2048x1536, .f32⟩
  | .hbm, ⟨6, _⟩ => ⟨S1536x256, .f32⟩
  | .hbm, ⟨7, _⟩ => ⟨S256x1536, .f32⟩
  | .hbm, ⟨8, _⟩ => ⟨S256x1536, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel49.lean ====
abbrev S2048x128 : Shape := ⟨2, ![2048, 128]⟩
abbrev S128x768 : Shape := ⟨2, ![128, 768]⟩
abbrev S2048x768 : Shape := ⟨2, ![2048, 768]⟩
abbrev S128x384 : Shape := ⟨2, ![128, 384]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S128x768, .f32⟩
  | .hbm, ⟨2, _⟩ => ⟨S2048x768, .f32⟩
  | .local _ .vmem, ⟨0, _⟩ => ⟨S2048x128, .f32⟩
  | .local _ .vmem, ⟨1, _⟩ => ⟨S128x384, .f32⟩
  | .local _ .vmem, ⟨2, _⟩ => ⟨S128x384, .f32⟩
  | .local _ .vmem, ⟨3, _⟩ => ⟨S2048x384, .f32⟩
  | .local _ .vmem, ⟨4, _⟩ => ⟨S2048x384, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference49Ideal.lean ====
abbrev S2048x128 : Shape := ⟨2, ![2048, 128]⟩
abbrev S128x768 : Shape := ⟨2, ![128, 768]⟩
abbrev S2048x768 : Shape := ⟨2, ![2048, 768]⟩

abbrev nBuf : Space → Nat
  | .hbm => 3
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x768, .f32⟩
  | .hbm, ⟨2, _⟩ => ⟨S2048x768, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel50.lean ====
abbrev S2048x768 : Shape := ⟨2, ![2048, 768]⟩
abbrev S128x768 : Shape := ⟨2, ![128, 768]⟩
abbrev S2048x128 : Shape := ⟨2, ![2048, 128]⟩
abbrev S2048x256 : Shape := ⟨2, ![2048, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S128x768, .f32⟩
  | .hbm, ⟨2, _⟩ => ⟨S2048x128, .f32⟩
  | .local _ .vmem, ⟨0, _⟩ => ⟨S2048x256, .f32⟩
  | .local _ .vmem, ⟨1, _⟩ => ⟨S2048x256, .f32⟩
  | .local _ .vmem, ⟨2, _⟩ => ⟨S128x256, .f32⟩
  | .local _ .vmem, ⟨3, _⟩ => ⟨S128x256, .f32⟩
  | .local _ .vmem, ⟨4, _⟩ => ⟨S2048x128, .f32⟩
  | .local _ .vmem, ⟨5, _⟩ => ⟨S2048x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference50Ideal.lean ====
abbrev S2048x768 : Shape := ⟨2, ![2048, 768]⟩
abbrev S128x768 : Shape := ⟨2, ![128, 768]⟩
abbrev S_ : Shape := ⟨0, ![]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S128x768, .f32⟩
  | .hbm, ⟨2, _⟩ => ⟨S_, .f32⟩
  | .hbm, ⟨3, _⟩ => ⟨S2048x128, .f32⟩
  | .hbm, ⟨4, _⟩ => ⟨S2048x768, .f32⟩
  | .hbm, ⟨5, _⟩ => ⟨S2048x128, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel51.lean ====
abbrev S2048x128 : Shape := ⟨2, ![2048, 128]⟩
abbrev S2048x768 : Shape := ⟨2, ![2048, 768]⟩
abbrev S128x768 : Shape := ⟨2, ![128, 768]⟩
abbrev S2048x384 : Shape := ⟨2, ![2048, 384]⟩
abbrev S128x384 : Shape := ⟨2, ![128, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x768, .f32⟩
  | .hbm, ⟨2, _⟩ => ⟨S128x768, .f32⟩
  | .local _ .vmem, ⟨0, _⟩ => ⟨S2048x128, .f32⟩
  | .local _ .vmem, ⟨1, _⟩ => ⟨S2048x384, .f32⟩
  | .local _ .vmem, ⟨2, _⟩ => ⟨S2048x384, .f32⟩
  | .local _ .vmem, ⟨3, _⟩ => ⟨S128x384, .f32⟩
  | .local _ .vmem, ⟨4, _⟩ => ⟨S128x384, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference51Ideal.lean ====
abbrev S2048x128 : Shape := ⟨2, ![2048, 128]⟩
abbrev S2048x768 : Shape := ⟨2, ![2048, 768]⟩
abbrev S_ : Shape := ⟨0, ![]⟩
abbrev S128x768 : Shape := ⟨2, ![128, 768]⟩
abbrev S768x128 : Shape := ⟨2, ![768, 128]⟩

abbrev nBuf : Space → Nat
  | .hbm => 7
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x768, .f32⟩
  | .hbm, ⟨2, _⟩ => ⟨S_, .f32⟩
  | .hbm, ⟨3, _⟩ => ⟨S128x768, .f32⟩
  | .hbm, ⟨4, _⟩ => ⟨S2048x768, .f32⟩
  | .hbm, ⟨5, _⟩ => ⟨S768x128, .f32⟩
  | .hbm, ⟨6, _⟩ => ⟨S128x768, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Model.lean ====
/-
  Attention's gradient over the real numbers, and the few facts that carry a program's extended-real arithmetic to it.
  Six heads; 2048 queries and keys; every head has 128 plain lanes and 64 rotary lanes, whose keys all heads share.
-/
module

public import Idealize.ShloMosaic.Lib.Pointwise
public import Idealize.ShloMosaic.Lib.IdealHost

@[expose] public section

noncomputable section

open Idealize.ShloMosaic

namespace Cert.Attn

/-! ## Real sums, products, quotients inside the extended reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem log_coe_pos {a : ℝ} (ha : 0 < a) : Ideal.log (a : EReal) = ((Real.log a : ℝ) : EReal) := by
  rw [Ideal.log_coe, if_neg (not_le.mpr ha)]

/-- The largest of finitely many reals, folded from `⊥`, is a real. -/
theorem fold_max_real {ι : Type} [Fintype ι] [Nonempty ι] (f : ι → EReal) (hf : ∀ i, ∃ r : ℝ, f i = (r : EReal)) :
    ∃ M : ℝ, (Finset.univ : Finset ι).fold max (⊥ : EReal) f = (M : EReal) := by
  classical
  have key : ∀ (s : Finset ι), s.fold max (⊥ : EReal) f = ⊥ ∧ s = ∅ ∨ ∃ M : ℝ, s.fold max (⊥ : EReal) f = (M : EReal) := by
    intro s
    induction s using Finset.induction_on with
    | empty => exact Or.inl ⟨by simp, rfl⟩
    | insert a s ha ih =>
      right
      obtain ⟨r, hr⟩ := hf a
      rw [Finset.fold_insert ha, hr]
      rcases ih with ⟨h, _⟩ | ⟨M, h⟩
      · exact ⟨r, by rw [h]; simp⟩
      · exact ⟨max r M, by rw [h]; exact (EReal.coe_strictMono.monotone.map_max).symm⟩
  rcases key Finset.univ with ⟨_, h⟩ | h
  · exact absurd h (Finset.univ_nonempty.ne_empty)
  · exact h

/-- The host's largest score of a row, over real scores, is a real. -/
theorem hostMax_real (x : FVec Ideal ⟨3, ![6, 2048, 2048]⟩ .f32) (hx : ∀ i, ∃ r : ℝ, x i = (r : EReal))
    (init : FVec Ideal ⟨0, ![]⟩ .f32) (hi : ∀ i, init i = (⊥ : EReal))
    (h' : (⟨3, ![6, 2048, 2048]⟩ : Shape).ReducesTo [2] ⟨2, ![6, 2048]⟩) (hu : 0 < (⟨0, ![]⟩ : Shape).numel) (j) :
    ∃ M : ℝ, Host.reduce FloatOps.maximumf x init h' hu j = (M : EReal) := by
  have h : (⟨3, ![6, 2048, 2048]⟩ : Shape).Reduces [2] ⟨2, ![6, 2048]⟩ := by decide
  rw [Host.reduce_eq_fold_single _ x init h' h hu j, hi]
  haveI : Nonempty (Fin ((⟨3, ![6, 2048, 2048]⟩ : Shape).size 2)) := ⟨⟨0, by decide⟩⟩
  exact fold_max_real (fun k => x (h.lift j k)) fun k => hx _

theorem max_bot_coe (M : ℝ) : max (⊥ : EReal) (M : EReal) = (M : EReal) := by simp

/-- The softmax scale, as the word both programs carry. -/
def c : ℝ := (Ideal.ofBits .f32 0x3D93CD3A#32).toReal

theorem ofBits_scale : Ideal.ofBits .f32 0x3D93CD3A#32 = ((c : ℝ) : EReal) := by
  have h : ∃ r : ℝ, Ideal.ofBits .f32 0x3D93CD3A#32 = (r : EReal) := by
    simp [Ideal.ofBits, Ideal.ieee]
    exact ⟨_, rfl⟩
  obtain ⟨r, hr⟩ := h
  unfold c
  rw [hr, EReal.toReal_coe]

theorem ofBits_ninf : Ideal.ofBits .f32 0xFF800000#32 = (⊥ : EReal) := by
  simp [Ideal.ofBits, Ideal.ieee]

/-! ## The model -/

/-- The real arguments: queries' plain and rotary lanes, keys and values side by side per head, the shared rotary keys,
    and the gradient of the output. -/
structure Args where
  qn : Fin 2048 → Fin 768 → ℝ
  qr : Fin 2048 → Fin 384 → ℝ
  kv : Fin 2048 → Fin 1536 → ℝ
  kr : Fin 2048 → Fin 64 → ℝ
  g : Fin 2048 → Fin 768 → ℝ

/-- The four arrays a forward pass takes are the real ones of `A`, -/
structure Fwd (A : Args) (x0 : FVec Ideal ⟨2, ![2048, 768]⟩ .bf16) (x1 : FVec Ideal ⟨2, ![2048, 384]⟩ .f32)
    (x2 : FVec Ideal ⟨2, ![2048, 1536]⟩ .bf16) (x3 : FVec Ideal ⟨2, ![2048, 64]⟩ .f32) : Prop where
  h0 : ∀ i j, x0 (ix2 i j) = ((A.qn i j : ℝ) : EReal)
  h1 : ∀ i j, x1 (ix2 i j) = ((A.qr i j : ℝ) : EReal)
  h2 : ∀ i j, x2 (ix2 i j) = ((A.kv i j : ℝ) : EReal)
  h3 : ∀ i j, x3 (ix2 i j) = ((A.kr i j : ℝ) : EReal)

/-- and the gradient a backward pass takes with them. -/
structure Bwd (A : Args) (x0 : FVec Ideal ⟨2, ![2048, 768]⟩ .bf16) (x1 : FVec Ideal ⟨2, ![2048, 384]⟩ .f32)
    (x2 : FVec Ideal ⟨2, ![2048, 1536]⟩ .bf16) (x3 : FVec Ideal ⟨2, ![2048, 64]⟩ .f32)
    (x4 : FVec Ideal ⟨2, ![2048, 768]⟩ .f32) : Prop extends Fwd A x0 x1 x2 x3 where
  h4 : ∀ i j, x4 (ix2 i j) = ((A.g i j : ℝ) : EReal)

namespace Args

variable (A : Args)

def Q (q : Fin 2048) (h : Fin 6) (d : Fin 128) : ℝ := A.qn q ⟨h.val * 128 + d.val, by omega⟩
def R (q : Fin 2048) (h : Fin 6) (r : Fin 64) : ℝ := A.qr q ⟨h.val * 64 + r.val, by omega⟩
def K (k : Fin 2048) (h : Fin 6) (d : Fin 128) : ℝ := A.kv k ⟨h.val * 256 + d.val, by omega⟩
def V (k : Fin 2048) (h : Fin 6) (d : Fin 128) : ℝ := A.kv k ⟨h.val * 256 + (128 + d.val), by omega⟩
def G (q : Fin 2048) (h : Fin 6) (d : Fin 128) : ℝ := A.g q ⟨h.val * 128 + d.val, by omega⟩

/-- The scaled score of key `k` for query `q` of head `h`. -/
def sc (h : Fin 6) (q k : Fin 2048) : ℝ := (∑ d, A.Q q h d * A.K k h d + ∑ r, A.R q h r * A.kr k r) * c
/-- The softmax's denominator. -/
def l (h : Fin 6) (q : Fin 2048) : ℝ := ∑ k, Real.exp (A.sc h q k)
/-- The softmax weight. -/
def p (h : Fin 6) (q k : Fin 2048) : ℝ := Real.exp (A.sc h q k) / A.l h q
/-- The output. -/
def o (q : Fin 2048) (h : Fin 6) (d : Fin 128) : ℝ := ∑ k, A.p h q k * A.V k h d
/-- The gradient of the weights. -/
def dp (h : Fin 6) (q k : Fin 2048) : ℝ := ∑ d, A.G q h d * A.V k h d
/-- The gradient of the scores, before the scale is taken off. -/
def ds (h : Fin 6) (q k : Fin 2048) : ℝ := A.p h q k * (A.dp h q k - ∑ k', A.p h q k' * A.dp h q k') * c
def dqn (q : Fin 2048) (h : Fin 6) (d : Fin 128) : ℝ := ∑ k, A.ds h q k * A.K k h d
def dqr (q : Fin 2048) (h : Fin 6) (r : Fin 64) : ℝ := ∑ k, A.ds h q k * A.kr k r
def dkn (k : Fin 2048) (h : Fin 6) (d : Fin 128) : ℝ := ∑ q, A.ds h q k * A.Q q h d
def dv (k : Fin 2048) (h : Fin 6) (d : Fin 128) : ℝ := ∑ q, A.p h q k * A.G q h d
def dkr (k : Fin 2048) (r : Fin 64) : ℝ := ∑ h, ∑ q, A.ds h q k * A.R q h r

theorem l_pos (h : Fin 6) (q : Fin 2048) : 0 < A.l h q :=
  Finset.sum_pos (fun _ _ => Real.exp_pos _) Finset.univ_nonempty

theorem l_ne (h : Fin 6) (q : Fin 2048) : A.l h q ≠ 0 := (A.l_pos h q).ne'

/-- Subtracting a shift `M` from every score scales the denominator. -/
theorem sum_shift (h : Fin 6) (q : Fin 2048) (M : ℝ) :
    ∑ k, Real.exp (A.sc h q k - M) = A.l h q * Real.exp (-M) := by
  unfold l
  rw [Finset.sum_mul]
  exact Finset.sum_congr rfl fun k _ => by rw [sub_eq_add_neg, Real.exp_add]

theorem shift_div (h : Fin 6) (q k : Fin 2048) (M : ℝ) :
    Real.exp (A.sc h q k - M) / (A.l h q * Real.exp (-M)) = A.p h q k := by
  unfold p
  rw [sub_eq_add_neg, Real.exp_add, mul_div_mul_right _ _ (Real.exp_ne_zero _)]

/-- The shift cancels in the logarithm of the denominator. -/
theorem shift_log (h : Fin 6) (q : Fin 2048) (M : ℝ) :
    M + Real.log (A.l h q * Real.exp (-M)) = Real.log (A.l h q) := by
  rw [Real.log_mul (A.l_ne h q) (Real.exp_ne_zero _), Real.log_exp]; ring

theorem exp_lse (h : Fin 6) (q k : Fin 2048) : Real.exp (A.sc h q k - Real.log (A.l h q)) = A.p h q k := by
  rw [Real.exp_sub, Real.exp_log (A.l_pos h q)]; rfl

/-- The kernel's inner product of the output and its gradient is the weights' mean of the weights' gradient. -/
theorem delta (h : Fin 6) (q : Fin 2048) : ∑ d, A.G q h d * A.o q h d = ∑ k, A.p h q k * A.dp h q k := by
  unfold o dp
  simp only [Finset.mul_sum]
  rw [Finset.sum_comm]
  exact Finset.sum_congr rfl fun k _ => Finset.sum_congr rfl fun d _ => by ring

end Args

end Cert.Attn

end
-- ==== Proof.Finite.lean ====
/-
  What the precondition says: every element of every argument is a real number.
-/
module

public import proofs.«01_k».proof.Proof.Model
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Finite

open Cert.Attn

/-- A comparison of magnitudes against `+∞` that holds everywhere makes every element real. -/
theorem real_of_lt {s : Shape} {dims : List (Fin s.rank)} (x : FVec Ideal s .f32) (hb : (⟨0, ![]⟩ : Shape).BroadcastsInDim s (![] : Fin 0 → Fin s.rank))
    (hr : s.ReducesTo dims ⟨0, ![]⟩) (hu : 0 < (⟨0, ![]⟩ : Shape).numel) (i0 : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) hr hu i0 = 1#1) (i : s.Idx) : ∃ r : ℝ, x i = (r : EReal) := by
  haveI : Subsingleton (⟨0, ![]⟩ : Shape).Idx := ⟨fun a b => funext fun k => k.elim0⟩
  have h := Host.reduce_andi_all _ _ hr hu i0 e i
  have h' : Ideal.cmp .olt (FloatOps.absf (x i) : Ideal .f32) (Ideal.ofBits .f32 0x7F800000#32) = 1#1 := h
  have ht : Ideal.ofBits .f32 0x7F800000#32 = (⊤ : EReal) := by simp [Ideal.ofBits, Ideal.ieee]
  rw [ht, Ideal.absf_def] at h'
  have hlt : ∀ y : EReal, Ideal.cmp .olt y (⊤ : EReal) = 1#1 → y < ⊤ := fun y hy => by
    by_contra hn
    simp [Ideal.cmp, hn] at hy
  have hl := hlt _ h'
  induction hx : (x i : EReal) using EReal.rec with
  | coe r => exact ⟨r, rfl⟩
  | top => rw [hx] at hl; simp at hl
  | bot => rw [hx] at hl; simp at hl

theorem split {a b : IVec ⟨0, ![]⟩ 1} {i : (⟨0, ![]⟩ : Shape).Idx} (h : andi a b i = 1#1) : a i = 1#1 ∧ b i = 1#1 :=
  IntOp.andi_eq_one.1 h

abbrev i0 : (⟨0, ![]⟩ : Shape).Idx := fun k => k.elim0

/-- The model's arguments of five arrays (the last may be anything). -/
def model (x0 : FVec Ideal ⟨2, ![2048, 768]⟩ .bf16) (x1 : FVec Ideal ⟨2, ![2048, 384]⟩ .f32) (x2 : FVec Ideal ⟨2, ![2048, 1536]⟩ .bf16)
    (x3 : FVec Ideal ⟨2, ![2048, 64]⟩ .f32) (x4 : FVec Ideal ⟨2, ![2048, 768]⟩ .f32) : Args where
  qn i j := EReal.toReal (x0 (ix2 i j))
  qr i j := EReal.toReal (x1 (ix2 i j))
  kv i j := EReal.toReal (x2 (ix2 i j))
  kr i j := EReal.toReal (x3 (ix2 i j))
  g i j := EReal.toReal (x4 (ix2 i j))

theorem eq_toReal {a : EReal} (h : ∃ r : ℝ, a = (r : EReal)) : a = ((a.toReal : ℝ) : EReal) := by
  obtain ⟨r, rfl⟩ := h
  rw [EReal.toReal_coe]

/-- Under the backward pass's precondition the five arguments are real. -/
theorem bwd (x0 : FVec Ideal ⟨2, ![2048, 768]⟩ .bf16) (x1 : FVec Ideal ⟨2, ![2048, 384]⟩ .f32) (x2 : FVec Ideal ⟨2, ![2048, 1536]⟩ .bf16)
    (x3 : FVec Ideal ⟨2, ![2048, 64]⟩ .f32) (x4 : FVec Ideal ⟨2, ![2048, 768]⟩ .f32)
    (h : Pre_finite.fn (F := Ideal) x0 x1 x2 x3 x4 = fun _ => 1#1) : Bwd (model x0 x1 x2 x3 x4) x0 x1 x2 x3 x4 := by
  have e := congrFun h i0
  obtain ⟨e, e4⟩ := split e
  obtain ⟨e, e3⟩ := split e
  obtain ⟨e, e2⟩ := split e
  obtain ⟨e0, e1⟩ := split e
  exact { h0 := fun i j => eq_toReal (real_of_lt _ _ _ _ _ e0 (ix2 i j))
          h1 := fun i j => eq_toReal (real_of_lt _ _ _ _ _ e1 (ix2 i j))
          h2 := fun i j => eq_toReal (real_of_lt _ _ _ _ _ e2 (ix2 i j))
          h3 := fun i j => eq_toReal (real_of_lt _ _ _ _ _ e3 (ix2 i j))
          h4 := fun i j => eq_toReal (real_of_lt _ _ _ _ _ e4 (ix2 i j)) }

end Cert.Finite

end
-- ==== Proof.RefValue.lean ====
/-
  The backward reference read at real arguments. Its host operations are named one by one as functions of the five
  arguments, each is read at an index, and each is then the model's real value.
-/
module

public import proofs.«01_k».proof.Proof.Model
public import proofs.«01_k».proof.Proof.Gen.ReferenceIdeal.Run
public import Idealize.ShloMosaic.Lib.Tactic.CleanTypes

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.ReferenceIdeal.Value Cert.Attn

variable (x0 : FVec Ideal S2048x768 .bf16) (x1 : FVec Ideal S2048x384 .f32) (x2 : FVec Ideal S2048x1536 .bf16)
  (x3 : FVec Ideal S2048x64 .f32) (x4 : FVec Ideal S2048x768 .f32)

/-! ## The reference's values, in its own order -/

def q3 : FVec Ideal S2048x6x128 .f32 := shapeCast S2048x6x128 (extf .f32 x0 bitsLt_bf16_f32) shapeCasts_S2048x768_S2048x6x128
def r3 : FVec Ideal S2048x6x64 .f32 := shapeCast S2048x6x64 x1 shapeCasts_S2048x384_S2048x6x64
def kv3 : FVec Ideal S2048x6x256 .f32 := shapeCast S2048x6x256 (extf .f32 x2 bitsLt_bf16_f32) shapeCasts_S2048x1536_S2048x6x256
def k3 : FVec Ideal S2048x6x128 .f32 := extractStridedSlice S2048x6x128 ![0, 0, 0] (kv3 x2) slices_S2048x6x256_S2048x6x128_0_0_0
def v3 : FVec Ideal S2048x6x128 .f32 := extractStridedSlice S2048x6x128 ![0, 0, 128] (kv3 x2) slices_S2048x6x256_S2048x6x128_0_0_128
def s3 : FVec Ideal S6x2048x2048 .f32 :=
  mulf (addf (Host.dotGeneral dot_S2048x6x128_S2048x6x128_S6x2048x2048_2_2_0_0_1_1 none (q3 x0) (k3 x2))
      (transpose S6x2048x2048 [2, 1, 0] (Host.dotGeneral dot_S2048x64_S2048x6x64_S2048x2048x6_1_2_0_01_n_n none x3 (r3 x1))
        transposes_S2048x2048x6_S6x2048x2048_2_1_0))
    (broadcastInDim S6x2048x2048 ![] bcast_S_S6x2048x2048 (constant S_ .f32 0x3D93CD3A#32))
def mx2 : FVec Ideal S6x2048 .f32 :=
  Host.reduce FloatOps.maximumf (s3 x0 x1 x2 x3) (constant S_ .f32 0xFF800000#32) reducesTo_S6x2048x2048_S6x2048_d2 h_S_
def m2 : FVec Ideal S6x2048 .f32 :=
  maximumf (broadcastInDim S6x2048 ![] bcast_S_S6x2048 (constant S_ .f32 0xFF800000#32)) (mx2 x0 x1 x2 x3)
def e3 : FVec Ideal S6x2048x2048 .f32 :=
  Host.exp (subf (s3 x0 x1 x2 x3) (broadcastInDim S6x2048x2048 ![0, 1, 2] bcast_S6x2048x1_S6x2048x2048_0_1_2
    (broadcastInDim S6x2048x1 ![0, 1] bcast_S6x2048_S6x2048x1_0_1 (m2 x0 x1 x2 x3))))
def l3 : FVec Ideal S6x2048x1 .f32 :=
  broadcastInDim S6x2048x1 ![0, 1] bcast_S6x2048_S6x2048x1_0_1
    (Host.reduceAdd (e3 x0 x1 x2 x3) (constant S_ .f32 0x00000000#32) reducesTo_S6x2048x2048_S6x2048_d2 h_S_)
def p3 : FVec Ideal S6x2048x2048 .f32 :=
  Host.divf (e3 x0 x1 x2 x3) (broadcastInDim S6x2048x2048 ![0, 1, 2] bcast_S6x2048x1_S6x2048x2048_0_1_2 (l3 x0 x1 x2 x3))

def g3 : FVec Ideal S6x128x2048 .f32 :=
  transpose S6x128x2048 [1, 2, 0] (shapeCast S2048x6x128 x4 shapeCasts_S2048x768_S2048x6x128) transposes_S2048x6x128_S6x128x2048_1_2_0
def dp3 : FVec Ideal S6x2048x2048 .f32 := Host.dotGeneral dot_S6x128x2048_S2048x6x128_S6x2048x2048_1_2_2_0_0_1 none (g3 x4) (v3 x2)
def dv3 : FVec Ideal S2048x6x128 .f32 :=
  transpose S2048x6x128 [2, 0, 1] (Host.dotGeneral (φ₁ := .f32) (φ₂ := .f32) dot_S6x128x2048_S6x2048x2048_S6x128x2048_2_1_1_2_0_0 none (g3 x4) (p3 x0 x1 x2 x3))
    transposes_S6x128x2048_S2048x6x128_2_0_1
/-- The denominators' own gradient, carried back to every key. -/
def dl3 : FVec Ideal S6x2048x2048 .f32 :=
  broadcastInDim S6x2048x2048 ![0, 1] bcast_S6x2048_S6x2048x2048_0_1
    (Host.reduceAdd
      (Host.negf (shapeCast S6x2048x1
        (Host.reduceAdd
          (mulf (mulf (dp3 x2 x4) (broadcastInDim S6x2048x2048 ![0, 1, 2] bcast_S6x2048x1_S6x2048x2048_0_1_2
              (Host.divf (broadcastInDim S6x2048x1 ![] bcast_S_S6x2048x1 (constant S_ .f32 0x3F800000#32))
                (mulf (l3 x0 x1 x2 x3) (l3 x0 x1 x2 x3)))))
            (e3 x0 x1 x2 x3))
          (constant S_ .f32 0x00000000#32) reducesTo_S6x2048x2048_S6x2048_d2 h_S_)
        shapeCasts_S6x2048_S6x2048x1))
      (constant S_ .f32 0x00000000#32) reducesTo_S6x2048x1_S6x2048_d2 h_S_)
def ds3 : FVec Ideal S6x2048x2048 .f32 :=
  mulf (mulf (addf (Host.divf (dp3 x2 x4) (broadcastInDim S6x2048x2048 ![0, 1, 2] bcast_S6x2048x1_S6x2048x2048_0_1_2 (l3 x0 x1 x2 x3)))
      (dl3 x0 x1 x2 x3 x4)) (e3 x0 x1 x2 x3))
    (broadcastInDim S6x2048x2048 ![] bcast_S_S6x2048x2048 (constant S_ .f32 0x3D93CD3A#32))
def ds3t : FVec Ideal S2048x2048x6 .f32 :=
  transpose S2048x2048x6 [2, 1, 0] (ds3 x0 x1 x2 x3 x4) transposes_S6x2048x2048_S2048x2048x6_2_1_0
def zpad : FVec Ideal S_ .f32 := sitofp .f32 (constantI S_ 32 0#32)

def out_dqn : FVec Ideal S2048x768 .bf16 :=
  truncf .bf16 (shapeCast S2048x768 (transpose S2048x6x128 [1, 0, 2]
      (Host.dotGeneral (φ₁ := .f32) (φ₂ := .f32) dot_S6x2048x2048_S2048x6x128_S6x2048x128_2_0_1_2_0_1 none (ds3 x0 x1 x2 x3 x4) (k3 x2))
      transposes_S6x2048x128_S2048x6x128_1_0_2) shapeCasts_S2048x6x128_S2048x768) bitsLt_bf16_f32
def out_dqr : FVec Ideal S2048x768 .bf16 :=
  truncf .bf16 (shapeCast S2048x768 (pad S2048x6x128 ![0, 0, 0] ![0, 0, 64] ![0, 0, 0]
      (Host.dotGeneral (φ₁ := .f32) (φ₂ := .f32) dot_S2048x2048x6_S2048x64_S2048x6x64_0_0_12_1_n_n none (ds3t x0 x1 x2 x3 x4) x3)
      zpad pads_S2048x6x64_S2048x6x128_000_000_0640 h_S_) shapeCasts_S2048x6x128_S2048x768) bitsLt_bf16_f32
def out_dkv : FVec Ideal S2048x1536 .bf16 :=
  truncf .bf16 (shapeCast S2048x1536 (concatenate S2048x6x256 2 [⟨S2048x6x128, transpose S2048x6x128 [1, 0, 2]
        (Host.dotGeneral (φ₁ := .f32) (φ₂ := .f32) dot_S6x2048x2048_S2048x6x128_S6x2048x128_1_0_2_2_0_1 none (ds3 x0 x1 x2 x3 x4) (q3 x0))
        transposes_S6x2048x128_S2048x6x128_1_0_2⟩, ⟨S2048x6x128, dv3 x0 x1 x2 x3 x4⟩]
      concatenates_S2048x6x128_S2048x6x128_S2048x6x256_d2) shapeCasts_S2048x6x256_S2048x1536) bitsLt_bf16_f32
def out_dkr : FVec Ideal S2048x128 .bf16 :=
  truncf .bf16 (pad S2048x128 ![0, 0] ![0, 64] ![0, 0]
      (Host.dotGeneral (φ₁ := .f32) (φ₂ := .f32) dot_S2048x2048x6_S2048x6x64_S2048x64_12_01_0_2_n_n none (ds3t x0 x1 x2 x3 x4) (r3 x1))
      zpad pads_S2048x64_S2048x128_000_0640 h_S_) bitsLt_bf16_f32

/-! ## The generated results are these -/

section results
variable (m : (ℓ : Loc nD τ sig) → Buf (Elt Ideal) ℓ) (c : Dev nD)

abbrev a0 : FVec Ideal S2048x768 .bf16 := m ((c : Thread nD τ).loc main_arg0)
abbrev a1 : FVec Ideal S2048x384 .f32 := m ((c : Thread nD τ).loc main_arg1)
abbrev a2 : FVec Ideal S2048x1536 .bf16 := m ((c : Thread nD τ).loc main_arg2)
abbrev a3 : FVec Ideal S2048x64 .f32 := m ((c : Thread nD τ).loc main_arg3)
abbrev a4 : FVec Ideal S2048x768 .f32 := m ((c : Thread nD τ).loc main_arg4)

theorem res_dqn : res_main_v70 m c = out_dqn (a0 m c) (a1 m c) (a2 m c) (a3 m c) (a4 m c) := by
  unfold res_main_v70
  delta out_dqn ds3 dl3 dp3 l3 e3 m2 mx2 s3 a0 a1 a2 a3 a4 q3 r3 k3 v3 kv3 g3
  rfl
theorem res_dqr : res_main_v73 m c = out_dqr (a0 m c) (a1 m c) (a2 m c) (a3 m c) (a4 m c) := by
  unfold res_main_v73
  delta out_dqr ds3t ds3 dl3 dp3 l3 e3 m2 mx2 s3 a0 a1 a2 a3 a4 q3 r3 k3 v3 kv3 g3 zpad
  rfl
theorem res_dkv : res_main_v76 m c = out_dkv (a0 m c) (a1 m c) (a2 m c) (a3 m c) (a4 m c) := by
  unfold res_main_v76
  delta out_dkv dv3 p3 ds3 dl3 dp3 l3 e3 m2 mx2 s3 a0 a1 a2 a3 a4 q3 r3 k3 v3 kv3 g3
  rfl
theorem res_dkr : res_main_v78 m c = out_dkr (a0 m c) (a1 m c) (a2 m c) (a3 m c) (a4 m c) := by
  unfold res_main_v78
  delta out_dkr ds3t ds3 dl3 dp3 l3 e3 m2 mx2 s3 a0 a1 a2 a3 a4 q3 r3 k3 v3 kv3 g3 zpad
  rfl
end results

/-! ## Each value at real arguments -/

variable {x0 x1 x2 x3 x4} {A : Args}

theorem s3_apply (H : Fwd A x0 x1 x2 x3) (h : Fin 6) (q k : Fin 2048) :
    s3 x0 x1 x2 x3 (ix3 h q k) = ((A.sc h q k : ℝ) : EReal) := by
  pointwise [s3, q3, k3, r3, kv3]
  simp only [H.h0, H.h1, H.h2, H.h3, ofBits_scale, ← EReal.coe_mul, ← EReal.coe_add, coe_sum]
  simp only [Args.sc, Args.Q, Args.K, Args.R, mul_comm (A.kr _ _)]

theorem s3_real (H : Fwd A x0 x1 x2 x3) (i : S6x2048x2048.Idx) : ∃ r : ℝ, s3 x0 x1 x2 x3 i = (r : EReal) := by
  idx_vars i
  exact ⟨_, s3_apply H _ _ _⟩

theorem ninf_apply (i) : (constant S_ .f32 0xFF800000#32 : FVec Ideal S_ .f32) i = (⊥ : EReal) := by
  pointwise []
  exact ofBits_ninf

theorem mx2_apply (H : Fwd A x0 x1 x2 x3) (j : S6x2048.Idx) : ∃ M : ℝ, mx2 x0 x1 x2 x3 j = (M : EReal) :=
  hostMax_real (s3 x0 x1 x2 x3) (s3_real H) (constant S_ .f32 0xFF800000#32) ninf_apply
    reducesTo_S6x2048x2048_S6x2048_d2 h_S_ j

theorem bc_ninf (j : S6x2048.Idx) : broadcastInDim S6x2048 ![] bcast_S_S6x2048 (constant S_ .f32 0xFF800000#32 : FVec Ideal S_ .f32) j = (⊥ : EReal) := by
  pointwise []
  exact ofBits_ninf
theorem maxf_apply (a b : FVec Ideal S6x2048 .f32) (j) : maximumf a b j = max (a j) (b j) := rfl

theorem m2_eq (j : S6x2048.Idx) : m2 x0 x1 x2 x3 j = max (⊥ : EReal) (mx2 x0 x1 x2 x3 j) := by
  unfold m2
  rw [maxf_apply, bc_ninf]
theorem m2_apply (H : Fwd A x0 x1 x2 x3) (h : Fin 6) (q : Fin 2048) :
    ∃ M : ℝ, m2 x0 x1 x2 x3 (ix2 h q) = (M : EReal) := by
  obtain ⟨M, hM⟩ := mx2_apply H (ix2 h q)
  exact ⟨M, by rw [m2_eq, hM, max_bot_coe]⟩

/-- The shift a row's scores are taken relative to. -/
def shift (x0 : FVec Ideal S2048x768 .bf16) (x1 : FVec Ideal S2048x384 .f32) (x2 : FVec Ideal S2048x1536 .bf16)
  (x3 : FVec Ideal S2048x64 .f32) (h : Fin 6) (q : Fin 2048) : ℝ := (m2 x0 x1 x2 x3 (ix2 h q) : EReal).toReal

theorem m2_shift (H : Fwd A x0 x1 x2 x3) (h : Fin 6) (q : Fin 2048) :
    m2 x0 x1 x2 x3 (ix2 h q) = (shift x0 x1 x2 x3 h q : EReal) := by
  obtain ⟨M, hM⟩ := m2_apply H h q
  unfold shift
  rw [hM, EReal.toReal_coe]

theorem e3_apply (H : Fwd A x0 x1 x2 x3) (h : Fin 6) (q k : Fin 2048) :
    e3 x0 x1 x2 x3 (ix3 h q k) = ((Real.exp (A.sc h q k - shift x0 x1 x2 x3 h q) : ℝ) : EReal) := by
  pointwise [e3]
  rw [s3_apply H, m2_shift H, ← EReal.coe_sub, Ideal.exp_coe]

theorem l3_apply (H : Fwd A x0 x1 x2 x3) (h : Fin 6) (q : Fin 2048) (u : Fin 1) :
    l3 x0 x1 x2 x3 (ix3 h q u) = ((A.l h q * Real.exp (-shift x0 x1 x2 x3 h q) : ℝ) : EReal) := by
  pointwise [l3]
  simp only [e3_apply H, coe_sum, A.sum_shift]

theorem l_ne (h : Fin 6) (q : Fin 2048) (M : ℝ) : A.l h q * Real.exp (-M) ≠ 0 := mul_ne_zero (A.l_ne h q) (Real.exp_ne_zero _)

theorem p3_apply (H : Fwd A x0 x1 x2 x3) (h : Fin 6) (q k : Fin 2048) :
    p3 x0 x1 x2 x3 (ix3 h q k) = (A.p h q k : EReal) := by
  pointwise [p3]
  rw [e3_apply H, l3_apply H, div_coe (l_ne h q _), A.shift_div]

theorem dp3_apply (H : Bwd A x0 x1 x2 x3 x4) (h : Fin 6) (q k : Fin 2048) :
    dp3 x2 x4 (ix3 h q k) = (A.dp h q k : EReal) := by
  pointwise [dp3, g3, v3, kv3]
  simp only [H.h2, H.h4, ← EReal.coe_mul, coe_sum]
  rfl

theorem dl3_apply (H : Bwd A x0 x1 x2 x3 x4) (h : Fin 6) (q k : Fin 2048) :
    dl3 x0 x1 x2 x3 x4 (ix3 h q k) =
      ((-∑ k', A.dp h q k' * (1 / (A.l h q * Real.exp (-shift x0 x1 x2 x3 h q) * (A.l h q * Real.exp (-shift x0 x1 x2 x3 h q))))
        * Real.exp (A.sc h q k' - shift x0 x1 x2 x3 h q) : ℝ) : EReal) := by
  pointwise [dl3]
  simp only [dp3_apply H, e3_apply H.toFwd, l3_apply H.toFwd, ← EReal.coe_mul, ← EReal.coe_one,
    div_coe (mul_ne_zero (l_ne h q _) (l_ne h q _)), coe_sum, ← EReal.coe_neg, Finset.univ_unique, Finset.sum_singleton]

/-- The scores' gradient as the reference forms it is the model's. -/
theorem ds_real (h : Fin 6) (q k : Fin 2048) (M : ℝ) :
    (A.dp h q k / (A.l h q * Real.exp (-M)) + -∑ k', A.dp h q k' * (1 / (A.l h q * Real.exp (-M) * (A.l h q * Real.exp (-M))))
        * Real.exp (A.sc h q k' - M)) * Real.exp (A.sc h q k - M) * c = A.ds h q k := by
  have hs : ∑ k', A.dp h q k' * (1 / (A.l h q * Real.exp (-M) * (A.l h q * Real.exp (-M)))) * Real.exp (A.sc h q k' - M)
      = (∑ k', A.p h q k' * A.dp h q k') / (A.l h q * Real.exp (-M)) := by
    rw [Finset.sum_div]
    refine Finset.sum_congr rfl fun k' _ => ?_
    rw [← A.shift_div h q k' M]
    have := l_ne (A := A) h q M
    field_simp
  rw [hs]
  unfold Args.ds
  rw [← A.shift_div h q k M]
  have := l_ne (A := A) h q M
  field_simp
  ring

theorem ds3_apply (H : Bwd A x0 x1 x2 x3 x4) (h : Fin 6) (q k : Fin 2048) :
    ds3 x0 x1 x2 x3 x4 (ix3 h q k) = (A.ds h q k : EReal) := by
  pointwise [ds3]
  rw [dp3_apply H, e3_apply H.toFwd, l3_apply H.toFwd, dl3_apply H, div_coe (l_ne h q _), ofBits_scale, ← EReal.coe_add,
    ← EReal.coe_mul, ← EReal.coe_mul, ds_real]

theorem out_dqn_apply (H : Bwd A x0 x1 x2 x3 x4) (q : Fin 2048) (h : Fin 6) (d : Fin 128) :
    out_dqn x0 x1 x2 x3 x4 (ix2 q ⟨h.val * 128 + d.val, by omega⟩) = (A.dqn q h d : EReal) := by
  pointwise [out_dqn, k3, kv3]
  simp only [ds3_apply H, H.h2, ← EReal.coe_mul, coe_sum]
  rfl

theorem zpad_apply (j) : zpad j = (0 : EReal) := by
  show ((((0#32 : BitVec 32).toInt : ℝ) : ℝ) : EReal) = 0
  simp

theorem out_dqr_apply (H : Bwd A x0 x1 x2 x3 x4) (q : Fin 2048) (h : Fin 6) (d : Fin 128) :
    out_dqr x0 x1 x2 x3 x4 (ix2 q ⟨h.val * 128 + d.val, by omega⟩) =
      if hd : d.val < 64 then (A.dqr q h ⟨d.val, hd⟩ : EReal) else 0 := by
  have e : (h.val * 128 + d.val) % 128 = d.val := by omega
  pointwise [out_dqr, ds3t]
  simp only [e, zpad_apply, ds3_apply H, H.h3, ← EReal.coe_mul, coe_sum]
  rfl

theorem out_dk_apply (H : Bwd A x0 x1 x2 x3 x4) (k : Fin 2048) (h : Fin 6) (d : Fin 128) :
    out_dkv x0 x1 x2 x3 x4 (ix2 k ⟨h.val * 256 + d.val, by omega⟩) = (A.dkn k h d : EReal) := by
  have e : (h.val * 256 + d.val) % 256 = d.val := by omega
  have e' : (h.val * 256 + d.val) / 256 = h.val := by omega
  pointwise [out_dkv, q3]
  simp only [e, e', d.isLt, dite_true, ds3_apply H, H.h0, ← EReal.coe_mul, coe_sum]
  rfl

theorem out_dv_apply (H : Bwd A x0 x1 x2 x3 x4) (k : Fin 2048) (h : Fin 6) (d : Fin 128) :
    out_dkv x0 x1 x2 x3 x4 (ix2 k ⟨h.val * 256 + (128 + d.val), by omega⟩) = (A.dv k h d : EReal) := by
  have e : (h.val * 256 + (128 + d.val)) % 256 = 128 + d.val := by omega
  have e' : (h.val * 256 + (128 + d.val)) / 256 = h.val := by omega
  have e'' : ¬ 128 + d.val < 128 := by omega
  have e3 : 128 + d.val - 128 = d.val := by omega
  pointwise [out_dkv, dv3, g3]
  simp only [e, e', e'', e3, dite_false, p3_apply H.toFwd, H.h4, ← EReal.coe_mul, coe_sum]
  simp only [Args.dv, Args.G, mul_comm (A.p _ _ _)]

theorem out_dkr_apply (H : Bwd A x0 x1 x2 x3 x4) (k : Fin 2048) (d : Fin 128) :
    out_dkr x0 x1 x2 x3 x4 (ix2 k d) = if hd : d.val < 64 then (A.dkr k ⟨d.val, hd⟩ : EReal) else 0 := by
  pointwise [out_dkr, ds3t, r3]
  simp only [zpad_apply, ds3_apply H, H.h1, ← EReal.coe_mul, coe_sum]
  unfold Args.dkr
  simp only [Finset.sum_comm (s := (Finset.univ : Finset (Fin 2048)))]
  rfl

end Cert.ReferenceIdeal.Read

end
-- ==== Proof.KernelHost.lean ====
/-
  What the host lines before the backward kernel hand it: the forward pass's output and the logarithm of the softmax's
  denominators, and the rotary lanes of queries and keys widened with zeros to 128; each at real arguments.
-/
module

public import proofs.«01_k».proof.Proof.Model
public import proofs.«01_k».proof.Proof.Gen.KernelIdeal.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.KernelIdeal.Value Cert.Attn

variable (x0 : FVec Ideal S2048x768 .bf16) (x1 : FVec Ideal S2048x384 .f32) (x2 : FVec Ideal S2048x1536 .bf16)
  (x3 : FVec Ideal S2048x64 .f32)

def q3 : FVec Ideal S2048x6x128 .f32 := shapeCast S2048x6x128 (extf .f32 x0 bitsLt_bf16_f32) shapeCasts_S2048x768_S2048x6x128
def r3 : FVec Ideal S2048x6x64 .f32 := shapeCast S2048x6x64 x1 shapeCasts_S2048x384_S2048x6x64
def kv3 : FVec Ideal S2048x6x256 .f32 := shapeCast S2048x6x256 (extf .f32 x2 bitsLt_bf16_f32) shapeCasts_S2048x1536_S2048x6x256
def k3 : FVec Ideal S2048x6x128 .f32 := extractStridedSlice S2048x6x128 ![0, 0, 0] (kv3 x2) slices_S2048x6x256_S2048x6x128_0_0_0
def v3 : FVec Ideal S2048x6x128 .f32 := extractStridedSlice S2048x6x128 ![0, 0, 128] (kv3 x2) slices_S2048x6x256_S2048x6x128_0_0_128
def s3 : FVec Ideal S6x2048x2048 .f32 :=
  mulf (addf (Host.dotGeneral dot_S2048x6x128_S2048x6x128_S6x2048x2048_2_2_0_0_1_1 none (q3 x0) (k3 x2))
      (transpose S6x2048x2048 [2, 1, 0] (Host.dotGeneral dot_S2048x64_S2048x6x64_S2048x2048x6_1_2_0_01_n_n none x3 (r3 x1))
        transposes_S2048x2048x6_S6x2048x2048_2_1_0))
    (broadcastInDim S6x2048x2048 ![] bcast_S_S6x2048x2048 (constant S_ .f32 0x3D93CD3A#32))
def mx2 : FVec Ideal S6x2048 .f32 :=
  Host.reduce FloatOps.maximumf (s3 x0 x1 x2 x3) (constant S_ .f32 0xFF800000#32) reducesTo_S6x2048x2048_S6x2048_d2 h_S_
def m3 : FVec Ideal S6x2048x1 .f32 := broadcastInDim S6x2048x1 ![0, 1] bcast_S6x2048_S6x2048x1_0_1 (mx2 x0 x1 x2 x3)
def e3 : FVec Ideal S6x2048x2048 .f32 :=
  Host.exp (subf (s3 x0 x1 x2 x3) (broadcastInDim S6x2048x2048 ![0, 1, 2] bcast_S6x2048x1_S6x2048x2048_0_1_2 (m3 x0 x1 x2 x3)))
def l3 : FVec Ideal S6x2048x1 .f32 :=
  broadcastInDim S6x2048x1 ![0, 1] bcast_S6x2048_S6x2048x1_0_1
    (Host.reduceAdd (e3 x0 x1 x2 x3) (constant S_ .f32 0x00000000#32) reducesTo_S6x2048x2048_S6x2048_d2 h_S_)
def p3 : FVec Ideal S6x2048x2048 .f32 :=
  Host.divf (e3 x0 x1 x2 x3) (broadcastInDim S6x2048x2048 ![0, 1, 2] bcast_S6x2048x1_S6x2048x2048_0_1_2 (l3 x0 x1 x2 x3))
/-- The forward pass's output. -/
def o2 : FVec Ideal S2048x768 .f32 :=
  shapeCast S2048x768 (transpose S2048x6x128 [2, 0, 1]
    (Host.dotGeneral (φ₁ := .f32) (φ₂ := .f32) dot_S2048x6x128_S6x2048x2048_S6x128x2048_0_2_2_1_1_0 none (v3 x2) (p3 x0 x1 x2 x3))
    transposes_S6x128x2048_S2048x6x128_2_0_1) shapeCasts_S2048x6x128_S2048x768
/-- The logarithms of the softmax's denominators. -/
def lse3 : FVec Ideal S6x2048x1 .f32 := addf (m3 x0 x1 x2 x3) (Host.log (l3 x0 x1 x2 x3))
def zpad : FVec Ideal S_ .f32 := sitofp .f32 (constantI S_ 32 0#32)
/-- The queries' rotary lanes, widened. -/
def qr2 : FVec Ideal S2048x768 .bf16 :=
  truncf .bf16 (shapeCast S2048x768 (pad S2048x6x128 ![0, 0, 0] ![0, 0, 64] ![0, 0, 0] (r3 x1) zpad
    pads_S2048x6x64_S2048x6x128_000_000_0640 h_S_) shapeCasts_S2048x6x128_S2048x768) bitsLt_bf16_f32
/-- The shared rotary keys, widened. -/
def kr2 : FVec Ideal S2048x128 .bf16 :=
  truncf .bf16 (shapeCast S2048x128 (pad S2048x1x128 ![0, 0, 0] ![0, 0, 64] ![0, 0, 0]
    (shapeCast S2048x1x64 x3 shapeCasts_S2048x64_S2048x1x64) zpad
    pads_S2048x1x64_S2048x1x128_000_000_0640 h_S_) shapeCasts_S2048x1x128_S2048x128) bitsLt_bf16_f32

/-! ## The arrays the kernel is entered with are these -/

section arrays
variable (m : (ℓ : Loc nD τ sig) → Buf (Elt Ideal) ℓ) (c : Dev nD)

abbrev a0 : FVec Ideal S2048x768 .bf16 := m ((c : Thread nD τ).loc main_arg0)
abbrev a1 : FVec Ideal S2048x384 .f32 := m ((c : Thread nD τ).loc main_arg1)
abbrev a2 : FVec Ideal S2048x1536 .bf16 := m ((c : Thread nD τ).loc main_arg2)
abbrev a3 : FVec Ideal S2048x64 .f32 := m ((c : Thread nD τ).loc main_arg3)
abbrev a4 : FVec Ideal S2048x768 .f32 := m ((c : Thread nD τ).loc main_arg4)

set_option maxHeartbeats 4000000 in
theorem V_kr : V m c main_v34 = kr2 (a3 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta kr2 zpad a3
  rfl

set_option maxHeartbeats 4000000 in
theorem V_qr : V m c main_v30 = qr2 (a1 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta qr2 zpad r3 a1
  rfl

set_option maxHeartbeats 4000000 in
theorem V_lse : V m c main_v26 = lse3 (a0 m c) (a1 m c) (a2 m c) (a3 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta lse3 l3 e3 m3 mx2 s3 k3 kv3 q3 r3 a0 a1 a2 a3
  rfl

set_option maxHeartbeats 4000000 in
theorem V_o : V m c main_v24 = o2 (a0 m c) (a1 m c) (a2 m c) (a3 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta o2 p3 l3 e3 m3 mx2 s3 v3 k3 kv3 q3 r3 a0 a1 a2 a3
  rfl

end arrays

/-! ## Each value at real arguments -/

variable {x0 x1 x2 x3} {A : Args}

theorem s3_apply (H : Fwd A x0 x1 x2 x3) (h : Fin 6) (q k : Fin 2048) :
    s3 x0 x1 x2 x3 (ix3 h q k) = ((A.sc h q k : ℝ) : EReal) := by
  pointwise [s3, q3, k3, r3, kv3]
  simp only [H.h0, H.h1, H.h2, H.h3, ofBits_scale, ← EReal.coe_mul, ← EReal.coe_add, coe_sum]
  simp only [Args.sc, Args.Q, Args.K, Args.R, mul_comm (A.kr _ _)]

theorem s3_real (H : Fwd A x0 x1 x2 x3) (i : S6x2048x2048.Idx) : ∃ r : ℝ, s3 x0 x1 x2 x3 i = (r : EReal) := by
  idx_vars i
  exact ⟨_, s3_apply H _ _ _⟩

theorem ninf_apply (i) : (constant S_ .f32 0xFF800000#32 : FVec Ideal S_ .f32) i = (⊥ : EReal) := by
  pointwise []
  exact ofBits_ninf

theorem mx2_apply (H : Fwd A x0 x1 x2 x3) (j : S6x2048.Idx) : ∃ M : ℝ, mx2 x0 x1 x2 x3 j = (M : EReal) :=
  hostMax_real (s3 x0 x1 x2 x3) (s3_real H) (constant S_ .f32 0xFF800000#32) ninf_apply
    reducesTo_S6x2048x2048_S6x2048_d2 h_S_ j

/-- The shift a row's scores are taken relative to. -/
def shift (x0 : FVec Ideal S2048x768 .bf16) (x1 : FVec Ideal S2048x384 .f32) (x2 : FVec Ideal S2048x1536 .bf16)
  (x3 : FVec Ideal S2048x64 .f32) (h : Fin 6) (q : Fin 2048) : ℝ := (mx2 x0 x1 x2 x3 (ix2 h q) : EReal).toReal

theorem mx2_shift (H : Fwd A x0 x1 x2 x3) (h : Fin 6) (q : Fin 2048) :
    mx2 x0 x1 x2 x3 (ix2 h q) = (shift x0 x1 x2 x3 h q : EReal) := by
  obtain ⟨M, hM⟩ := mx2_apply H (ix2 h q)
  unfold shift
  rw [hM, EReal.toReal_coe]

theorem m3_apply (H : Fwd A x0 x1 x2 x3) (h : Fin 6) (q : Fin 2048) (u : Fin 1) :
    m3 x0 x1 x2 x3 (ix3 h q u) = (shift x0 x1 x2 x3 h q : EReal) := by
  pointwise [m3]
  rw [mx2_shift H]

theorem e3_apply (H : Fwd A x0 x1 x2 x3) (h : Fin 6) (q k : Fin 2048) :
    e3 x0 x1 x2 x3 (ix3 h q k) = ((Real.exp (A.sc h q k - shift x0 x1 x2 x3 h q) : ℝ) : EReal) := by
  pointwise [e3]
  rw [s3_apply H, m3_apply H, ← EReal.coe_sub, Ideal.exp_coe]

theorem l3_apply (H : Fwd A x0 x1 x2 x3) (h : Fin 6) (q : Fin 2048) (u : Fin 1) :
    l3 x0 x1 x2 x3 (ix3 h q u) = ((A.l h q * Real.exp (-shift x0 x1 x2 x3 h q) : ℝ) : EReal) := by
  pointwise [l3]
  simp only [e3_apply H, coe_sum, A.sum_shift]

theorem l_pos (h : Fin 6) (q : Fin 2048) (M : ℝ) : 0 < A.l h q * Real.exp (-M) := mul_pos (A.l_pos h q) (Real.exp_pos _)

theorem p3_apply (H : Fwd A x0 x1 x2 x3) (h : Fin 6) (q k : Fin 2048) :
    p3 x0 x1 x2 x3 (ix3 h q k) = (A.p h q k : EReal) := by
  pointwise [p3]
  rw [e3_apply H, l3_apply H, div_coe (l_pos h q _).ne', A.shift_div]

theorem o2_apply (H : Fwd A x0 x1 x2 x3) (q : Fin 2048) (h : Fin 6) (d : Fin 128) :
    o2 x0 x1 x2 x3 (ix2 q ⟨h.val * 128 + d.val, by omega⟩) = (A.o q h d : EReal) := by
  pointwise [o2, v3, kv3]
  simp only [p3_apply H, H.h2, ← EReal.coe_mul, coe_sum]
  simp only [Args.o, Args.V, mul_comm (A.p _ _ _)]

theorem addlog_apply (a b : FVec Ideal S6x2048x1 .f32) (j) : addf a (Host.log b) j = (a j : EReal) + Ideal.log (b j) := rfl

theorem lse3_apply (H : Fwd A x0 x1 x2 x3) (h : Fin 6) (q : Fin 2048) (u : Fin 1) :
    lse3 x0 x1 x2 x3 (ix3 h q u) = (Real.log (A.l h q) : EReal) := by
  unfold lse3
  rw [addlog_apply, m3_apply H, l3_apply H, log_coe_pos (l_pos h q _), ← EReal.coe_add, A.shift_log]

theorem zpad_apply (j) : zpad j = (0 : EReal) := by
  show ((((0#32 : BitVec 32).toInt : ℝ) : ℝ) : EReal) = 0
  simp

theorem qr2_apply (H : Fwd A x0 x1 x2 x3) (q : Fin 2048) (h : Fin 6) (d : Fin 128) :
    qr2 x1 (ix2 q ⟨h.val * 128 + d.val, by omega⟩) = if hd : d.val < 64 then (A.R q h ⟨d.val, hd⟩ : EReal) else 0 := by
  have e : (h.val * 128 + d.val) % 128 = d.val := by omega
  pointwise [qr2, r3]
  simp only [e, zpad_apply, H.h1]
  rfl

theorem kr2_apply (H : Fwd A x0 x1 x2 x3) (k : Fin 2048) (d : Fin 128) :
    kr2 x3 (ix2 k d) = if hd : d.val < 64 then (A.kr k ⟨d.val, hd⟩ : EReal) else 0 := by
  pointwise [kr2]
  simp only [zpad_apply, H.h3]

end Cert.KernelIdeal.Host

end
-- ==== Proof.KernelPoint.lean ====
/-
  The backward kernel's arithmetic at one point of its grid, at real arguments: with the eight blocks of head `h` and of
  the query rows `row` given, the values the body computes are the model's. The 256-lane products join 128 plain lanes
  with 64 rotary lanes and 64 zeros.
-/
module

public import proofs.«01_k».proof.Proof.Model
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Point

open Cert.KernelIdeal Cert.KernelIdeal.Gen Cert.Attn

/-! ## Sums over joined and widened lanes -/

theorem sum256 (f : Fin 256 → EReal) :
    ∑ i, f i = ∑ d : Fin 128, f ⟨d.val, by omega⟩ + ∑ d : Fin 128, f ⟨128 + d.val, by omega⟩ :=
  Fin.sum_univ_add (a := 128) (b := 128) f

theorem sum_wide (f : Fin 64 → EReal) : ∑ d : Fin 128, (if hd : d.val < 64 then f ⟨d.val, hd⟩ else 0) = ∑ r, f r := by
  refine (Fin.sum_univ_add (a := 64) (b := 64) fun d : Fin 128 => if hd : d.val < 64 then f ⟨d.val, hd⟩ else 0).trans ?_
  have h1 : ∀ r : Fin 64, (if hd : (Fin.castAdd 64 r).val < 64 then f ⟨(Fin.castAdd 64 r).val, hd⟩ else 0) = f r := fun r => by
    rw [dif_pos (by show r.val < 64; exact r.isLt)]; rfl
  have h2 : ∀ r : Fin 64, (if hd : (Fin.natAdd 64 r).val < 64 then f ⟨(Fin.natAdd 64 r).val, hd⟩ else 0) = 0 := fun r => by
    rw [dif_neg (by show ¬ 64 + r.val < 64; omega)]
  rw [Finset.sum_congr rfl fun r _ => h1 r, Finset.sum_congr rfl fun r _ => h2 r, Finset.sum_const_zero, add_zero]

theorem wide_mul (d : Fin 128) (f g : Fin 64 → ℝ) :
    (if hd : d.val < 64 then (f ⟨d.val, hd⟩ : EReal) else 0) * (if hd : d.val < 64 then (g ⟨d.val, hd⟩ : EReal) else 0)
      = if hd : d.val < 64 then ((f ⟨d.val, hd⟩ * g ⟨d.val, hd⟩ : ℝ) : EReal) else 0 := by
  split <;> simp

theorem sum_mul_wide {ι : Type} (s : Finset ι) (d : Fin 128) (a : ι → ℝ) (g : ι → Fin 64 → ℝ) :
    ∑ i ∈ s, (a i : EReal) * (if hd : d.val < 64 then (g i ⟨d.val, hd⟩ : EReal) else 0)
      = if hd : d.val < 64 then ((∑ i ∈ s, a i * g i ⟨d.val, hd⟩ : ℝ) : EReal) else 0 := by
  split
  · simp only [← EReal.coe_mul, coe_sum]
  · simp

/-! ## The blocks of a point -/

/-- The eight blocks of head `h`, over the query rows `row`. -/
structure Blk (A : Args) (h : Fin 6) (row : Fin 1024 → Fin 2048) (b0 b1 : Vec Ideal S1024x128 .bf16)
    (b2 b3 b4 : Vec Ideal S2048x128 .bf16) (b5 : Vec Ideal S1024x128 .f32) (b6 : Vec Ideal S1x1024x1 .f32)
    (b7 : Vec Ideal S1024x128 .f32) : Prop where
  h0 : ∀ r d, b0 (ix2 r d) = ((A.Q (row r) h d : ℝ) : EReal)
  h1 : ∀ r (d : Fin 128), b1 (ix2 r d) = if hd : d.val < 64 then ((A.R (row r) h ⟨d.val, hd⟩ : ℝ) : EReal) else 0
  h2 : ∀ k d, b2 (ix2 k d) = ((A.K k h d : ℝ) : EReal)
  h3 : ∀ k d, b3 (ix2 k d) = ((A.V k h d : ℝ) : EReal)
  h4 : ∀ k (d : Fin 128), b4 (ix2 k d) = if hd : d.val < 64 then ((A.kr k ⟨d.val, hd⟩ : ℝ) : EReal) else 0
  h5 : ∀ r d, b5 (ix2 r d) = ((A.o (row r) h d : ℝ) : EReal)
  h6 : ∀ u r w, b6 (ix3 u r w) = ((Real.log (A.l h (row r)) : ℝ) : EReal)
  h7 : ∀ r d, b7 (ix2 r d) = ((A.G (row r) h d : ℝ) : EReal)

variable {A : Args} {h : Fin 6} {row : Fin 1024 → Fin 2048} {b0 b1 : Vec Ideal S1024x128 .bf16}
    {b2 b3 b4 : Vec Ideal S2048x128 .bf16} {b5 : Vec Ideal S1024x128 .f32} {b6 : Vec Ideal S1x1024x1 .f32}
    {b7 : Vec Ideal S1024x128 .f32}

theorem qcat_left (r : Fin 1024) (d : Fin 128) : k0_pay4 b0 b1 (ix2 r ⟨d.val, by omega⟩) = b0 (ix2 r d) := by
  pointwise [k0_pay4]
theorem qcat_right (r : Fin 1024) (d : Fin 128) : k0_pay4 b0 b1 (ix2 r ⟨128 + d.val, by omega⟩) = b1 (ix2 r d) := by
  have e : ¬ 128 + d.val < 128 := by omega
  have e' : 128 + d.val - 128 = d.val := by omega
  pointwise [k0_pay4]
theorem kcat_left (r : Fin 2048) (d : Fin 128) : k0_pay5 b2 b4 (ix2 r ⟨d.val, by omega⟩) = b2 (ix2 r d) := by
  pointwise [k0_pay5]
theorem kcat_right (r : Fin 2048) (d : Fin 128) : k0_pay5 b2 b4 (ix2 r ⟨128 + d.val, by omega⟩) = b4 (ix2 r d) := by
  have e : ¬ 128 + d.val < 128 := by omega
  have e' : 128 + d.val - 128 = d.val := by omega
  pointwise [k0_pay5]

variable (B : Blk A h row b0 b1 b2 b3 b4 b5 b6 b7)

include B

/-- The softmax weights. -/
theorem prob_apply (r : Fin 1024) (k : Fin 2048) :
    k0_pay7 (F := Ideal) b0 b1 b2 b4 b6 (ix2 r k) = ((A.p h (row r) k : ℝ) : EReal) := by
  pointwise [k0_pay7]
  rw [sum256]
  simp only [qcat_left, qcat_right, kcat_left, kcat_right, B.h0, B.h1, B.h2, B.h4, B.h6, wide_mul, ofBits_scale]
  rw [sum_wide fun x => ((A.R (row r) h x * A.kr k x : ℝ) : EReal)]
  simp only [← EReal.coe_mul, coe_sum, ← EReal.coe_add, ← EReal.coe_sub, Ideal.exp_coe]
  exact congrArg _ (A.exp_lse h (row r) k)

/-- The scores' gradient. -/
theorem ds_apply (r : Fin 1024) (k : Fin 2048) :
    k0_pay8 (F := Ideal) b0 b1 b2 b4 b7 b6 b3 b5 (ix2 r k) = ((A.ds h (row r) k : ℝ) : EReal) := by
  pointwise [k0_pay8, k0_pay6]
  simp only [prob_apply B, B.h3, B.h5, B.h7, ofBits_scale, ← EReal.coe_mul, coe_sum, ← EReal.coe_sub, A.delta]
  rfl

theorem dq_left (r : Fin 1024) (d : Fin 128) :
    k0_pay10 (F := Ideal) b0 b1 b2 b4 b7 b6 b3 b5 (ix2 r d) = ((A.dqn (row r) h d : ℝ) : EReal) := by
  pointwise [k0_pay10, k0_pay9]
  simp only [ds_apply B]
  simp only [kcat_left, B.h2, ← EReal.coe_mul, coe_sum]
  rfl

theorem dq_right (r : Fin 1024) (d : Fin 128) :
    k0_pay11 (k0_pay9 (F := Ideal) b0 b1 b2 b4 b7 b6 b3 b5) (ix2 r d)
      = if hd : d.val < 64 then ((A.dqr (row r) h ⟨d.val, hd⟩ : ℝ) : EReal) else 0 := by
  pointwise [k0_pay11, k0_pay9]
  simp only [ds_apply B, kcat_right, B.h4]
  exact sum_mul_wide _ d (fun k => A.ds h (row r) k) (fun k => A.kr k)

omit B

variable {S : FVec Ideal S1024x2048 .bf16} {P : FVec Ideal S1024x2048 .f32}
  (hS : ∀ r k, S (ix2 r k) = ((A.ds h (row r) k : ℝ) : EReal)) (hP : ∀ r k, P (ix2 r k) = ((A.p h (row r) k : ℝ) : EReal))
  (B : Blk A h row b0 b1 b2 b3 b4 b5 b6 b7)

include B hS in
theorem dk_apply (k : Fin 2048) (d : Fin 128) :
    k0_pay13 (F := Ideal) (k0_pay4 b0 b1) S (ix2 k d) = ((∑ r, A.ds h (row r) k * A.Q (row r) h d : ℝ) : EReal) := by
  pointwise [k0_pay13, k0_pay12]
  simp only [hS, qcat_left, B.h0, ← EReal.coe_mul, coe_sum]

include B hS in
theorem dkr_apply (k : Fin 2048) (d : Fin 128) :
    k0_pay19 (F := Ideal) (k0_pay4 b0 b1) S (ix2 k d)
      = if hd : d.val < 64 then ((∑ r, A.ds h (row r) k * A.R (row r) h ⟨d.val, hd⟩ : ℝ) : EReal) else 0 := by
  pointwise [k0_pay19, k0_pay12]
  simp only [hS, qcat_right, B.h1]
  exact sum_mul_wide _ d (fun r => A.ds h (row r) k) (fun r => A.R (row r) h)

include B hP in
theorem dv_apply (k : Fin 2048) (d : Fin 128) :
    k0_pay16 (F := Ideal) (k0_pay6 b7) P (ix2 k d) = ((∑ r, A.p h (row r) k * A.G (row r) h d : ℝ) : EReal) := by
  pointwise [k0_pay16, k0_pay6]
  simp only [hP, B.h7, ← EReal.coe_mul, coe_sum]

/-! The stores' own forms -/

theorem pay14 (v3 v30) (i) : k0_pay14 (F := Ideal) v3 v30 i = k0_pay13 v3 v30 i := by idx_vars i; pointwise [k0_pay14]
theorem pay15 (v3 v30 a) (i) : k0_pay15 (F := Ideal) v3 v30 a i = (a i : EReal) + k0_pay13 v3 v30 i := by idx_vars i; pointwise [k0_pay15]
theorem pay17 (v3 v30) (i) : k0_pay17 (F := Ideal) v3 v30 i = k0_pay16 v3 v30 i := by idx_vars i; pointwise [k0_pay17]
theorem pay18 (v3 v30 a) (i) : k0_pay18 (F := Ideal) v3 v30 a i = (a i : EReal) + k0_pay16 v3 v30 i := by idx_vars i; pointwise [k0_pay18]
theorem pay20 (v3 v30) (i) : k0_pay20 (F := Ideal) v3 v30 i = k0_pay19 v3 v30 i := by idx_vars i; pointwise [k0_pay20]
theorem pay21 (v3 v30 a) (i) : k0_pay21 (F := Ideal) v3 v30 a i = (a i : EReal) + k0_pay19 v3 v30 i := by idx_vars i; pointwise [k0_pay21]

end Cert.KernelIdeal.Point

end
-- ==== Proof.KernelBlocks.lean ====
/-
  The blocks the backward kernel is handed at point `t` of its grid: head `t / 2`, query rows `1024 · (t mod 2) + r`.
-/
module

public import proofs.«01_k».proof.Proof.KernelHost
public import proofs.«01_k».proof.Proof.KernelPoint
public import Idealize.ShloMosaic.Lib.Pipeline.ValueKit

@[expose] public section

set_option maxRecDepth 16384

noncomputable section

open Idealize.ShloMosaic Idealize.ShloMosaic.TcCoe Idealize.SL.Sem

namespace Cert.KernelIdeal.Blocks

open Cert.KernelIdeal Cert.KernelIdeal.Gen Cert.KernelIdeal.Value Cert.KernelIdeal.Host Cert.KernelIdeal.Point Cert.Attn

theorem lt12 (t : Fin cfg0.N) : t.val < 12 := lt_of_lt_of_eq t.isLt (show cfg0.N = 12 from N_0)

/-- The head of a point. -/
def hd (t : Fin cfg0.N) : Fin 6 := ⟨t.val / 2, by have := lt12 t; omega⟩
/-- The query rows of a point. -/
def row (t : Fin cfg0.N) (r : Fin 1024) : Fin 2048 := ⟨t.val % 2 * 1024 + r.val, by omega⟩

theorem idx : ∀ t : Fin cfg0.N, win0_0.index t = ![t.val % 2, t.val / 2] ∧ win0_1.index t = ![t.val % 2, t.val / 2]
    ∧ win0_2.index t = ![0, 2 * (t.val / 2)] ∧ win0_3.index t = ![0, 2 * (t.val / 2) + 1] ∧ win0_4.index t = ![0, 0]
    ∧ win0_5.index t = ![t.val % 2, t.val / 2] ∧ win0_6.index t = ![t.val / 2, t.val % 2, 0]
    ∧ win0_7.index t = ![t.val % 2, t.val / 2] :=
  (by decide +kernel : ∀ t : Fin grid0.N, _)

variable (m : (ℓ : Loc nD τ sig) → Buf (Elt Ideal) ℓ) (c : Dev nD) (t : Fin cfg0.N)

theorem blk0 (r : Fin 1024) (d : Fin 128) :
    iblk m c 0 t (ix2 r d) = V m c main_arg0 (ix2 (row t r) ⟨(hd t).val * 128 + d.val, by omega⟩) := by
  have := lt12 t
  obtain ⟨e0, -, -, -, -, -, -, -⟩ := idx t
  unfold row hd
  blk_ext [iblk, e0]
theorem blk1 (r : Fin 1024) (d : Fin 128) :
    iblk m c 1 t (ix2 r d) = V m c main_v30 (ix2 (row t r) ⟨(hd t).val * 128 + d.val, by omega⟩) := by
  have := lt12 t
  obtain ⟨-, e0, -, -, -, -, -, -⟩ := idx t
  unfold row hd
  blk_ext [iblk, e0]
theorem blk2 (k : Fin 2048) (d : Fin 128) :
    iblk m c 2 t (ix2 k d) = V m c main_arg2 (ix2 k ⟨(hd t).val * 256 + d.val, by omega⟩) := by
  have := lt12 t
  obtain ⟨-, -, e0, -, -, -, -, -⟩ := idx t
  unfold hd
  blk_ext [iblk, e0]
theorem blk3 (k : Fin 2048) (d : Fin 128) :
    iblk m c 3 t (ix2 k d) = V m c main_arg2 (ix2 k ⟨(hd t).val * 256 + (128 + d.val), by omega⟩) := by
  have := lt12 t
  obtain ⟨-, -, -, e0, -, -, -, -⟩ := idx t
  unfold hd
  blk_ext [iblk, e0]
theorem blk4 (k : Fin 2048) (d : Fin 128) :
    iblk m c 4 t (ix2 k d) = V m c main_v34 (ix2 k d) := by
  obtain ⟨-, -, -, -, e0, -, -, -⟩ := idx t
  blk_ext [iblk, e0]
theorem blk5 (r : Fin 1024) (d : Fin 128) :
    iblk m c 5 t (ix2 r d) = V m c main_v24 (ix2 (row t r) ⟨(hd t).val * 128 + d.val, by omega⟩) := by
  have := lt12 t
  obtain ⟨-, -, -, -, -, e0, -, -⟩ := idx t
  unfold row hd
  blk_ext [iblk, e0]
theorem read6 (X : FVec Ideal S6x2048x1 .f32) (u : Fin 1) (r : Fin 1024) (w : Fin 1) :
    ((cfg0.win 6).blk t).view.read (Elt Ideal) X (ix3 u r w) = X (ix3 (hd t) (row t r) w) := by
  have := lt12 t
  obtain ⟨-, -, -, -, -, -, e0, -⟩ := idx t
  have hu : u.val = 0 := by omega
  have hw : w.val = 0 := by omega
  refine congrArg X ?_
  funext a; apply Fin.ext
  match a with
  | ⟨0, _⟩ =>
    show win0_6.index t 0 * 1 + 1 * u.val = t.val / 2
    rw [e0, hu]; show t.val / 2 * 1 + 1 * 0 = _; omega
  | ⟨1, _⟩ =>
    show win0_6.index t 1 * 1024 + 1 * r.val = t.val % 2 * 1024 + r.val
    rw [e0]; show t.val % 2 * 1024 + 1 * r.val = _; omega
  | ⟨2, _⟩ =>
    show win0_6.index t 2 * 1 + 1 * w.val = w.val
    rw [e0]; show 0 * 1 + 1 * w.val = _; omega
theorem blk6 (u : Fin 1) (r : Fin 1024) (w : Fin 1) :
    iblk m c 6 t (ix3 u r w) = V m c main_v26 (ix3 (hd t) (row t r) w) := by
  unfold iblk
  exact read6 t (V m c main_v26) u r w
theorem blk7 (r : Fin 1024) (d : Fin 128) :
    iblk m c 7 t (ix2 r d) = V m c main_arg4 (ix2 (row t r) ⟨(hd t).val * 128 + d.val, by omega⟩) := by
  have := lt12 t
  obtain ⟨-, -, -, -, -, -, -, e0⟩ := idx t
  unfold row hd
  blk_ext [iblk, e0]

/-- The eight blocks of a point are the model's of its head and rows. -/
theorem blk {A : Args} (H : Bwd A (a0 m c) (a1 m c) (a2 m c) (a3 m c) (a4 m c)) :
    Blk A (hd t) (row t) (iblk m c 0 t) (iblk m c 1 t) (iblk m c 2 t) (iblk m c 3 t) (iblk m c 4 t) (iblk m c 5 t)
      (iblk m c 6 t) (iblk m c 7 t) where
  h0 r d := (blk0 m c t r d).trans ((congrFun (V_main_arg0 m c) _).trans (H.h0 _ _))
  h1 r d := (blk1 m c t r d).trans ((congrFun (V_qr m c) _).trans (qr2_apply H.toFwd _ _ _))
  h2 k d := (blk2 m c t k d).trans ((congrFun (V_main_arg2 m c) _).trans (H.h2 _ _))
  h3 k d := (blk3 m c t k d).trans ((congrFun (V_main_arg2 m c) _).trans (H.h2 _ _))
  h4 k d := (blk4 m c t k d).trans ((congrFun (V_kr m c) _).trans (kr2_apply H.toFwd _ _))
  h5 r d := (blk5 m c t r d).trans ((congrFun (V_o m c) _).trans (o2_apply H.toFwd _ _ _))
  h6 u r w := (blk6 m c t u r w).trans ((congrFun (V_lse m c) _).trans (lse3_apply H.toFwd _ _ _))
  h7 r d := (blk7 m c t r d).trans ((congrFun (V_main_arg4 m c) _).trans (H.h4 _ _))

end Cert.KernelIdeal.Blocks

end
-- ==== Proof.Steps.lean ====
/-
  What one grid point of the attention's backward kernel leaves behind, as a function of the eight blocks it is given
  and of the three running sums it finds. A point is a head and one half (1024 rows) of the queries. The generated
  recursion states it by the stores the run found, split in four cases (first point, even point, odd point, last
  point); here every case is read back as the body's own arithmetic.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Steps

open Cert.KernelIdeal Cert.KernelIdeal.Gen Cert.KernelIdeal.Value

variable (m : (ℓ : Loc nD τ sig) → Buf (Elt Ideal) ℓ)

/-- The joined query block (128 plain lanes, then 128 lanes of the rotary part) at point `t`. -/
abbrev qcat (c : Dev nD) (t : Fin cfg0.N) := k0_pay4 (F := Ideal) (iblk m c 0 t) (iblk m c 1 t)
/-- The output's gradient at point `t`. -/
abbrev dob (c : Dev nD) (t : Fin cfg0.N) := k0_pay6 (F := Ideal) (iblk m c 7 t)
/-- The softmax weights at point `t`. -/
abbrev prob (c : Dev nD) (t : Fin cfg0.N) :=
  k0_pay7 (F := Ideal) (iblk m c 0 t) (iblk m c 1 t) (iblk m c 2 t) (iblk m c 4 t) (iblk m c 6 t)
/-- The scores' gradient at point `t`. -/
abbrev dsc (c : Dev nD) (t : Fin cfg0.N) :=
  k0_pay8 (F := Ideal) (iblk m c 0 t) (iblk m c 1 t) (iblk m c 2 t) (iblk m c 4 t) (iblk m c 7 t) (iblk m c 6 t)
    (iblk m c 3 t) (iblk m c 5 t)
/-- The queries' gradient, both parts, at point `t`. -/
abbrev dq (c : Dev nD) (t : Fin cfg0.N) :=
  k0_pay9 (F := Ideal) (iblk m c 0 t) (iblk m c 1 t) (iblk m c 2 t) (iblk m c 4 t) (iblk m c 7 t) (iblk m c 6 t)
    (iblk m c 3 t) (iblk m c 5 t)
/-- The first 128 lanes of the queries' gradient at point `t`. -/
abbrev dqn (c : Dev nD) (t : Fin cfg0.N) :=
  k0_pay10 (F := Ideal) (iblk m c 0 t) (iblk m c 1 t) (iblk m c 2 t) (iblk m c 4 t) (iblk m c 7 t) (iblk m c 6 t)
    (iblk m c 3 t) (iblk m c 5 t)

/-- The state a point hands to the next: four output blocks, then the three running sums. -/
abbrev St := Vec Ideal S1024x128 .bf16 × Vec Ideal S1024x128 .bf16 × Vec Ideal S2048x256 .bf16 × Vec Ideal S2048x128 .bf16 × Vec Ideal S2048x128 .f32 × Vec Ideal S2048x128 .f32 × Vec Ideal S2048x128 .f32

variable (c : Dev nD) (t : Fin cfg0.N) (acc : St)

theorem lt12 : t.val < 12 := lt_of_lt_of_eq t.isLt (show cfg0.N = 12 from N_0)

/-- The four kinds of points. -/
theorem kinds : t.val = 0 ∨ (t.val % 2 = 1 ∧ t.val ≠ 11) ∨ (t.val % 2 = 0 ∧ t.val ≠ 0) ∨ t.val = 11 := by omega

/-- Every point leaves its block of the queries' plain gradient. -/
theorem st_dqn : (stAt0 m c t.val t.isLt acc).1 = dqn m c t := by
  have := lt12 t
  rcases kinds t with h | ⟨h, h'⟩ | ⟨h, h'⟩ | h
  · rw [stAt0_A m c t acc (by omega) (by omega) (by omega) (by omega) (by omega) (by omega) (by omega) (by omega)]; frame_out
  · rw [stAt0_B m c t acc (by omega) (by omega) (by omega) (by omega) (by omega) (by omega) (by omega) (by omega)]; frame_out
  · rw [stAt0_C m c t acc (by omega) (by omega) (by omega) (by omega) (by omega) (by omega) (by omega) (by omega)]; frame_out
  · rw [stAt0_D m c t acc (by omega) (by omega) (by omega) (by omega) (by omega) (by omega) (by omega) (by omega)]; frame_out

/-- Every point leaves its block of the queries' rotary gradient. -/
theorem st_dqr : (stAt0 m c t.val t.isLt acc).2.1 = k0_pay11 (dq m c t) := by
  have := lt12 t
  rcases kinds t with h | ⟨h, h'⟩ | ⟨h, h'⟩ | h
  · rw [stAt0_A m c t acc (by omega) (by omega) (by omega) (by omega) (by omega) (by omega) (by omega) (by omega)]; frame_out
  · rw [stAt0_B m c t acc (by omega) (by omega) (by omega) (by omega) (by omega) (by omega) (by omega) (by omega)]; frame_out
  · rw [stAt0_C m c t acc (by omega) (by omega) (by omega) (by omega) (by omega) (by omega) (by omega) (by omega)]; frame_out
  · rw [stAt0_D m c t acc (by omega) (by omega) (by omega) (by omega) (by omega) (by omega) (by omega) (by omega)]; frame_out

/-- An even point starts the keys' sum of its head. -/
theorem st_dk_even (h0 : t.val % 2 = 0) : (stAt0 m c t.val t.isLt acc).2.2.2.2.1 = k0_pay14 (qcat m c t) (dsc m c t) := by
  have := lt12 t
  rcases kinds t with h | ⟨h, h'⟩ | ⟨h, h'⟩ | h
  · rw [stAt0_A m c t acc (by omega) (by omega) (by omega) (by omega) (by omega) (by omega) (by omega) (by omega)]; frame_out
  · omega
  · rw [stAt0_C m c t acc (by omega) (by omega) (by omega) (by omega) (by omega) (by omega) (by omega) (by omega)]; frame_out
  · omega

/-- An even point starts the values' sum of its head. -/
theorem st_dv_even (h0 : t.val % 2 = 0) : (stAt0 m c t.val t.isLt acc).2.2.2.2.2.1 = k0_pay17 (dob m c t) (prob m c t) := by
  have := lt12 t
  rcases kinds t with h | ⟨h, h'⟩ | ⟨h, h'⟩ | h
  · rw [stAt0_A m c t acc (by omega) (by omega) (by omega) (by omega) (by omega) (by omega) (by omega) (by omega)]; frame_out
  · omega
  · rw [stAt0_C m c t acc (by omega) (by omega) (by omega) (by omega) (by omega) (by omega) (by omega) (by omega)]; frame_out
  · omega

/-- An odd point adds its own rows to the keys' sum. -/
theorem st_dk_odd (h0 : t.val % 2 = 1) : (stAt0 m c t.val t.isLt acc).2.2.2.2.1 = k0_pay15 (qcat m c t) (dsc m c t) acc.2.2.2.2.1 := by
  have := lt12 t
  rcases kinds t with h | ⟨h, h'⟩ | ⟨h, h'⟩ | h
  · omega
  · rw [stAt0_B m c t acc (by omega) (by omega) (by omega) (by omega) (by omega) (by omega) (by omega) (by omega)]; frame_out; simp only [read_unread_whole]
  · omega
  · rw [stAt0_D m c t acc (by omega) (by omega) (by omega) (by omega) (by omega) (by omega) (by omega) (by omega)]; frame_out; simp only [read_unread_whole]

/-- An odd point adds its own rows to the values' sum. -/
theorem st_dv_odd (h0 : t.val % 2 = 1) : (stAt0 m c t.val t.isLt acc).2.2.2.2.2.1 = k0_pay18 (dob m c t) (prob m c t) acc.2.2.2.2.2.1 := by
  have := lt12 t
  rcases kinds t with h | ⟨h, h'⟩ | ⟨h, h'⟩ | h
  · omega
  · rw [stAt0_B m c t acc (by omega) (by omega) (by omega) (by omega) (by omega) (by omega) (by omega) (by omega)]; frame_out; simp only [read_unread_whole]
  · omega
  · rw [stAt0_D m c t acc (by omega) (by omega) (by omega) (by omega) (by omega) (by omega) (by omega) (by omega)]; frame_out; simp only [read_unread_whole]

/-- The first point starts the shared rotary keys' sum. -/
theorem st_dkr_zero (h0 : t.val = 0) : (stAt0 m c t.val t.isLt acc).2.2.2.2.2.2 = k0_pay20 (qcat m c t) (dsc m c t) := by
  rw [stAt0_A m c t acc (by omega) (by omega) (by omega) (by omega) (by omega) (by omega) (by omega) (by omega)]; frame_out

/-- Every later point adds to it. -/
theorem st_dkr_pos (h0 : t.val ≠ 0) :
    (stAt0 m c t.val t.isLt acc).2.2.2.2.2.2 = k0_pay21 (qcat m c t) (dsc m c t) acc.2.2.2.2.2.2 := by
  have := lt12 t
  rcases kinds t with h | ⟨h, h'⟩ | ⟨h, h'⟩ | h
  · omega
  · rw [stAt0_B m c t acc (by omega) (by omega) (by omega) (by omega) (by omega) (by omega) (by omega) (by omega)]; frame_out; simp only [read_unread_whole]
  · rw [stAt0_C m c t acc (by omega) (by omega) (by omega) (by omega) (by omega) (by omega) (by omega) (by omega)]; frame_out; simp only [read_unread_whole]
  · rw [stAt0_D m c t acc (by omega) (by omega) (by omega) (by omega) (by omega) (by omega) (by omega) (by omega)]; frame_out; simp only [read_unread_whole]

/-- The last point writes the shared rotary keys' gradient. -/
theorem st_out_dkr (h0 : t.val = 11) :
    (stAt0 m c t.val t.isLt acc).2.2.2.1 = k0_pay3 (k0_pay21 (qcat m c t) (dsc m c t) acc.2.2.2.2.2.2) := by
  have := lt12 t
  rw [stAt0_D m c t acc (by omega) (by omega) (by omega) (by omega) (by omega) (by omega) (by omega) (by omega)]; frame_out; simp only [read_unread_whole]

/-- A block of two halves side by side, stored left then right, read in its left half, -/
theorem canon_left (w1 w2 : Vec Ideal S2048x128 .bf16) (k : Fin 2048) (d : Fin 128) :
    View.canon (Val := Elt Ideal) [⟨Rect.unit ![0, 128] ![2048, 128] inb_S2048x256_S2048x128_0_128, w2⟩,
      ⟨Rect.unit ![0, 0] ![2048, 128] inb_S2048x256_S2048x128_0_0, w1⟩] (ix2 k ⟨d.val, by omega⟩ : S2048x256.Idx) = w1 (ix2 k d) := by
  rw [View.canon_cons_of_not_mem]
  · have e : (ix2 k ⟨d.val, by omega⟩ : S2048x256.Idx)
        = (Rect.unit (s := S2048x256) ![0, 0] ![2048, 128] inb_S2048x256_S2048x128_0_0).emb (ix2 k d) := by
      funext a; apply Fin.ext
      match a with
      | ⟨0, _⟩ => show k.val = 0 + 1 * k.val; omega
      | ⟨1, _⟩ => show d.val = 0 + 1 * d.val; omega
    exact (congrArg _ e).trans (View.canon_cons_emb (Val := Elt Ideal) (s := S2048x256) (e := .bf16)
      (Rect.unit (s := S2048x256) ![0, 0] ![2048, 128] inb_S2048x256_S2048x128_0_0) w1 [] (ix2 k d))
  · rw [Rect.mem_set_unit]
    intro h
    have h1 := (h 1).1
    have : 128 ≤ d.val := h1
    omega

/-- and in its right half. -/
theorem canon_right (w1 w2 : Vec Ideal S2048x128 .bf16) (k : Fin 2048) (d : Fin 128) :
    View.canon (Val := Elt Ideal) [⟨Rect.unit ![0, 128] ![2048, 128] inb_S2048x256_S2048x128_0_128, w2⟩,
      ⟨Rect.unit ![0, 0] ![2048, 128] inb_S2048x256_S2048x128_0_0, w1⟩] (ix2 k ⟨128 + d.val, by omega⟩ : S2048x256.Idx) = w2 (ix2 k d) := by
  have e : (ix2 k ⟨128 + d.val, by omega⟩ : S2048x256.Idx)
      = (Rect.unit (s := S2048x256) ![0, 128] ![2048, 128] inb_S2048x256_S2048x128_0_128).emb (ix2 k d) := by
    funext a; apply Fin.ext
    match a with
    | ⟨0, _⟩ => show k.val = 0 + 1 * k.val; omega
    | ⟨1, _⟩ => show 128 + d.val = 128 + 1 * d.val; omega
  exact (congrArg _ e).trans (View.canon_cons_emb (Val := Elt Ideal) (s := S2048x256) (e := .bf16)
    (Rect.unit (s := S2048x256) ![0, 128] ![2048, 128] inb_S2048x256_S2048x128_0_128) w2 _ (ix2 k d))

/-- The keys' half of an odd point's block. -/
theorem st_out_dk (h0 : t.val % 2 = 1) (k : Fin 2048) (d : Fin 128) :
    (stAt0 m c t.val t.isLt acc).2.2.1 (ix2 k ⟨d.val, by omega⟩)
      = k0_pay1 (k0_pay15 (qcat m c t) (dsc m c t) acc.2.2.2.2.1) (ix2 k d) := by
  have := lt12 t
  rcases kinds t with h | ⟨h, h'⟩ | ⟨h, h'⟩ | h
  · omega
  · rw [stAt0_B m c t acc (by omega) (by omega) (by omega) (by omega) (by omega) (by omega) (by omega) (by omega)]; frame_out; simp only [read_unread_whole]
    exact canon_left _ _ k d
  · omega
  · rw [stAt0_D m c t acc (by omega) (by omega) (by omega) (by omega) (by omega) (by omega) (by omega) (by omega)]; frame_out; simp only [read_unread_whole]
    exact canon_left _ _ k d

/-- The values' half of an odd point's block. -/
theorem st_out_dv (h0 : t.val % 2 = 1) (k : Fin 2048) (d : Fin 128) :
    (stAt0 m c t.val t.isLt acc).2.2.1 (ix2 k ⟨128 + d.val, by omega⟩)
      = k0_pay2 (k0_pay18 (dob m c t) (prob m c t) acc.2.2.2.2.2.1) (ix2 k d) := by
  have := lt12 t
  rcases kinds t with h | ⟨h, h'⟩ | ⟨h, h'⟩ | h
  · omega
  · rw [stAt0_B m c t acc (by omega) (by omega) (by omega) (by omega) (by omega) (by omega) (by omega) (by omega)]; frame_out; simp only [read_unread_whole]
    exact canon_right _ _ k d
  · omega
  · rw [stAt0_D m c t acc (by omega) (by omega) (by omega) (by omega) (by omega) (by omega) (by omega) (by omega)]; frame_out; simp only [read_unread_whole]
    exact canon_right _ _ k d

end Cert.KernelIdeal.Steps

end
-- ==== Proof.KernelValue.lean ====
/-
  The four gradients the backward kernel leaves, at real arguments: each grid point's contribution summed over the points
  that add to it.
-/
module

public import proofs.«01_k».proof.Proof.KernelBlocks
public import proofs.«01_k».proof.Proof.Steps

@[expose] public section

set_option maxRecDepth 16384

noncomputable section

open Idealize.ShloMosaic Idealize.ShloMosaic.TcCoe Idealize.SL.Sem

namespace Cert.KernelIdeal.Grads

open Cert.KernelIdeal Cert.KernelIdeal.Gen Cert.KernelIdeal.Value Cert.KernelIdeal.Host Cert.KernelIdeal.Point
  Cert.KernelIdeal.Blocks Cert.KernelIdeal.Steps Cert.Attn

variable (m : (ℓ : Loc nD τ sig) → Buf (Elt Ideal) ℓ) (c : Dev nD)

theorem lt_N {n : ℕ} (h : n < 12) : n < cfg0.N := lt_of_lt_of_eq h N_0.symm

/-- The state after a point is the point's step from some state. -/
theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- Two halves of 1024 rows make the 2048. -/
theorem halves (f : Fin 2048 → ℝ) (t0 t1 : Fin cfg0.N) (h0 : t0.val % 2 = 0) (h1 : t1.val % 2 = 1) :
    ∑ r, f (row t0 r) + ∑ r, f (row t1 r) = ∑ q, f q := by
  refine Eq.trans ?_ (Fin.sum_univ_add (a := 1024) (b := 1024) f).symm
  congr 1
  · refine Finset.sum_congr rfl fun r _ => congrArg f (Fin.ext ?_)
    show t0.val % 2 * 1024 + r.val = r.val
    omega
  · refine Finset.sum_congr rfl fun r _ => congrArg f (Fin.ext ?_)
    show t1.val % 2 * 1024 + r.val = 1024 + r.val
    omega

variable {A : Args} (H : Bwd A (a0 m c) (a1 m c) (a2 m c) (a3 m c) (a4 m c))

include H

theorem outs_dqn (t : Fin cfg0.N) (r : Fin 1024) (d : Fin 128) :
    (outsAt0 m c t.val t.isLt).1 (ix2 r d) = ((A.dqn (row t r) (hd t) d : ℝ) : EReal) := by
  obtain ⟨acc, e⟩ := outs_step m c t
  rw [e, st_dqn]
  exact dq_left (blk m c t H) r d

theorem outs_dqr (t : Fin cfg0.N) (r : Fin 1024) (d : Fin 128) :
    (outsAt0 m c t.val t.isLt).2.1 (ix2 r d)
      = if hd' : d.val < 64 then ((A.dqr (row t r) (hd t) ⟨d.val, hd'⟩ : ℝ) : EReal) else 0 := by
  obtain ⟨acc, e⟩ := outs_step m c t
  rw [e, st_dqr]
  exact dq_right (blk m c t H) r d

/-- What point `t` adds to the keys' sum, -/
theorem add_dk (t : Fin cfg0.N) (k : Fin 2048) (d : Fin 128) :
    k0_pay13 (qcat m c t) (dsc m c t) (ix2 k d) = ((∑ r, A.ds (hd t) (row t r) k * A.Q (row t r) (hd t) d : ℝ) : EReal) :=
  dk_apply (blk m c t H) (fun r k => ds_apply (blk m c t H) r k) k d
/-- to the values', -/
theorem add_dv (t : Fin cfg0.N) (k : Fin 2048) (d : Fin 128) :
    k0_pay16 (dob m c t) (prob m c t) (ix2 k d) = ((∑ r, A.p (hd t) (row t r) k * A.G (row t r) (hd t) d : ℝ) : EReal) :=
  dv_apply (blk m c t H) (fun r k => prob_apply (blk m c t H) r k) k d
/-- and to the shared rotary keys'. -/
theorem add_dkr (t : Fin cfg0.N) (k : Fin 2048) (d : Fin 128) :
    k0_pay19 (qcat m c t) (dsc m c t) (ix2 k d)
      = if hd' : d.val < 64 then ((∑ r, A.ds (hd t) (row t r) k * A.R (row t r) (hd t) ⟨d.val, hd'⟩ : ℝ) : EReal) else 0 :=
  dkr_apply (blk m c t H) (fun r k => ds_apply (blk m c t H) r k) k d

theorem outs_dk (h : Fin 6) (t : Fin cfg0.N) (ht : t.val = 2 * h.val + 1) (k : Fin 2048) (d : Fin 128) :
    (outsAt0 m c t.val t.isLt).2.2.1 (ix2 k ⟨d.val, by omega⟩) = ((A.dkn k h d : ℝ) : EReal) := by
  obtain ⟨n, hn⟩ := t
  obtain rfl : n = 2 * h.val + 1 := ht
  have e := st_out_dk m c ⟨2 * h.val + 1, hn⟩ (outsAt0 m c (2 * h.val) (Nat.lt_of_succ_lt hn)) (by show (2 * h.val + 1) % 2 = 1; omega) k d
  have t0 : Fin cfg0.N := ⟨2 * h.val, Nat.lt_of_succ_lt hn⟩
  obtain ⟨acc, e0⟩ := outs_step m c ⟨2 * h.val, Nat.lt_of_succ_lt hn⟩
  have e1 := st_dk_even m c ⟨2 * h.val, Nat.lt_of_succ_lt hn⟩ acc (by show (2 * h.val) % 2 = 0; omega)
  rw [← e0] at e1
  show (outsAt0 m c (2 * h.val + 1) hn).2.2.1 _ = _
  rw [outsAt0_succ]
  refine e.trans ((pay15 _ _ _ _).trans ?_)
  rw [add_dk m c H]
  have e2 := (congrFun e1 (ix2 k d)).trans ((pay14 _ _ _).trans (add_dk m c H _ k d))
  rw [show (outsAt0 m c (2 * h.val) (Nat.lt_of_succ_lt hn)).2.2.2.2.1 (ix2 k d) = _ from e2, ← EReal.coe_add]
  have h0 : hd ⟨2 * h.val, Nat.lt_of_succ_lt hn⟩ = h := Fin.ext (by show 2 * h.val / 2 = h.val; omega)
  have h1 : hd ⟨2 * h.val + 1, hn⟩ = h := Fin.ext (by show (2 * h.val + 1) / 2 = h.val; omega)
  rw [h0, h1, halves (fun q => A.ds h q k * A.Q q h d) _ _ (by show (2 * h.val) % 2 = 0; omega) (by show (2 * h.val + 1) % 2 = 1; omega)]
  rfl

theorem outs_dv (h : Fin 6) (t : Fin cfg0.N) (ht : t.val = 2 * h.val + 1) (k : Fin 2048) (d : Fin 128) :
    (outsAt0 m c t.val t.isLt).2.2.1 (ix2 k ⟨128 + d.val, by omega⟩) = ((A.dv k h d : ℝ) : EReal) := by
  obtain ⟨n, hn⟩ := t
  obtain rfl : n = 2 * h.val + 1 := ht
  have e := st_out_dv m c ⟨2 * h.val + 1, hn⟩ (outsAt0 m c (2 * h.val) (Nat.lt_of_succ_lt hn)) (by show (2 * h.val + 1) % 2 = 1; omega) k d
  obtain ⟨acc, e0⟩ := outs_step m c ⟨2 * h.val, Nat.lt_of_succ_lt hn⟩
  have e1 := st_dv_even m c ⟨2 * h.val, Nat.lt_of_succ_lt hn⟩ acc (by show (2 * h.val) % 2 = 0; omega)
  rw [← e0] at e1
  show (outsAt0 m c (2 * h.val + 1) hn).2.2.1 _ = _
  rw [outsAt0_succ]
  refine e.trans ((pay18 _ _ _ _).trans ?_)
  rw [add_dv m c H]
  have e2 := (congrFun e1 (ix2 k d)).trans ((pay17 _ _ _).trans (add_dv m c H _ k d))
  rw [show (outsAt0 m c (2 * h.val) (Nat.lt_of_succ_lt hn)).2.2.2.2.2.1 (ix2 k d) = _ from e2, ← EReal.coe_add]
  have h0 : hd ⟨2 * h.val, Nat.lt_of_succ_lt hn⟩ = h := Fin.ext (by show 2 * h.val / 2 = h.val; omega)
  have h1 : hd ⟨2 * h.val + 1, hn⟩ = h := Fin.ext (by show (2 * h.val + 1) / 2 = h.val; omega)
  rw [h0, h1, halves (fun q => A.p h q k * A.G q h d) _ _ (by show (2 * h.val) % 2 = 0; omega) (by show (2 * h.val + 1) % 2 = 1; omega)]
  rfl

omit H in
/-- What point `n` adds to the shared rotary keys' gradient. -/
def part (A : Args) (k : Fin 2048) (d : Fin 64) (n : ℕ) : ℝ :=
  if hn : n < cfg0.N then ∑ r, A.ds (hd ⟨n, hn⟩) (row ⟨n, hn⟩ r) k * A.R (row ⟨n, hn⟩ r) (hd ⟨n, hn⟩) d else 0

omit H in
theorem part_eq (A : Args) (k : Fin 2048) (d : Fin 64) (t : Fin cfg0.N) :
    ∑ r, A.ds (hd t) (row t r) k * A.R (row t r) (hd t) d = part A k d t.val := by
  unfold part
  rw [dif_pos t.isLt]

/-- The running sum of the shared rotary keys after point `n`. -/
theorem outs_dkr (n : ℕ) (hn : n < cfg0.N) (k : Fin 2048) (d : Fin 128) :
    (outsAt0 m c n hn).2.2.2.2.2.2 (ix2 k d)
      = if hd' : d.val < 64 then ((∑ i ∈ Finset.range (n + 1), part A k ⟨d.val, hd'⟩ i : ℝ) : EReal) else 0 := by
  induction n with
  | zero =>
    rw [outsAt0_zero]
    refine (congrFun (st_dkr_zero m c ⟨0, hn⟩ _ rfl) _).trans ((pay20 _ _ _).trans ((add_dkr m c H _ k d).trans ?_))
    split
    · rw [part_eq]; simp
    · rfl
  | succ n ih =>
    rw [outsAt0_succ]
    refine (congrFun (st_dkr_pos m c ⟨n + 1, hn⟩ _ (Nat.succ_ne_zero n)) _).trans ((pay21 _ _ _ _).trans ?_)
    rw [ih, add_dkr m c H]
    split
    · rw [part_eq, Finset.sum_range_succ _ (n + 1), ← EReal.coe_add]
    · simp

omit H in
theorem part_sum (A : Args) (k : Fin 2048) (d : Fin 64) : ∑ i ∈ Finset.range 12, part A k d i = A.dkr k d := by
  have pair : ∀ h : Fin 6, part A k d (2 * h.val) + part A k d (2 * h.val + 1) = ∑ q, A.ds h q k * A.R q h d := fun h => by
    have l0 : 2 * h.val < cfg0.N := lt_N (by omega)
    have l1 : 2 * h.val + 1 < cfg0.N := lt_N (by omega)
    rw [show part A k d (2 * h.val) = _ from (part_eq A k d ⟨2 * h.val, l0⟩).symm,
      show part A k d (2 * h.val + 1) = _ from (part_eq A k d ⟨2 * h.val + 1, l1⟩).symm]
    have h0 : hd ⟨2 * h.val, l0⟩ = h := Fin.ext (by show 2 * h.val / 2 = h.val; omega)
    have h1 : hd ⟨2 * h.val + 1, l1⟩ = h := Fin.ext (by show (2 * h.val + 1) / 2 = h.val; omega)
    rw [h0, h1, halves (fun q => A.ds h q k * A.R q h d) _ _ (by show (2 * h.val) % 2 = 0; omega) (by show (2 * h.val + 1) % 2 = 1; omega)]
  unfold Args.dkr
  rw [Finset.sum_congr rfl fun h _ => (pair h).symm, Fin.sum_univ_six]
  simp only [Finset.sum_range_succ, Finset.sum_range_zero]
  norm_num
  ring

theorem outs_out_dkr (k : Fin 2048) (d : Fin 128) :
    (outsAt0 m c 11 (lt_N (by decide))).2.2.2.1 (ix2 k d)
      = if hd' : d.val < 64 then ((A.dkr k ⟨d.val, hd'⟩ : ℝ) : EReal) else 0 := by
  have e := outs_dkr m c H 11 (lt_N (by decide)) k d
  rw [outsAt0_succ] at e ⊢
  rw [show _ = _ from st_out_dkr m c ⟨11, lt_N (by decide)⟩ _ rfl]
  rw [show _ = _ from st_dkr_pos m c ⟨11, lt_N (by decide)⟩ _ (by decide : (11 : ℕ) ≠ 0)] at e
  refine Eq.trans (by pointwise [k0_pay3]) (e.trans ?_)
  split
  · exact congrArg _ (part_sum A k _)
  · rfl

/-! ## The arrays -/

theorem G8_apply (q : Fin 2048) (h : Fin 6) (d : Fin 128) :
    G8 m c (ix2 q ⟨h.val * 128 + d.val, by omega⟩) = ((A.dqn q h d : ℝ) : EReal) := by
  have hp : pt8Of (ix2 q ⟨h.val * 128 + d.val, by omega⟩) = q.val / 1024 + 2 * h.val := by
    show 1 * (q.val / 1024 - 0) + 2 * ((h.val * 128 + d.val) / 128 - 0) = _
    omega
  have hl : loc8Of (ix2 q ⟨h.val * 128 + d.val, by omega⟩) = ix2 ⟨q.val % 1024, by omega⟩ d := by
    funext a; apply Fin.ext
    match a with
    | ⟨0, _⟩ => rfl
    | ⟨1, _⟩ => show (h.val * 128 + d.val) % 128 = d.val; omega
  have hN : q.val / 1024 + 2 * h.val < cfg0.N := lt_N (by omega)
  unfold G8
  rw [dif_pos (by rw [hp]; exact hN), hl, fold0_congr m c _ _ _ (by omega) hp, ← outsAt0_sweep]
  refine (outs_dqn m c H ⟨_, hN⟩ _ d).trans ?_
  have e1 : hd ⟨q.val / 1024 + 2 * h.val, hN⟩ = h := Fin.ext (by show (q.val / 1024 + 2 * h.val) / 2 = h.val; omega)
  have e2 : row ⟨q.val / 1024 + 2 * h.val, hN⟩ ⟨q.val % 1024, by omega⟩ = q :=
    Fin.ext (by show (q.val / 1024 + 2 * h.val) % 2 * 1024 + q.val % 1024 = q.val; omega)
  rw [e1, e2]

theorem G9_apply (q : Fin 2048) (h : Fin 6) (d : Fin 128) :
    G9 m c (ix2 q ⟨h.val * 128 + d.val, by omega⟩) = if hd' : d.val < 64 then ((A.dqr q h ⟨d.val, hd'⟩ : ℝ) : EReal) else 0 := by
  have hp : pt9Of (ix2 q ⟨h.val * 128 + d.val, by omega⟩) = q.val / 1024 + 2 * h.val := by
    show 1 * (q.val / 1024 - 0) + 2 * ((h.val * 128 + d.val) / 128 - 0) = _
    omega
  have hl : loc9Of (ix2 q ⟨h.val * 128 + d.val, by omega⟩) = ix2 ⟨q.val % 1024, by omega⟩ d := by
    funext a; apply Fin.ext
    match a with
    | ⟨0, _⟩ => rfl
    | ⟨1, _⟩ => show (h.val * 128 + d.val) % 128 = d.val; omega
  have hN : q.val / 1024 + 2 * h.val < cfg0.N := lt_N (by omega)
  unfold G9
  rw [dif_pos (by rw [hp]; exact hN), hl, fold0_congr m c _ _ _ (by omega) hp, ← outsAt0_sweep]
  refine (outs_dqr m c H ⟨_, hN⟩ _ d).trans ?_
  have e1 : hd ⟨q.val / 1024 + 2 * h.val, hN⟩ = h := Fin.ext (by show (q.val / 1024 + 2 * h.val) / 2 = h.val; omega)
  have e2 : row ⟨q.val / 1024 + 2 * h.val, hN⟩ ⟨q.val % 1024, by omega⟩ = q :=
    Fin.ext (by show (q.val / 1024 + 2 * h.val) % 2 * 1024 + q.val % 1024 = q.val; omega)
  rw [e1, e2]

omit H in
theorem G10_read (k : Fin 2048) (h : Fin 6) (e : Fin 256) :
    G10 m c (ix2 k ⟨h.val * 256 + e.val, by omega⟩) = (outsAt0 m c (2 * h.val + 1) (lt_N (by omega))).2.2.1 (ix2 k e) := by
  have hp : pt10Of (ix2 k ⟨h.val * 256 + e.val, by omega⟩) = 2 * h.val + 1 := by
    show 2 * (6 * (k.val / 2048 - 0) + 1 * ((h.val * 256 + e.val) / 256 - 0)) + 1 = _
    omega
  have hl : loc10Of (ix2 k ⟨h.val * 256 + e.val, by omega⟩) = ix2 k e := by
    funext a; apply Fin.ext
    match a with
    | ⟨0, _⟩ => show k.val % 2048 = k.val; omega
    | ⟨1, _⟩ => show (h.val * 256 + e.val) % 256 = e.val; omega
  have hN : 2 * h.val + 1 < cfg0.N := lt_N (by omega)
  unfold G10
  rw [dif_pos (by rw [hp]; exact hN), hl, fold0_congr m c _ _ _ (by omega) hp, ← outsAt0_sweep]

theorem G10_dk (k : Fin 2048) (h : Fin 6) (d : Fin 128) :
    G10 m c (ix2 k ⟨h.val * 256 + d.val, by omega⟩) = ((A.dkn k h d : ℝ) : EReal) :=
  (G10_read m c k h ⟨d.val, by omega⟩).trans (outs_dk m c H h ⟨_, lt_N (by omega)⟩ rfl k d)

theorem G10_dv (k : Fin 2048) (h : Fin 6) (d : Fin 128) :
    G10 m c (ix2 k ⟨h.val * 256 + (128 + d.val), by omega⟩) = ((A.dv k h d : ℝ) : EReal) :=
  (G10_read m c k h ⟨128 + d.val, by omega⟩).trans (outs_dv m c H h ⟨_, lt_N (by omega)⟩ rfl k d)

theorem G11_apply (k : Fin 2048) (d : Fin 128) :
    G11 m c (ix2 k d) = if hd' : d.val < 64 then ((A.dkr k ⟨d.val, hd'⟩ : ℝ) : EReal) else 0 := by
  rw [G11_last, ← outsAt0_sweep m c 11 (lt_N (by decide))]
  exact outs_out_dkr m c H k d

end Cert.KernelIdeal.Grads

end
-- ==== Proof.Backward.lean ====
/-
  The claim about attention's gradient: from equal finite arguments the kernel and the reference leave the same four arrays,
  both being the model's gradients at every index.
-/
module

public import proofs.«01_k».proof.Defs
public import proofs.«01_k».proof.Proof.Finite
public import proofs.«01_k».proof.Proof.RefValue
public import proofs.«01_k».proof.Proof.KernelValue

@[expose] public section

set_option maxRecDepth 16384

noncomputable section

open Idealize.ShloMosaic Idealize.ShloMosaic.TcCoe Idealize.SL.Sem

namespace Cert.Backward

open Cert.Attn

/-- Two arrays of 768 lanes equal at every (row, head, lane) are equal, -/
theorem ext768 {α : Type} (f g : (⟨2, ![2048, 768]⟩ : Shape).Idx → α)
    (h : ∀ (q : Fin 2048) (h : Fin 6) (d : Fin 128), f (ix2 q ⟨h.val * 128 + d.val, by omega⟩) = g (ix2 q ⟨h.val * 128 + d.val, by omega⟩)) :
    f = g := by
  funext i
  obtain ⟨q, e, rfl⟩ : ∃ (a : Fin 2048) (b : Fin 768), i = ix2 a b := ⟨i 0, i 1, eq_ix2 i⟩
  have := h q ⟨e.val / 128, by omega⟩ ⟨e.val % 128, by omega⟩
  have ee : (⟨e.val / 128 * 128 + e.val % 128, by omega⟩ : Fin 768) = e := Fin.ext (by show e.val / 128 * 128 + e.val % 128 = e.val; omega)
  simpa only [ee] using this

/-- and two of 1536 lanes equal in both halves of every head. -/
theorem ext1536 {α : Type} (f g : (⟨2, ![2048, 1536]⟩ : Shape).Idx → α)
    (h0 : ∀ (q : Fin 2048) (h : Fin 6) (d : Fin 128), f (ix2 q ⟨h.val * 256 + d.val, by omega⟩) = g (ix2 q ⟨h.val * 256 + d.val, by omega⟩))
    (h1 : ∀ (q : Fin 2048) (h : Fin 6) (d : Fin 128), f (ix2 q ⟨h.val * 256 + (128 + d.val), by omega⟩) = g (ix2 q ⟨h.val * 256 + (128 + d.val), by omega⟩)) :
    f = g := by
  funext i
  obtain ⟨q, e, rfl⟩ : ∃ (a : Fin 2048) (b : Fin 1536), i = ix2 a b := ⟨i 0, i 1, eq_ix2 i⟩
  rcases Nat.lt_or_ge (e.val % 256) 128 with hl | hl
  · have := h0 q ⟨e.val / 256, by omega⟩ ⟨e.val % 256, hl⟩
    have ee : (⟨e.val / 256 * 256 + e.val % 256, by omega⟩ : Fin 1536) = e := Fin.ext (by show e.val / 256 * 256 + e.val % 256 = e.val; omega)
    simpa only [ee] using this
  · have := h1 q ⟨e.val / 256, by omega⟩ ⟨e.val % 256 - 128, by omega⟩
    have ee : (⟨e.val / 256 * 256 + (128 + (e.val % 256 - 128)), by omega⟩ : Fin 1536) = e :=
      Fin.ext (by show e.val / 256 * 256 + (128 + (e.val % 256 - 128)) = e.val; omega)
    simpa only [ee] using this

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Value.G8 m c, fun c => Cert.KernelIdeal.Value.G9 m c, fun c => Cert.KernelIdeal.Value.G10 m c,
    fun c => Cert.KernelIdeal.Value.G11 m c, Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨h0, h1, h2, h3, hrest⟩ := h c
  obtain ⟨e0, e1, e2, e3, e4⟩ := hargs c
  have H := Finite.bwd (Cert.KernelIdeal.Host.a0 m c) (Cert.KernelIdeal.Host.a1 m c) (Cert.KernelIdeal.Host.a2 m c) (Cert.KernelIdeal.Host.a3 m c)
    (Cert.KernelIdeal.Host.a4 m c) (hpre c)
  generalize Finite.model (Cert.KernelIdeal.Host.a0 m c) (Cert.KernelIdeal.Host.a1 m c) (Cert.KernelIdeal.Host.a2 m c) (Cert.KernelIdeal.Host.a3 m c)
    (Cert.KernelIdeal.Host.a4 m c) = A at H
  have H' : Bwd A (Cert.ReferenceIdeal.Read.a0 m' c) (Cert.ReferenceIdeal.Read.a1 m' c) (Cert.ReferenceIdeal.Read.a2 m' c)
      (Cert.ReferenceIdeal.Read.a3 m' c) (Cert.ReferenceIdeal.Read.a4 m' c) := by
    rw [show Cert.ReferenceIdeal.Read.a0 m' c = Cert.KernelIdeal.Host.a0 m c from e0,
      show Cert.ReferenceIdeal.Read.a1 m' c = Cert.KernelIdeal.Host.a1 m c from e1,
      show Cert.ReferenceIdeal.Read.a2 m' c = Cert.KernelIdeal.Host.a2 m c from e2,
      show Cert.ReferenceIdeal.Read.a3 m' c = Cert.KernelIdeal.Host.a3 m c from e3,
      show Cert.ReferenceIdeal.Read.a4 m' c = Cert.KernelIdeal.Host.a4 m c from e4]
    exact H
  refine ⟨h0.trans ?_, h1.trans ?_, h2.trans ?_, h3.trans ?_, hrest⟩
  · rw [Cert.ReferenceIdeal.Read.res_dqn]
    exact ext768 _ _ fun q h d => (Cert.ReferenceIdeal.Read.out_dqn_apply H' q h d).trans (Cert.KernelIdeal.Grads.G8_apply m c H q h d).symm
  · rw [Cert.ReferenceIdeal.Read.res_dqr]
    exact ext768 _ _ fun q h d => (Cert.ReferenceIdeal.Read.out_dqr_apply H' q h d).trans (Cert.KernelIdeal.Grads.G9_apply m c H q h d).symm
  · rw [Cert.ReferenceIdeal.Read.res_dkv]
    exact ext1536 _ _ (fun k h d => (Cert.ReferenceIdeal.Read.out_dk_apply H' k h d).trans (Cert.KernelIdeal.Grads.G10_dk m c H k h d).symm)
      (fun k h d => (Cert.ReferenceIdeal.Read.out_dv_apply H' k h d).trans (Cert.KernelIdeal.Grads.G10_dv m c H k h d).symm)
  · rw [Cert.ReferenceIdeal.Read.res_dkr]
    funext i
    obtain ⟨k, d, rfl⟩ : ∃ (a : Fin 2048) (b : Fin 128), i = ix2 a b := ⟨i 0, i 1, eq_ix2 i⟩
    exact (Cert.ReferenceIdeal.Read.out_dkr_apply H' k d).trans (Cert.KernelIdeal.Grads.G11_apply m c H k d).symm

/-- The reference runs and keeps its arguments; it has no semaphore to leave raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono (fun r h => ⟨fun c => (h c).2.2.2.2,
    Idealize.ShloMosaic.sem_eq_zero_of_no_sems (by decide) r.2⟩) (Cert.ReferenceIdeal.Value.run (F := Ideal) m g)

end Cert.Backward

end
-- ==== Proof.FwdPoint.lean ====
/-
  The forward kernel's arithmetic at one point of its grid, at real arguments: with the five blocks of head `h` and of the
  query rows `row` given, it leaves the model's output and the logarithm of the softmax's denominator.
-/
module

public import proofs.«01_k».proof.Proof.KernelPoint
public import proofs.«01_k».proof.Proof.Gen.Kernel2Ideal.Skeleton

@[expose] public section

set_option maxRecDepth 16384

noncomputable section

open Idealize.ShloMosaic Idealize.ShloMosaic.TcCoe Idealize.SL.Sem Idealize.ShloMosaic.StableHlo

namespace Cert.Kernel2Ideal.Point

open Cert.Kernel2Ideal Cert.Kernel2Ideal.Gen Cert.Attn
open Cert.KernelIdeal.Point (sum256 sum_wide wide_mul)

/-- The five blocks of head `h`, over the query rows `row`. -/
structure Blk (A : Args) (h : Fin 6) (row : Fin 256 → Fin 2048) (b0 b1 : Vec Ideal S256x128 .bf16)
    (b2 b3 b4 : Vec Ideal S2048x128 .bf16) : Prop where
  h0 : ∀ r d, b0 (ix2 r d) = ((A.Q (row r) h d : ℝ) : EReal)
  h1 : ∀ r (d : Fin 128), b1 (ix2 r d) = if hd : d.val < 64 then ((A.R (row r) h ⟨d.val, hd⟩ : ℝ) : EReal) else 0
  h2 : ∀ k d, b2 (ix2 k d) = ((A.K k h d : ℝ) : EReal)
  h3 : ∀ k d, b3 (ix2 k d) = ((A.V k h d : ℝ) : EReal)
  h4 : ∀ k (d : Fin 128), b4 (ix2 k d) = if hd : d.val < 64 then ((A.kr k ⟨d.val, hd⟩ : ℝ) : EReal) else 0

/-- The queries' lanes side by side, -/
def qcat (b0 b1 : Vec Ideal S256x128 .bf16) : FVec Ideal S256x256 .bf16 :=
  concatenate S256x256 1 [⟨S256x128, b0⟩, ⟨S256x128, b1⟩] concatenates_S256x128_S256x128_S256x256_d1
/-- and the keys'. -/
def kcat (b2 b4 : Vec Ideal S2048x128 .bf16) : FVec Ideal S2048x256 .bf16 :=
  concatenate S2048x256 1 [⟨S2048x128, b2⟩, ⟨S2048x128, b4⟩] concatenates_S2048x128_S2048x128_S2048x256_d1

variable {A : Args} {h : Fin 6} {row : Fin 256 → Fin 2048} {b0 b1 : Vec Ideal S256x128 .bf16}
    {b2 b3 b4 : Vec Ideal S2048x128 .bf16}

theorem qcat_left (r : Fin 256) (d : Fin 128) : qcat b0 b1 (ix2 r ⟨d.val, by omega⟩) = b0 (ix2 r d) := by
  pointwise [qcat]
theorem qcat_right (r : Fin 256) (d : Fin 128) : qcat b0 b1 (ix2 r ⟨128 + d.val, by omega⟩) = b1 (ix2 r d) := by
  have e : ¬ 128 + d.val < 128 := by omega
  have e' : 128 + d.val - 128 = d.val := by omega
  pointwise [qcat]
theorem kcat_left (r : Fin 2048) (d : Fin 128) : kcat b2 b4 (ix2 r ⟨d.val, by omega⟩) = b2 (ix2 r d) := by
  pointwise [kcat]
theorem kcat_right (r : Fin 2048) (d : Fin 128) : kcat b2 b4 (ix2 r ⟨128 + d.val, by omega⟩) = b4 (ix2 r d) := by
  have e : ¬ 128 + d.val < 128 := by omega
  have e' : 128 + d.val - 128 = d.val := by omega
  pointwise [kcat]

theorem pay1_eq (r : Fin 256) (k : Fin 2048) :
    k0_pay1 (F := Ideal) b0 b1 b2 b4 (ix2 r k)
      = (∑ i : Fin 256, qcat b0 b1 (ix2 r i) * kcat b2 b4 (ix2 k i)) * Ideal.ofBits .f32 0x3D93CD3A#32 := by
  have e1 : k0_pay1 (F := Ideal) b0 b1 b2 b4 = mulf (matmul (F := Ideal) (φ₁ := .bf16) (φ₂ := .bf16) dot_S256x256_S2048x256_S256x2048_1_1_0_0_n_n none (qcat b0 b1) (kcat b2 b4)
      (constant S256x2048 .f32 0x00000000#32)) (broadcast S256x2048 (Scalar.ofBits .f32 0x3D93CD3A#32)) := by
    unfold k0_pay1 qcat kcat
    rw [shapeCast_self, shapeCast_self]
  rw [e1]
  generalize qcat b0 b1 = X
  generalize kcat b2 b4 = Y
  pointwise []

/-- The largest score of a row of real scores is a real. -/
theorem rowMax_real (x : FVec Ideal S256x2048 .f32) (hx : ∀ i, ∃ r : ℝ, x i = (r : EReal)) (h : S256x2048.Reduces [1] S256)
    (hφ : FKind.Formats .f32) (hacc : (0xFF800000#32 : BitVec 32) = FKind.maximumf.neutral .f32 hφ) (j : S256.Idx) :
    ∃ M : ℝ, multiReduction .maximumf [1] S256 x 0xFF800000#32 h hφ hacc j = (M : EReal) := by
  rw [Ideal.multiReduction_maximumf_single, show FloatOps.ofBits (F := Ideal) .f32 0xFF800000#32 = (⊥ : EReal) from ofBits_ninf]
  haveI : Nonempty (Fin (S256x2048.size 1)) := ⟨⟨0, by decide⟩⟩
  exact fold_max_real _ fun k => hx _

variable (B : Blk A h row b0 b1 b2 b3 b4)

include B

/-- The scaled scores. -/
theorem sc_apply (r : Fin 256) (k : Fin 2048) :
    k0_pay1 (F := Ideal) b0 b1 b2 b4 (ix2 r k) = ((A.sc h (row r) k : ℝ) : EReal) := by
  rw [pay1_eq, sum256]
  simp only [qcat_left, qcat_right, kcat_left, kcat_right, B.h0, B.h1, B.h2, B.h4, wide_mul, ofBits_scale]
  rw [sum_wide fun x => ((A.R (row r) h x * A.kr k x : ℝ) : EReal)]
  simp only [← EReal.coe_mul, coe_sum, ← EReal.coe_add]
  rfl

/-- A row's largest score is a real. -/
theorem max_apply (r : Fin 256) (u : Fin 1) : ∃ M : ℝ, k0_pay2 (F := Ideal) b0 b1 b2 b4 (ix2 r u) = (M : EReal) := by
  unfold k0_pay2
  refine rowMax_real _ (fun i => ?_) _ _ _ _
  obtain ⟨q, e, rfl⟩ : ∃ (a : Fin 256) (b : Fin 2048), i = ix2 a b := ⟨i 0, i 1, eq_ix2 i⟩
  exact ⟨_, sc_apply B q e⟩

omit B in
/-- The shift a row's scores are taken relative to. -/
def shift (b0 b1 : Vec Ideal S256x128 .bf16) (b2 b4 : Vec Ideal S2048x128 .bf16) (r : Fin 256) : ℝ :=
  (k0_pay2 (F := Ideal) b0 b1 b2 b4 (ix2 r 0) : EReal).toReal

theorem max_shift (r : Fin 256) (u : Fin 1) :
    k0_pay2 (F := Ideal) b0 b1 b2 b4 (ix2 r u) = ((shift b0 b1 b2 b4 r : ℝ) : EReal) := by
  obtain rfl : u = 0 := Subsingleton.elim _ _
  obtain ⟨M, hM⟩ := max_apply B r 0
  unfold shift
  rw [hM, EReal.toReal_coe]

theorem exp_apply (r : Fin 256) (k : Fin 2048) :
    k0_pay3 (F := Ideal) b0 b1 b2 b4 (ix2 r k) = ((Real.exp (A.sc h (row r) k - shift b0 b1 b2 b4 r) : ℝ) : EReal) := by
  pointwise [k0_pay3]
  rw [sc_apply B, max_shift B, ← EReal.coe_sub, Ideal.exp_coe]

theorem sum_apply (r : Fin 256) (u : Fin 1) :
    k0_pay4 (F := Ideal) b0 b1 b2 b4 (ix2 r u) = ((A.l h (row r) * Real.exp (-shift b0 b1 b2 b4 r) : ℝ) : EReal) := by
  pointwise [k0_pay4]
  simp only [exp_apply B, coe_sum, A.sum_shift]

theorem o_apply (r : Fin 256) (d : Fin 128) :
    k0_pay5 (F := Ideal) b0 b1 b2 b4 b3 (ix2 r d) = ((A.o (row r) h d : ℝ) : EReal) := by
  pointwise [k0_pay5]
  have hl : A.l h (row r) * Real.exp (-shift b0 b1 b2 b4 r) ≠ 0 := mul_ne_zero (A.l_ne h (row r)) (Real.exp_ne_zero _)
  simp only [exp_apply B, sum_apply B, B.h3, ← EReal.coe_one, div_coe hl, ← EReal.coe_mul, coe_sum]
  unfold Args.o
  refine congrArg _ (Finset.sum_congr rfl fun k _ => ?_)
  rw [← A.shift_div h (row r) k (shift b0 b1 b2 b4 r), one_div, ← div_eq_mul_inv]

theorem lse_apply (u : Fin 1) (r : Fin 256) (w : Fin 1) :
    k0_pay6 (F := Ideal) b0 b1 b2 b4 (ix3 u r w) = ((Real.log (A.l h (row r)) : ℝ) : EReal) := by
  have hl : 0 < A.l h (row r) * Real.exp (-shift b0 b1 b2 b4 r) := mul_pos (A.l_pos h (row r)) (Real.exp_pos _)
  pointwise [k0_pay6]
  rw [max_shift B, sum_apply B, log_coe_pos hl, ← EReal.coe_add, A.shift_log]

end Cert.Kernel2Ideal.Point

end
-- ==== Proof.FwdBlocks.lean ====
/-
  The blocks the forward kernel is handed at point `t` of its grid, head `t / 8`, query rows `256 · (t mod 8) + r`; and
  the two arrays it leaves.
-/
module

public import proofs.«01_k».proof.Proof.FwdPoint
public import proofs.«01_k».proof.Proof.KernelHost
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Kernel2Ideal.Blocks

open Cert.Kernel2Ideal Cert.Kernel2Ideal.Gen Cert.Kernel2Ideal.Value Cert.Kernel2Ideal.Point Cert.Attn
open Cert.KernelIdeal.Host (qr2 kr2 zpad r3 qr2_apply kr2_apply)

section arrays
variable (m : (ℓ : Loc nD τ sig) → Buf (Elt Ideal) ℓ) (c : Dev nD)

abbrev a0 : FVec Ideal S2048x768 .bf16 := m ((c : Thread nD τ).loc main_arg0)
abbrev a1 : FVec Ideal S2048x384 .f32 := m ((c : Thread nD τ).loc main_arg1)
abbrev a2 : FVec Ideal S2048x1536 .bf16 := m ((c : Thread nD τ).loc main_arg2)
abbrev a3 : FVec Ideal S2048x64 .f32 := m ((c : Thread nD τ).loc main_arg3)

set_option maxHeartbeats 4000000 in
theorem V_kr : V m c main_v7 = kr2 (a3 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta kr2 zpad a3
  rfl

set_option maxHeartbeats 4000000 in
theorem V_qr : V m c main_v3 = qr2 (a1 m c) := by
  simp only [V, hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp
  delta qr2 zpad r3 a1
  rfl

end arrays

theorem lt48 (t : Fin cfg0.N) : t.val < 48 := lt_of_lt_of_eq t.isLt (show cfg0.N = 48 from N_0)

/-- The head of a point. -/
def hd (t : Fin cfg0.N) : Fin 6 := ⟨t.val / 8, by have := lt48 t; omega⟩
/-- The query rows of a point. -/
def row (t : Fin cfg0.N) (r : Fin 256) : Fin 2048 := ⟨t.val % 8 * 256 + r.val, by omega⟩

theorem idx : ∀ t : Fin cfg0.N, win0_0.index t = ![t.val % 8, t.val / 8] ∧ win0_1.index t = ![t.val % 8, t.val / 8]
    ∧ win0_2.index t = ![0, 2 * (t.val / 8)] ∧ win0_3.index t = ![0, 2 * (t.val / 8) + 1] ∧ win0_4.index t = ![0, 0]
    ∧ win0_5.index t = ![t.val % 8, t.val / 8] ∧ win0_6.index t = ![t.val / 8, t.val % 8, 0] :=
  (by decide +kernel : ∀ t : Fin grid0.N, _)

variable (m : (ℓ : Loc nD τ sig) → Buf (Elt Ideal) ℓ) (c : Dev nD) (t : Fin cfg0.N)

theorem blk0 (r : Fin 256) (d : Fin 128) :
    iblk m c 0 t (ix2 r d) = V m c main_arg0 (ix2 (row t r) ⟨(hd t).val * 128 + d.val, by omega⟩) := by
  have := lt48 t
  obtain ⟨e0, -, -, -, -, -, -⟩ := idx t
  unfold row hd
  blk_ext [iblk, e0]
theorem blk1 (r : Fin 256) (d : Fin 128) :
    iblk m c 1 t (ix2 r d) = V m c main_v3 (ix2 (row t r) ⟨(hd t).val * 128 + d.val, by omega⟩) := by
  have := lt48 t
  obtain ⟨-, e0, -, -, -, -, -⟩ := idx t
  unfold row hd
  blk_ext [iblk, e0]
theorem blk2 (k : Fin 2048) (d : Fin 128) :
    iblk m c 2 t (ix2 k d) = V m c main_arg2 (ix2 k ⟨(hd t).val * 256 + d.val, by omega⟩) := by
  have := lt48 t
  obtain ⟨-, -, e0, -, -, -, -⟩ := idx t
  unfold hd
  blk_ext [iblk, e0]
theorem blk3 (k : Fin 2048) (d : Fin 128) :
    iblk m c 3 t (ix2 k d) = V m c main_arg2 (ix2 k ⟨(hd t).val * 256 + (128 + d.val), by omega⟩) := by
  have := lt48 t
  obtain ⟨-, -, -, e0, -, -, -⟩ := idx t
  unfold hd
  blk_ext [iblk, e0]
theorem blk4 (k : Fin 2048) (d : Fin 128) :
    iblk m c 4 t (ix2 k d) = V m c main_v7 (ix2 k d) := by
  obtain ⟨-, -, -, -, e0, -, -⟩ := idx t
  blk_ext [iblk, e0]

/-- The five blocks of a point are the model's of its head and rows. -/
theorem blk {A : Args} (H : Fwd A (a0 m c) (a1 m c) (a2 m c) (a3 m c)) :
    Blk A (hd t) (row t) (iblk m c 0 t) (iblk m c 1 t) (iblk m c 2 t) (iblk m c 3 t) (iblk m c 4 t) where
  h0 r d := (blk0 m c t r d).trans ((congrFun (V_main_arg0 m c) _).trans (H.h0 _ _))
  h1 r d := (blk1 m c t r d).trans ((congrFun (V_qr m c) _).trans (qr2_apply H _ _ _))
  h2 k d := (blk2 m c t k d).trans ((congrFun (V_main_arg2 m c) _).trans (H.h2 _ _))
  h3 k d := (blk3 m c t k d).trans ((congrFun (V_main_arg2 m c) _).trans (H.h2 _ _))
  h4 k d := (blk4 m c t k d).trans ((congrFun (V_kr m c) _).trans (kr2_apply H _ _))

/-- The index of row `r`, lane `d` of point `t`'s output block, -/
theorem emb5 (r : Fin 256) (d : Fin 128) :
    ((cfg0.win 5).blk t).view.emb (ix2 r d) = ix2 (row t r) ⟨(hd t).val * 128 + d.val, by omega⟩ := by
  have := lt48 t
  obtain ⟨-, -, -, -, -, e0, -⟩ := idx t
  funext a; apply Fin.ext
  match a with
  | ⟨0, _⟩ =>
    show win0_5.index t 0 * 256 + 1 * r.val = t.val % 8 * 256 + r.val
    rw [e0]; show t.val % 8 * 256 + 1 * r.val = _; omega
  | ⟨1, _⟩ =>
    show win0_5.index t 1 * 128 + 1 * d.val = t.val / 8 * 128 + d.val
    rw [e0]; show t.val / 8 * 128 + 1 * d.val = _; omega
/-- and of its logarithms'. -/
theorem emb6 (u : Fin 1) (r : Fin 256) (w : Fin 1) :
    ((cfg0.win 6).blk t).view.emb (ix3 u r w) = ix3 (hd t) (row t r) w := by
  have := lt48 t
  obtain ⟨-, -, -, -, -, -, e0⟩ := idx t
  have hu : u.val = 0 := by omega
  have hw : w.val = 0 := by omega
  funext a; apply Fin.ext
  match a with
  | ⟨0, _⟩ =>
    show win0_6.index t 0 * 1 + 1 * u.val = t.val / 8
    rw [e0, hu]; show t.val / 8 * 1 + 1 * 0 = _; omega
  | ⟨1, _⟩ =>
    show win0_6.index t 1 * 256 + 1 * r.val = t.val % 8 * 256 + r.val
    rw [e0]; show t.val % 8 * 256 + 1 * r.val = _; omega
  | ⟨2, _⟩ =>
    show win0_6.index t 2 * 1 + 1 * w.val = w.val
    rw [e0]; show 0 * 1 + 1 * w.val = _; omega

/-- The output the model gives, -/
def outO (A : Args) : FVec Ideal S2048x768 .f32 := fun i =>
  ((A.o (i 0) ⟨(i 1).val / 128, by have h : (i 1).val < 768 := (i 1).isLt; omega⟩ ⟨(i 1).val % 128, by omega⟩ : ℝ) : EReal)
/-- and the logarithms of the denominators. -/
def outL (A : Args) : FVec Ideal S6x2048x1 .f32 := fun i => ((Real.log (A.l (i 0) (i 1)) : ℝ) : EReal)

theorem outO_apply (A : Args) (q : Fin 2048) (h : Fin 6) (d : Fin 128) :
    outO A (ix2 q ⟨h.val * 128 + d.val, by omega⟩) = ((A.o q h d : ℝ) : EReal) := by
  have e1 : (⟨(h.val * 128 + d.val) / 128, by omega⟩ : Fin 6) = h := Fin.ext (by show (h.val * 128 + d.val) / 128 = _; omega)
  have e2 : (⟨(h.val * 128 + d.val) % 128, by omega⟩ : Fin 128) = d := Fin.ext (by show (h.val * 128 + d.val) % 128 = _; omega)
  show ((A.o q ⟨(h.val * 128 + d.val) / 128, _⟩ ⟨(h.val * 128 + d.val) % 128, _⟩ : ℝ) : EReal) = _
  rw [e1, e2]

theorem outL_apply (A : Args) (h : Fin 6) (q : Fin 2048) (u : Fin 1) : outL A (ix3 h q u) = ((Real.log (A.l h q) : ℝ) : EReal) := rfl

variable {A : Args} (H : Fwd A (a0 m c) (a1 m c) (a2 m c) (a3 m c))

include H in
theorem arr5 : (dats m 0 c).arrAt 5 cfg0.N = outO A := by
  refine (dats m 0 c).arrAt_eq_of_covers 5 _ (by decide +kernel) fun t hf y => ?_
  blk_simp; rw [after0_5]
  obtain ⟨r, d, rfl⟩ : ∃ (a : Fin 256) (b : Fin 128), y = ix2 a b := ⟨y 0, y 1, eq_ix2 y⟩
  frame_out
  refine (o_apply (blk m c t H) r d).trans ?_
  exact (outO_apply A _ _ _).symm.trans (congrArg (outO A) (emb5 t r d).symm)

set_option maxHeartbeats 4000000 in
include H in
theorem arr6 : (dats m 0 c).arrAt 6 cfg0.N = outL A := by
  refine (dats m 0 c).arrAt_eq_of_covers 6 _ (by decide +kernel) fun t hf y => ?_
  blk_simp; rw [after0_6]
  obtain ⟨u, r, w, rfl⟩ : ∃ (a : Fin 1) (b : Fin 256) (e : Fin 1), y = ix3 a b e := ⟨y 0, y 1, y 2, eq_ix3 y⟩
  rw [emb6, outL_apply]
  frame_out
  exact lse_apply (blk m c t H) u r w

end Cert.Kernel2Ideal.Blocks

end
-- ==== Proof.Forward.lean ====
/-
  The claim about attention's forward pass: from equal finite arguments the kernel and the reference leave the same output
  and the same logarithms of the softmax's denominators.
-/
module

public import proofs.«01_k».proof.Defs
public import proofs.«01_k».proof.Proof.Backward
public import proofs.«01_k».proof.Proof.FwdBlocks
public import proofs.«01_k».proof.Proof.Gen.Reference2Ideal.Run
public import proofs.«01_k».proof.Proof.Gen.Pre_finite2

@[expose] public section

set_option maxRecDepth 16384

noncomputable section

open Idealize.ShloMosaic Idealize.ShloMosaic.TcCoe Idealize.SL.Sem Idealize.ShloMosaic.StableHlo

namespace Cert.Finite

open Cert.Attn

/-- Under the forward pass's precondition the four arguments are real. -/
theorem fwd (x0 : FVec Ideal ⟨2, ![2048, 768]⟩ .bf16) (x1 : FVec Ideal ⟨2, ![2048, 384]⟩ .f32) (x2 : FVec Ideal ⟨2, ![2048, 1536]⟩ .bf16)
    (x3 : FVec Ideal ⟨2, ![2048, 64]⟩ .f32) (x4 : FVec Ideal ⟨2, ![2048, 768]⟩ .f32)
    (h : Pre_finite2.fn (F := Ideal) x0 x1 x2 x3 = fun _ => 1#1) : Fwd (model x0 x1 x2 x3 x4) x0 x1 x2 x3 := by
  have e := congrFun h i0
  obtain ⟨e, e3⟩ := split e
  obtain ⟨e, e2⟩ := split e
  obtain ⟨e0, e1⟩ := split e
  exact { h0 := fun i j => eq_toReal (real_of_lt _ _ _ _ _ e0 (ix2 i j))
          h1 := fun i j => eq_toReal (real_of_lt _ _ _ _ _ e1 (ix2 i j))
          h2 := fun i j => eq_toReal (real_of_lt _ _ _ _ _ e2 (ix2 i j))
          h3 := fun i j => eq_toReal (real_of_lt _ _ _ _ _ e3 (ix2 i j)) }

end Cert.Finite

namespace Cert.Reference2Ideal.Read

open Cert.Reference2Ideal Cert.Reference2Ideal.Gen Cert.Reference2Ideal.Value Cert.Attn

variable (x0 : FVec Ideal S2048x768 .bf16) (x1 : FVec Ideal S2048x384 .f32) (x2 : FVec Ideal S2048x1536 .bf16)
  (x3 : FVec Ideal S2048x64 .f32)

def out_o : FVec Ideal S2048x768 .f32 :=
  shapeCast S2048x768 (transpose S2048x6x128 [2, 0, 1]
    (Host.dotGeneral (φ₁ := .f32) (φ₂ := .f32) dot_S2048x6x128_S6x2048x2048_S6x128x2048_0_2_2_1_1_0 none
      (Cert.ReferenceIdeal.Read.v3 x2) (Cert.ReferenceIdeal.Read.p3 x0 x1 x2 x3))
    transposes_S6x128x2048_S2048x6x128_2_0_1) shapeCasts_S2048x6x128_S2048x768
def out_lse : FVec Ideal S6x2048x1 .f32 :=
  addf (Host.log (Cert.KernelIdeal.Host.l3 x0 x1 x2 x3)) (Cert.KernelIdeal.Host.m3 x0 x1 x2 x3)

section results
variable (m : (ℓ : Loc nD τ sig) → Buf (Elt Ideal) ℓ) (c : Dev nD)

abbrev a0 : FVec Ideal S2048x768 .bf16 := m ((c : Thread nD τ).loc main_arg0)
abbrev a1 : FVec Ideal S2048x384 .f32 := m ((c : Thread nD τ).loc main_arg1)
abbrev a2 : FVec Ideal S2048x1536 .bf16 := m ((c : Thread nD τ).loc main_arg2)
abbrev a3 : FVec Ideal S2048x64 .f32 := m ((c : Thread nD τ).loc main_arg3)

theorem res_o : res_main_v28 m c = out_o (a0 m c) (a1 m c) (a2 m c) (a3 m c) := by
  unfold res_main_v28
  delta out_o Cert.ReferenceIdeal.Read.p3 Cert.ReferenceIdeal.Read.l3 Cert.ReferenceIdeal.Read.e3 Cert.ReferenceIdeal.Read.m2
    Cert.ReferenceIdeal.Read.mx2 Cert.ReferenceIdeal.Read.s3 Cert.ReferenceIdeal.Read.q3 Cert.ReferenceIdeal.Read.r3
    Cert.ReferenceIdeal.Read.k3 Cert.ReferenceIdeal.Read.v3 Cert.ReferenceIdeal.Read.kv3 a0 a1 a2 a3
  rfl
end results

variable {x0 x1 x2 x3} {A : Args}

theorem out_o_apply (H : Fwd A x0 x1 x2 x3) (q : Fin 2048) (h : Fin 6) (d : Fin 128) :
    out_o x0 x1 x2 x3 (ix2 q ⟨h.val * 128 + d.val, by omega⟩) = (A.o q h d : EReal) := by
  pointwise [out_o, Cert.ReferenceIdeal.Read.v3, Cert.ReferenceIdeal.Read.kv3]
  simp only [Cert.ReferenceIdeal.Read.p3_apply H, H.h2, ← EReal.coe_mul, coe_sum]
  simp only [Args.o, Args.V, mul_comm (A.p _ _ _)]

theorem logadd_apply (a b : FVec Ideal S6x2048x1 .f32) (j) : addf (Host.log b) a j = Ideal.log (b j) + (a j : EReal) := rfl

theorem out_lse_apply (H : Fwd A x0 x1 x2 x3) (h : Fin 6) (q : Fin 2048) (u : Fin 1) :
    out_lse x0 x1 x2 x3 (ix3 h q u) = (Real.log (A.l h q) : EReal) := by
  unfold out_lse
  rw [logadd_apply, Cert.KernelIdeal.Host.m3_apply H, Cert.KernelIdeal.Host.l3_apply H,
    log_coe_pos (Cert.KernelIdeal.Host.l_pos h q _), ← EReal.coe_add, add_comm, A.shift_log]

end Cert.Reference2Ideal.Read

namespace Cert.Forward

open Cert.Attn Cert.Backward

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, Cert.Kernel2Ideal.Value.run_blocks (F := Ideal) m g, ?_⟩
  refine (θ_run (Cert.Reference2Ideal.defs (F := Ideal)) _ _).mono (fun r h c => ?_) (Cert.Reference2Ideal.Value.run (F := Ideal) m' g')
  obtain ⟨h0, h1, hrest⟩ := h c
  obtain ⟨e0, e1, e2, e3⟩ := hargs c
  have H := Finite.fwd (Cert.Kernel2Ideal.Blocks.a0 m c) (Cert.Kernel2Ideal.Blocks.a1 m c) (Cert.Kernel2Ideal.Blocks.a2 m c)
    (Cert.Kernel2Ideal.Blocks.a3 m c) (fun _ => 0) (hpre c)
  generalize Finite.model (Cert.Kernel2Ideal.Blocks.a0 m c) (Cert.Kernel2Ideal.Blocks.a1 m c) (Cert.Kernel2Ideal.Blocks.a2 m c)
    (Cert.Kernel2Ideal.Blocks.a3 m c) (fun _ => 0) = A at H
  have H' : Fwd A (Cert.Reference2Ideal.Read.a0 m' c) (Cert.Reference2Ideal.Read.a1 m' c) (Cert.Reference2Ideal.Read.a2 m' c)
      (Cert.Reference2Ideal.Read.a3 m' c) := by
    rw [show Cert.Reference2Ideal.Read.a0 m' c = Cert.Kernel2Ideal.Blocks.a0 m c from e0,
      show Cert.Reference2Ideal.Read.a1 m' c = Cert.Kernel2Ideal.Blocks.a1 m c from e1,
      show Cert.Reference2Ideal.Read.a2 m' c = Cert.Kernel2Ideal.Blocks.a2 m c from e2,
      show Cert.Reference2Ideal.Read.a3 m' c = Cert.Kernel2Ideal.Blocks.a3 m c from e3]
    exact H
  refine ⟨h0.trans ?_, h1.trans ?_, hrest⟩
  · refine Eq.trans ?_ (Cert.Kernel2Ideal.Blocks.arr5 m c H).symm
    rw [Cert.Reference2Ideal.Read.res_o]
    exact ext768 _ _ fun q h d => (Cert.Reference2Ideal.Read.out_o_apply H' q h d).trans (Cert.Kernel2Ideal.Blocks.outO_apply A q h d).symm
  · refine Eq.trans ?_ (Cert.Kernel2Ideal.Blocks.arr6 m c H).symm
    refine Eq.trans (b := Cert.Reference2Ideal.Read.out_lse (Cert.Reference2Ideal.Read.a0 m' c) (Cert.Reference2Ideal.Read.a1 m' c)
      (Cert.Reference2Ideal.Read.a2 m' c) (Cert.Reference2Ideal.Read.a3 m' c)) ?_ ?_
    · delta Cert.Reference2Ideal.Read.out_lse Cert.KernelIdeal.Host.l3 Cert.KernelIdeal.Host.e3 Cert.KernelIdeal.Host.m3
        Cert.KernelIdeal.Host.mx2 Cert.KernelIdeal.Host.s3 Cert.KernelIdeal.Host.q3 Cert.KernelIdeal.Host.r3
        Cert.KernelIdeal.Host.k3 Cert.KernelIdeal.Host.kv3 Cert.Reference2Ideal.Read.a0 Cert.Reference2Ideal.Read.a1
        Cert.Reference2Ideal.Read.a2 Cert.Reference2Ideal.Read.a3
      rfl
    · funext i
      obtain ⟨h, q, u, rfl⟩ : ∃ (a : Fin 6) (b : Fin 2048) (e : Fin 1), i = ix3 a b e := ⟨i 0, i 1, i 2, eq_ix3 i⟩
      exact Cert.Reference2Ideal.Read.out_lse_apply H' h q u

end Cert.Forward

end
-- ==== Proof.InDh.lean ====
/-
  The gradient of the input projection's input: every block of 512 columns is a sum over the 6144 projected features, taken in
  three runs of 2048 that a carried sum joins.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InDh

open Cert.Kernel3Ideal Cert.Kernel3Ideal.Gen Cert.Kernel3Ideal.Value

theorem lt_N (t : Fin cfg0.N) : t.val < 12 := lt_of_lt_of_eq t.isLt (show cfg0.N = 12 from N_0)

theorem idx : ∀ t : Fin cfg0.N, win0_0.index t = ![0, t.val % 3] ∧ win0_1.index t = ![t.val % 3, t.val / 3]
    ∧ win0_2.index t = ![0, t.val / 3] :=
  (by decide +kernel : ∀ t : Fin grid0.N, _)

/-- The product over the whole contracted axis. -/
def prod (x0 : FVec Ideal S2048x6144 .bf16) (x1 : FVec Ideal S6144x2048 .bf16) (r : Fin 2048) (e : Fin 2048) : EReal :=
  ∑ s : Fin 6144, x0 (ix2 r s) * x1 (ix2 s e)

/-- Its run `k` of 2048 terms. -/
def part (x0 : FVec Ideal S2048x6144 .bf16) (x1 : FVec Ideal S6144x2048 .bf16) (r : Fin 2048) (e : Fin 2048) (k : Fin 3) : EReal :=
  ∑ s : Fin 2048, x0 (ix2 r ⟨k.val * 2048 + s.val, by omega⟩) * x1 (ix2 ⟨k.val * 2048 + s.val, by omega⟩ e)

theorem sum6144 (f : Fin 6144 → EReal) :
    ∑ s, f s = ∑ s : Fin 2048, f ⟨s.val, by omega⟩ + ∑ s : Fin 2048, f ⟨2048 + s.val, by omega⟩ + ∑ s : Fin 2048, f ⟨4096 + s.val, by omega⟩ := by
  refine (Fin.sum_univ_add (a := 4096) (b := 2048) f).trans ?_
  refine congrArg₂ (· + ·) ?_ rfl
  exact Fin.sum_univ_add (a := 2048) (b := 2048) fun s => f (Fin.castAdd 2048 s)

/-- The three runs make the product. -/
theorem part_sum (x0 : FVec Ideal S2048x6144 .bf16) (x1 : FVec Ideal S6144x2048 .bf16) (r : Fin 2048) (e : Fin 2048) :
    part x0 x1 r e 0 + part x0 x1 r e 1 + part x0 x1 r e 2 = prod x0 x1 r e := by
  unfold prod
  rw [sum6144]
  unfold part
  have e0 : ∀ s : Fin 2048, (⟨(0 : Fin 3).val * 2048 + s.val, by show 0 * 2048 + s.val < 6144; omega⟩ : Fin 6144) = ⟨s.val, by omega⟩ :=
    fun s => Fin.ext (by show 0 * 2048 + s.val = s.val; omega)
  simp only [e0]
  rfl

/-- One block's product. -/
theorem pay_apply (b0 : Vec Ideal S2048x2048 .bf16) (b1 : Vec Ideal S2048x512 .bf16) (r : Fin 2048) (e : Fin 512) :
    k0_pay1 (F := Ideal) b0 b1 (ix2 r e) = ∑ s : Fin 2048, b0 (ix2 r s) * b1 (ix2 s e) := by
  pointwise [k0_pay1]
theorem pay2_apply (b0 : Vec Ideal S2048x2048 .bf16) (b1 : Vec Ideal S2048x512 .bf16) (r : Fin 2048) (e : Fin 512) :
    k0_pay2 (F := Ideal) b0 b1 (ix2 r e) = k0_pay1 (F := Ideal) b0 b1 (ix2 r e) := by
  pointwise [k0_pay2]
theorem pay3_apply (b0 : Vec Ideal S2048x2048 .bf16) (b1 : Vec Ideal S2048x512 .bf16) (acc : Vec Ideal S2048x512 .f32) (r : Fin 2048) (e : Fin 512) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x6144 .bf16 := m ((c : Thread nD τ).loc main_arg0)
abbrev a1 : FVec Ideal S6144x2048 .bf16 := m ((c : Thread nD τ).loc main_arg1)

theorem blk0 (r : Fin 2048) (e : Fin 2048) :
    iblk m c 0 t (ix2 r e) = a0 m c (ix2 r ⟨t.val % 3 * 2048 + e.val, by omega⟩) := by
  obtain ⟨e0, -, -⟩ := idx t
  refine Eq.trans (b := V m c main_arg0 (ix2 r ⟨t.val % 3 * 2048 + e.val, by omega⟩)) ?_ (congrFun (V_main_arg0 m c) _)
  blk_ext [iblk, e0]
theorem blk1 (r : Fin 2048) (e : Fin 512) :
    iblk m c 1 t (ix2 r e) = a1 m c (ix2 ⟨t.val % 3 * 2048 + r.val, by omega⟩ ⟨t.val / 3 * 512 + e.val, by have := lt_N t; omega⟩) := by
  have := lt_N t
  obtain ⟨-, e0, -⟩ := idx t
  refine Eq.trans (b := V m c main_arg1 (ix2 ⟨t.val % 3 * 2048 + r.val, by omega⟩ ⟨t.val / 3 * 512 + e.val, by omega⟩)) ?_ (congrFun (V_main_arg1 m c) _)
  blk_ext [iblk, e0]

/-- Point `t`'s block product is the run of its third coordinate. -/
theorem pay_part (r : Fin 2048) (e : Fin 512) :
    k0_pay1 (F := Ideal) (iblk m c 0 t) (iblk m c 1 t) (ix2 r e)
      = part (a0 m c) (a1 m c) r ⟨t.val / 3 * 512 + e.val, by have := lt_N t; omega⟩ ⟨t.val % 3, by omega⟩ := by
  rw [pay_apply]
  simp only [blk0, blk1]
  rfl

/-- The index in the array of place (r, e) of point `t`'s block. -/
theorem emb (r : Fin 2048) (e : Fin 512) :
    ((cfg0.win 2).blk t).view.emb (ix2 r e) = ix2 r ⟨t.val / 3 * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val / 3 * 512 + e.val
    rw [e0]; show t.val / 3 * 512 + 1 * e.val = _; omega

/-! ## The carried sum -/

abbrev St := Vec Ideal S2048x512 .f32 × Vec Ideal S2048x512 .f32

variable (acc : St)

theorem st_first (h : t.val % 3 = 0) : (stAt0 m c t.val t.isLt acc).2 = k0_pay2 (F := Ideal) (iblk m c 0 t) (iblk m c 1 t) := by
  rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 512) (h : t.val % 3 = 2) :
    (outsAt0 m c t.val t.isLt).1 (ix2 r e)
      = prod (a0 m c) (a1 m c) r ⟨t.val / 3 * 512 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 12 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 512 + e.val < 2048 := by omega
  have c0 : (⟨(3 * j) / 3 * 512 + e.val, by omega⟩ : Fin 2048) = ⟨(3 * j + 2) / 3 * 512 + e.val, by omega⟩ :=
    Fin.ext (by show (3 * j) / 3 * 512 + e.val = (3 * j + 2) / 3 * 512 + e.val; omega)
  have c1 : (⟨(3 * j + 1) / 3 * 512 + e.val, by omega⟩ : Fin 2048) = ⟨(3 * j + 2) / 3 * 512 + e.val, by omega⟩ :=
    Fin.ext (by show (3 * j + 1) / 3 * 512 + e.val = (3 * j + 2) / 3 * 512 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 512 + e.val, _⟩ ⟨(3 * j) % 3, _⟩ + part _ _ r ⟨(3 * j + 1) / 3 * 512 + e.val, _⟩ ⟨(3 * j + 1) % 3, _⟩
    + part _ _ r ⟨(3 * j + 2) / 3 * 512 + e.val, _⟩ ⟨(3 * j + 2) % 3, _⟩ = _
  rw [c0, c1, k0, k1, k2]

/-- The array the kernel leaves. -/
def out (x0 : FVec Ideal S2048x6144 .bf16) (x1 : FVec Ideal S6144x2048 .bf16) : FVec Ideal S2048x2048 .f32 := fun i => prod x0 x1 (i 0) (i 1)

theorem out_apply (x0 : FVec Ideal S2048x6144 .bf16) (x1 : FVec Ideal S6144x2048 .bf16) (r : Fin 2048) (e : Fin 2048) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  exact outs_out m c t r e ((flush0_2 t).mp hf)

/-- The claim: the reference's one product at every index is the kernel's. -/
theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => (dats m 0 c).arrAt 2 cfg0.N, run_blocks (F := Ideal) m g, ?_⟩
  refine (θ_run (Cert.Reference3Ideal.defs (F := Ideal)) _ _).mono (fun r h c => ?_) (Cert.Reference3Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 2048), i = ix2 a b := ⟨i 0, i 1, eq_ix2 i⟩
  rw [out_apply]
  unfold prod
  pointwise []

end Cert.InDh

end
-- ==== Proof.InDw.lean ====
/-
  The gradient of the input projection's weight: every block of rows and columns is one product over all 2048 positions.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InDw

open Cert.Kernel4Ideal Cert.Kernel4Ideal.Gen Cert.Kernel4Ideal.Value

theorem lt_N (t : Fin cfg0.N) : t.val < 12 := lt_of_lt_of_eq t.isLt (show cfg0.N = 12 from N_0)

theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

/-- The product over the whole contracted axis. -/
def prod (x0 : FVec Ideal S2048x2048 .bf16) (x1 : FVec Ideal S2048x6144 .bf16) (r : Fin 6144) (e : Fin 2048) : EReal :=
  ∑ s : Fin 2048, x1 (ix2 s r) * x0 (ix2 s e)

/-- One block's product. -/
theorem pay_apply (b0 : Vec Ideal S2048x2048 .bf16) (b1 : Vec Ideal S2048x512 .bf16) (r : Fin 2048) (e : Fin 512) :
    k0_pay1 (F := Ideal) b0 b1 (ix2 r e) = ∑ s : Fin 2048, b0 (ix2 s r) * b1 (ix2 s e) := by
  pointwise [k0_pay1]

variable (m : (ℓ : Loc nD τ sig) → Buf (Elt Ideal) ℓ) (c : Dev nD) (t : Fin cfg0.N)

abbrev a0 : FVec Ideal S2048x2048 .bf16 := m ((c : Thread nD τ).loc main_arg0)
abbrev a1 : FVec Ideal S2048x6144 .bf16 := m ((c : Thread nD τ).loc main_arg1)

theorem blk0 (r : Fin 2048) (e : Fin 2048) :
    iblk m c 0 t (ix2 r e) = a1 m c (ix2 r ⟨t.val / 4 * 2048 + e.val, by have := lt_N t; omega⟩) := by
  have := lt_N t
  obtain ⟨e0, -, -⟩ := idx t
  refine Eq.trans (b := V m c main_arg1 (ix2 r ⟨t.val / 4 * 2048 + e.val, by omega⟩)) ?_ (congrFun (V_main_arg1 m c) _)
  blk_ext [iblk, e0]
theorem blk1 (r : Fin 2048) (e : Fin 512) :
    iblk m c 1 t (ix2 r e) = a0 m c (ix2 r ⟨t.val % 4 * 512 + e.val, by have := lt_N t; omega⟩) := by
  have := lt_N t
  obtain ⟨-, e0, -⟩ := idx t
  refine Eq.trans (b := V m c main_arg0 (ix2 r ⟨t.val % 4 * 512 + e.val, by omega⟩)) ?_ (congrFun (V_main_arg0 m c) _)
  blk_ext [iblk, e0]

/-- The index in the array of place (r, e) of point `t`'s block. -/
theorem emb (r : Fin 2048) (e : Fin 512) :
    ((cfg0.win 2).blk t).view.emb (ix2 r e) = ix2 ⟨t.val / 4 * 2048 + r.val, by have := lt_N t; omega⟩ ⟨t.val % 4 * 512 + e.val, by have := lt_N t; omega⟩ := by
  obtain ⟨-, -, e0⟩ := idx t
  funext a; apply Fin.ext
  match a with
  | ⟨0, _⟩ =>
    show win0_2.index t 0 * 2048 + 1 * r.val = t.val / 4 * 2048 + r.val
    rw [e0]; show t.val / 4 * 2048 + 1 * r.val = _; omega
  | ⟨1, _⟩ =>
    show win0_2.index t 1 * 512 + 1 * e.val = t.val % 4 * 512 + e.val
    rw [e0]; show t.val % 4 * 512 + 1 * e.val = _; omega

/-- The array the kernel leaves. -/
def out (x0 : FVec Ideal S2048x2048 .bf16) (x1 : FVec Ideal S2048x6144 .bf16) : FVec Ideal S6144x2048 .bf16 := fun i => prod x0 x1 (i 0) (i 1)

theorem out_apply (x0 : FVec Ideal S2048x2048 .bf16) (x1 : FVec Ideal S2048x6144 .bf16) (r : Fin 6144) (e : Fin 2048) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => (dats m 0 c).arrAt 2 cfg0.N, run_blocks (F := Ideal) m g, ?_⟩
  refine (θ_run (Cert.Reference4Ideal.defs (F := Ideal)) _ _).mono (fun r h c => ?_) (Cert.Reference4Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 6144) (b : Fin 2048), i = ix2 a b := ⟨i 0, i 1, eq_ix2 i⟩
  rw [out_apply]
  unfold prod
  pointwise []

end Cert.InDw

end
-- ==== Proof.InFwd.lean ====
/-
  The input projection: every block of 512 columns is one product over all 2048 features.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InFwd

open Cert.Kernel5Ideal Cert.Kernel5Ideal.Gen Cert.Kernel5Ideal.Value

theorem lt_N (t : Fin cfg0.N) : t.val < 12 := lt_of_lt_of_eq t.isLt (show cfg0.N = 12 from N_0)

theorem idx : ∀ t : Fin cfg0.N, win0_0.index t = ![0, 0] ∧ win0_1.index t = ![t.val, 0]
    ∧ win0_2.index t = ![0, t.val] :=
  (by decide +kernel : ∀ t : Fin grid0.N, _)

/-- The product over the whole contracted axis. -/
def prod (x0 : FVec Ideal S2048x2048 .bf16) (x1 : FVec Ideal S6144x2048 .bf16) (r : Fin 2048) (e : Fin 6144) : EReal :=
  ∑ s : Fin 2048, x0 (ix2 r s) * x1 (ix2 e s)

/-- One block's product. -/
theorem pay_apply (b0 : Vec Ideal S2048x2048 .bf16) (b1 : Vec Ideal S512x2048 .bf16) (r : Fin 2048) (e : Fin 512) :
    k0_pay1 (F := Ideal) b0 b1 (ix2 r e) = ∑ s : Fin 2048, b0 (ix2 r s) * b1 (ix2 e s) := by
  pointwise [k0_pay1]

variable (m : (ℓ : Loc nD τ sig) → Buf (Elt Ideal) ℓ) (c : Dev nD) (t : Fin cfg0.N)

abbrev a0 : FVec Ideal S2048x2048 .bf16 := m ((c : Thread nD τ).loc main_arg0)
abbrev a1 : FVec Ideal S6144x2048 .bf16 := m ((c : Thread nD τ).loc main_arg1)

theorem blk0 (r : Fin 2048) (e : Fin 2048) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 512) (e : Fin 2048) :
    iblk m c 1 t (ix2 r e) = a1 m c (ix2 ⟨t.val * 512 + r.val, by have := lt_N t; omega⟩ e) := by
  have := lt_N t
  obtain ⟨-, e0, -⟩ := idx t
  refine Eq.trans (b := V m c main_arg1 (ix2 ⟨t.val * 512 + r.val, by omega⟩ e)) ?_ (congrFun (V_main_arg1 m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x2048 .bf16) (x1 : FVec Ideal S6144x2048 .bf16) : FVec Ideal S2048x6144 .f32 := fun i => prod x0 x1 (i 0) (i 1)

theorem out_apply (x0 : FVec Ideal S2048x2048 .bf16) (x1 : FVec Ideal S6144x2048 .bf16) (r : Fin 2048) (e : Fin 6144) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => (dats m 0 c).arrAt 2 cfg0.N, run_blocks (F := Ideal) m g, ?_⟩
  refine (θ_run (Cert.Reference5Ideal.defs (F := Ideal)) _ _).mono (fun r h c => ?_) (Cert.Reference5Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 6144), i = ix2 a b := ⟨i 0, i 1, eq_ix2 i⟩
  rw [out_apply]
  unfold prod
  pointwise []

end Cert.InFwd

end
-- ==== Proof.OutDy.lean ====
/-
  The gradient of the output projection's input: every block of 512 columns is one product over all 2048 features.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutDy

open Cert.Kernel6Ideal Cert.Kernel6Ideal.Gen Cert.Kernel6Ideal.Value

theorem lt_N (t : Fin cfg0.N) : t.val < 4 := lt_of_lt_of_eq t.isLt (show cfg0.N = 4 from N_0)

theorem idx : ∀ t : Fin cfg0.N, win0_0.index t = ![0, 0] ∧ win0_1.index t = ![t.val, 0]
    ∧ win0_2.index t = ![0, t.val] :=
  (by decide +kernel : ∀ t : Fin grid0.N, _)

/-- The product over the whole contracted axis. -/
def prod (x0 : FVec Ideal S2048x2048 .bf16) (x1 : FVec Ideal S2048x2048 .bf16) (r : Fin 2048) (e : Fin 2048) : EReal :=
  ∑ s : Fin 2048, x0 (ix2 r s) * x1 (ix2 e s)

/-- One block's product. -/
theorem pay_apply (b0 : Vec Ideal S2048x2048 .bf16) (b1 : Vec Ideal S512x2048 .bf16) (r : Fin 2048) (e : Fin 512) :
    k0_pay1 (F := Ideal) b0 b1 (ix2 r e) = ∑ s : Fin 2048, b0 (ix2 r s) * b1 (ix2 e s) := by
  pointwise [k0_pay1]

variable (m : (ℓ : Loc nD τ sig) → Buf (Elt Ideal) ℓ) (c : Dev nD) (t : Fin cfg0.N)

abbrev a0 : FVec Ideal S2048x2048 .bf16 := m ((c : Thread nD τ).loc main_arg0)
abbrev a1 : FVec Ideal S2048x2048 .bf16 := m ((c : Thread nD τ).loc main_arg1)

theorem blk0 (r : Fin 2048) (e : Fin 2048) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 512) (e : Fin 2048) :
    iblk m c 1 t (ix2 r e) = a1 m c (ix2 ⟨t.val * 512 + r.val, by have := lt_N t; omega⟩ e) := by
  have := lt_N t
  obtain ⟨-, e0, -⟩ := idx t
  refine Eq.trans (b := V m c main_arg1 (ix2 ⟨t.val * 512 + r.val, by omega⟩ e)) ?_ (congrFun (V_main_arg1 m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x2048 .bf16) (x1 : FVec Ideal S2048x2048 .bf16) : FVec Ideal S2048x2048 .f32 := fun i => prod x0 x1 (i 0) (i 1)

theorem out_apply (x0 : FVec Ideal S2048x2048 .bf16) (x1 : FVec Ideal S2048x2048 .bf16) (r : Fin 2048) (e : Fin 2048) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel6Ideal_Reference6Ideal (hKernel6Ideal := Cert.Kernel6Ideal.Gen.facts)
    (hReference6Ideal := Cert.Reference6Ideal.Gen.facts) := by
  intro m g m' g' hpre hargs
  refine ⟨fun c => (dats m 0 c).arrAt 2 cfg0.N, run_blocks (F := Ideal) m g, ?_⟩
  refine (θ_run (Cert.Reference6Ideal.defs (F := Ideal)) _ _).mono (fun r h c => ?_) (Cert.Reference6Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 2048), i = ix2 a b := ⟨i 0, i 1, eq_ix2 i⟩
  rw [out_apply]
  unfold prod
  pointwise []

end Cert.OutDy

end
-- ==== Proof.OutDw.lean ====
/-
  The gradient of the output projection's weight: every block of 512 columns is one product over all 2048 positions.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutDw

open Cert.Kernel7Ideal Cert.Kernel7Ideal.Gen Cert.Kernel7Ideal.Value

theorem lt_N (t : Fin cfg0.N) : t.val < 4 := lt_of_lt_of_eq t.isLt (show cfg0.N = 4 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x2048 .bf16) (x1 : FVec Ideal S2048x2048 .bf16) (r : Fin 2048) (e : Fin 2048) : EReal :=
  ∑ s : Fin 2048, x0 (ix2 s r) * x1 (ix2 s e)

/-- One block's product. -/
theorem pay_apply (b0 : Vec Ideal S2048x2048 .bf16) (b1 : Vec Ideal S2048x512 .bf16) (r : Fin 2048) (e : Fin 512) :
    k0_pay1 (F := Ideal) b0 b1 (ix2 r e) = ∑ s : Fin 2048, b0 (ix2 s r) * b1 (ix2 s e) := by
  pointwise [k0_pay1]

variable (m : (ℓ : Loc nD τ sig) → Buf (Elt Ideal) ℓ) (c : Dev nD) (t : Fin cfg0.N)

abbrev a0 : FVec Ideal S2048x2048 .bf16 := m ((c : Thread nD τ).loc main_arg0)
abbrev a1 : FVec Ideal S2048x2048 .bf16 := m ((c : Thread nD τ).loc main_arg1)

theorem blk0 (r : Fin 2048) (e : Fin 2048) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 2048) (e : Fin 512) :
    iblk m c 1 t (ix2 r e) = a1 m c (ix2 r ⟨t.val * 512 + e.val, by have := lt_N t; omega⟩) := by
  have := lt_N t
  obtain ⟨-, e0, -⟩ := idx t
  refine Eq.trans (b := V m c main_arg1 (ix2 r ⟨t.val * 512 + e.val, by omega⟩)) ?_ (congrFun (V_main_arg1 m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x2048 .bf16) (x1 : FVec Ideal S2048x2048 .bf16) : FVec Ideal S2048x2048 .bf16 := fun i => prod x0 x1 (i 0) (i 1)

theorem out_apply (x0 : FVec Ideal S2048x2048 .bf16) (x1 : FVec Ideal S2048x2048 .bf16) (r : Fin 2048) (e : Fin 2048) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => (dats m 0 c).arrAt 2 cfg0.N, run_blocks (F := Ideal) m g, ?_⟩
  refine (θ_run (Cert.Reference7Ideal.defs (F := Ideal)) _ _).mono (fun r h c => ?_) (Cert.Reference7Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 2048), i = ix2 a b := ⟨i 0, i 1, eq_ix2 i⟩
  rw [out_apply]
  unfold prod
  pointwise []
  exact Finset.sum_congr rfl fun s _ => mul_comm _ _

end Cert.OutDw

end
-- ==== Proof.OutFwd.lean ====
/-
  The output projection: every block of 512 columns is one product over all 2048 features.
-/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.OutFwd

open Cert.Kernel8Ideal Cert.Kernel8Ideal.Gen Cert.Kernel8Ideal.Value

theorem lt_N (t : Fin cfg0.N) : t.val < 4 := lt_of_lt_of_eq t.isLt (show cfg0.N = 4 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x2048 .bf16) (x1 : FVec Ideal S2048x2048 .bf16) (r : Fin 2048) (e : Fin 2048) : EReal :=
  ∑ s : Fin 2048, x0 (ix2 r s) * x1 (ix2 s e)

/-- One block's product. -/
theorem pay_apply (b0 : Vec Ideal S2048x2048 .bf16) (b1 : Vec Ideal S2048x512 .bf16) (r : Fin 2048) (e : Fin 512) :
    k0_pay1 (F := Ideal) b0 b1 (ix2 r e) = ∑ s : Fin 2048, b0 (ix2 r s) * b1 (ix2 s e) := by
  pointwise [k0_pay1]

variable (m : (ℓ : Loc nD τ sig) → Buf (Elt Ideal) ℓ) (c : Dev nD) (t : Fin cfg0.N)

abbrev a0 : FVec Ideal S2048x2048 .bf16 := m ((c : Thread nD τ).loc main_arg0)
abbrev a1 : FVec Ideal S2048x2048 .bf16 := m ((c : Thread nD τ).loc main_arg1)

theorem blk0 (r : Fin 2048) (e : Fin 2048) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 2048) (e : Fin 512) :
    iblk m c 1 t (ix2 r e) = a1 m c (ix2 r ⟨t.val * 512 + e.val, by have := lt_N t; omega⟩) := by
  have := lt_N t
  obtain ⟨-, e0, -⟩ := idx t
  refine Eq.trans (b := V m c main_arg1 (ix2 r ⟨t.val * 512 + e.val, by omega⟩)) ?_ (congrFun (V_main_arg1 m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x2048 .bf16) (x1 : FVec Ideal S2048x2048 .bf16) : FVec Ideal S2048x2048 .f32 := fun i => prod x0 x1 (i 0) (i 1)

theorem out_apply (x0 : FVec Ideal S2048x2048 .bf16) (x1 : FVec Ideal S2048x2048 .bf16) (r : Fin 2048) (e : Fin 2048) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel8Ideal_Reference8Ideal (hKernel8Ideal := Cert.Kernel8Ideal.Gen.facts)
    (hReference8Ideal := Cert.Reference8Ideal.Gen.facts) := by
  intro m g m' g' hpre hargs
  refine ⟨fun c => (dats m 0 c).arrAt 2 cfg0.N, run_blocks (F := Ideal) m g, ?_⟩
  refine (θ_run (Cert.Reference8Ideal.defs (F := Ideal)) _ _).mono (fun r h c => ?_) (Cert.Reference8Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 2048), i = ix2 a b := ⟨i 0, i 1, eq_ix2 i⟩
  rw [out_apply]
  unfold prod
  pointwise []

end Cert.OutFwd

end
-- ==== Proof.ConvRef.lean ====
/-
  The gradients of the short convolution, as the plain mathematics states them, read at an index.
-/
module

public import proofs.«01_k».proof.Defs
public import proofs.«01_k».proof.Proof.Gen.Reference9Ideal.Run
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ConvRef

open Cert.Reference9Ideal Cert.Reference9Ideal.Gen

/-- A column moved down by one row, zero coming in at the top. -/
def dn (f : Fin 2048 → EReal) (r : Fin 2048) : EReal := if h : r.val = 0 then 0 else f ⟨r.val - 1, by omega⟩
/-- A column moved up by one row, zero coming in at the bottom. -/
def up (f : Fin 2048 → EReal) (r : Fin 2048) : EReal := if h : r.val = 2047 then 0 else f ⟨r.val + 1, by omega⟩
/-- The gated rows of one column. -/
def gated (x1 x2 : FVec Ideal S2048x512 .f32) (e : Fin 512) (k : Fin 2048) : EReal := x1 (ix2 k e) * x2 (ix2 k e)
/-- The gradient of the convolved rows of one column. -/
def conv (x0 x4 : FVec Ideal S2048x512 .f32) (e : Fin 512) (k : Fin 2048) : EReal := x4 (ix2 k e) * x0 (ix2 k e)
/-- The gradient of the gated rows. -/
def moved (u v w : EReal) (f : Fin 2048 → EReal) (r : Fin 2048) : EReal := u * up f r + v * f r + w * dn f r

def outCb (x1 x2 : FVec Ideal S2048x512 .f32) (x3 : FVec Ideal S3x512 .f32) (x4 : FVec Ideal S2048x512 .f32) : FVec Ideal S2048x512 .f32 := fun i =>
  x4 (ix2 (i 0) (i 1)) * (dn (gated x1 x2 (i 1)) (i 0) * x3 (ix2 0 (i 1)) + gated x1 x2 (i 1) (i 0) * x3 (ix2 1 (i 1))
    + up (gated x1 x2 (i 1)) (i 0) * x3 (ix2 2 (i 1)))
def outGate (x0 : FVec Ideal S2048x512 .f32) (x3 : FVec Ideal S3x512 .f32) (x4 x : FVec Ideal S2048x512 .f32) : FVec Ideal S2048x512 .f32 := fun i =>
  moved (x3 (ix2 0 (i 1))) (x3 (ix2 1 (i 1))) (x3 (ix2 2 (i 1))) (conv x0 x4 (i 1)) (i 0) * x (ix2 (i 0) (i 1))
def outTaps (x0 x1 x2 x4 : FVec Ideal S2048x512 .f32) : FVec Ideal S8x512 .f32 := fun i =>
  if (i 0).val = 2 then ∑ k : Fin 2048, conv x0 x4 (i 1) k * up (gated x1 x2 (i 1)) k
  else if (i 0).val = 1 then ∑ k : Fin 2048, conv x0 x4 (i 1) k * gated x1 x2 (i 1) k
  else if (i 0).val = 0 then ∑ k : Fin 2048, conv x0 x4 (i 1) k * dn (gated x1 x2 (i 1)) k
  else 0

variable (x0 x1 x2 : FVec Ideal S2048x512 .f32) (x3 : FVec Ideal S3x512 .f32) (x4 : FVec Ideal S2048x512 .f32)

/-! ## Moved rows, as the plain mathematics cuts them from a padded column -/

theorem dn_if (f : Fin 2048 → EReal) (r : Fin 2048) :
    (if h : r.val < 1 then 0 else if h : r.val - 1 < 2048 then f ⟨r.val - 1, by omega⟩ else 0) = dn f r := by
  have := r.isLt
  unfold dn
  by_cases h : r.val = 0
  · rw [dif_pos (by omega), dif_pos h]
  · rw [dif_neg (by omega), dif_neg h, dif_pos (by omega)]
theorem up_if (f : Fin 2048 → EReal) (r : Fin 2048) :
    (if h : 2 + r.val < 1 then 0 else if h : 2 + r.val - 1 < 2048 then f ⟨2 + r.val - 1, by omega⟩ else 0) = up f r := by
  have := r.isLt
  unfold up
  rw [dif_neg (by omega)]
  by_cases h : r.val = 2047
  · rw [dif_neg (by omega), dif_pos h]
  · rw [dif_pos (by omega), dif_neg h]
    exact congrArg f (Fin.ext (show 2 + r.val - 1 = r.val + 1 by omega))
theorem dn_pad (f : Fin 2048 → EReal) (r : Fin 2048) :
    (if h : 2 ≤ 1 + r.val ∧ 1 + r.val - 2 < 2048 then f ⟨1 + r.val - 2, by omega⟩ else 0) = dn f r := by
  have := r.isLt
  unfold dn
  by_cases h : r.val = 0
  · rw [dif_neg (by omega), dif_pos h]
  · rw [dif_pos (by omega), dif_neg h]
    exact congrArg f (Fin.ext (show 1 + r.val - 2 = r.val - 1 by omega))
theorem up_pad (f : Fin 2048 → EReal) (r : Fin 2048) :
    (if h : 1 + r.val < 2048 then f ⟨1 + r.val, by omega⟩ else 0) = up f r := by
  have := r.isLt
  unfold up
  by_cases h : r.val = 2047
  · rw [dif_neg (by omega), dif_pos h]
  · rw [dif_pos (by omega), dif_neg h]
    exact congrArg f (Fin.ext (show 1 + r.val = r.val + 1 by omega))

/-! ## The four results -/

theorem ref_cb : (mulf x4 (addf (addf (mulf (extractStridedSlice S2048x512 ![0, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_0_0) (broadcastInDim S2048x512 ![0, 1] bcast_S1x512_S2048x512_0_1 (broadcastInDim S1x512 ![1] bcast_S512_S1x512_1 (shapeCast _ (extractStridedSlice S1x512 ![0, 0] x3 slices_S3x512_S1x512_0_0) shapeCasts_S1x512_S512)))) (mulf (extractStridedSlice S2048x512 ![1, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_1_0) (broadcastInDim S2048x512 ![0, 1] bcast_S1x512_S2048x512_0_1 (broadcastInDim S1x512 ![1] bcast_S512_S1x512_1 (shapeCast _ (extractStridedSlice S1x512 ![1, 0] x3 slices_S3x512_S1x512_1_0) shapeCasts_S1x512_S512))))) (mulf (extractStridedSlice S2048x512 ![2, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_2_0) (broadcastInDim S2048x512 ![0, 1] bcast_S1x512_S2048x512_0_1 (broadcastInDim S1x512 ![1] bcast_S512_S1x512_1 (shapeCast _ (extractStridedSlice S1x512 ![2, 0] x3 slices_S3x512_S1x512_2_0) shapeCasts_S1x512_S512))))) : FVec Ideal S2048x512 .f32) = outCb x1 x2 x3 x4 := by
  funext i
  obtain ⟨r, e, rfl⟩ : ∃ (a : Fin 2048) (b : Fin 512), i = ix2 a b := ⟨i 0, i 1, eq_ix2 i⟩
  have := r.isLt
  pointwise [outCb]
  have h1 := dn_if (gated x1 x2 e) r
  have h2 := up_if (gated x1 x2 e) r
  rw [← h1, ← h2]
  rfl

/-- The three moved terms, in the order the plain mathematics adds them. -/
def sumUp (f : Fin 2048 → EReal) (u v w : EReal) (r : Fin 2048) : EReal := dn (fun k => f k * w) r + f r * v + up (fun k => f k * u) r

theorem sumUp_eq (f : Fin 2048 → EReal) (u v w : EReal) (r : Fin 2048) : sumUp f u v w r = moved u v w f r := by
  have h1 : dn (fun k => f k * w) r = w * dn f r := by
    unfold dn; split
    · exact (mul_zero _).symm
    · exact mul_comm (G := EReal) _ _
  have h2 : up (fun k => f k * u) r = u * up f r := by
    unfold up; split
    · exact (mul_zero _).symm
    · exact mul_comm (G := EReal) _ _
  unfold sumUp moved
  rw [h1, h2, mul_comm (f r) v, add_comm (w * dn f r), add_comm _ (u * up f r), add_assoc]

theorem ref_cc : (mulf (extractStridedSlice S2048x512 ![1, 0] (addf (addf (pad S2050x512 ![2, 0] ![0, 0] ![0, 0] (mulf (mulf x0 x4) (broadcastInDim S2048x512 ![0, 1] bcast_S1x512_S2048x512_0_1 (broadcastInDim S1x512 ![1] bcast_S512_S1x512_1 (shapeCast _ (extractStridedSlice S1x512 ![2, 0] x3 slices_S3x512_S1x512_2_0) shapeCasts_S1x512_S512)))) (constant (F := Ideal) S_ .f32 0x00000000#32) pads_S2048x512_S2050x512_200_000 h_S_) (pad S2050x512 ![1, 0] ![1, 0] ![0, 0] (mulf (mulf x0 x4) (broadcastInDim S2048x512 ![0, 1] bcast_S1x512_S2048x512_0_1 (broadcastInDim S1x512 ![1] bcast_S512_S1x512_1 (shapeCast _ (extractStridedSlice S1x512 ![1, 0] x3 slices_S3x512_S1x512_1_0) shapeCasts_S1x512_S512)))) (constant (F := Ideal) S_ .f32 0x00000000#32) pads_S2048x512_S2050x512_110_000 h_S_)) (pad S2050x512 ![0, 0] ![2, 0] ![0, 0] (mulf (mulf x0 x4) (broadcastInDim S2048x512 ![0, 1] bcast_S1x512_S2048x512_0_1 (broadcastInDim S1x512 ![1] bcast_S512_S1x512_1 (shapeCast _ (extractStridedSlice S1x512 ![0, 0] x3 slices_S3x512_S1x512_0_0) shapeCasts_S1x512_S512)))) (constant (F := Ideal) S_ .f32 0x00000000#32) pads_S2048x512_S2050x512_020_000 h_S_)) slices_S2050x512_S2048x512_1_0) x2 : FVec Ideal S2048x512 .f32) = outGate x0 x3 x4 x2 := by
  funext i
  obtain ⟨r, e, rfl⟩ : ∃ (a : Fin 2048) (b : Fin 512), i = ix2 a b := ⟨i 0, i 1, eq_ix2 i⟩
  have := r.isLt
  pointwise [outGate]
  refine congrArg (fun z : EReal => z * _) ?_
  refine Eq.trans ?_ (sumUp_eq _ _ _ _ _)
  unfold sumUp
  rw [← dn_pad, ← up_pad]
  simp only [conv, mul_comm (G := EReal) (x4 _)]
theorem ref_cx : (mulf x1 (extractStridedSlice S2048x512 ![1, 0] (addf (addf (pad S2050x512 ![2, 0] ![0, 0] ![0, 0] (mulf (mulf x0 x4) (broadcastInDim S2048x512 ![0, 1] bcast_S1x512_S2048x512_0_1 (broadcastInDim S1x512 ![1] bcast_S512_S1x512_1 (shapeCast _ (extractStridedSlice S1x512 ![2, 0] x3 slices_S3x512_S1x512_2_0) shapeCasts_S1x512_S512)))) (constant (F := Ideal) S_ .f32 0x00000000#32) pads_S2048x512_S2050x512_200_000 h_S_) (pad S2050x512 ![1, 0] ![1, 0] ![0, 0] (mulf (mulf x0 x4) (broadcastInDim S2048x512 ![0, 1] bcast_S1x512_S2048x512_0_1 (broadcastInDim S1x512 ![1] bcast_S512_S1x512_1 (shapeCast _ (extractStridedSlice S1x512 ![1, 0] x3 slices_S3x512_S1x512_1_0) shapeCasts_S1x512_S512)))) (constant (F := Ideal) S_ .f32 0x00000000#32) pads_S2048x512_S2050x512_110_000 h_S_)) (pad S2050x512 ![0, 0] ![2, 0] ![0, 0] (mulf (mulf x0 x4) (broadcastInDim S2048x512 ![0, 1] bcast_S1x512_S2048x512_0_1 (broadcastInDim S1x512 ![1] bcast_S512_S1x512_1 (shapeCast _ (extractStridedSlice S1x512 ![0, 0] x3 slices_S3x512_S1x512_0_0) shapeCasts_S1x512_S512)))) (constant (F := Ideal) S_ .f32 0x00000000#32) pads_S2048x512_S2050x512_020_000 h_S_)) slices_S2050x512_S2048x512_1_0) : FVec Ideal S2048x512 .f32) = outGate x0 x3 x4 x1 := by
  funext i
  obtain ⟨r, e, rfl⟩ : ∃ (a : Fin 2048) (b : Fin 512), i = ix2 a b := ⟨i 0, i 1, eq_ix2 i⟩
  have := r.isLt
  pointwise [outGate]
  refine (mul_comm (G := EReal) _ _).trans ?_
  refine congrArg (fun z : EReal => z * _) ?_
  refine Eq.trans ?_ (sumUp_eq _ _ _ _ _)
  unfold sumUp
  rw [← dn_pad, ← up_pad]
  simp only [conv, mul_comm (G := EReal) (x4 _)]
theorem ref_taps : (pad S8x512 ![0, 0] ![5, 0] ![0, 0] (addf (addf (pad S3x512 ![2, 0] ![0, 0] ![0, 0] (broadcastInDim S1x512 ![1] bcast_S512_S1x512_1 (Host.reduceAdd (shapeCast _ (Host.reduceAdd (mulf (extractStridedSlice S2048x512 ![2, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_2_0) (mulf x0 x4)) (constant (F := Ideal) S_ .f32 0x00000000#32) reducesTo_S2048x512_S512_d0 h_S_) shapeCasts_S512_S1x512) (constant (F := Ideal) S_ .f32 0x00000000#32) reducesTo_S1x512_S512_d0 h_S_)) (constant (F := Ideal) S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (extractStridedSlice S2048x512 ![1, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_1_0) (mulf x0 x4)) (constant (F := Ideal) S_ .f32 0x00000000#32) reducesTo_S2048x512_S512_d0 h_S_) shapeCasts_S512_S1x512) (constant (F := Ideal) S_ .f32 0x00000000#32) reducesTo_S1x512_S512_d0 h_S_)) (constant (F := Ideal) S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (extractStridedSlice S2048x512 ![0, 0] ((concatenate S2050x512 0 [⟨S1x512, ((broadcastInDim S1x512 ![] bcast_S_S1x512 (constant (F := Ideal) S_ .f32 0x00000000#32)) : (⟨S1x512, .f32⟩ : BufTy).Contents (Elt Ideal))⟩, ⟨S2048x512, ((mulf x1 x2) : (⟨S2048x512, .f32⟩ : BufTy).Contents (Elt Ideal))⟩, ⟨S1x512, ((broadcastInDim S1x512 ![] bcast_S_S1x512 (constant (F := Ideal) S_ .f32 0x00000000#32)) : (⟨S1x512, .f32⟩ : BufTy).Contents (Elt Ideal))⟩] concatenates_S1x512_S2048x512_S1x512_S2050x512_d0 : (⟨S2050x512, .f32⟩ : BufTy).Contents (Elt Ideal))) slices_S2050x512_S2048x512_0_0) (mulf x0 x4)) (constant (F := Ideal) S_ .f32 0x00000000#32) reducesTo_S2048x512_S512_d0 h_S_) shapeCasts_S512_S1x512) (constant (F := Ideal) S_ .f32 0x00000000#32) reducesTo_S1x512_S512_d0 h_S_)) (constant (F := Ideal) S_ .f32 0x00000000#32) pads_S1x512_S3x512_020_000 h_S_)) (sitofp (F := Ideal) .f32 (constantI S_ 32 0#32)) pads_S3x512_S8x512_050_000 h_S_ : FVec Ideal S8x512 .f32) = outTaps x0 x1 x2 x4 := by
  funext i
  obtain ⟨r, e, rfl⟩ : ∃ (a : Fin 8) (b : Fin 512), i = ix2 a b := ⟨i 0, i 1, eq_ix2 i⟩
  have := r.isLt
  pointwise [outTaps]
  have hd : ∀ k : Fin 2048, (if h : k.val < 1 then 0 else if h : k.val - 1 < 2048 then x1 (ix2 ⟨k.val - 1, by omega⟩ e) * x2 (ix2 ⟨k.val - 1, by omega⟩ e) else 0)
    = dn (gated x1 x2 e) k := fun k => dn_if (gated x1 x2 e) k
  have hu : ∀ k : Fin 2048, (if h : 2 + k.val < 1 then 0 else if h : 2 + k.val - 1 < 2048 then x1 (ix2 ⟨2 + k.val - 1, by omega⟩ e) * x2 (ix2 ⟨2 + k.val - 1, by omega⟩ e) else 0)
    = up (gated x1 x2 e) k := fun k => up_if (gated x1 x2 e) k
  simp only [hd, hu]
  by_cases h2 : r.val = 2
  · rw [dif_pos (by omega), dif_pos (by omega), dif_neg (by omega), dif_neg (by omega), if_pos h2, add_zero, add_zero]
    refine (Fin.sum_univ_one (M := EReal) _).trans (Finset.sum_congr (M := EReal) rfl fun k _ => ?_)
    exact (mul_comm (G := EReal) _ _).trans (congrArg (fun z : EReal => z * _) (mul_comm (G := EReal) _ _))
  by_cases h1 : r.val = 1
  · rw [dif_pos (by omega), dif_neg (by omega), dif_pos (by omega), dif_neg (by omega), if_neg h2, if_pos h1, zero_add, add_zero]
    refine (Fin.sum_univ_one (M := EReal) _).trans (Finset.sum_congr (M := EReal) rfl fun k _ => ?_)
    exact (mul_comm (G := EReal) _ _).trans (congrArg (fun z : EReal => z * _) (mul_comm (G := EReal) _ _))
  by_cases h0 : r.val = 0
  · rw [dif_pos (by omega), dif_neg (by omega), dif_neg (by omega), dif_pos (by omega), if_neg h2, if_neg h1, if_pos h0, zero_add, zero_add]
    refine (Fin.sum_univ_one (M := EReal) _).trans (Finset.sum_congr (M := EReal) rfl fun k _ => ?_)
    exact (mul_comm (G := EReal) _ _).trans (congrArg (fun z : EReal => z * _) (mul_comm (G := EReal) _ _))
  · rw [dif_neg (by omega), if_neg h2, if_neg h1, if_neg h0]
    simp [FloatOps.sitofp]

end Cert.ConvRef

end
-- ==== Proof.ConvBwd.lean ====
/-
  The gradients of the short convolution: of the three gates and of the taps.
-/
module

public import proofs.«01_k».proof.Defs
public import proofs.«01_k».proof.Proof.Gen.Kernel9Ideal.Value
public import proofs.«01_k».proof.Proof.ConvRef
public import Idealize.ShloMosaic.Lib.Pointwise
public import Idealize.ShloMosaic.Lib.KernelVsHost
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ConvBwd

open Cert.Kernel9Ideal Cert.Kernel9Ideal.Gen Cert.Kernel9Ideal.Value Cert.ConvRef

/-! ## One block -/

theorem select_eq (a b : Nat) (ha : a < 2048) (hb : b < 2048) (x y : EReal) :
    Scalar.select (IntOp.cmpi .eq (BitVec.ofNat 32 a) (BitVec.ofNat 32 b)) x y = if a = b then x else y := by
  by_cases h : a = b
  · subst h
    simp [Scalar.select, IntOp.cmpi]
  · have : BitVec.ofNat 32 a ≠ BitVec.ofNat 32 b := fun e => h (by
      have := congrArg BitVec.toNat e
      simp only [BitVec.toNat_ofNat] at this
      omega)
    have hb : (BitVec.ofNat 32 a == BitVec.ofNat 32 b) = false := beq_eq_false_iff_ne.mpr this
    simp [Scalar.select, IntOp.cmpi, hb, h]

/-- A block's rows moved down under a mask on the first row. -/
theorem masked_dn (x : FVec Ideal S2048x128 .f32) (r : Fin 2048) (e : Fin 128) :
    (if r.val = 0 then 0 else x (ix2 ⟨(r.val + 2048 - 1) % 2048, by omega⟩ e)) = dn (fun k => x (ix2 k e)) r := by
  have := r.isLt
  unfold dn
  split
  · rfl
  · congr 3; omega
/-- A block's rows moved up under a mask on the last row. -/
theorem masked_up (x : FVec Ideal S2048x128 .f32) (r : Fin 2048) (e : Fin 128) :
    (if r.val = 2047 then 0 else x (ix2 ⟨(r.val + 2048 - 2047) % 2048, by omega⟩ e)) = up (fun k => x (ix2 k e)) r := by
  have := r.isLt
  unfold up
  split
  · rfl
  · congr 3; omega

theorem pay1_apply (x y : Vec Ideal S2048x128 .f32) (j : S2048x128.Idx) :
    k0_pay1 (F := Ideal) x y j = x j * y j := by
  delta k0_pay1
  pointwise []
theorem pay2_apply (x y : Vec Ideal S2048x128 .f32) (r : Fin 2048) (e : Fin 128) :
    k0_pay2 (F := Ideal) x y (ix2 r e) = dn (fun k => x (ix2 k e) * y (ix2 k e)) r := by
  refine Eq.trans (b := dn (fun k => k0_pay1 (F := Ideal) x y (ix2 k e)) r) ?_ (by simp only [pay1_apply])
  delta k0_pay2
  pointwise []
  exact (select_eq _ 0 r.isLt (by omega) _ _).trans (masked_dn _ r e)
theorem pay3_apply (x y : Vec Ideal S2048x128 .f32) (r : Fin 2048) (e : Fin 128) :
    k0_pay3 (F := Ideal) x y (ix2 r e) = up (fun k => x (ix2 k e) * y (ix2 k e)) r := by
  refine Eq.trans (b := up (fun k => k0_pay1 (F := Ideal) x y (ix2 k e)) r) ?_ (by simp only [pay1_apply])
  delta k0_pay3
  pointwise []
  exact (select_eq _ 2047 r.isLt (by omega) _ _).trans (masked_up _ r e)
theorem pay8_apply (x y : Vec Ideal S2048x128 .f32) (j : S2048x128.Idx) :
    k0_pay8 (F := Ideal) x y j = x j * y j := by
  delta k0_pay8
  pointwise []

theorem pay7_apply (x y z : Vec Ideal S2048x128 .f32) (u v w : Vec Ideal S1x128 .f32) (r : Fin 2048) (e : Fin 128) :
    k0_pay7 (F := Ideal) x y u v w z (ix2 r e) = z (ix2 r e)
      * (dn (fun k => x (ix2 k e) * y (ix2 k e)) r * u (ix2 0 e) + x (ix2 r e) * y (ix2 r e) * v (ix2 0 e)
        + up (fun k => x (ix2 k e) * y (ix2 k e)) r * w (ix2 0 e)) := by
  delta k0_pay7
  pointwise [k0_pay4, k0_pay5, k0_pay6]
  rw [pay1_apply, pay2_apply, pay3_apply]

theorem pay10_apply (z : FVec Ideal S2048x128 .f32) (u v w : Vec Ideal S1x128 .f32) (r : Fin 2048) (e : Fin 128) :
    k0_pay10 (F := Ideal) (iota .tc S2048x128 32 [0] iota_S2048x128_d0_w32) (k0_pay4 (F := Ideal) u) (k0_pay5 (F := Ideal) v) (k0_pay6 (F := Ideal) w) z (k0_pay9) (ix2 r e)
      = moved (u (ix2 0 e)) (v (ix2 0 e)) (w (ix2 0 e)) (fun k => z (ix2 k e)) r := by
  unfold moved
  rw [← masked_dn z r e, ← masked_up z r e, ← select_eq _ 0 r.isLt (by omega), ← select_eq _ 2047 r.isLt (by omega)]
  delta k0_pay10
  pointwise [k0_pay4, k0_pay5, k0_pay6, k0_pay9]

theorem pay14_apply (x z : FVec Ideal S2048x128 .f32) (e : Fin 128) :
    k0_pay14 (F := Ideal) x z (ix2 0 e) = ∑ k : Fin 2048, z (ix2 k e) * x (ix2 k e) := by
  delta k0_pay14
  pointwise []
theorem pay15_apply (x z : FVec Ideal S2048x128 .f32) (e : Fin 128) :
    k0_pay15 (F := Ideal) x z (ix2 0 e) = ∑ k : Fin 2048, z (ix2 k e) * x (ix2 k e) := by
  delta k0_pay15
  pointwise []
theorem pay16_apply (x z : FVec Ideal S2048x128 .f32) (e : Fin 128) :
    k0_pay16 (F := Ideal) x z (ix2 0 e) = ∑ k : Fin 2048, z (ix2 k e) * x (ix2 k e) := by
  delta k0_pay16
  pointwise []

/-! ## The blocks -/

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

variable (m : (ℓ : Loc nD τ sig) → Buf (Elt Ideal) ℓ) (c : Dev nD) (t : Fin cfg0.N)

theorem lt_N : t.val < 4 := lt_of_lt_of_eq t.isLt (show cfg0.N = 4 from N_0)

abbrev a0 : FVec Ideal S2048x512 .f32 := m ((c : Thread nD τ).loc main_arg0)
abbrev a1 : FVec Ideal S2048x512 .f32 := m ((c : Thread nD τ).loc main_arg1)
abbrev a2 : FVec Ideal S2048x512 .f32 := m ((c : Thread nD τ).loc main_arg2)
abbrev a3 : FVec Ideal S3x512 .f32 := m ((c : Thread nD τ).loc main_arg3)
abbrev a4 : FVec Ideal S2048x512 .f32 := m ((c : Thread nD τ).loc main_arg4)

/-- The column of the whole array that is column `e` of point `t`'s block. -/
def col (e : Fin 128) : Fin 512 := ⟨t.val * 128 + e.val, by have := lt_N t; omega⟩

theorem blk0 (r : Fin 2048) (e : Fin 128) : iblk m c 0 t (ix2 r e) = a0 m c (ix2 r (col t e)) := by
  have := lt_N t
  have e0 := (idx t).1
  refine Eq.trans (b := V m c main_arg0 (ix2 r (col t e))) ?_ (congrFun (V_main_arg0 m c) _)
  blk_ext [iblk, e0, col]
theorem blk1 (r : Fin 2048) (e : Fin 128) : iblk m c 1 t (ix2 r e) = a1 m c (ix2 r (col t e)) := by
  have := lt_N t
  have e0 := (idx t).2.1
  refine Eq.trans (b := V m c main_arg1 (ix2 r (col t e))) ?_ (congrFun (V_main_arg1 m c) _)
  blk_ext [iblk, e0, col]
theorem blk2 (r : Fin 2048) (e : Fin 128) : iblk m c 2 t (ix2 r e) = a2 m c (ix2 r (col t e)) := by
  have := lt_N t
  have e0 := (idx t).2.2.1
  refine Eq.trans (b := V m c main_arg2 (ix2 r (col t e))) ?_ (congrFun (V_main_arg2 m c) _)
  blk_ext [iblk, e0, col]
theorem blk3 (r : Fin 2048) (e : Fin 128) : iblk m c 3 t (ix2 r e) = a4 m c (ix2 r (col t e)) := by
  have := lt_N t
  have e0 := (idx t).2.2.2.1
  refine Eq.trans (b := V m c main_arg4 (ix2 r (col t e))) ?_ (congrFun (V_main_arg4 m c) _)
  blk_ext [iblk, e0, col]

theorem taps : V m c main_v1 = concatenate S8x512 0 [⟨S3x512, a3 m c⟩, ⟨S5x512, broadcastInDim S5x512 ![] bcast_S_S5x512 (constant (F := Ideal) S_ .f32 0x00000000#32)⟩] concatenates_S3x512_S5x512_S8x512_d0 := by
  simp only [V, hostOps0, List.flatten_cons, List.flatten_nil, List.append_nil]; after_results_simp <;> (try dsimp only [Matrix.cons_val]) <;> (try after_results_simp) <;> rfl

theorem tap (j : Fin 3) (e : Fin 512) : (V m c main_v1 : FVec Ideal S8x512 .f32) (ix2 ⟨j.val, by omega⟩ e) = a3 m c (ix2 j e) := by
  refine (congrFun (taps m c) _).trans ?_
  pointwise []

theorem blk4 (j : Fin 3) (e : Fin 128) : iblk m c 4 t (ix2 ⟨j.val, by omega⟩ e) = a3 m c (ix2 j (col t e)) := by
  have := lt_N t
  have e0 := (idx t).2.2.2.2.1
  refine Eq.trans (b := (V m c main_v1 : FVec Ideal S8x512 .f32) (ix2 ⟨j.val, by omega⟩ (col t e))) ?_ (tap m c j _)
  blk_ext [iblk, e0, col]

theorem tap0 (e : Fin 128) : iblk m c 4 t (ix2 0 e) = a3 m c (ix2 0 (col t e)) := blk4 m c t 0 e
theorem tap1 (e : Fin 128) : iblk m c 4 t (ix2 1 e) = a3 m c (ix2 1 (col t e)) := blk4 m c t 1 e
theorem tap2 (e : Fin 128) : iblk m c 4 t (ix2 2 e) = a3 m c (ix2 2 (col t e)) := blk4 m c t 2 e

theorem ld0 (x : Vec Ideal S8x128 .f32) (e : Fin 128) :
    View.ld (Val := Elt Ideal) x (Rect.unit ![0, 0] ![1, 128] inb_S8x128_S1x128_0_0) (ix2 0 e) = x (ix2 0 e) := by
  refine congrArg x (funext fun a => Fin.ext ?_)
  match a with
  | ⟨0, _⟩ => rfl
  | ⟨1, _⟩ => show 0 + 1 * e.val = e.val; omega
theorem ld1 (x : Vec Ideal S8x128 .f32) (e : Fin 128) :
    View.ld (Val := Elt Ideal) x (Rect.unit ![1, 0] ![1, 128] inb_S8x128_S1x128_1_0) (ix2 0 e) = x (ix2 1 e) := by
  refine congrArg x (funext fun a => Fin.ext ?_)
  match a with
  | ⟨0, _⟩ => rfl
  | ⟨1, _⟩ => show 0 + 1 * e.val = e.val; omega
theorem ld2 (x : Vec Ideal S8x128 .f32) (e : Fin 128) :
    View.ld (Val := Elt Ideal) x (Rect.unit ![2, 0] ![1, 128] inb_S8x128_S1x128_2_0) (ix2 0 e) = x (ix2 2 e) := by
  refine congrArg x (funext fun a => Fin.ext ?_)
  match a with
  | ⟨0, _⟩ => rfl
  | ⟨1, _⟩ => show 0 + 1 * e.val = e.val; omega

/-! ## What each point leaves -/

theorem left5 (r : Fin 2048) (e : Fin 128) : (outsAt0 m c t).1 (ix2 r e) = outCb (a1 m c) (a2 m c) (a3 m c) (a4 m c) (ix2 r (col t e)) := by
  unfold outsAt0
  frame_out
  refine (pay7_apply _ _ _ _ _ _ r e).trans ?_
  rw [ld0, ld1, ld2]
  simp only [blk1, blk2, blk3]
  rw [tap0, tap1, tap2]
  rfl

theorem moved_gate (r : Fin 2048) (e : Fin 128) : k0_pay10 (F := Ideal) (iota .tc S2048x128 32 [0] iota_S2048x128_d0_w32)
      (k0_pay4 (View.ld (Val := Elt Ideal) (iblk m c 4 t) (Rect.unit ![0, 0] ![1, 128] inb_S8x128_S1x128_0_0)))
      (k0_pay5 (View.ld (Val := Elt Ideal) (iblk m c 4 t) (Rect.unit ![1, 0] ![1, 128] inb_S8x128_S1x128_1_0)))
      (k0_pay6 (View.ld (Val := Elt Ideal) (iblk m c 4 t) (Rect.unit ![2, 0] ![1, 128] inb_S8x128_S1x128_2_0)))
      (k0_pay8 (iblk m c 3 t) (iblk m c 0 t)) k0_pay9 (ix2 r e)
    = moved (a3 m c (ix2 0 (col t e))) (a3 m c (ix2 1 (col t e))) (a3 m c (ix2 2 (col t e))) (conv (a0 m c) (a4 m c) (col t e)) r := by
  refine (pay10_apply _ _ _ _ r e).trans ?_
  rw [ld0, ld1, ld2, tap0, tap1, tap2]
  simp only [pay8_apply, blk0, blk3]
  rfl

theorem pay11_apply (i : IVec S2048x128 32) (x : Vec Ideal S2048x128 .f32) (u v w : FVec Ideal S1x128 .f32) (z : FVec Ideal S2048x128 .f32)
    (k : IVec S2048x128 1) (j : S2048x128.Idx) :
    k0_pay11 (F := Ideal) i x u v w z k j = k0_pay10 (F := Ideal) i u v w z k j * x j := by
  delta k0_pay11
  pointwise []
theorem pay12_apply (i : IVec S2048x128 32) (x : Vec Ideal S2048x128 .f32) (u v w : FVec Ideal S1x128 .f32) (z : FVec Ideal S2048x128 .f32)
    (k : IVec S2048x128 1) (j : S2048x128.Idx) :
    k0_pay12 (F := Ideal) i x u v w z k j = k0_pay10 (F := Ideal) i u v w z k j * x j := by
  delta k0_pay12
  pointwise []

theorem left6 (r : Fin 2048) (e : Fin 128) : (outsAt0 m c t).2.1 (ix2 r e) = outGate (a0 m c) (a3 m c) (a4 m c) (a2 m c) (ix2 r (col t e)) := by
  unfold outsAt0
  frame_out
  refine (pay11_apply _ _ _ _ _ _ _ _).trans ?_
  exact congrArg₂ (fun a b : EReal => a * b) (moved_gate m c t r e) (blk2 m c t r e)
theorem left7 (r : Fin 2048) (e : Fin 128) : (outsAt0 m c t).2.2.1 (ix2 r e) = outGate (a0 m c) (a3 m c) (a4 m c) (a1 m c) (ix2 r (col t e)) := by
  unfold outsAt0
  frame_out
  refine (pay12_apply _ _ _ _ _ _ _ _).trans ?_
  exact congrArg₂ (fun a b : EReal => a * b) (moved_gate m c t r e) (blk1 m c t r e)

/-- A block whose last store was of one row. -/
theorem canon_row (k : Nat) (inb : ∀ a, (![k, 0] : Fin 2 → Nat) a + (![1, 128] : Fin 2 → Nat) a ≤ S8x128.size a) (w : Vec Ideal S1x128 .f32)
    (L : List (View.Piece (Elt Ideal) S8x128 .f32)) (j : Fin 8) (e : Fin 128) :
    View.canon (Val := Elt Ideal) (⟨Rect.unit (s := S8x128) ![k, 0] ![1, 128] inb, w⟩ :: L) (ix2 j e)
      = if j.val = k then w (ix2 0 e) else View.canon (Val := Elt Ideal) L (ix2 j e) := by
  by_cases h : j.val = k
  · rw [if_pos h]
    have q : (ix2 j e : S8x128.Idx) = (Rect.unit (s := S8x128) ![k, 0] ![1, 128] inb).emb (ix2 0 e) := by
      funext a; apply Fin.ext
      match a with
      | ⟨0, _⟩ => show j.val = k + 1 * 0; omega
      | ⟨1, _⟩ => show e.val = 0 + 1 * e.val; omega
    exact (congrArg _ q).trans (View.canon_cons_emb (Val := Elt Ideal) (s := S8x128) (e := .f32)
      (Rect.unit (s := S8x128) ![k, 0] ![1, 128] inb) w L (ix2 0 e))
  · rw [if_neg h, View.canon_cons_of_not_mem]
    rw [Rect.mem_set_unit]
    intro hm
    have h1 : k ≤ j.val := (hm 0).1
    have h2 : j.val < k + 1 := (hm 0).2
    omega

theorem canon_all (w : Vec Ideal S8x128 .f32) (j : Fin 8) (e : Fin 128) :
    View.canon (Val := Elt Ideal) [⟨Rect.unit (s := S8x128) ![0, 0] ![8, 128] inb_S8x128_S8x128_0_0, w⟩] (ix2 j e) = w (ix2 j e) := by
  have q : (ix2 j e : S8x128.Idx) = (Rect.unit (s := S8x128) ![0, 0] ![8, 128] inb_S8x128_S8x128_0_0).emb (ix2 j e) := by
    funext a; apply Fin.ext
    match a with
    | ⟨0, _⟩ => show j.val = 0 + 1 * j.val; omega
    | ⟨1, _⟩ => show e.val = 0 + 1 * e.val; omega
  exact (congrArg _ q).trans (View.canon_cons_emb (Val := Elt Ideal) (s := S8x128) (e := .f32)
    (Rect.unit (s := S8x128) ![0, 0] ![8, 128] inb_S8x128_S8x128_0_0) w [] (ix2 j e))

theorem pay13_apply (y : S8x128.Idx) : k0_pay13 (F := Ideal) y = 0 := by
  pointwise [k0_pay13]

theorem left8 (j : Fin 8) (e : Fin 128) : (outsAt0 m c t).2.2.2 (ix2 j e) = outTaps (a0 m c) (a1 m c) (a2 m c) (a4 m c) (ix2 j (col t e)) := by
  unfold outsAt0
  frame_out
  refine (canon_row 2 _ _ _ j e).trans ?_
  rw [canon_row 1, canon_row 0, canon_all, pay13_apply, pay14_apply, pay15_apply, pay16_apply]
  simp only [pay8_apply, pay1_apply, pay2_apply, pay3_apply, blk0, blk1, blk2, blk3]
  rfl

/-! ## The arrays the call leaves -/

theorem emb5 (r : Fin 2048) (e : Fin 128) : ((cfg0.win 5).blk t).view.emb (ix2 r e) = ix2 r (col t e) := by
  have e0 := (idx t).2.2.2.2.2.1
  funext a; apply Fin.ext
  match a with
  | ⟨0, _⟩ =>
    show win0_5.index t 0 * 2048 + 1 * r.val = r.val
    rw [e0]; show 0 * 2048 + 1 * r.val = _; omega
  | ⟨1, _⟩ =>
    show win0_5.index t 1 * 128 + 1 * e.val = t.val * 128 + e.val
    rw [e0]; show t.val * 128 + 1 * e.val = _; omega
theorem emb6 (r : Fin 2048) (e : Fin 128) : ((cfg0.win 6).blk t).view.emb (ix2 r e) = ix2 r (col t e) := by
  have e0 := (idx t).2.2.2.2.2.2.1
  funext a; apply Fin.ext
  match a with
  | ⟨0, _⟩ =>
    show win0_6.index t 0 * 2048 + 1 * r.val = r.val
    rw [e0]; show 0 * 2048 + 1 * r.val = _; omega
  | ⟨1, _⟩ =>
    show win0_6.index t 1 * 128 + 1 * e.val = t.val * 128 + e.val
    rw [e0]; show t.val * 128 + 1 * e.val = _; omega
theorem emb7 (r : Fin 2048) (e : Fin 128) : ((cfg0.win 7).blk t).view.emb (ix2 r e) = ix2 r (col t e) := by
  have e0 := (idx t).2.2.2.2.2.2.2.1
  funext a; apply Fin.ext
  match a with
  | ⟨0, _⟩ =>
    show win0_7.index t 0 * 2048 + 1 * r.val = r.val
    rw [e0]; show 0 * 2048 + 1 * r.val = _; omega
  | ⟨1, _⟩ =>
    show win0_7.index t 1 * 128 + 1 * e.val = t.val * 128 + e.val
    rw [e0]; show t.val * 128 + 1 * e.val = _; omega
theorem emb8 (j : Fin 8) (e : Fin 128) : ((cfg0.win 8).blk t).view.emb (ix2 j e) = ix2 j (col t e) := by
  have e0 := (idx t).2.2.2.2.2.2.2.2
  funext a; apply Fin.ext
  match a with
  | ⟨0, _⟩ =>
    show win0_8.index t 0 * 8 + 1 * j.val = j.val
    rw [e0]; show 0 * 8 + 1 * j.val = _; omega
  | ⟨1, _⟩ =>
    show win0_8.index t 1 * 128 + 1 * e.val = t.val * 128 + e.val
    rw [e0]; show t.val * 128 + 1 * e.val = _; omega

theorem arr5 : (dats m 0 c).arrAt 5 cfg0.N = outCb (a1 m c) (a2 m c) (a3 m c) (a4 m c) := by
  refine (dats m 0 c).arrAt_eq_of_covers 5 _ (by decide +kernel) fun t hf y => ?_
  blk_simp; rw [after0_5]
  obtain ⟨r, e, rfl⟩ : ∃ (a : Fin 2048) (b : Fin 128), y = ix2 a b := ⟨y 0, y 1, eq_ix2 y⟩
  rw [emb5]
  exact left5 m c t r e
theorem arr6 : (dats m 0 c).arrAt 6 cfg0.N = outGate (a0 m c) (a3 m c) (a4 m c) (a2 m c) := by
  refine (dats m 0 c).arrAt_eq_of_covers 6 _ (by decide +kernel) fun t hf y => ?_
  blk_simp; rw [after0_6]
  obtain ⟨r, e, rfl⟩ : ∃ (a : Fin 2048) (b : Fin 128), y = ix2 a b := ⟨y 0, y 1, eq_ix2 y⟩
  rw [emb6]
  exact left6 m c t r e
theorem arr7 : (dats m 0 c).arrAt 7 cfg0.N = outGate (a0 m c) (a3 m c) (a4 m c) (a1 m c) := by
  refine (dats m 0 c).arrAt_eq_of_covers 7 _ (by decide +kernel) fun t hf y => ?_
  blk_simp; rw [after0_7]
  obtain ⟨r, e, rfl⟩ : ∃ (a : Fin 2048) (b : Fin 128), y = ix2 a b := ⟨y 0, y 1, eq_ix2 y⟩
  rw [emb7]
  exact left7 m c t r e
theorem arr8 : (dats m 0 c).arrAt 8 cfg0.N = outTaps (a0 m c) (a1 m c) (a2 m c) (a4 m c) := by
  refine (dats m 0 c).arrAt_eq_of_covers 8 _ (by decide +kernel) fun t hf y => ?_
  blk_simp; rw [after0_8]
  obtain ⟨j, e, rfl⟩ : ∃ (a : Fin 8) (b : Fin 128), y = ix2 a b := ⟨y 0, y 1, eq_ix2 y⟩
  rw [emb8]
  exact left8 m c t j e

theorem algebraic : Cert.algebraic_Kernel9Ideal_Reference9Ideal (hKernel9Ideal := Cert.Kernel9Ideal.Gen.facts)
    (hReference9Ideal := Cert.Reference9Ideal.Gen.facts) := by
  intro m g m' g' hpre hargs
  refine ⟨fun c => (dats m 0 c).arrAt 5 cfg0.N, fun c => (dats m 0 c).arrAt 6 cfg0.N, fun c => (dats m 0 c).arrAt 7 cfg0.N,
    fun c => (dats m 0 c).arrAt 8 cfg0.N, run_blocks (F := Ideal) m g, ?_⟩
  refine (θ_run (Cert.Reference9Ideal.defs (F := Ideal)) _ _).mono (fun r h c => ?_) (Cert.Reference9Ideal.Value.run (F := Ideal) m' g')
  obtain ⟨h0, h1, h2, h3, hrest⟩ := h c
  obtain ⟨e0, e1, e2, e3, e4⟩ := hargs c
  refine ⟨h0.trans (Eq.trans ?_ (arr5 m c).symm), h1.trans (Eq.trans ?_ (arr6 m c).symm), h2.trans (Eq.trans ?_ (arr7 m c).symm),
    h3.trans (Eq.trans ?_ (arr8 m c).symm), hrest⟩
  · refine (ref_cb _ _ _ _).trans ?_
    rw [e1, e2, e3, e4]
  · refine (ref_cc _ _ _ _).trans ?_
    rw [e0, e2, e3, e4]
  · refine (ref_cx _ _ _ _).trans ?_
    rw [e0, e1, e3, e4]
  · refine (ref_taps _ _ _ _).trans ?_
    rw [e0, e1, e2, e4]

end Cert.ConvBwd

end
-- ==== Proof.Sigm.lean ====
/-
  The logistic function, as the gates form it.
-/
module

public import Idealize.ShloMosaic.Lib.Pointwise

@[expose] public section

set_option maxRecDepth 16384

noncomputable section

open Idealize.ShloMosaic Idealize.ShloMosaic.TcCoe

namespace Cert.Sigm

theorem litOne : Ideal.ofBits .f32 0x3F800000#32 = (1 : EReal) := by
  simp [Ideal.ofBits, Ideal.ieee]
  rw [← EReal.coe_mul]
  norm_num
theorem lit16 : Ideal.ofBits .f32 0x41800000#32 = ((16 : ℝ) : EReal) := by
  simp [Ideal.ofBits, Ideal.ieee]
  rw [← EReal.coe_mul]
  norm_num
theorem litTop : Ideal.ofBits .f32 0x7F800000#32 = (⊤ : EReal) := by
  simp [Ideal.ofBits, Ideal.ieee]

/-- One over one plus the exponential of minus the argument. -/
def sigm (z : EReal) : EReal := Ideal.div 1 (1 + Ideal.exp (-z))

theorem sigm_real (z : ℝ) : sigm z = ((1 / (1 + Real.exp (-z)) : ℝ) : EReal) := by
  have h : (1 + Real.exp (-z)) ≠ 0 := by positivity
  rw [sigm, ← EReal.coe_neg, Ideal.exp_coe, ← EReal.coe_one, ← EReal.coe_add, Ideal.div_coe h, ← EReal.coe_mul, one_mul]
theorem sigm_top : sigm ⊤ = 1 := by
  rw [sigm, EReal.neg_top, show Ideal.exp ⊥ = 0 from rfl, add_zero, ← EReal.coe_one, Ideal.div_coe one_ne_zero]
  simp
theorem sigm_bot : sigm ⊥ = 0 := by
  rw [sigm, EReal.neg_bot, show Ideal.exp ⊤ = ⊤ from rfl, show (1 : EReal) + ⊤ = ⊤ from rfl]
  simp [Ideal.div]

/-- The derivative of z times its logistic value, in the two forms, times a real. -/
theorem silu_grad (A : ℝ) (z : EReal) : (A : EReal) * sigm z + z * A * (sigm z * (1 - sigm z))
    = A * (sigm z * (1 + z * (1 - sigm z))) := by
  induction z using EReal.rec with
  | bot => rw [sigm_bot]; simp
  | top => rw [sigm_top]; simp [show (1 : EReal) - 1 = 0 from by rw [← EReal.coe_one, ← EReal.coe_sub]; simp]
  | coe z =>
    rw [sigm_real, ← EReal.coe_one]
    generalize (1 / (1 + Real.exp (-z))) = s
    simp only [← EReal.coe_mul, ← EReal.coe_add, ← EReal.coe_sub]
    congr 1; ring

/-- Both gradients as the kernel has them, which subtracts the argument from zero. -/
theorem gate_out (d z : EReal) : d * (z * Ideal.div 1 (1 + Ideal.exp (-z))) = d * (z * Ideal.div 1 (1 + Ideal.exp (0 - z))) := by
  rw [zero_sub]
theorem gate_grad (a b : ℝ) (z : EReal) : (a : EReal) * b * Ideal.div 1 (1 + Ideal.exp (-z))
      + z * ((a : EReal) * b) * (Ideal.div 1 (1 + Ideal.exp (-z)) * (1 - Ideal.div 1 (1 + Ideal.exp (-z))))
    = (b : EReal) * a * (Ideal.div 1 (1 + Ideal.exp (0 - z)) * (1 + z * (1 - Ideal.div 1 (1 + Ideal.exp (0 - z))))) := by
  rw [zero_sub, mul_comm (b : EReal) a, ← EReal.coe_mul]
  exact silu_grad (a * b) z

/-- The logarithm of one plus the exponential, as jax forms it. -/
def soft (y : EReal) : EReal := max y 0 + Ideal.log1p (Ideal.exp (-(FloatOps.absf (y : Ideal .f32) : Ideal .f32)))

theorem log1p_exp (y : ℝ) : Ideal.log1p (Ideal.exp (y : EReal)) = ((Real.log (1 + Real.exp y) : ℝ) : EReal) := by
  have h : ¬ 1 + Real.exp y ≤ 0 := by have := Real.exp_pos y; linarith
  rw [Ideal.exp_coe, Ideal.log1p, ← EReal.coe_one, ← EReal.coe_add]
  show (if 1 + Real.exp y ≤ 0 then (⊥ : EReal) else (Real.log (1 + Real.exp y) : EReal)) = _
  rw [if_neg h]
theorem log1p_zero : Ideal.log1p 0 = 0 := by
  rw [Ideal.log1p, add_zero, ← EReal.coe_one]
  show (if (1 : ℝ) ≤ 0 then (⊥ : EReal) else (Real.log 1 : EReal)) = _
  rw [if_neg (by norm_num), Real.log_one, EReal.coe_zero]

theorem soft_bot : soft ⊥ = 0 := by
  have h : (FloatOps.absf ((⊥ : EReal) : Ideal .f32) : Ideal .f32) = (⊤ : EReal) := by rw [Ideal.absf_def]; simp
  rw [soft, h, EReal.neg_top, show Ideal.exp ⊥ = 0 from rfl, log1p_zero, add_zero]
  exact max_eq_right bot_le
theorem soft_top : soft ⊤ = ⊤ := by
  have h : (FloatOps.absf ((⊤ : EReal) : Ideal .f32) : Ideal .f32) = (⊤ : EReal) := by rw [Ideal.absf_def]; simp
  rw [soft, h, EReal.neg_top, show Ideal.exp ⊥ = 0 from rfl, log1p_zero, add_zero]
  exact max_eq_left le_top
theorem coe_max (a b : ℝ) : ((max a b : ℝ) : EReal) = max (a : EReal) (b : EReal) := EReal.coe_strictMono.monotone.map_max
theorem soft_coe (y : ℝ) : soft y = ((max y 0 + Real.log (1 + Real.exp (-|y|)) : ℝ) : EReal) := by
  have h : (FloatOps.absf ((y : EReal) : Ideal .f32) : Ideal .f32) = ((|y| : ℝ) : EReal) := by
    rw [Ideal.absf_def, abs_eq_max_neg, coe_max, EReal.coe_neg]
  rw [soft, h, ← EReal.coe_neg, log1p_exp, ← EReal.coe_zero, ← coe_max, ← EReal.coe_add]

theorem shifted_real (y : ℝ) : Real.exp (y - (max y 0 + Real.log (1 + Real.exp (-|y|)))) = 1 / (1 + Real.exp (-y)) := by
  have h1 := Real.exp_pos y
  rcases le_total 0 y with h | h
  · rw [max_eq_left h, abs_of_nonneg h, sub_add_cancel_left, Real.exp_neg, Real.exp_log (by positivity), one_div]
  · rw [max_eq_right h, abs_of_nonpos h, zero_add, neg_neg, Real.exp_sub, Real.exp_log (by positivity), Real.exp_neg]
    field_simp
    ring

theorem shifted_of (y s : EReal) (p q : Prop) [Decidable p] [Decidable q] (hp : p ↔ y = ⊤) (hs : s = soft y) (hq : q ↔ s = ⊤) :
    Ideal.exp ((if p then 0 else y) - if q then 0 else s) = sigm y := by
  subst hs
  induction y using EReal.rec with
  | bot =>
    rw [if_neg (by rw [hp]; exact bot_ne_top), if_neg (by rw [hq, soft_bot]; exact EReal.zero_ne_top), soft_bot, sigm_bot]
    rfl
  | top =>
    rw [if_pos (hp.2 rfl), if_pos (hq.2 soft_top), sigm_top, ← EReal.coe_zero, ← EReal.coe_sub, Ideal.exp_coe]
    simp
  | coe y =>
    rw [if_neg (by rw [hp]; exact EReal.coe_ne_top _), if_neg (by rw [hq, soft_coe]; exact EReal.coe_ne_top _), soft_coe,
      ← EReal.coe_sub, Ideal.exp_coe, shifted_real, sigm_real]

/-- jax's derivative of the logarithm of the logistic function is an exponential of a difference: the logistic value. -/
theorem shifted (y : EReal) [Decidable (y = Ideal.ofBits .f32 2139095040#32)] [Decidable (y ≠ y)]
    [Decidable ((if y ≠ y then y else soft y) = Ideal.ofBits .f32 2139095040#32)] :
    Ideal.exp ((if y = Ideal.ofBits .f32 2139095040#32 then 0 else y)
      - if (if y ≠ y then y else soft y) = Ideal.ofBits .f32 2139095040#32 then 0 else if y ≠ y then y else soft y) = sigm y := by
  exact shifted_of y _ _ _ (by rw [litTop]) (if_neg (by simp)) (by rw [litTop])

/-- The gradient of the decay's argument, in the two forms. -/
theorem decay_grad (d t : EReal) [Decidable (-t = Ideal.ofBits .f32 2139095040#32)] [Decidable (-t ≠ -t)]
    [Decidable ((if -t ≠ -t then -t else soft (-t)) = Ideal.ofBits .f32 2139095040#32)] :
    -(-Ideal.div d (Ideal.ofBits .f32 0x41800000#32) * Ideal.exp ((if -t = Ideal.ofBits .f32 2139095040#32 then 0 else -t)
      - if (if -t ≠ -t then -t else soft (-t)) = Ideal.ofBits .f32 2139095040#32 then 0 else if -t ≠ -t then -t else soft (-t)))
    = Ideal.div (d * Ideal.div 1 (1 + Ideal.exp (0 - (0 - t)))) (Ideal.ofBits .f32 0x41800000#32) := by
  rw [shifted, zero_sub, zero_sub, lit16, Ideal.div_coe (by norm_num), Ideal.div_coe (by norm_num), EReal.neg_mul, neg_neg,
    mul_right_comm]
  rfl

end Cert.Sigm

end
-- ==== Proof.GateBwd.lean ====
/-
  The gradients of the mixers' gated output, of the output and of the gate.
-/
module

public import proofs.«01_k».proof.Defs
public import proofs.«01_k».proof.Proof.Sigm
public import proofs.«01_k».proof.Proof.Gen.Kernel10Ideal.Value
public import proofs.«01_k».proof.Proof.Gen.Reference10Ideal.Run
public import proofs.«01_k».proof.Proof.Finite
public import proofs.«01_k».proof.Proof.Gen.Pre_finite10
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.GateBwd

open Cert.Kernel10Ideal Cert.Kernel10Ideal.Gen Cert.Kernel10Ideal.Value Cert.Sigm

/-- The claim: the kernel's gradients are the reference's. -/
theorem algebraic : Cert.algebraic_Kernel10Ideal_Reference10Ideal_pre_finite10 (hKernel10Ideal := Cert.Kernel10Ideal.Gen.facts)
    (hReference10Ideal := Cert.Reference10Ideal.Gen.facts) (hPre_finite10 := Cert.Pre_finite10.Gen.facts) := by
  intro m g m' g' hpre hargs
  refine ⟨fun c => G3 (m ((c : Thread nD τ).loc main_arg1)) (m ((c : Thread nD τ).loc main_arg2)),
    fun c => G4 (m ((c : Thread nD τ).loc main_arg1)) (m ((c : Thread nD τ).loc main_arg2)) (m ((c : Thread nD τ).loc main_arg0)),
    run (F := Ideal) m g, ?_⟩
  refine (θ_run (Cert.Reference10Ideal.defs (F := Ideal)) _ _).mono (fun r h c => ?_) (Cert.Reference10Ideal.Value.run (F := Ideal) m' g')
  obtain ⟨h0, h1, hrest⟩ := h c
  obtain ⟨e0, e1, e2⟩ := hargs c
  refine ⟨h0.trans ?_, h1.trans ?_, hrest⟩
  all_goals clear hrest h0 h1
  all_goals simp only [e0, e1, e2]
  all_goals have hc := hpre c
  all_goals clear e0 e1 e2 hpre hargs h
  all_goals revert hc
  all_goals generalize m ((c : Thread nD τ).loc main_arg0) = x0
  all_goals generalize m ((c : Thread nD τ).loc main_arg1) = x1
  all_goals generalize m ((c : Thread nD τ).loc main_arg2) = x2
  all_goals intro hc
  · funext i
    simp only [G3]
    pointwise []
    exact gate_out _ _
  · obtain ⟨r0, r2⟩ := Finite.split (congrFun hc Finite.i0)
    funext i
    obtain ⟨a, ha⟩ := Finite.real_of_lt x0 _ _ _ _ r0 i
    obtain ⟨b, hb⟩ := Finite.real_of_lt x2 _ _ _ _ r2 i
    simp only [G4]
    pointwise []
    rw [ha, hb]
    exact gate_grad a b _

end Cert.GateBwd

end
-- ==== Proof.RowNorm.lean ====
/-
  The gradient of a row's normalisation, and sums over blocks of rows.
-/
module

public import Idealize.ShloMosaic.Lib.Pointwise
public import proofs.«01_k».proof.Proof.Model

@[expose] public section

noncomputable section

open Idealize.ShloMosaic

namespace Cert.RowNorm

/-- A sum over all rows is the sum over the blocks of each block's sum. -/
theorem sum_blocks (a b : Nat) (f : Fin (a * b) → EReal) :
    ∑ i, f i = ∑ k : Fin a, ∑ r : Fin b, f ⟨k.val * b + r.val, by
      have := k.isLt; have := r.isLt
      calc k.val * b + r.val < k.val * b + b := by omega
        _ = (k.val + 1) * b := by ring
        _ ≤ a * b := Nat.mul_le_mul_right _ (by omega)⟩ := by
  rw [← Fintype.sum_prod_type', ← Equiv.sum_comp finProdFinEquiv f]
  refine Finset.sum_congr rfl fun p _ => congrArg f (Fin.ext ?_)
  show p.2.val + b * p.1.val = p.1.val * b + p.2.val
  ring

theorem lit2048 : Ideal.ofBits .f32 1157627904#32 = ((2048 : ℝ) : EReal) := by
  simp [Ideal.ofBits, Ideal.ieee]
  rw [← EReal.coe_mul]
  norm_num
theorem lit768 : Ideal.ofBits .f32 0x44400000#32 = ((768 : ℝ) : EReal) := by
  simp [Ideal.ofBits, Ideal.ieee]
  rw [← EReal.coe_mul]
  norm_num
theorem litHalf : Ideal.ofBits .f32 3204448256#32 = ((-(1/2) : ℝ) : EReal) := by
  simp [Ideal.ofBits, Ideal.ieee]
  rw [← EReal.coe_mul]
  norm_num
theorem litEps : ∃ ε : ℝ, 0 < ε ∧ Ideal.ofBits .f32 897988541#32 = (ε : EReal) := by
  refine ⟨8796093 * (2 ^ 43)⁻¹, by positivity, ?_⟩
  simp [Ideal.ofBits, Ideal.ieee]

/-- One over the root of a row's mean square and a little more. -/
def rstd {n : Nat} (N : EReal) (x : Fin n → EReal) : EReal :=
  Ideal.rsqrt (Ideal.div (∑ k, x k * x k) N + Ideal.ofBits .f32 897988541#32)

/-- For real entries it is real, its square being the inverse of what it is taken of. -/
theorem rstd_real {n : Nat} (x : Fin n → ℝ) {N : ℝ} (hN : 0 < N) : ∃ a r : ℝ, 0 < a ∧ r * r * a = 1
    ∧ Ideal.div (∑ k, (x k : EReal) * (x k : EReal)) (N : EReal) + Ideal.ofBits .f32 897988541#32 = (a : EReal)
    ∧ rstd (N : EReal) (fun k => (x k : EReal)) = (r : EReal) := by
  obtain ⟨ε, hε, e⟩ := litEps
  have ha : 0 < (∑ k, x k * x k) * (1 / N) + ε := by
    have : 0 ≤ ∑ k, x k * x k := Finset.sum_nonneg fun k _ => mul_self_nonneg _
    positivity
  have h : Ideal.div (∑ k, (x k : EReal) * (x k : EReal)) (N : EReal) + Ideal.ofBits .f32 897988541#32
      = (((∑ k, x k * x k) * (1 / N) + ε : ℝ) : EReal) := by
    rw [e, Ideal.div_coe hN.ne']
    simp only [← EReal.coe_mul, Cert.Attn.coe_sum, ← EReal.coe_add]
  refine ⟨_, (Real.sqrt ((∑ k, x k * x k) * (1 / N) + ε))⁻¹, ha, ?_, h, ?_⟩
  · rw [← mul_inv, Real.mul_self_sqrt ha.le, inv_mul_cancel₀ ha.ne']
  · unfold rstd
    rw [h, Ideal.rsqrt_coe, if_neg ha.not_gt, if_neg ha.ne']

/-- A nonnegative real factor comes out of a sum. -/
theorem sum_mul_real {n : Nat} (f : Fin n → EReal) {r : ℝ} (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.2 hr) (EReal.coe_ne_top r)]

/-- Twice a product with a real, in one product. -/
theorem twice (S : EReal) (κ : ℝ) : S * (κ : EReal) + S * (κ : EReal) = S * ((2 * κ : ℝ) : EReal) := by
  have h : ∀ z : EReal, z + z = (2 : ℝ) * z := fun z => by
    have := EReal.right_distrib_of_nonneg (a := 1) (b := 1) (c := z) zero_le_one zero_le_one
    rw [one_mul] at this
    rw [← this, one_add_one_eq_two]; rfl
  rw [h, mul_left_comm, EReal.coe_mul]

theorem self_nonneg (y : EReal) : 0 ≤ y * y := by
  induction y using EReal.rec with
  | bot => simp
  | top => simp
  | coe r => rw [← EReal.coe_mul]; exact EReal.coe_nonneg.2 (mul_self_nonneg r)

/-- A row is real, or the sum of its squares is infinite. -/
theorem real_or_top {n : Nat} (x : Fin n → EReal) : (∀ k, ∃ r : ℝ, x k = (r : EReal)) ∨ ∑ k, x k * x k = ⊤ := by
  by_cases h : ∀ k, ∃ r : ℝ, x k = (r : EReal)
  · exact Or.inl h
  · refine Or.inr ?_
    obtain ⟨j, hj⟩ := not_forall.1 h
    have ht : x j * x j = ⊤ := by
      induction hx : x j using EReal.rec with
      | bot => simp
      | top => simp
      | coe r => exact absurd ⟨r, hx⟩ hj
    rw [← Finset.add_sum_erase _ _ (Finset.mem_univ j), ht]
    exact EReal.top_add_of_ne_bot (ne_bot_of_le_ne_bot EReal.zero_ne_bot (Finset.sum_nonneg fun k _ => self_nonneg (x k)))

/-- The inverse root is a nonnegative real, and the coefficient of the reference's derivative of the mean square is minus
    half its cube. -/
theorem rstd_cases {n : Nat} (x : Fin n → EReal) {N : ℝ} (hN : 0 < N) : ∃ r : ℝ, 0 ≤ r ∧ rstd (N : EReal) x = (r : EReal)
    ∧ Ideal.ofBits .f32 3204448256#32 * Ideal.div (rstd (N : EReal) x)
        (Ideal.div (∑ k, x k * x k) N + Ideal.ofBits .f32 897988541#32) = ((-(1/2) * (r * r * r) : ℝ) : EReal)
    ∧ (r = 0 ∨ ∀ k, ∃ u : ℝ, x k = (u : EReal)) := by
  rcases real_or_top x with h | h
  · choose u hu using h
    obtain rfl : x = fun k => (u k : EReal) := funext hu
    obtain ⟨a, r, ha, h1, h2, h3⟩ := rstd_real u hN
    have h4 : 1 / a = r * r := by field_simp; linarith
    have h0 : 0 ≤ r := by
      obtain ⟨ε, hε, e⟩ := litEps
      unfold rstd at h3
      rw [h2, Ideal.rsqrt_coe, if_neg ha.not_gt, if_neg ha.ne', EReal.coe_eq_coe_iff] at h3
      rw [← h3]; positivity
    refine ⟨r, h0, h3, ?_, Or.inr fun k => ⟨u k, rfl⟩⟩
    rw [h2, h3, litHalf, Ideal.div_coe ha.ne', h4, ← EReal.coe_mul, ← EReal.coe_mul]
    exact congrArg _ (by ring)
  · obtain ⟨ε, hε, e⟩ := litEps
    have ht : Ideal.div (∑ k, x k * x k) (N : EReal) + Ideal.ofBits .f32 897988541#32 = ⊤ := by
      rw [h, Ideal.div_coe hN.ne', EReal.top_mul_coe_of_pos (by positivity), e]
      exact EReal.top_add_coe ε
    have h3 : rstd (N : EReal) x = ((0 : ℝ) : EReal) := by
      unfold rstd
      rw [ht]; rfl
    refine ⟨0, le_rfl, h3, ?_, Or.inl rfl⟩
    rw [ht, h3, Ideal.div, if_neg EReal.top_ne_zero]
    simp

/-- The gradient of a normalised row in the kernel's form and in the reference's, over a term that both add. The reference
    adds the derivative of the mean square twice, once for each factor of the square. -/
theorem grad_row {n : Nat} (x P : Fin n → EReal) {N : ℝ} (hN : 0 < N) (d : EReal) (e : Fin n) :
    d + P e * rstd N x
      + x e * ∑ _k : Fin 1, Ideal.div ((∑ k, x k * P k) * (Ideal.ofBits .f32 3204448256#32 * Ideal.div (rstd N x)
          (Ideal.div (∑ k, x k * x k) N + Ideal.ofBits .f32 897988541#32))) N
      + (∑ _k : Fin 1, Ideal.div ((∑ k, x k * P k) * (Ideal.ofBits .f32 3204448256#32 * Ideal.div (rstd N x)
          (Ideal.div (∑ k, x k * x k) N + Ideal.ofBits .f32 897988541#32))) N) * x e
      = d + rstd N x * (P e - x e * rstd N x * Ideal.div (∑ k, P k * (x k * rstd N x)) N) := by
  obtain ⟨r, hr, h1, h2, h3⟩ := rstd_cases x hN
  rw [h2, h1, Fin.sum_univ_one]
  have hs : ∑ k, P k * (x k * (r : EReal)) = (∑ k, x k * P k) * (r : EReal) := by
    rw [← sum_mul_real _ hr]
    exact Finset.sum_congr rfl fun k _ => by rw [← mul_assoc, mul_comm (P k)]
  rw [hs]
  generalize ∑ k, x k * P k = S
  rw [Ideal.div_coe hN.ne', Ideal.div_coe hN.ne', mul_comm (S * _ * _) (x e), add_assoc, add_assoc]
  refine congrArg (d + ·) ?_
  rcases h3 with h3 | h3
  · subst h3
    simp
  · obtain ⟨u, hu⟩ := h3 e
    rw [hu]
    have e1 : (u : EReal) * (S * ((-(1/2) * (r * r * r) : ℝ) : EReal) * ((1 / N : ℝ) : EReal))
        = S * ((u * (-(1/2) * (r * r * r)) * (1 / N) : ℝ) : EReal) := by
      rw [EReal.coe_mul (u * _), EReal.coe_mul u]; ac_rfl
    have e2 : (u : EReal) * (r : EReal) * (S * (r : EReal) * ((1 / N : ℝ) : EReal)) = S * ((u * r * r * (1 / N) : ℝ) : EReal) := by
      rw [EReal.coe_mul, EReal.coe_mul, EReal.coe_mul]; ac_rfl
    rw [e1, e2, twice, sub_eq_add_neg, EReal.left_distrib_of_nonneg_of_ne_top (EReal.coe_nonneg.2 hr) (EReal.coe_ne_top r),
      mul_comm (P e), ← mul_neg, ← EReal.coe_neg, mul_left_comm (r : EReal) S,
      ← EReal.coe_mul]
    exact congrArg (fun z : ℝ => (r : EReal) * P e + S * (z : EReal)) (by ring)

/-- What carries over from point to point, each point adding its own part, is the sum of the parts. -/
theorem accum (P p : Nat → EReal) (h0 : P 0 = p 0) (n : Nat) (hs : ∀ k, k < n → P (k + 1) = P k + p (k + 1)) :
    P n = ∑ k : Fin (n + 1), p k.val := by
  induction n with
  | zero => rw [h0, Fin.sum_univ_one]; rfl
  | succ n ih =>
    rw [hs n (by omega), ih fun k hk => hs k (by omega)]
    exact (Fin.sum_univ_castSucc fun k : Fin (n + 1 + 1) => p k.val).symm

end Cert.RowNorm
-- ==== Proof.ModBwd.lean ====
/-
  The gradients of a layer's input, of its norm's gain and of the modulation.
-/
module

public import proofs.«01_k».proof.Defs
public import proofs.«01_k».proof.Proof.RowNorm
public import proofs.«01_k».proof.Proof.Gen.Kernel11Ideal
public import proofs.«01_k».proof.Proof.Gen.Kernel11Ideal.Frame
public import proofs.«01_k».proof.Proof.Gen.Reference11Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ModBwd

open Cert.Kernel11Ideal Cert.Kernel11Ideal.Gen Cert.RowNorm

/-- The length of a row. -/
abbrev two : EReal := Ideal.ofBits .f32 1157627904#32

/-- The gradient of a normalised row, in the kernel's form. -/
def normGrad (x P : Fin 2048 → EReal) (e : Fin 2048) : EReal :=
  rstd two x * (P e - x e * rstd two x * Ideal.div (∑ k, P k * (x k * rstd two x)) two)

/-! ## One block -/

theorem pay8_apply (x : Vec Ideal S256x2048 .f32) (r : Fin 256) (e : Fin 2048) :
    k0_pay8 (F := Ideal) x (ix2 r e) = x (ix2 r e) * rstd two (fun k => x (ix2 r k)) := by
  unfold rstd two
  pointwise [k0_pay8, k0_pay7]
theorem pay7_apply (x : Vec Ideal S256x2048 .f32) (r : Fin 256) :
    k0_pay7 (F := Ideal) x (ix2 r 0) = rstd two (fun k => x (ix2 r k)) := by
  unfold rstd two
  pointwise [k0_pay7]
theorem pay9_apply (dh : Vec Ideal S256x2048 .f32) (sc : Vec Ideal S1x2048 .f32) (r : Fin 256) (e : Fin 2048) :
    k0_pay9 (F := Ideal) dh sc (ix2 r e) = dh (ix2 r e) * (1 + sc (ix2 0 e)) := by
  pointwise [k0_pay9]
theorem pay10_apply (x dh : Vec Ideal S256x2048 .f32) (g sc : Vec Ideal S1x2048 .f32) (r : Fin 256) (e : Fin 2048) :
    k0_pay10 (F := Ideal) x dh g sc (ix2 r e)
      = normGrad (fun k => x (ix2 r k)) (fun k => dh (ix2 r k) * (1 + sc (ix2 0 k)) * g (ix2 0 k)) e := by
  refine Eq.trans (?_ : _ = k0_pay7 (F := Ideal) x (ix2 r 0) * (k0_pay9 (F := Ideal) dh sc (ix2 r e) * g (ix2 0 e)
    - k0_pay8 (F := Ideal) x (ix2 r e) * Ideal.div (∑ k, k0_pay9 (F := Ideal) dh sc (ix2 r k) * g (ix2 0 k) * k0_pay8 (F := Ideal) x (ix2 r k)) two)) ?_
  · unfold two
    pointwise [k0_pay10, k0_pay6]
  · simp only [pay7_apply, pay8_apply, pay9_apply]
    rfl
/-- A block's part of the gain's gradient. -/
theorem pay11_apply (x dh : Vec Ideal S256x2048 .f32) (sc : Vec Ideal S1x2048 .f32) (e : Fin 2048) :
    k0_pay11 (F := Ideal) x dh sc (ix2 0 e)
      = ∑ r : Fin 256, dh (ix2 r e) * (1 + sc (ix2 0 e)) * (x (ix2 r e) * rstd two (fun k => x (ix2 r k))) := by
  refine Eq.trans (?_ : _ = ∑ r : Fin 256, k0_pay9 (F := Ideal) dh sc (ix2 r e) * k0_pay8 (F := Ideal) x (ix2 r e)) ?_
  · delta k0_pay11
    pointwise []
  · simp only [pay8_apply, pay9_apply]
/-- A block's part of the scale's gradient. -/
theorem pay2_apply (x dh : Vec Ideal S256x2048 .f32) (g : Vec Ideal S1x2048 .f32) (e : Fin 2048) :
    k0_pay2 (F := Ideal) dh (k0_pay6 (F := Ideal) g) (k0_pay8 (F := Ideal) x) (ix2 0 e)
      = ∑ r : Fin 256, dh (ix2 r e) * (x (ix2 r e) * rstd two (fun k => x (ix2 r k)) * g (ix2 0 e)) := by
  refine Eq.trans (?_ : _ = ∑ r : Fin 256, dh (ix2 r e) * (k0_pay8 (F := Ideal) x (ix2 r e) * g (ix2 0 e))) ?_
  · pointwise [k0_pay2, k0_pay6]
  · simp only [pay8_apply]
/-- A block's part of the shift's gradient. -/
theorem pay4_apply (dh : Vec Ideal S256x2048 .f32) (e : Fin 2048) :
    k0_pay4 (F := Ideal) dh (ix2 0 e) = ∑ r : Fin 256, dh (ix2 r e) := by
  pointwise [k0_pay4]
theorem pay1_apply (a b : Vec Ideal S1x2048 .f32) (y : S1x2048.Idx) : k0_pay1 (F := Ideal) a b y = b y + a y := by
  pointwise [k0_pay1]
theorem pay3_apply (dh : Vec Ideal S256x2048 .f32) (g b : Vec Ideal S1x2048 .f32) (xh : Vec Ideal S256x2048 .f32) (y : S1x2048.Idx) :
    k0_pay3 (F := Ideal) dh g xh b y = b y + k0_pay2 (F := Ideal) dh g xh y := by
  delta k0_pay3
  pointwise []
theorem pay5_apply (dh : Vec Ideal S256x2048 .f32) (b : Vec Ideal S1x2048 .f32) (y : S1x2048.Idx) :
    k0_pay5 (F := Ideal) dh b y = b y + k0_pay4 (F := Ideal) dh y := by
  delta k0_pay5
  pointwise []

/-! ## The blocks -/

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] :=
  (by decide +kernel : ∀ t : Fin grid0.N, _)

variable (m : (ℓ : Loc nD τ sig) → Buf (Elt Ideal) ℓ) (c : Dev nD) (t : Fin cfg0.N)

theorem lt_N : t.val < 8 := lt_of_lt_of_eq t.isLt (show cfg0.N = 8 from N_0)

abbrev a0 : FVec Ideal S2048x2048 .f32 := m ((c : Thread nD τ).loc main_arg0)
abbrev a1 : FVec Ideal S2048 .f32 := m ((c : Thread nD τ).loc main_arg1)
abbrev a2 : FVec Ideal S2048 .f32 := m ((c : Thread nD τ).loc main_arg2)
abbrev a4 : FVec Ideal S2048x2048 .f32 := m ((c : Thread nD τ).loc main_arg4)
abbrev a5 : FVec Ideal S2048x2048 .f32 := m ((c : Thread nD τ).loc main_arg5)

/-- The row of the whole array that is row `r` of point `t`'s block. -/
def row (r : Fin 256) : Fin 2048 := ⟨t.val * 256 + r.val, by have := lt_N t; omega⟩

theorem gain : V m c main_v0 = broadcastInDim S1x2048 ![1] bcast_S2048_S1x2048_1 (a1 m c) := by
  simp only [V, V0, hostOps0, List.flatten_cons, List.flatten_nil, List.append_nil]; after_results_simp
theorem scale : V m c main_v1 = broadcastInDim S1x2048 ![1] bcast_S2048_S1x2048_1 (a2 m c) := by
  simp only [V, V0, hostOps0, List.flatten_cons, List.flatten_nil, List.append_nil]; after_results_simp

theorem blk0 (r : Fin 256) (e : Fin 2048) : iblk m c 0 t (ix2 r e) = a0 m c (ix2 (row t r) e) := by
  have := lt_N t
  have e0 := (idx t).1
  refine Eq.trans (b := V m c main_arg0 (ix2 (row t r) e)) ?_ (congrFun (V_main_arg0 m c) _)
  blk_ext [iblk, e0, row]
theorem blk1 (r : Fin 256) (e : Fin 2048) : iblk m c 1 t (ix2 r e) = a4 m c (ix2 (row t r) e) := by
  have := lt_N t
  have e0 := (idx t).2.1
  refine Eq.trans (b := V m c main_arg4 (ix2 (row t r) e)) ?_ (congrFun (V_main_arg4 m c) _)
  blk_ext [iblk, e0, row]
theorem blk2 (e : Fin 2048) : iblk m c 2 t (ix2 0 e) = a1 m c (ix1 e) := by
  have e0 := (idx t).2.2.1
  refine Eq.trans (b := V m c main_v0 (ix2 0 e)) ?_ ((congrFun (gain m c) _).trans (by pointwise []))
  blk_ext [iblk, e0]
theorem blk3 (e : Fin 2048) : iblk m c 3 t (ix2 0 e) = a2 m c (ix1 e) := by
  have e0 := (idx t).2.2.2.1
  refine Eq.trans (b := V m c main_v1 (ix2 0 e)) ?_ ((congrFun (scale m c) _).trans (by pointwise []))
  blk_ext [iblk, e0]

/-! ## What each point leaves -/

/-- Point `k`'s part of the three vectors' gradients, at column `e` (nothing past the last point). -/
def part5 (e : Fin 2048) (k : Nat) : EReal := if h : k < cfg0.N then
  ∑ r : Fin 256, a4 m c (ix2 (row ⟨k, h⟩ r) e) * (1 + a2 m c (ix1 e)) * (a0 m c (ix2 (row ⟨k, h⟩ r) e) * rstd two (fun j => a0 m c (ix2 (row ⟨k, h⟩ r) j))) else 0
def part6 (e : Fin 2048) (k : Nat) : EReal := if h : k < cfg0.N then
  ∑ r : Fin 256, a4 m c (ix2 (row ⟨k, h⟩ r) e) * (a0 m c (ix2 (row ⟨k, h⟩ r) e) * rstd two (fun j => a0 m c (ix2 (row ⟨k, h⟩ r) j)) * a1 m c (ix1 e)) else 0
def part7 (e : Fin 2048) (k : Nat) : EReal := if h : k < cfg0.N then ∑ r : Fin 256, a4 m c (ix2 (row ⟨k, h⟩ r) e) else 0

theorem own5 (e : Fin 2048) : k0_pay11 (F := Ideal) (iblk m c 0 t) (iblk m c 1 t) (iblk m c 3 t) (ix2 0 e) = part5 m c e t.val := by
  refine (pay11_apply _ _ _ e).trans ?_
  rw [part5, dif_pos t.isLt]
  simp only [blk0, blk1, blk3]
theorem own6 (e : Fin 2048) : k0_pay2 (F := Ideal) (iblk m c 1 t) (k0_pay6 (F := Ideal) (iblk m c 2 t)) (k0_pay8 (F := Ideal) (iblk m c 0 t)) (ix2 0 e) = part6 m c e t.val := by
  refine (pay2_apply _ _ _ e).trans ?_
  rw [part6, dif_pos t.isLt]
  simp only [blk0, blk1, blk2]
theorem own7 (e : Fin 2048) : k0_pay4 (F := Ideal) (iblk m c 1 t) (ix2 0 e) = part7 m c e t.val := by
  refine (pay4_apply _ e).trans ?_
  rw [part7, dif_pos t.isLt]
  simp only [blk1]

theorem first (h : t.val = 0) (e : Fin 2048) : (outsAt0 m c t.val t.isLt).2.1 (ix2 0 e) = part5 m c e t.val
    ∧ (outsAt0 m c t.val t.isLt).2.2.1 (ix2 0 e) = part6 m c e t.val ∧ (outsAt0 m c t.val t.isLt).2.2.2 (ix2 0 e) = part7 m c e t.val := by
  rw [outsAt0_A m c t (by omega) (by omega) (by omega) (by omega) (by omega) (by omega)]
  dsimp only
  refine ⟨?_, ?_, ?_⟩
  · refine Eq.trans ?_ (own5 m c t e)
    frame_out
  · refine Eq.trans ?_ (own6 m c t e)
    frame_out
  · refine Eq.trans ?_ (own7 m c t e)
    frame_out

theorem next (h : t.val ≠ 0) (e : Fin 2048) :
    (outsAt0 m c t.val t.isLt).2.1 (ix2 0 e) = (outsAt0 m c (t.val - 1) (Nat.lt_of_le_of_lt (Nat.sub_le _ _) t.isLt)).2.1 (ix2 0 e) + part5 m c e t.val
    ∧ (outsAt0 m c t.val t.isLt).2.2.1 (ix2 0 e) = (outsAt0 m c (t.val - 1) (Nat.lt_of_le_of_lt (Nat.sub_le _ _) t.isLt)).2.2.1 (ix2 0 e) + part6 m c e t.val
    ∧ (outsAt0 m c t.val t.isLt).2.2.2 (ix2 0 e) = (outsAt0 m c (t.val - 1) (Nat.lt_of_le_of_lt (Nat.sub_le _ _) t.isLt)).2.2.2 (ix2 0 e) + part7 m c e t.val := by
  have := lt_N t
  rw [outsAt0_B m c t (by omega) (by omega) (by omega) (by omega) (by omega) (by omega)]
  dsimp only
  generalize outsAt0 m c (t.val - 1) _ = w
  refine ⟨?_, ?_, ?_⟩
  · refine Eq.trans ?_ (congrArg (w.2.1 (ix2 0 e) + ·) (own5 m c t e))
    frame_out
    exact pay1_apply _ _ _
  · refine Eq.trans ?_ (congrArg (w.2.2.1 (ix2 0 e) + ·) (own6 m c t e))
    frame_out
    exact pay3_apply _ _ _ _ _
  · refine Eq.trans ?_ (congrArg (w.2.2.2 (ix2 0 e) + ·) (own7 m c t e))
    frame_out
    exact pay5_apply _ _ _

/-- What point `k` leaves in the three vectors' blocks, at column `e`. -/
def left5 (e : Fin 2048) (k : Nat) : EReal := if h : k < cfg0.N then (outsAt0 m c k h).2.1 (ix2 0 e) else 0
def left6 (e : Fin 2048) (k : Nat) : EReal := if h : k < cfg0.N then (outsAt0 m c k h).2.2.1 (ix2 0 e) else 0
def left7 (e : Fin 2048) (k : Nat) : EReal := if h : k < cfg0.N then (outsAt0 m c k h).2.2.2 (ix2 0 e) else 0

theorem sums (e : Fin 2048) : (outsAt0 m c t.val t.isLt).2.1 (ix2 0 e) = ∑ k : Fin (t.val + 1), part5 m c e k.val
    ∧ (outsAt0 m c t.val t.isLt).2.2.1 (ix2 0 e) = ∑ k : Fin (t.val + 1), part6 m c e k.val
    ∧ (outsAt0 m c t.val t.isLt).2.2.2 (ix2 0 e) = ∑ k : Fin (t.val + 1), part7 m c e k.val := by
  have h8 : cfg0.N = 8 := N_0
  have ht := t.isLt
  have z : 0 < cfg0.N := by omega
  refine ⟨?_, ?_, ?_⟩
  · refine Eq.trans (b := left5 m c e t.val) (by rw [left5, dif_pos t.isLt]) (accum _ _ ?_ _ fun k hk => ?_)
    · rw [left5, dif_pos z]; exact (first m c ⟨0, z⟩ rfl e).1
    · rw [left5, left5, dif_pos (by omega : k + 1 < cfg0.N), dif_pos (by omega : k < cfg0.N)]
      exact (next m c ⟨k + 1, by omega⟩ (by simp) e).1
  · refine Eq.trans (b := left6 m c e t.val) (by rw [left6, dif_pos t.isLt]) (accum _ _ ?_ _ fun k hk => ?_)
    · rw [left6, dif_pos z]; exact (first m c ⟨0, z⟩ rfl e).2.1
    · rw [left6, left6, dif_pos (by omega : k + 1 < cfg0.N), dif_pos (by omega : k < cfg0.N)]
      exact (next m c ⟨k + 1, by omega⟩ (by simp) e).2.1
  · refine Eq.trans (b := left7 m c e t.val) (by rw [left7, dif_pos t.isLt]) (accum _ _ ?_ _ fun k hk => ?_)
    · rw [left7, dif_pos z]; exact (first m c ⟨0, z⟩ rfl e).2.2
    · rw [left7, left7, dif_pos (by omega : k + 1 < cfg0.N), dif_pos (by omega : k < cfg0.N)]
      exact (next m c ⟨k + 1, by omega⟩ (by simp) e).2.2

theorem left4 (r : Fin 256) (e : Fin 2048) : (outsAt0 m c t.val t.isLt).1 (ix2 r e)
    = normGrad (fun k => a0 m c (ix2 (row t r) k)) (fun k => a4 m c (ix2 (row t r) k) * (1 + a2 m c (ix1 k)) * a1 m c (ix1 k)) e := by
  refine Eq.trans (b := k0_pay10 (F := Ideal) (iblk m c 0 t) (iblk m c 1 t) (iblk m c 2 t) (iblk m c 3 t) (ix2 r e)) ?_ ?_
  · have := lt_N t
    by_cases h : t.val = 0
    · rw [outsAt0_A m c t (by omega) (by omega) (by omega) (by omega) (by omega) (by omega)]
      frame_out
    · rw [outsAt0_B m c t (by omega) (by omega) (by omega) (by omega) (by omega) (by omega)]
      frame_out
  · refine (pay10_apply _ _ _ _ r e).trans ?_
    simp only [blk0, blk1, blk2, blk3]

/-! ## The arrays the call leaves -/

def outDx (x dh : FVec Ideal S2048x2048 .f32) (g sc : FVec Ideal S2048 .f32) : FVec Ideal S2048x2048 .f32 := fun i =>
  normGrad (fun k => x (ix2 (i 0) k)) (fun k => dh (ix2 (i 0) k) * (1 + sc (ix1 k)) * g (ix1 k)) (i 1)
def outDg (x dh : FVec Ideal S2048x2048 .f32) (sc : FVec Ideal S2048 .f32) : FVec Ideal S1x2048 .f32 := fun i =>
  ∑ r : Fin 2048, dh (ix2 r (i 1)) * (1 + sc (ix1 (i 1))) * (x (ix2 r (i 1)) * rstd two (fun j => x (ix2 r j)))
def outDscale (x dh : FVec Ideal S2048x2048 .f32) (g : FVec Ideal S2048 .f32) : FVec Ideal S1x2048 .f32 := fun i =>
  ∑ r : Fin 2048, dh (ix2 r (i 1)) * (x (ix2 r (i 1)) * rstd two (fun j => x (ix2 r j)) * g (ix1 (i 1)))
def outDshift (dh : FVec Ideal S2048x2048 .f32) : FVec Ideal S1x2048 .f32 := fun i => ∑ r : Fin 2048, dh (ix2 r (i 1))

theorem emb4 (r : Fin 256) (e : Fin 2048) : ((cfg0.win 4).blk t).view.emb (ix2 r e) = ix2 (row t r) e := by
  have e0 := (idx t).2.2.2.2.1
  funext a; apply Fin.ext
  match a with
  | ⟨0, _⟩ =>
    show win0_4.index t 0 * 256 + 1 * r.val = t.val * 256 + r.val
    rw [e0]; show t.val * 256 + 1 * r.val = _; omega
  | ⟨1, _⟩ =>
    show win0_4.index t 1 * 2048 + 1 * e.val = e.val
    rw [e0]; show 0 * 2048 + 1 * e.val = _; omega
theorem emb5 (e : Fin 2048) : ((cfg0.win 5).blk t).view.emb (ix2 0 e) = ix2 0 e := by
  have e0 := (idx t).2.2.2.2.2.1
  funext a; apply Fin.ext
  match a with
  | ⟨0, _⟩ =>
    show win0_5.index t 0 * 1 + 1 * 0 = 0
    rw [e0]; rfl
  | ⟨1, _⟩ =>
    show win0_5.index t 1 * 2048 + 1 * e.val = e.val
    rw [e0]; show 0 * 2048 + 1 * e.val = _; omega
theorem emb6 (e : Fin 2048) : ((cfg0.win 6).blk t).view.emb (ix2 0 e) = ix2 0 e := by
  have e0 := (idx t).2.2.2.2.2.2.1
  funext a; apply Fin.ext
  match a with
  | ⟨0, _⟩ =>
    show win0_6.index t 0 * 1 + 1 * 0 = 0
    rw [e0]; rfl
  | ⟨1, _⟩ =>
    show win0_6.index t 1 * 2048 + 1 * e.val = e.val
    rw [e0]; show 0 * 2048 + 1 * e.val = _; omega
theorem emb7 (e : Fin 2048) : ((cfg0.win 7).blk t).view.emb (ix2 0 e) = ix2 0 e := by
  have e0 := (idx t).2.2.2.2.2.2.2
  funext a; apply Fin.ext
  match a with
  | ⟨0, _⟩ =>
    show win0_7.index t 0 * 1 + 1 * 0 = 0
    rw [e0]; rfl
  | ⟨1, _⟩ =>
    show win0_7.index t 1 * 2048 + 1 * e.val = e.val
    rw [e0]; show 0 * 2048 + 1 * e.val = _; omega

theorem arr4 : (dats m 0 c).arrAt 4 cfg0.N = outDx (a0 m c) (a4 m c) (a1 m c) (a2 m c) := by
  refine (dats m 0 c).arrAt_eq_of_covers 4 _ (by decide +kernel) fun t hf y => ?_
  blk_simp; rw [after0_4]
  obtain ⟨r, e, rfl⟩ : ∃ (a : Fin 256) (b : Fin 2048), y = ix2 a b := ⟨y 0, y 1, eq_ix2 y⟩
  rw [emb4]
  exact left4 m c t r e

/-- The last point's sum over the points is the sum over all rows. -/
theorem all_rows (p : Nat → EReal) (f : Fin 2048 → EReal) (h7 : t.val = 7)
    (h : ∀ (k : Nat) (hk : k < cfg0.N), p k = ∑ r : Fin 256, f (row ⟨k, hk⟩ r)) :
    ∑ k : Fin (t.val + 1), p k.val = ∑ r, f r := by
  obtain ⟨n, hn⟩ := t
  obtain rfl : n = 7 := h7
  refine Eq.trans ?_ (sum_blocks 8 256 f).symm
  exact Finset.sum_congr rfl fun k _ => h k.val (lt_of_lt_of_eq k.isLt (show 8 = cfg0.N from N_0.symm))

theorem onto (y : S1x2048.Idx) : ∃ b : Fin 2048, y = ix2 0 b :=
  ⟨y 1, (eq_ix2 y).trans (congrArg (fun z : Fin 1 => (ix2 z (y 1 : Fin 2048) : S1x2048.Idx)) (Subsingleton.elim (α := Fin 1) (y 0) 0))⟩

theorem arr5 : (dats m 0 c).arrAt 5 cfg0.N = outDg (a0 m c) (a4 m c) (a2 m c) := by
  refine (dats m 0 c).arrAt_eq_of_covers 5 _ (by decide +kernel) fun t hf y => ?_
  blk_simp; rw [after0_5]
  obtain ⟨e, rfl⟩ := onto y
  rw [emb5]
  refine ((sums m c t e).1).trans (all_rows t _ _ (by have := (flush0_5 t).mp hf; have := lt_N t; omega) fun k hk => ?_)
  rw [part5, dif_pos hk]
  rfl
theorem arr6 : (dats m 0 c).arrAt 6 cfg0.N = outDscale (a0 m c) (a4 m c) (a1 m c) := by
  refine (dats m 0 c).arrAt_eq_of_covers 6 _ (by decide +kernel) fun t hf y => ?_
  blk_simp; rw [after0_6]
  obtain ⟨e, rfl⟩ := onto y
  rw [emb6]
  refine ((sums m c t e).2.1).trans (all_rows t _ _ (by have := (flush0_6 t).mp hf; have := lt_N t; omega) fun k hk => ?_)
  rw [part6, dif_pos hk]
  rfl
theorem arr7 : (dats m 0 c).arrAt 7 cfg0.N = outDshift (a4 m c) := by
  refine (dats m 0 c).arrAt_eq_of_covers 7 _ (by decide +kernel) fun t hf y => ?_
  blk_simp; rw [after0_7]
  obtain ⟨e, rfl⟩ := onto y
  rw [emb7]
  refine ((sums m c t e).2.2).trans (all_rows t _ _ (by have := (flush0_7 t).mp hf; have := lt_N t; omega) fun k hk => ?_)
  rw [part7, dif_pos hk]
  rfl

/-- The array the addition after the call leaves. -/
theorem arr_sum : Pipeline.afterTail₀ cfgs (dats m) 0 (V0 m) [hostOps1] c main_v4
    = addf (F := Ideal) (a5 m c) ((dats m 0 c).arrAt 4 cfg0.N) := by
  unfold Pipeline.afterTail₀
  simp only [hostOps1, List.flatten_cons, List.flatten_nil, List.append_nil]
  after_results_simp
  rw [Pipeline.withArrays_of_ne _ c (V0 m c) _ main_arg5 (by exact (by decide : ∀ w, Pipeline.arrRef spec0 w ≠ main_arg5))]
  have h := Pipeline.withArrays_arr spec0 (by decide : Function.Injective (Pipeline.arrRef spec0)) c (V0 m c)
    (fun w => (dats m 0 c).arrAt w cfg0.N) 4
  exact congrArg₂ (addf (F := Ideal)) (V_main_arg5 m c) h

/-- The run: the four results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v4) = addf (F := Ideal) (a5 m c) ((dats m 0 c).arrAt 4 cfg0.N)
      ∧ r.2.mem ((c.tc : Thread nD τ).loc main_v3_1) = (dats m 0 c).arrAt 5 cfg0.N
      ∧ r.2.mem ((c.tc : Thread nD τ).loc main_v3_2) = (dats m 0 c).arrAt 6 cfg0.N
      ∧ r.2.mem ((c.tc : Thread nD τ).loc main_v3_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (arr_sum m c), (h c).1 5, (h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩) (run_main m ρ)

/-- What reaches the normalised row. -/
def pull (x4 : FVec Ideal S2048x2048 .f32) (x2 x1 : FVec Ideal S2048 .f32) (r k : Fin 2048) : EReal :=
  x4 (ix2 r k) * (1 + x2 (ix1 k)) * x1 (ix1 k)

/-- The claim: the kernel's gradients are the reference's. -/
theorem algebraic : Cert.algebraic_Kernel11Ideal_Reference11Ideal (hKernel11Ideal := Cert.Kernel11Ideal.Gen.facts)
    (hReference11Ideal := Cert.Reference11Ideal.Gen.facts) := by
  intro m g m' g' hpre hargs
  refine ⟨fun c => addf (F := Ideal) (a5 m c) ((dats m 0 c).arrAt 4 cfg0.N), fun c => (dats m 0 c).arrAt 5 cfg0.N,
    fun c => (dats m 0 c).arrAt 6 cfg0.N, fun c => (dats m 0 c).arrAt 7 cfg0.N, run m g, ?_⟩
  refine (θ_run (Cert.Reference11Ideal.defs (F := Ideal)) _ _).mono (fun r h c => ?_) (Cert.Reference11Ideal.Value.run (F := Ideal) m' g')
  obtain ⟨h0, h1, h2, h3, hrest⟩ := h c
  obtain ⟨e0, e1, e2, e3, e4, e5⟩ := hargs c
  refine ⟨h0.trans (Eq.trans ?_ (congrArg (addf (F := Ideal) (a5 m c)) (arr4 m c)).symm), h1.trans (Eq.trans ?_ (arr5 m c).symm),
    h2.trans (Eq.trans ?_ (arr6 m c).symm), h3.trans (Eq.trans ?_ (arr7 m c).symm), hrest⟩
  all_goals clear hrest h0 h1 h2 h3
  all_goals try delta Cert.Reference11Ideal.Value.res_main_v54
  all_goals simp only [e0, e1, e2, e4, e5]
  all_goals clear e0 e1 e2 e3 e4 e5
  all_goals clear h hpre hargs
  all_goals simp only [a0, a1, a2, a4, a5]
  all_goals generalize m ((c : Thread nD τ).loc main_arg0) = x0
  all_goals generalize m ((c : Thread nD τ).loc main_arg1) = x1
  all_goals generalize m ((c : Thread nD τ).loc main_arg2) = x2
  all_goals generalize m ((c : Thread nD τ).loc main_arg4) = x4
  all_goals generalize m ((c : Thread nD τ).loc main_arg5) = x5
  all_goals have c4 : ∀ h, shapeCast (((c.tc : Thread Cert.Reference11Ideal.nD Cert.Reference11Ideal.τ).loc
      Cert.Reference11Ideal.main_arg0).ty.shape) x4 h = x4 := fun h => shapeCast_id x4 h
  · rw [c4]
    funext i
    obtain ⟨r, e, rfl⟩ : ∃ (a : Fin 2048) (b : Fin 2048), i = ix2 a b := ⟨i 0, i 1, eq_ix2 i⟩
    pointwise []
    have := grad_row (fun k => x0 (ix2 r k)) (pull x4 x2 x1 r) (N := 2048) (by norm_num) (x5 (ix2 r e)) e
    rw [← lit2048] at this
    exact this
  · funext i
    obtain ⟨e, rfl⟩ := onto i
    pointwise []
    refine (Fin.sum_univ_one _).trans (Finset.sum_congr rfl fun k _ => ?_)
    exact mul_comm (G := EReal) _ _
  · funext i
    obtain ⟨e, rfl⟩ := onto i
    pointwise []
    refine (Fin.sum_univ_one _).trans (Finset.sum_congr rfl fun k _ => ?_)
    exact mul_comm (G := EReal) _ _
  · funext i
    obtain ⟨e, rfl⟩ := onto i
    pointwise []
    exact Fin.sum_univ_one _

end Cert.ModBwd
-- ==== Proof.NormBwd.lean ====
/-
  The gradients of the norm of the latent attention's output, of what it normalises and of its gain.
-/
module

public import proofs.«01_k».proof.Defs
public import proofs.«01_k».proof.Proof.RowNorm
public import proofs.«01_k».proof.Proof.Gen.Kernel12Ideal.Value
public import proofs.«01_k».proof.Proof.Gen.Reference12Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.NormBwd

open Cert.Kernel12Ideal Cert.Kernel12Ideal.Gen Cert.Kernel12Ideal.Value Cert.RowNorm

/-- The length of a row. -/
abbrev len : EReal := Ideal.ofBits .f32 0x44400000#32

/-- The gradient of a normalised row, in the kernel's form. -/
def normGrad (x P : Fin 768 → EReal) (e : Fin 768) : EReal :=
  rstd len x * (P e - x e * rstd len x * Ideal.div (∑ k, P k * (x k * rstd len x)) len)

/-! ## One block -/

theorem pay3_apply (x : Vec Ideal S512x768 .f32) (r : Fin 512) (e : Fin 768) :
    k0_pay3 (F := Ideal) x (ix2 r e) = x (ix2 r e) * rstd len (fun k => x (ix2 r k)) := by
  unfold rstd len
  pointwise [k0_pay3, k0_pay2]
theorem pay2_apply (x : Vec Ideal S512x768 .f32) (r : Fin 512) :
    k0_pay2 (F := Ideal) x (ix2 r 0) = rstd len (fun k => x (ix2 r k)) := by
  unfold rstd len
  pointwise [k0_pay2]
theorem pay4_apply (x dy : Vec Ideal S512x768 .f32) (g : Vec Ideal S1x768 .f32) (r : Fin 512) (e : Fin 768) :
    k0_pay4 (F := Ideal) x dy g (ix2 r e) = normGrad (fun k => x (ix2 r k)) (fun k => dy (ix2 r k) * g (ix2 0 k)) e := by
  refine Eq.trans (?_ : _ = k0_pay2 (F := Ideal) x (ix2 r 0) * (dy (ix2 r e) * g (ix2 0 e)
    - k0_pay3 (F := Ideal) x (ix2 r e) * Ideal.div (∑ k, dy (ix2 r k) * g (ix2 0 k) * k0_pay3 (F := Ideal) x (ix2 r k)) len)) ?_
  · unfold len
    pointwise [k0_pay4]
  · simp only [pay2_apply, pay3_apply]
    rfl
/-- A block's part of the gain's gradient. -/
theorem pay5_apply (x dy : Vec Ideal S512x768 .f32) (e : Fin 768) :
    k0_pay5 (F := Ideal) x dy (ix2 0 e) = ∑ r : Fin 512, dy (ix2 r e) * (x (ix2 r e) * rstd len (fun k => x (ix2 r k))) := by
  refine Eq.trans (?_ : _ = ∑ r : Fin 512, dy (ix2 r e) * k0_pay3 (F := Ideal) x (ix2 r e)) ?_
  · delta k0_pay5
    pointwise []
  · simp only [pay3_apply]
theorem pay1_apply (a b : Vec Ideal S1x768 .f32) (y : S1x768.Idx) : k0_pay1 (F := Ideal) a b y = b y + a y := by
  pointwise [k0_pay1]

/-! ## The blocks -/

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD) (t : Fin cfg0.N)

theorem lt_N : t.val < 4 := lt_of_lt_of_eq t.isLt (show cfg0.N = 4 from N_0)

abbrev a0 : FVec Ideal S2048x768 .f32 := m ((c : Thread nD τ).loc main_arg0)
abbrev a1 : FVec Ideal S768 .f32 := m ((c : Thread nD τ).loc main_arg1)
abbrev a2 : FVec Ideal S2048x768 .f32 := m ((c : Thread nD τ).loc main_arg2)

/-- The row of the whole array that is row `r` of point `t`'s block. -/
def row (r : Fin 512) : Fin 2048 := ⟨t.val * 512 + r.val, by have := lt_N t; omega⟩

theorem gain : V m c main_v0 = broadcastInDim S1x768 ![1] bcast_S768_S1x768_1 (a1 m c) := by
  simp only [V, hostOps0, List.flatten_cons, List.flatten_nil, List.append_nil]; after_results_simp

theorem blk0 (r : Fin 512) (e : Fin 768) : iblk m c 0 t (ix2 r e) = a0 m c (ix2 (row t r) e) := by
  have := lt_N t
  have e0 := (idx t).1
  refine Eq.trans (b := V m c main_arg0 (ix2 (row t r) e)) ?_ (congrFun (V_main_arg0 m c) _)
  blk_ext [iblk, e0, row]
theorem blk1 (r : Fin 512) (e : Fin 768) : iblk m c 1 t (ix2 r e) = a2 m c (ix2 (row t r) e) := by
  have := lt_N t
  have e0 := (idx t).2.1
  refine Eq.trans (b := V m c main_arg2 (ix2 (row t r) e)) ?_ (congrFun (V_main_arg2 m c) _)
  blk_ext [iblk, e0, row]
theorem blk2 (e : Fin 768) : iblk m c 2 t (ix2 0 e) = a1 m c (ix1 e) := by
  have e0 := (idx t).2.2.1
  refine Eq.trans (b := V m c main_v0 (ix2 0 e)) ?_ ((congrFun (gain m c) _).trans (by pointwise []))
  blk_ext [iblk, e0]

/-! ## What each point leaves -/

/-- Point `k`'s part of the gain's gradient, at column `e` (nothing past the last point). -/
def part (e : Fin 768) (k : Nat) : EReal := if h : k < cfg0.N then
  ∑ r : Fin 512, a2 m c (ix2 (row ⟨k, h⟩ r) e) * (a0 m c (ix2 (row ⟨k, h⟩ r) e) * rstd len (fun j => a0 m c (ix2 (row ⟨k, h⟩ r) j))) else 0

theorem own (e : Fin 768) : k0_pay5 (F := Ideal) (iblk m c 0 t) (iblk m c 1 t) (ix2 0 e) = part m c e t.val := by
  refine (pay5_apply _ _ e).trans ?_
  rw [part, dif_pos t.isLt]
  simp only [blk0, blk1]

theorem first (h : t.val = 0) (e : Fin 768) : (outsAt0 m c t.val t.isLt).2 (ix2 0 e) = part m c e t.val := by
  rw [outsAt0_A m c t (by omega) (by omega)]
  refine Eq.trans ?_ (own m c t e)
  frame_out

theorem next (h : t.val ≠ 0) (e : Fin 768) : (outsAt0 m c t.val t.isLt).2 (ix2 0 e)
    = (outsAt0 m c (t.val - 1) (Nat.lt_of_le_of_lt (Nat.sub_le _ _) t.isLt)).2 (ix2 0 e) + part m c e t.val := by
  have := lt_N t
  rw [outsAt0_B m c t (by omega) (by omega)]
  dsimp only
  generalize outsAt0 m c (t.val - 1) _ = w
  refine Eq.trans ?_ (congrArg (w.2 (ix2 0 e) + ·) (own m c t e))
  frame_out
  exact pay1_apply _ _ _

/-- What point `k` leaves in the gain's block, at column `e`. -/
def left (e : Fin 768) (k : Nat) : EReal := if h : k < cfg0.N then (outsAt0 m c k h).2 (ix2 0 e) else 0

theorem sums (e : Fin 768) : (outsAt0 m c t.val t.isLt).2 (ix2 0 e) = ∑ k : Fin (t.val + 1), part m c e k.val := by
  have h4 : cfg0.N = 4 := N_0
  have ht := t.isLt
  have z : 0 < cfg0.N := by omega
  refine Eq.trans (b := left m c e t.val) (by rw [left, dif_pos t.isLt]) (accum _ _ ?_ _ fun k hk => ?_)
  · rw [left, dif_pos z]; exact first m c ⟨0, z⟩ rfl e
  · rw [left, left, dif_pos (by omega : k + 1 < cfg0.N), dif_pos (by omega : k < cfg0.N)]
    exact next m c ⟨k + 1, by omega⟩ (by simp) e

theorem left3 (r : Fin 512) (e : Fin 768) : (outsAt0 m c t.val t.isLt).1 (ix2 r e)
    = normGrad (fun k => a0 m c (ix2 (row t r) k)) (fun k => a2 m c (ix2 (row t r) k) * a1 m c (ix1 k)) e := by
  refine Eq.trans (b := k0_pay4 (F := Ideal) (iblk m c 0 t) (iblk m c 1 t) (iblk m c 2 t) (ix2 r e)) ?_ ?_
  · have := lt_N t
    by_cases h : t.val = 0
    · rw [outsAt0_A m c t (by omega) (by omega)]
      frame_out
    · rw [outsAt0_B m c t (by omega) (by omega)]
      frame_out
  · refine (pay4_apply _ _ _ r e).trans ?_
    simp only [blk0, blk1, blk2]

/-! ## The arrays the call leaves -/

def outDx (x0 : FVec Ideal S2048x768 .f32) (x1 : FVec Ideal S768 .f32) (x2 : FVec Ideal S2048x768 .f32) : FVec Ideal S2048x768 .f32 := fun i =>
  normGrad (fun k => x0 (ix2 (i 0) k)) (fun k => x2 (ix2 (i 0) k) * x1 (ix1 k)) (i 1)
def outDg (x0 x2 : FVec Ideal S2048x768 .f32) : FVec Ideal S1x768 .f32 := fun i =>
  ∑ r : Fin 2048, x2 (ix2 r (i 1)) * (x0 (ix2 r (i 1)) * rstd len (fun j => x0 (ix2 r j)))

theorem emb3 (r : Fin 512) (e : Fin 768) : ((cfg0.win 3).blk t).view.emb (ix2 r e) = ix2 (row t r) e := by
  have e0 := (idx t).2.2.2.1
  funext a; apply Fin.ext
  match a with
  | ⟨0, _⟩ =>
    show win0_3.index t 0 * 512 + 1 * r.val = t.val * 512 + r.val
    rw [e0]; show t.val * 512 + 1 * r.val = _; omega
  | ⟨1, _⟩ =>
    show win0_3.index t 1 * 768 + 1 * e.val = e.val
    rw [e0]; show 0 * 768 + 1 * e.val = _; omega
theorem emb4 (e : Fin 768) : ((cfg0.win 4).blk t).view.emb (ix2 0 e) = ix2 0 e := by
  have e0 := (idx t).2.2.2.2
  funext a; apply Fin.ext
  match a with
  | ⟨0, _⟩ =>
    show win0_4.index t 0 * 1 + 1 * 0 = 0
    rw [e0]; rfl
  | ⟨1, _⟩ =>
    show win0_4.index t 1 * 768 + 1 * e.val = e.val
    rw [e0]; show 0 * 768 + 1 * e.val = _; omega

theorem arr3 : (dats m 0 c).arrAt 3 cfg0.N = outDx (a0 m c) (a1 m c) (a2 m c) := by
  refine (dats m 0 c).arrAt_eq_of_covers 3 _ (by decide +kernel) fun t hf y => ?_
  blk_simp; rw [after0_3]
  obtain ⟨r, e, rfl⟩ : ∃ (a : Fin 512) (b : Fin 768), y = ix2 a b := ⟨y 0, y 1, eq_ix2 y⟩
  rw [emb3]
  exact left3 m c t r e

theorem onto (y : S1x768.Idx) : ∃ b : Fin 768, y = ix2 0 b :=
  ⟨y 1, (eq_ix2 y).trans (congrArg (fun z : Fin 1 => (ix2 z (y 1 : Fin 768) : S1x768.Idx)) (Subsingleton.elim (α := Fin 1) (y 0) 0))⟩

theorem arr4 : (dats m 0 c).arrAt 4 cfg0.N = outDg (a0 m c) (a2 m c) := by
  refine (dats m 0 c).arrAt_eq_of_covers 4 _ (by decide +kernel) fun t hf y => ?_
  blk_simp; rw [after0_4]
  obtain ⟨e, rfl⟩ := onto y
  rw [emb4]
  refine (sums m c t e).trans ?_
  have h3 : t.val = 3 := by have := (flush0_4 t).mp hf; have := lt_N t; omega
  obtain ⟨n, hn⟩ := t
  obtain rfl : n = 3 := h3
  refine Eq.trans ?_ (sum_blocks 4 512 fun r : Fin 2048 => a2 m c (ix2 r e) * (a0 m c (ix2 r e) * rstd len (fun j => a0 m c (ix2 r j)))).symm
  refine Finset.sum_congr rfl fun k _ => ?_
  rw [part, dif_pos (lt_of_lt_of_eq k.isLt (show 4 = cfg0.N from N_0.symm))]
  rfl

/-- What reaches the normalised row. -/
def pull (x2 : FVec Ideal S2048x768 .f32) (x1 : FVec Ideal S768 .f32) (r : Fin 2048) (k : Fin 768) : EReal :=
  x2 (ix2 r k) * x1 (ix1 k)

/-- The claim: the kernel's gradients are the reference's. -/
theorem algebraic : Cert.algebraic_Kernel12Ideal_Reference12Ideal (hKernel12Ideal := Cert.Kernel12Ideal.Gen.facts)
    (hReference12Ideal := Cert.Reference12Ideal.Gen.facts) := by
  intro m g m' g' hpre hargs
  refine ⟨fun c => (dats m 0 c).arrAt 3 cfg0.N, fun c => (dats m 0 c).arrAt 4 cfg0.N, run_blocks (F := Ideal) m g, ?_⟩
  refine (θ_run (Cert.Reference12Ideal.defs (F := Ideal)) _ _).mono (fun r h c => ?_) (Cert.Reference12Ideal.Value.run (F := Ideal) m' g')
  obtain ⟨h0, h1, hrest⟩ := h c
  obtain ⟨e0, e1, e2⟩ := hargs c
  refine ⟨h0.trans (Eq.trans ?_ (arr3 m c).symm), h1.trans (Eq.trans ?_ (arr4 m c).symm), hrest⟩
  all_goals clear hrest h0 h1
  all_goals simp only [e0, e1, e2]
  all_goals clear e0 e1 e2 hpre hargs h
  all_goals simp only [a0, a1, a2]
  all_goals generalize m ((c : Thread nD τ).loc main_arg0) = x0
  all_goals generalize m ((c : Thread nD τ).loc main_arg1) = x1
  all_goals generalize m ((c : Thread nD τ).loc main_arg2) = x2
  · funext i
    obtain ⟨r, e, rfl⟩ : ∃ (a : Fin 2048) (b : Fin 768), i = ix2 a b := ⟨i 0, i 1, eq_ix2 i⟩
    pointwise []
    have := grad_row (fun k => x0 (ix2 r k)) (pull x2 x1 r) (N := 768) (by norm_num) 0 e
    rw [← lit768, zero_add, zero_add] at this
    exact this
  · funext i
    obtain ⟨e, rfl⟩ := onto i
    pointwise []
    refine (Fin.sum_univ_one _).trans (Finset.sum_congr rfl fun k _ => ?_)
    exact mul_comm (G := EReal) _ _

end Cert.NormBwd

end
-- ==== Proof.ResidBwd.lean ====
/-
  The gradients of a layer's output and of its gate.
-/
module

public import proofs.«01_k».proof.Defs
public import proofs.«01_k».proof.Proof.RowNorm
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ResidBwd

open Cert.Kernel13Ideal Cert.Kernel13Ideal.Gen Cert.Kernel13Ideal.Value Cert.RowNorm

/-! ## One block -/

theorem pay1_apply (d : Vec Ideal S256x2048 .f32) (g : Vec Ideal S1x2048 .f32) (r : Fin 256) (e : Fin 2048) :
    k0_pay1 (F := Ideal) d g (ix2 r e) = g (ix2 0 e) * d (ix2 r e) := by
  pointwise [k0_pay1]
theorem pay2_apply (d u : Vec Ideal S256x2048 .f32) (e : Fin 2048) :
    k0_pay2 (F := Ideal) d u (ix2 0 e) = ∑ r : Fin 256, d (ix2 r e) * u (ix2 r e) := by
  pointwise [k0_pay2]
theorem pay3_apply (d u : Vec Ideal S256x2048 .f32) (b : Vec Ideal S1x2048 .f32) (y : S1x2048.Idx) :
    k0_pay3 (F := Ideal) d u b y = b y + k0_pay2 (F := Ideal) d u y := by
  delta k0_pay3
  pointwise []

/-! ## The blocks -/

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD) (t : Fin cfg0.N)

theorem lt_N : t.val < 8 := lt_of_lt_of_eq t.isLt (show cfg0.N = 8 from N_0)

abbrev a0 : FVec Ideal S2048x2048 .f32 := m ((c : Thread nD τ).loc main_arg0)
abbrev a1 : FVec Ideal S2048 .f32 := m ((c : Thread nD τ).loc main_arg1)
abbrev a2 : FVec Ideal S2048x2048 .f32 := m ((c : Thread nD τ).loc main_arg2)

/-- The row of the whole array that is row `r` of point `t`'s block. -/
def row (r : Fin 256) : Fin 2048 := ⟨t.val * 256 + r.val, by have := lt_N t; omega⟩

theorem gate : V m c main_v0 = broadcastInDim S1x2048 ![1] bcast_S2048_S1x2048_1 (a1 m c) := by
  simp only [V, hostOps0, List.flatten_cons, List.flatten_nil, List.append_nil]; after_results_simp

theorem blk0 (r : Fin 256) (e : Fin 2048) : iblk m c 0 t (ix2 r e) = a2 m c (ix2 (row t r) e) := by
  have := lt_N t
  have e0 := (idx t).1
  refine Eq.trans (b := V m c main_arg2 (ix2 (row t r) e)) ?_ (congrFun (V_main_arg2 m c) _)
  blk_ext [iblk, e0, row]
theorem blk1 (r : Fin 256) (e : Fin 2048) : iblk m c 1 t (ix2 r e) = a0 m c (ix2 (row t r) e) := by
  have := lt_N t
  have e0 := (idx t).2.1
  refine Eq.trans (b := V m c main_arg0 (ix2 (row t r) e)) ?_ (congrFun (V_main_arg0 m c) _)
  blk_ext [iblk, e0, row]
theorem blk2 (e : Fin 2048) : iblk m c 2 t (ix2 0 e) = a1 m c (ix1 e) := by
  have e0 := (idx t).2.2.1
  refine Eq.trans (b := V m c main_v0 (ix2 0 e)) ?_ ((congrFun (gate m c) _).trans (by pointwise []))
  blk_ext [iblk, e0]

/-! ## What each point leaves -/

/-- Point `k`'s part of the gate's gradient, at column `e` (nothing past the last point). -/
def part (e : Fin 2048) (k : Nat) : EReal := if h : k < cfg0.N then
  ∑ r : Fin 256, a2 m c (ix2 (row ⟨k, h⟩ r) e) * a0 m c (ix2 (row ⟨k, h⟩ r) e) else 0

theorem own (e : Fin 2048) : k0_pay2 (F := Ideal) (iblk m c 0 t) (iblk m c 1 t) (ix2 0 e) = part m c e t.val := by
  refine (pay2_apply _ _ e).trans ?_
  rw [part, dif_pos t.isLt]
  simp only [blk0, blk1]

theorem first (h : t.val = 0) (e : Fin 2048) : (outsAt0 m c t.val t.isLt).2 (ix2 0 e) = part m c e t.val := by
  rw [outsAt0_A m c t (by omega) (by omega)]
  refine Eq.trans ?_ (own m c t e)
  frame_out

theorem next (h : t.val ≠ 0) (e : Fin 2048) : (outsAt0 m c t.val t.isLt).2 (ix2 0 e)
    = (outsAt0 m c (t.val - 1) (Nat.lt_of_le_of_lt (Nat.sub_le _ _) t.isLt)).2 (ix2 0 e) + part m c e t.val := by
  have := lt_N t
  rw [outsAt0_B m c t (by omega) (by omega)]
  dsimp only
  generalize outsAt0 m c (t.val - 1) _ = w
  refine Eq.trans ?_ (congrArg (w.2 (ix2 0 e) + ·) (own m c t e))
  frame_out
  exact pay3_apply _ _ _ _

/-- What point `k` leaves in the gate's block, at column `e`. -/
def left (e : Fin 2048) (k : Nat) : EReal := if h : k < cfg0.N then (outsAt0 m c k h).2 (ix2 0 e) else 0

theorem sums (e : Fin 2048) : (outsAt0 m c t.val t.isLt).2 (ix2 0 e) = ∑ k : Fin (t.val + 1), part m c e k.val := by
  have h8 : cfg0.N = 8 := N_0
  have ht := t.isLt
  have z : 0 < cfg0.N := by omega
  refine Eq.trans (b := left m c e t.val) (by rw [left, dif_pos t.isLt]) (accum _ _ ?_ _ fun k hk => ?_)
  · rw [left, dif_pos z]; exact first m c ⟨0, z⟩ rfl e
  · rw [left, left, dif_pos (by omega : k + 1 < cfg0.N), dif_pos (by omega : k < cfg0.N)]
    exact next m c ⟨k + 1, by omega⟩ (by simp) e

theorem left3 (r : Fin 256) (e : Fin 2048) : (outsAt0 m c t.val t.isLt).1 (ix2 r e) = a1 m c (ix1 e) * a2 m c (ix2 (row t r) e) := by
  refine Eq.trans (b := k0_pay1 (F := Ideal) (iblk m c 0 t) (iblk m c 2 t) (ix2 r e)) ?_ ?_
  · have := lt_N t
    by_cases h : t.val = 0
    · rw [outsAt0_A m c t (by omega) (by omega)]
      frame_out
    · rw [outsAt0_B m c t (by omega) (by omega)]
      frame_out
  · refine (pay1_apply _ _ r e).trans ?_
    rw [blk0, blk2]

/-! ## The arrays the call leaves -/

def outDu (x1 : FVec Ideal S2048 .f32) (x2 : FVec Ideal S2048x2048 .f32) : FVec Ideal S2048x2048 .bf16 := fun i =>
  x1 (ix1 (i 1)) * x2 (ix2 (i 0) (i 1))
def outDgate (x0 x2 : FVec Ideal S2048x2048 .f32) : FVec Ideal S1x2048 .f32 := fun i =>
  ∑ r : Fin 2048, x2 (ix2 r (i 1)) * x0 (ix2 r (i 1))

theorem emb3 (r : Fin 256) (e : Fin 2048) : ((cfg0.win 3).blk t).view.emb (ix2 r e) = ix2 (row t r) e := by
  have e0 := (idx t).2.2.2.1
  funext a; apply Fin.ext
  match a with
  | ⟨0, _⟩ =>
    show win0_3.index t 0 * 256 + 1 * r.val = t.val * 256 + r.val
    rw [e0]; show t.val * 256 + 1 * r.val = _; omega
  | ⟨1, _⟩ =>
    show win0_3.index t 1 * 2048 + 1 * e.val = e.val
    rw [e0]; show 0 * 2048 + 1 * e.val = _; omega
theorem emb4 (e : Fin 2048) : ((cfg0.win 4).blk t).view.emb (ix2 0 e) = ix2 0 e := by
  have e0 := (idx t).2.2.2.2
  funext a; apply Fin.ext
  match a with
  | ⟨0, _⟩ =>
    show win0_4.index t 0 * 1 + 1 * 0 = 0
    rw [e0]; rfl
  | ⟨1, _⟩ =>
    show win0_4.index t 1 * 2048 + 1 * e.val = e.val
    rw [e0]; show 0 * 2048 + 1 * e.val = _; omega

theorem arr3 : (dats m 0 c).arrAt 3 cfg0.N = outDu (a1 m c) (a2 m c) := by
  refine (dats m 0 c).arrAt_eq_of_covers 3 _ (by decide +kernel) fun t hf y => ?_
  blk_simp; rw [after0_3]
  obtain ⟨r, e, rfl⟩ : ∃ (a : Fin 256) (b : Fin 2048), y = ix2 a b := ⟨y 0, y 1, eq_ix2 y⟩
  rw [emb3]
  exact left3 m c t r e

theorem onto (y : S1x2048.Idx) : ∃ b : Fin 2048, y = ix2 0 b :=
  ⟨y 1, (eq_ix2 y).trans (congrArg (fun z : Fin 1 => (ix2 z (y 1 : Fin 2048) : S1x2048.Idx)) (Subsingleton.elim (α := Fin 1) (y 0) 0))⟩

theorem arr4 : (dats m 0 c).arrAt 4 cfg0.N = outDgate (a0 m c) (a2 m c) := by
  refine (dats m 0 c).arrAt_eq_of_covers 4 _ (by decide +kernel) fun t hf y => ?_
  blk_simp; rw [after0_4]
  obtain ⟨e, rfl⟩ := onto y
  rw [emb4]
  refine (sums m c t e).trans ?_
  have h7 : t.val = 7 := by have := (flush0_4 t).mp hf; have := lt_N t; omega
  obtain ⟨n, hn⟩ := t
  obtain rfl : n = 7 := h7
  refine Eq.trans ?_ (sum_blocks 8 256 fun r : Fin 2048 => a2 m c (ix2 r e) * a0 m c (ix2 r e)).symm
  refine Finset.sum_congr rfl fun k _ => ?_
  rw [part, dif_pos (lt_of_lt_of_eq k.isLt (show 8 = cfg0.N from N_0.symm))]
  rfl

/-- The claim: the kernel's gradients are the reference's. -/
theorem algebraic : Cert.algebraic_Kernel13Ideal_Reference13Ideal (hKernel13Ideal := Cert.Kernel13Ideal.Gen.facts)
    (hReference13Ideal := Cert.Reference13Ideal.Gen.facts) := by
  intro m g m' g' hpre hargs
  refine ⟨fun c => (dats m 0 c).arrAt 3 cfg0.N, fun c => (dats m 0 c).arrAt 4 cfg0.N, run_blocks (F := Ideal) m g, ?_⟩
  refine (θ_run (Cert.Reference13Ideal.defs (F := Ideal)) _ _).mono (fun r h c => ?_) (Cert.Reference13Ideal.Value.run (F := Ideal) m' g')
  obtain ⟨h0, h1, hrest⟩ := h c
  obtain ⟨e0, e1, e2⟩ := hargs c
  refine ⟨h0.trans (Eq.trans ?_ (arr3 m c).symm), h1.trans (Eq.trans ?_ (arr4 m c).symm), hrest⟩
  all_goals clear hrest h0 h1
  all_goals simp only [e0, e1, e2]
  all_goals clear e0 e1 e2 hpre hargs h
  all_goals simp only [a0, a1, a2]
  all_goals generalize m ((c : Thread nD τ).loc main_arg0) = x0
  all_goals generalize m ((c : Thread nD τ).loc main_arg1) = x1
  all_goals generalize m ((c : Thread nD τ).loc main_arg2) = x2
  · funext i
    obtain ⟨r, e, rfl⟩ : ∃ (a : Fin 2048) (b : Fin 2048), i = ix2 a b := ⟨i 0, i 1, eq_ix2 i⟩
    pointwise []
    rfl
  · funext i
    obtain ⟨e, rfl⟩ := onto i
    pointwise []
    exact Fin.sum_univ_one _

end Cert.ResidBwd

end
-- ==== Proof.DecayBwd.lean ====
/-
  The gradients of the gates of the linear attention's decay, of their argument and of their bias.
-/
module

public import proofs.«01_k».proof.Defs
public import proofs.«01_k».proof.Proof.RowNorm
public import proofs.«01_k».proof.Proof.Sigm
public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.DecayBwd

open Cert.Kernel14Ideal Cert.Kernel14Ideal.Gen Cert.Kernel14Ideal.Value Cert.RowNorm Cert.Sigm

/-- The gradient of one element, in the kernel's form. -/
def decayGrad (u b d : EReal) : EReal :=
  Ideal.div (d * Ideal.div 1 (1 + Ideal.exp (0 - (0 - (u + b))))) (Ideal.ofBits .f32 0x41800000#32)

/-! ## One block -/

theorem pay1_apply (u d : Vec Ideal S512x768 .f32) (b : Vec Ideal S1x768 .f32) (r : Fin 512) (e : Fin 768) :
    k0_pay1 (F := Ideal) u b d (ix2 r e) = decayGrad (u (ix2 r e)) (b (ix2 0 e)) (d (ix2 r e)) := by
  unfold decayGrad
  pointwise [k0_pay1]
theorem pay2_apply (u d : Vec Ideal S512x768 .f32) (b : Vec Ideal S1x768 .f32) (e : Fin 768) :
    k0_pay2 (F := Ideal) u b d (ix2 0 e) = ∑ r : Fin 512, decayGrad (u (ix2 r e)) (b (ix2 0 e)) (d (ix2 r e)) := by
  refine Eq.trans (?_ : _ = ∑ r : Fin 512, k0_pay1 (F := Ideal) u b d (ix2 r e)) ?_
  · delta k0_pay2
    pointwise []
  · simp only [pay1_apply]
theorem pay3_apply (u d : Vec Ideal S512x768 .f32) (b w : Vec Ideal S1x768 .f32) (y : S1x768.Idx) :
    k0_pay3 (F := Ideal) u b d w y = w y + k0_pay2 (F := Ideal) u b d y := by
  delta k0_pay3
  pointwise []

/-! ## The blocks -/

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD) (t : Fin cfg0.N)

theorem lt_N : t.val < 4 := lt_of_lt_of_eq t.isLt (show cfg0.N = 4 from N_0)

abbrev a0 : FVec Ideal S2048x768 .f32 := m ((c : Thread nD τ).loc main_arg0)
abbrev a1 : FVec Ideal S768 .f32 := m ((c : Thread nD τ).loc main_arg1)
abbrev a2 : FVec Ideal S2048x768 .f32 := m ((c : Thread nD τ).loc main_arg2)

/-- The row of the whole array that is row `r` of point `t`'s block. -/
def row (r : Fin 512) : Fin 2048 := ⟨t.val * 512 + r.val, by have := lt_N t; omega⟩

theorem bias : V m c main_v0 = broadcastInDim S1x768 ![1] bcast_S768_S1x768_1 (a1 m c) := by
  simp only [V, hostOps0, List.flatten_cons, List.flatten_nil, List.append_nil]; after_results_simp

theorem blk0 (r : Fin 512) (e : Fin 768) : iblk m c 0 t (ix2 r e) = a0 m c (ix2 (row t r) e) := by
  have := lt_N t
  have e0 := (idx t).1
  refine Eq.trans (b := V m c main_arg0 (ix2 (row t r) e)) ?_ (congrFun (V_main_arg0 m c) _)
  blk_ext [iblk, e0, row]
theorem blk1 (r : Fin 512) (e : Fin 768) : iblk m c 1 t (ix2 r e) = a2 m c (ix2 (row t r) e) := by
  have := lt_N t
  have e0 := (idx t).2.1
  refine Eq.trans (b := V m c main_arg2 (ix2 (row t r) e)) ?_ (congrFun (V_main_arg2 m c) _)
  blk_ext [iblk, e0, row]
theorem blk2 (e : Fin 768) : iblk m c 2 t (ix2 0 e) = a1 m c (ix1 e) := by
  have e0 := (idx t).2.2.1
  refine Eq.trans (b := V m c main_v0 (ix2 0 e)) ?_ ((congrFun (bias m c) _).trans (by pointwise []))
  blk_ext [iblk, e0]

/-! ## What each point leaves -/

/-- Point `k`'s part of the bias's gradient, at column `e` (nothing past the last point). -/
def part (e : Fin 768) (k : Nat) : EReal := if h : k < cfg0.N then
  ∑ r : Fin 512, decayGrad (a0 m c (ix2 (row ⟨k, h⟩ r) e)) (a1 m c (ix1 e)) (a2 m c (ix2 (row ⟨k, h⟩ r) e)) else 0

theorem own (e : Fin 768) : k0_pay2 (F := Ideal) (iblk m c 0 t) (iblk m c 2 t) (iblk m c 1 t) (ix2 0 e) = part m c e t.val := by
  refine (pay2_apply _ _ _ e).trans ?_
  rw [part, dif_pos t.isLt]
  simp only [blk0, blk1, blk2]

theorem first (h : t.val = 0) (e : Fin 768) : (outsAt0 m c t.val t.isLt).2 (ix2 0 e) = part m c e t.val := by
  rw [outsAt0_A m c t (by omega) (by omega)]
  refine Eq.trans ?_ (own m c t e)
  frame_out

theorem next (h : t.val ≠ 0) (e : Fin 768) : (outsAt0 m c t.val t.isLt).2 (ix2 0 e)
    = (outsAt0 m c (t.val - 1) (Nat.lt_of_le_of_lt (Nat.sub_le _ _) t.isLt)).2 (ix2 0 e) + part m c e t.val := by
  have := lt_N t
  rw [outsAt0_B m c t (by omega) (by omega)]
  dsimp only
  generalize outsAt0 m c (t.val - 1) _ = w
  refine Eq.trans ?_ (congrArg (w.2 (ix2 0 e) + ·) (own m c t e))
  frame_out
  exact pay3_apply _ _ _ _ _

/-- What point `k` leaves in the bias's block, at column `e`. -/
def left (e : Fin 768) (k : Nat) : EReal := if h : k < cfg0.N then (outsAt0 m c k h).2 (ix2 0 e) else 0

theorem sums (e : Fin 768) : (outsAt0 m c t.val t.isLt).2 (ix2 0 e) = ∑ k : Fin (t.val + 1), part m c e k.val := by
  have h4 : cfg0.N = 4 := N_0
  have ht := t.isLt
  have z : 0 < cfg0.N := by omega
  refine Eq.trans (b := left m c e t.val) (by rw [left, dif_pos t.isLt]) (accum _ _ ?_ _ fun k hk => ?_)
  · rw [left, dif_pos z]; exact first m c ⟨0, z⟩ rfl e
  · rw [left, left, dif_pos (by omega : k + 1 < cfg0.N), dif_pos (by omega : k < cfg0.N)]
    exact next m c ⟨k + 1, by omega⟩ (by simp) e

theorem left3 (r : Fin 512) (e : Fin 768) : (outsAt0 m c t.val t.isLt).1 (ix2 r e)
    = decayGrad (a0 m c (ix2 (row t r) e)) (a1 m c (ix1 e)) (a2 m c (ix2 (row t r) e)) := by
  refine Eq.trans (b := k0_pay1 (F := Ideal) (iblk m c 0 t) (iblk m c 2 t) (iblk m c 1 t) (ix2 r e)) ?_ ?_
  · have := lt_N t
    by_cases h : t.val = 0
    · rw [outsAt0_A m c t (by omega) (by omega)]
      frame_out
    · rw [outsAt0_B m c t (by omega) (by omega)]
      frame_out
  · refine (pay1_apply _ _ _ r e).trans ?_
    simp only [blk0, blk1, blk2]

/-! ## The arrays the call leaves -/

def outDu (x0 : FVec Ideal S2048x768 .f32) (x1 : FVec Ideal S768 .f32) (x2 : FVec Ideal S2048x768 .f32) : FVec Ideal S2048x768 .f32 := fun i =>
  decayGrad (x0 (ix2 (i 0) (i 1))) (x1 (ix1 (i 1))) (x2 (ix2 (i 0) (i 1)))
def outDb (x0 : FVec Ideal S2048x768 .f32) (x1 : FVec Ideal S768 .f32) (x2 : FVec Ideal S2048x768 .f32) : FVec Ideal S1x768 .f32 := fun i =>
  ∑ r : Fin 2048, decayGrad (x0 (ix2 r (i 1))) (x1 (ix1 (i 1))) (x2 (ix2 r (i 1)))

theorem emb3 (r : Fin 512) (e : Fin 768) : ((cfg0.win 3).blk t).view.emb (ix2 r e) = ix2 (row t r) e := by
  have e0 := (idx t).2.2.2.1
  funext a; apply Fin.ext
  match a with
  | ⟨0, _⟩ =>
    show win0_3.index t 0 * 512 + 1 * r.val = t.val * 512 + r.val
    rw [e0]; show t.val * 512 + 1 * r.val = _; omega
  | ⟨1, _⟩ =>
    show win0_3.index t 1 * 768 + 1 * e.val = e.val
    rw [e0]; show 0 * 768 + 1 * e.val = _; omega
theorem emb4 (e : Fin 768) : ((cfg0.win 4).blk t).view.emb (ix2 0 e) = ix2 0 e := by
  have e0 := (idx t).2.2.2.2
  funext a; apply Fin.ext
  match a with
  | ⟨0, _⟩ =>
    show win0_4.index t 0 * 1 + 1 * 0 = 0
    rw [e0]; rfl
  | ⟨1, _⟩ =>
    show win0_4.index t 1 * 768 + 1 * e.val = e.val
    rw [e0]; show 0 * 768 + 1 * e.val = _; omega

theorem arr3 : (dats m 0 c).arrAt 3 cfg0.N = outDu (a0 m c) (a1 m c) (a2 m c) := by
  refine (dats m 0 c).arrAt_eq_of_covers 3 _ (by decide +kernel) fun t hf y => ?_
  blk_simp; rw [after0_3]
  obtain ⟨r, e, rfl⟩ : ∃ (a : Fin 512) (b : Fin 768), y = ix2 a b := ⟨y 0, y 1, eq_ix2 y⟩
  rw [emb3]
  exact left3 m c t r e

theorem onto (y : S1x768.Idx) : ∃ b : Fin 768, y = ix2 0 b :=
  ⟨y 1, (eq_ix2 y).trans (congrArg (fun z : Fin 1 => (ix2 z (y 1 : Fin 768) : S1x768.Idx)) (Subsingleton.elim (α := Fin 1) (y 0) 0))⟩

theorem arr4 : (dats m 0 c).arrAt 4 cfg0.N = outDb (a0 m c) (a1 m c) (a2 m c) := by
  refine (dats m 0 c).arrAt_eq_of_covers 4 _ (by decide +kernel) fun t hf y => ?_
  blk_simp; rw [after0_4]
  obtain ⟨e, rfl⟩ := onto y
  rw [emb4]
  refine (sums m c t e).trans ?_
  have h3 : t.val = 3 := by have := (flush0_4 t).mp hf; have := lt_N t; omega
  obtain ⟨n, hn⟩ := t
  obtain rfl : n = 3 := h3
  refine Eq.trans ?_ (sum_blocks 4 512 fun r : Fin 2048 => decayGrad (a0 m c (ix2 r e)) (a1 m c (ix1 e)) (a2 m c (ix2 r e))).symm
  refine Finset.sum_congr rfl fun k _ => ?_
  rw [part, dif_pos (lt_of_lt_of_eq k.isLt (show 4 = cfg0.N from N_0.symm))]
  rfl

/-- The claim: the kernel's gradients are the reference's. -/
theorem algebraic : Cert.algebraic_Kernel14Ideal_Reference14Ideal (hKernel14Ideal := Cert.Kernel14Ideal.Gen.facts)
    (hReference14Ideal := Cert.Reference14Ideal.Gen.facts) := by
  intro m g m' g' hpre hargs
  refine ⟨fun c => (dats m 0 c).arrAt 3 cfg0.N, fun c => (dats m 0 c).arrAt 4 cfg0.N, run_blocks (F := Ideal) m g, ?_⟩
  refine (θ_run (Cert.Reference14Ideal.defs (F := Ideal)) _ _).mono (fun r h c => ?_) (Cert.Reference14Ideal.Value.run (F := Ideal) m' g')
  obtain ⟨h0, h1, hrest⟩ := h c
  obtain ⟨e0, e1, e2⟩ := hargs c
  refine ⟨h0.trans (Eq.trans ?_ (arr3 m c).symm), h1.trans (Eq.trans ?_ (arr4 m c).symm), hrest⟩
  all_goals clear hrest h0 h1
  all_goals simp only [Reference14Ideal.Value.res_main_v8, Reference14Ideal.Value.res_main_v12, e0, e1, e2]
  all_goals clear e0 e1 e2 hpre hargs h
  all_goals simp only [a0, a1, a2]
  all_goals generalize m ((c : Thread nD τ).loc main_arg0) = x0
  all_goals generalize m ((c : Thread nD τ).loc main_arg1) = x1
  all_goals generalize m ((c : Thread nD τ).loc main_arg2) = x2
  · funext i
    obtain ⟨r, e, rfl⟩ : ∃ (a : Fin 2048) (b : Fin 768), i = ix2 a b := ⟨i 0, i 1, eq_ix2 i⟩
    pointwise []
    exact decay_grad _ _
  · funext i
    obtain ⟨e, rfl⟩ := onto i
    pointwise []
    refine (Fin.sum_univ_one (M := EReal) _).trans (Finset.sum_congr (M := EReal) rfl fun k _ => ?_)
    exact decay_grad _ _

end Cert.DecayBwd

end
-- ==== Proof.AdaBwd.lean ====
/-
  The gradient of the conditioning's weight: the kernel contracts over the eight examples and eight rows of zeros, the
  reference over the eight examples.
-/
module

public import proofs.«01_k».proof.Defs
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdaBwd

open Cert.Kernel15Ideal Cert.Kernel15Ideal.Gen Cert.Kernel15Ideal.Value

theorem lt_N (t : Fin cfg0.N) : t.val < 3 := lt_of_lt_of_eq t.isLt (show cfg0.N = 3 from N_0)

theorem idx : ∀ t : Fin cfg0.N, win0_0.index t = ![0, 0] ∧ win0_1.index t = ![0, t.val] ∧ win0_2.index t = ![0, t.val] :=
  (by decide +kernel : ∀ t : Fin grid0.N, _)

/-- One block's product. -/
theorem pay_apply (b0 : Vec Ideal S16x2048 .f32) (b1 : Vec Ideal S16x512 .f32) (r : Fin 2048) (e : Fin 512) :
    k0_pay1 (F := Ideal) b0 b1 (ix2 r e) = ∑ s : Fin 16, b0 (ix2 s r) * b1 (ix2 s e) := by
  pointwise [k0_pay1]

/-! ## The two arrays with their rows of zeros -/

/-- The activated conditioning. -/
def act (x0 : FVec Ideal S8x2048 .f32) : FVec Ideal S8x2048 .f32 :=
  mulf x0 (Host.divf (broadcastInDim S8x2048 ![] bcast_S_S8x2048 (constant S_ .f32 0x3F800000#32))
    (addf (broadcastInDim S8x2048 ![] bcast_S_S8x2048 (constant S_ .f32 0x3F800000#32)) (Host.exp (Host.negf x0))))
def act16 (x0 : FVec Ideal S8x2048 .f32) : FVec Ideal S16x2048 .f32 :=
  concatenate S16x2048 0 [⟨S8x2048, act x0⟩, ⟨S8x2048, broadcastInDim S8x2048 ![] bcast_S_S8x2048 (constant S_ .f32 0x00000000#32)⟩]
    concatenates_S8x2048_S8x2048_S16x2048_d0
def d16 (x1 : FVec Ideal S8x1536 .f32) : FVec Ideal S16x1536 .f32 :=
  concatenate S16x1536 0 [⟨S8x1536, x1⟩, ⟨S8x1536, broadcastInDim S8x1536 ![] bcast_S_S8x1536 (constant S_ .f32 0x00000000#32)⟩]
    concatenates_S8x1536_S8x1536_S16x1536_d0

theorem act16_low (x0 : FVec Ideal S8x2048 .f32) (s : Fin 8) (r : Fin 2048) :
    act16 x0 (ix2 (Fin.castAdd 8 s) r) = act x0 (ix2 s r) := by
  pointwise [act16]
  exact dif_pos s.isLt
theorem act16_high (x0 : FVec Ideal S8x2048 .f32) (s : Fin 8) (r : Fin 2048) :
    act16 x0 (ix2 (Fin.natAdd 8 s) r) = 0 := by
  pointwise [act16]
  exact dif_neg (by show ¬ 8 + s.val < 8; omega)
theorem d16_low (x1 : FVec Ideal S8x1536 .f32) (s : Fin 8) (r : Fin 1536) :
    d16 x1 (ix2 (Fin.castAdd 8 s) r) = x1 (ix2 s r) := by
  pointwise [d16]
  exact dif_pos s.isLt

variable (m : (ℓ : Loc nD τ sig) → Buf (Elt Ideal) ℓ) (c : Dev nD) (t : Fin cfg0.N)

abbrev a0 : FVec Ideal S8x2048 .f32 := m ((c : Thread nD τ).loc main_arg0)
abbrev a1 : FVec Ideal S8x1536 .f32 := m ((c : Thread nD τ).loc main_arg1)

set_option maxHeartbeats 1000000 in
theorem V_act : V m c main_v2 = act16 (a0 m c) := by
  simp only [V, hostOps0, hostOps0_1, List.flatten_cons, List.flatten_nil, List.append_nil,
    List.cons_append, List.nil_append, TRef.binary, TRef.unary, TRef.nullary, TRef.toBuf, TRef.ofBuf, cast_eq]
  after_results_simp
  delta act16 act a0
  rfl
set_option maxHeartbeats 1000000 in
theorem V_d : V m c main_v4 = d16 (a1 m c) := by
  simp only [V, hostOps0, hostOps0_1, List.flatten_cons, List.flatten_nil, List.append_nil,
    List.cons_append, List.nil_append, TRef.binary, TRef.unary, TRef.nullary, TRef.toBuf, TRef.ofBuf, cast_eq]
  after_results_simp
  delta d16 a1
  rfl

theorem blk0 (r : Fin 16) (e : Fin 2048) : iblk m c 0 t (ix2 r e) = act16 (a0 m c) (ix2 r e) := by
  obtain ⟨e0, -, -⟩ := idx t
  refine Eq.trans (b := V m c main_v2 (ix2 r e)) ?_ (congrFun (V_act m c) _)
  blk_ext [iblk, e0]
theorem blk1 (r : Fin 16) (e : Fin 512) :
    iblk m c 1 t (ix2 r e) = d16 (a1 m c) (ix2 r ⟨t.val * 512 + e.val, by have := lt_N t; omega⟩) := by
  have := lt_N t
  obtain ⟨-, e0, -⟩ := idx t
  refine Eq.trans (b := V m c main_v4 (ix2 r ⟨t.val * 512 + e.val, by omega⟩)) ?_ (congrFun (V_d m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S8x2048 .f32) (x1 : FVec Ideal S8x1536 .f32) : FVec Ideal S2048x1536 .f32 :=
  fun i => ∑ s : Fin 8, act x0 (ix2 s (i 0)) * x1 (ix2 s (i 1))

/-- The rows of zeros add nothing. -/
theorem sum16 (x0 : FVec Ideal S8x2048 .f32) (x1 : FVec Ideal S8x1536 .f32) (r : Fin 2048) (e : Fin 1536) :
    ∑ s : Fin 16, act16 x0 (ix2 s r) * d16 x1 (ix2 s e) = out x0 x1 (ix2 r e) := by
  refine (Fin.sum_univ_add (a := 8) (b := 8) (fun s : Fin 16 => act16 x0 (ix2 s r) * d16 x1 (ix2 s e))).trans ?_
  simp only [act16_low, act16_high, d16_low, zero_mul, Finset.sum_const_zero, add_zero]
  rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, ← sum16]
  frame_out
  refine (pay_apply _ _ r e).trans ?_
  simp only [blk0, blk1]

/-- The claim. -/
theorem algebraic : Cert.algebraic_Kernel15Ideal_Reference15Ideal (hKernel15Ideal := Cert.Kernel15Ideal.Gen.facts)
    (hReference15Ideal := Cert.Reference15Ideal.Gen.facts) := by
  intro m g m' g' hpre hargs
  refine ⟨fun c => (dats m 0 c).arrAt 2 cfg0.N, run_blocks (F := Ideal) m g, ?_⟩
  refine (θ_run (Cert.Reference15Ideal.defs (F := Ideal)) _ _).mono (fun r h c => ?_) (Cert.Reference15Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 1536), i = ix2 a b := ⟨i 0, i 1, eq_ix2 i⟩
  unfold out act
  pointwise []
  exact Finset.sum_congr rfl fun s _ => mul_comm _ _

end Cert.AdaBwd

end
-- ==== Proof.SumDevices.lean ====
/-
  The sum over the eight devices: the kernel adds the devices' rows one after another, the reference sums over the axis.
-/
module

public import proofs.«01_k».proof.Defs
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SumDevices

open Cert.Kernel16Ideal Cert.Kernel16Ideal.Gen Cert.Kernel16Ideal.Value

/-- The kernel's chain of additions at an index. -/
theorem G1_apply (a : Vec Ideal S8x1x51840 .f32) (z : Fin 1) (j : Fin 51840) :
    G1 (F := Ideal) a (ix2 z j) = ∑ d : Fin 8, a (ix3 d z j) := by
  obtain rfl : z = 0 := Subsingleton.elim _ _
  rw [Fin.sum_univ_eight]
  pointwise [G1, k0_pay1]

/-- The claim. -/
theorem algebraic : Cert.algebraic_Kernel16Ideal_Reference16Ideal (hKernel16Ideal := Cert.Kernel16Ideal.Gen.facts)
    (hReference16Ideal := Cert.Reference16Ideal.Gen.facts) := by
  intro m g m' g' hpre hargs
  refine ⟨fun c => _, fun c => _, run (F := Ideal) m g, ?_⟩
  refine (θ_run (Cert.Reference16Ideal.defs (F := Ideal)) _ _).mono (fun r h c => ?_) (Cert.Reference16Ideal.Value.run (F := Ideal) m' g')
  obtain ⟨h0, h1, hrest⟩ := h c
  have e0 := hargs c
  refine ⟨h0.trans ?_, h1.trans ?_, hrest⟩
  · rw [e0]
    beta_reduce
    generalize m ((c : Thread nD τ).loc main_arg0) = x0
    funext i
    obtain ⟨z, j, rfl⟩ : ∃ (a : Fin 1) (b : Fin 51840), i = ix2 a b := ⟨i 0, i 1, eq_ix2 i⟩
    obtain rfl : z = 0 := Subsingleton.elim _ _
    rw [G1_apply]
    pointwise []
  · funext i
    pointwise [G2, k0_pay2]

end Cert.SumDevices

end
-- ==== Proof.AdamW17.lean ====
/-
  AdamW on the weights of shape 2 × 2048 × 1536.
-/
module

public import proofs.«01_k».proof.Defs
public import proofs.«01_k».proof.Proof.Gen.Kernel17Ideal.Value
public import proofs.«01_k».proof.Proof.Gen.Reference17Ideal.Run
public import Idealize.ShloMosaic.Lib.Pointwise

@[expose] public section

set_option maxRecDepth 16384

noncomputable section

open Idealize.ShloMosaic Idealize.ShloMosaic.TcCoe Idealize.SL.Sem

namespace Cert.AdamW17

open Cert.Kernel17Ideal Cert.Kernel17Ideal.Gen Cert.Kernel17Ideal.Value

/-- The claim: delta and both moments. -/
theorem algebraic : Cert.algebraic_Kernel17Ideal_Reference17Ideal (hKernel17Ideal := Cert.Kernel17Ideal.Gen.facts)
    (hReference17Ideal := Cert.Reference17Ideal.Gen.facts) := by
  intro m g m' g' hpre hargs
  refine ⟨fun c => _, fun c => _, fun c => _, run (F := Ideal) m g, ?_⟩
  refine (θ_run (Cert.Reference17Ideal.defs (F := Ideal)) _ _).mono (fun r h c => ?_) (Cert.Reference17Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW17

end
-- ==== Proof.AdamW.lean ====
/-
  One parameter's step of AdamW, on one weight, its gradient and its two moments, with the constants the program carries.
-/
module

public import Idealize.ShloMosaic.Lib.Pointwise

@[expose] public section

noncomputable section

open Idealize.ShloMosaic

namespace Cert.AdamW

/-- A constant of the program. -/
abbrev k (b : BitVec 32) : Ideal .f32 := Scalar.ofBits .f32 b

/-- The first moment after the step. -/
def mom (g m : Ideal .f32) : Ideal .f32 :=
  FloatOps.addf (FloatOps.mulf (k 0x3F666666#32) m) (FloatOps.mulf (k 0x3DCCCCCD#32) g)

/-- The second moment after the step. -/
def vel (g v : Ideal .f32) : Ideal .f32 :=
  FloatOps.addf (FloatOps.mulf (k 0x3F7FBE77#32) v) (FloatOps.mulf (k 0x3A83126F#32) (FloatOps.mulf g g))

/-- The change of the weight. -/
def delta (w g m v : Ideal .f32) : Ideal .f32 :=
  FloatOps.mulf (k 0xBA83126F#32) (FloatOps.addf
    (FloatOps.divf (FloatOps.divf (mom g m) (k 0x3F26BD02#32))
      (FloatOps.addf (FloatOps.sqrt (FloatOps.divf (vel g v) (k 0x3C231ACC#32))) (k 0x322BCC77#32)))
    (FloatOps.mulf (k 0x3C23D70A#32) w))

end Cert.AdamW

end
-- ==== Proof.AdamW18.lean ====
/-
  AdamW on the weights of shape 2 × 6144.
-/
module

public import proofs.«01_k».proof.Defs
public import proofs.«01_k».proof.Proof.AdamW
public import proofs.«01_k».proof.Proof.Gen.Kernel18Ideal.Value
public import proofs.«01_k».proof.Proof.Gen.Reference18Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW18

open Cert.Kernel18Ideal Cert.Kernel18Ideal.Gen Cert.Kernel18Ideal.Value Cert.AdamW

variable (m : (ℓ : Loc nD τ sig) → Buf (Elt Ideal) ℓ) (c : Dev nD) (t : Fin cfg0.N)

theorem pay2 (g a : Vec Ideal S1x2x6144 .f32) : k0_pay2 (F := Ideal) g a = fun y => mom (g y) (a y) := by
  funext y; pointwise [k0_pay2, k0_pay1, mom]
theorem pay3 (g a : Vec Ideal S1x2x6144 .f32) : k0_pay3 (F := Ideal) g a = fun y => vel (g y) (a y) := by
  funext y; pointwise [k0_pay3, k0_pay1, vel]
theorem pay4 (w g a b : Vec Ideal S1x2x6144 .f32) :
    k0_pay4 (F := Ideal) w g a b = fun y => delta (w y) (g y) (a y) (b y) := by
  funext y; delta k0_pay4; simp only [pay2, pay3]; pointwise [delta, mom, vel]

abbrev w0 : FVec Ideal S1x2x6144 .f32 := V m c main_v0
abbrev g0 : FVec Ideal S1x2x6144 .f32 := V m c main_v1
abbrev m0 : FVec Ideal S1x2x6144 .f32 := V m c main_v2
abbrev v0 : FVec Ideal S1x2x6144 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x6144 (m ((c : Thread nD τ).loc main_arg0)) shapeCasts_S2x6144_S1x2x6144 := by
  simp only [w0, V, hostOps0]; after_results_simp; rfl
theorem V1 : g0 m c = shapeCast S1x2x6144 (m ((c : Thread nD τ).loc main_arg1)) shapeCasts_S2x6144_S1x2x6144 := by
  simp only [g0, V, hostOps0]; after_results_simp; rfl
theorem V2 : m0 m c = shapeCast S1x2x6144 (m ((c : Thread nD τ).loc main_arg2)) shapeCasts_S2x6144_S1x2x6144 := by
  simp only [m0, V, hostOps0]; after_results_simp; rfl
theorem V3 : v0 m c = shapeCast S1x2x6144 (m ((c : Thread nD τ).loc main_arg3)) shapeCasts_S2x6144_S1x2x6144 := by
  simp only [v0, V, hostOps0]; after_results_simp; rfl

/-- The claim: delta and both moments. -/
theorem algebraic : Cert.algebraic_Kernel18Ideal_Reference18Ideal (hKernel18Ideal := Cert.Kernel18Ideal.Gen.facts)
    (hReference18Ideal := Cert.Reference18Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference18Ideal.defs (F := Ideal)) _ _).mono (fun r h c => ?_) (Cert.Reference18Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x6144 z shapeCasts_S2x6144_S1x2x6144) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x6144 z shapeCasts_S2x6144_S1x2x6144) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x6144 z shapeCasts_S2x6144_S1x2x6144) (?_ : _ = fun j => vel (x1 j) (x3 j))
    funext j
    pointwise [vel]

end Cert.AdamW18

end
-- ==== Proof.AdamW19.lean ====
/-
  AdamW on the weights of shape 2 × 2048.
-/
module

public import proofs.«01_k».proof.Defs
public import proofs.«01_k».proof.Proof.AdamW
public import proofs.«01_k».proof.Proof.Gen.Kernel19Ideal.Value
public import proofs.«01_k».proof.Proof.Gen.Reference19Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW19

open Cert.Kernel19Ideal Cert.Kernel19Ideal.Gen Cert.Kernel19Ideal.Value Cert.AdamW

variable (m : (ℓ : Loc nD τ sig) → Buf (Elt Ideal) ℓ) (c : Dev nD) (t : Fin cfg0.N)

theorem pay2 (g a : Vec Ideal S1x2x2048 .f32) : k0_pay2 (F := Ideal) g a = fun y => mom (g y) (a y) := by
  funext y; pointwise [k0_pay2, k0_pay1, mom]
theorem pay3 (g a : Vec Ideal S1x2x2048 .f32) : k0_pay3 (F := Ideal) g a = fun y => vel (g y) (a y) := by
  funext y; pointwise [k0_pay3, k0_pay1, vel]
theorem pay4 (w g a b : Vec Ideal S1x2x2048 .f32) :
    k0_pay4 (F := Ideal) w g a b = fun y => delta (w y) (g y) (a y) (b y) := by
  funext y; delta k0_pay4; simp only [pay2, pay3]; pointwise [delta, mom, vel]

abbrev w0 : FVec Ideal S1x2x2048 .f32 := V m c main_v0
abbrev g0 : FVec Ideal S1x2x2048 .f32 := V m c main_v1
abbrev m0 : FVec Ideal S1x2x2048 .f32 := V m c main_v2
abbrev v0 : FVec Ideal S1x2x2048 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x2048 (m ((c : Thread nD τ).loc main_arg0)) shapeCasts_S2x2048_S1x2x2048 := by
  simp only [w0, V, hostOps0]; after_results_simp; rfl
theorem V1 : g0 m c = shapeCast S1x2x2048 (m ((c : Thread nD τ).loc main_arg1)) shapeCasts_S2x2048_S1x2x2048 := by
  simp only [g0, V, hostOps0]; after_results_simp; rfl
theorem V2 : m0 m c = shapeCast S1x2x2048 (m ((c : Thread nD τ).loc main_arg2)) shapeCasts_S2x2048_S1x2x2048 := by
  simp only [m0, V, hostOps0]; after_results_simp; rfl
theorem V3 : v0 m c = shapeCast S1x2x2048 (m ((c : Thread nD τ).loc main_arg3)) shapeCasts_S2x2048_S1x2x2048 := by
  simp only [v0, V, hostOps0]; after_results_simp; rfl

/-- The claim: delta and both moments. -/
theorem algebraic : Cert.algebraic_Kernel19Ideal_Reference19Ideal (hKernel19Ideal := Cert.Kernel19Ideal.Gen.facts)
    (hReference19Ideal := Cert.Reference19Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference19Ideal.defs (F := Ideal)) _ _).mono (fun r h c => ?_) (Cert.Reference19Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x2048 z shapeCasts_S2x2048_S1x2x2048) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x2048 z shapeCasts_S2x2048_S1x2x2048) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x2048 z shapeCasts_S2x2048_S1x2x2048) (?_ : _ = fun j => vel (x1 j) (x3 j))
    funext j
    pointwise [vel]

end Cert.AdamW19

end
-- ==== Proof.AdamW20.lean ====
/-
  AdamW on the weights of shape 2 × 16 × 96.
-/
module

public import proofs.«01_k».proof.Defs
public import proofs.«01_k».proof.Proof.Gen.Kernel20Ideal.Value
public import proofs.«01_k».proof.Proof.Gen.Reference20Ideal.Run
public import Idealize.ShloMosaic.Lib.Pointwise

@[expose] public section

set_option maxRecDepth 16384

noncomputable section

open Idealize.ShloMosaic Idealize.ShloMosaic.TcCoe Idealize.SL.Sem

namespace Cert.AdamW20

open Cert.Kernel20Ideal Cert.Kernel20Ideal.Gen Cert.Kernel20Ideal.Value

/-- The claim: delta and both moments. -/
theorem algebraic : Cert.algebraic_Kernel20Ideal_Reference20Ideal (hKernel20Ideal := Cert.Kernel20Ideal.Gen.facts)
    (hReference20Ideal := Cert.Reference20Ideal.Gen.facts) := by
  intro m g m' g' hpre hargs
  refine ⟨fun c => _, fun c => _, fun c => _, run (F := Ideal) m g, ?_⟩
  refine (θ_run (Cert.Reference20Ideal.defs (F := Ideal)) _ _).mono (fun r h c => ?_) (Cert.Reference20Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW20

end
-- ==== Proof.AdamW21.lean ====
/-
  AdamW on the weights of shape 2 × 384.
-/
module

public import proofs.«01_k».proof.Defs
public import proofs.«01_k».proof.Proof.AdamW
public import proofs.«01_k».proof.Proof.Gen.Kernel21Ideal.Value
public import proofs.«01_k».proof.Proof.Gen.Reference21Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW21

open Cert.Kernel21Ideal Cert.Kernel21Ideal.Gen Cert.Kernel21Ideal.Value Cert.AdamW

variable (m : (ℓ : Loc nD τ sig) → Buf (Elt Ideal) ℓ) (c : Dev nD) (t : Fin cfg0.N)

theorem pay2 (g a : Vec Ideal S1x2x384 .f32) : k0_pay2 (F := Ideal) g a = fun y => mom (g y) (a y) := by
  funext y; pointwise [k0_pay2, k0_pay1, mom]
theorem pay3 (g a : Vec Ideal S1x2x384 .f32) : k0_pay3 (F := Ideal) g a = fun y => vel (g y) (a y) := by
  funext y; pointwise [k0_pay3, k0_pay1, vel]
theorem pay4 (w g a b : Vec Ideal S1x2x384 .f32) :
    k0_pay4 (F := Ideal) w g a b = fun y => delta (w y) (g y) (a y) (b y) := by
  funext y; delta k0_pay4; simp only [pay2, pay3]; pointwise [delta, mom, vel]

abbrev w0 : FVec Ideal S1x2x384 .f32 := V m c main_v0
abbrev g0 : FVec Ideal S1x2x384 .f32 := V m c main_v1
abbrev m0 : FVec Ideal S1x2x384 .f32 := V m c main_v2
abbrev v0 : FVec Ideal S1x2x384 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x384 (m ((c : Thread nD τ).loc main_arg0)) shapeCasts_S2x384_S1x2x384 := by
  simp only [w0, V, hostOps0]; after_results_simp; rfl
theorem V1 : g0 m c = shapeCast S1x2x384 (m ((c : Thread nD τ).loc main_arg1)) shapeCasts_S2x384_S1x2x384 := by
  simp only [g0, V, hostOps0]; after_results_simp; rfl
theorem V2 : m0 m c = shapeCast S1x2x384 (m ((c : Thread nD τ).loc main_arg2)) shapeCasts_S2x384_S1x2x384 := by
  simp only [m0, V, hostOps0]; after_results_simp; rfl
theorem V3 : v0 m c = shapeCast S1x2x384 (m ((c : Thread nD τ).loc main_arg3)) shapeCasts_S2x384_S1x2x384 := by
  simp only [v0, V, hostOps0]; after_results_simp; rfl

/-- The claim: delta and both moments. -/
theorem algebraic : Cert.algebraic_Kernel21Ideal_Reference21Ideal (hKernel21Ideal := Cert.Kernel21Ideal.Gen.facts)
    (hReference21Ideal := Cert.Reference21Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference21Ideal.defs (F := Ideal)) _ _).mono (fun r h c => ?_) (Cert.Reference21Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x384 z shapeCasts_S2x384_S1x2x384) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x384 z shapeCasts_S2x384_S1x2x384) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x384 z shapeCasts_S2x384_S1x2x384) (?_ : _ = fun j => vel (x1 j) (x3 j))
    funext j
    pointwise [vel]

end Cert.AdamW21

end
-- ==== Proof.AdamW22.lean ====
/-
  AdamW on the weights of shape 2 × 128.
-/
module

public import proofs.«01_k».proof.Defs
public import proofs.«01_k».proof.Proof.AdamW
public import proofs.«01_k».proof.Proof.Gen.Kernel22Ideal.Value
public import proofs.«01_k».proof.Proof.Gen.Reference22Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW22

open Cert.Kernel22Ideal Cert.Kernel22Ideal.Gen Cert.Kernel22Ideal.Value Cert.AdamW

variable (m : (ℓ : Loc nD τ sig) → Buf (Elt Ideal) ℓ) (c : Dev nD) (t : Fin cfg0.N)

theorem pay2 (g a : Vec Ideal S1x2x128 .f32) : k0_pay2 (F := Ideal) g a = fun y => mom (g y) (a y) := by
  funext y; pointwise [k0_pay2, k0_pay1, mom]
theorem pay3 (g a : Vec Ideal S1x2x128 .f32) : k0_pay3 (F := Ideal) g a = fun y => vel (g y) (a y) := by
  funext y; pointwise [k0_pay3, k0_pay1, vel]
theorem pay4 (w g a b : Vec Ideal S1x2x128 .f32) :
    k0_pay4 (F := Ideal) w g a b = fun y => delta (w y) (g y) (a y) (b y) := by
  funext y; delta k0_pay4; simp only [pay2, pay3]; pointwise [delta, mom, vel]

abbrev w0 : FVec Ideal S1x2x128 .f32 := V m c main_v0
abbrev g0 : FVec Ideal S1x2x128 .f32 := V m c main_v1
abbrev m0 : FVec Ideal S1x2x128 .f32 := V m c main_v2
abbrev v0 : FVec Ideal S1x2x128 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x128 (m ((c : Thread nD τ).loc main_arg0)) shapeCasts_S2x128_S1x2x128 := by
  simp only [w0, V, hostOps0]; after_results_simp; rfl
theorem V1 : g0 m c = shapeCast S1x2x128 (m ((c : Thread nD τ).loc main_arg1)) shapeCasts_S2x128_S1x2x128 := by
  simp only [g0, V, hostOps0]; after_results_simp; rfl
theorem V2 : m0 m c = shapeCast S1x2x128 (m ((c : Thread nD τ).loc main_arg2)) shapeCasts_S2x128_S1x2x128 := by
  simp only [m0, V, hostOps0]; after_results_simp; rfl
theorem V3 : v0 m c = shapeCast S1x2x128 (m ((c : Thread nD τ).loc main_arg3)) shapeCasts_S2x128_S1x2x128 := by
  simp only [v0, V, hostOps0]; after_results_simp; rfl

/-- The claim: delta and both moments. -/
theorem algebraic : Cert.algebraic_Kernel22Ideal_Reference22Ideal (hKernel22Ideal := Cert.Kernel22Ideal.Gen.facts)
    (hReference22Ideal := Cert.Reference22Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference22Ideal.defs (F := Ideal)) _ _).mono (fun r h c => ?_) (Cert.Reference22Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x128 z shapeCasts_S2x128_S1x2x128) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x128 z shapeCasts_S2x128_S1x2x128) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x128 z shapeCasts_S2x128_S1x2x128) (?_ : _ = fun j => vel (x1 j) (x3 j))
    funext j
    pointwise [vel]

end Cert.AdamW22

end
-- ==== Proof.AdamW23.lean ====
/-
  AdamW on the weights of shape 2 × 256.
-/
module

public import proofs.«01_k».proof.Defs
public import proofs.«01_k».proof.Proof.AdamW
public import proofs.«01_k».proof.Proof.Gen.Kernel23Ideal.Value
public import proofs.«01_k».proof.Proof.Gen.Reference23Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW23

open Cert.Kernel23Ideal Cert.Kernel23Ideal.Gen Cert.Kernel23Ideal.Value Cert.AdamW

variable (m : (ℓ : Loc nD τ sig) → Buf (Elt Ideal) ℓ) (c : Dev nD) (t : Fin cfg0.N)

theorem pay2 (g a : Vec Ideal S1x2x256 .f32) : k0_pay2 (F := Ideal) g a = fun y => mom (g y) (a y) := by
  funext y; pointwise [k0_pay2, k0_pay1, mom]
theorem pay3 (g a : Vec Ideal S1x2x256 .f32) : k0_pay3 (F := Ideal) g a = fun y => vel (g y) (a y) := by
  funext y; pointwise [k0_pay3, k0_pay1, vel]
theorem pay4 (w g a b : Vec Ideal S1x2x256 .f32) :
    k0_pay4 (F := Ideal) w g a b = fun y => delta (w y) (g y) (a y) (b y) := by
  funext y; delta k0_pay4; simp only [pay2, pay3]; pointwise [delta, mom, vel]

abbrev w0 : FVec Ideal S1x2x256 .f32 := V m c main_v0
abbrev g0 : FVec Ideal S1x2x256 .f32 := V m c main_v1
abbrev m0 : FVec Ideal S1x2x256 .f32 := V m c main_v2
abbrev v0 : FVec Ideal S1x2x256 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x256 (m ((c : Thread nD τ).loc main_arg0)) shapeCasts_S2x256_S1x2x256 := by
  simp only [w0, V, hostOps0]; after_results_simp; rfl
theorem V1 : g0 m c = shapeCast S1x2x256 (m ((c : Thread nD τ).loc main_arg1)) shapeCasts_S2x256_S1x2x256 := by
  simp only [g0, V, hostOps0]; after_results_simp; rfl
theorem V2 : m0 m c = shapeCast S1x2x256 (m ((c : Thread nD τ).loc main_arg2)) shapeCasts_S2x256_S1x2x256 := by
  simp only [m0, V, hostOps0]; after_results_simp; rfl
theorem V3 : v0 m c = shapeCast S1x2x256 (m ((c : Thread nD τ).loc main_arg3)) shapeCasts_S2x256_S1x2x256 := by
  simp only [v0, V, hostOps0]; after_results_simp; rfl

/-- The claim: delta and both moments. -/
theorem algebraic : Cert.algebraic_Kernel23Ideal_Reference23Ideal (hKernel23Ideal := Cert.Kernel23Ideal.Gen.facts)
    (hReference23Ideal := Cert.Reference23Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference23Ideal.defs (F := Ideal)) _ _).mono (fun r h c => ?_) (Cert.Reference23Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x256 z shapeCasts_S2x256_S1x2x256) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x256 z shapeCasts_S2x256_S1x2x256) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x256 z shapeCasts_S2x256_S1x2x256) (?_ : _ = fun j => vel (x1 j) (x3 j))
    funext j
    pointwise [vel]

end Cert.AdamW23

end
-- ==== Proof.AdamW24.lean ====
/-
  AdamW on the weights of shape 2 × 384 × 288.
-/
module

public import proofs.«01_k».proof.Defs
public import proofs.«01_k».proof.Proof.Gen.Kernel24Ideal.Value
public import proofs.«01_k».proof.Proof.Gen.Reference24Ideal.Run
public import Idealize.ShloMosaic.Lib.Pointwise

@[expose] public section

set_option maxRecDepth 16384

noncomputable section

open Idealize.ShloMosaic Idealize.ShloMosaic.TcCoe Idealize.SL.Sem

namespace Cert.AdamW24

open Cert.Kernel24Ideal Cert.Kernel24Ideal.Gen Cert.Kernel24Ideal.Value

/-- The claim: delta and both moments. -/
theorem algebraic : Cert.algebraic_Kernel24Ideal_Reference24Ideal (hKernel24Ideal := Cert.Kernel24Ideal.Gen.facts)
    (hReference24Ideal := Cert.Reference24Ideal.Gen.facts) := by
  intro m g m' g' hpre hargs
  refine ⟨fun c => _, fun c => _, fun c => _, run (F := Ideal) m g, ?_⟩
  refine (θ_run (Cert.Reference24Ideal.defs (F := Ideal)) _ _).mono (fun r h c => ?_) (Cert.Reference24Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW24

end
-- ==== Proof.AdamW25.lean ====
/-
  AdamW on the weights of shape 2 × 256 × 384.
-/
module

public import proofs.«01_k».proof.Defs
public import proofs.«01_k».proof.Proof.Gen.Kernel25Ideal.Value
public import proofs.«01_k».proof.Proof.Gen.Reference25Ideal.Run
public import Idealize.ShloMosaic.Lib.Pointwise

@[expose] public section

set_option maxRecDepth 16384

noncomputable section

open Idealize.ShloMosaic Idealize.ShloMosaic.TcCoe Idealize.SL.Sem

namespace Cert.AdamW25

open Cert.Kernel25Ideal Cert.Kernel25Ideal.Gen Cert.Kernel25Ideal.Value

/-- The claim: delta and both moments. -/
theorem algebraic : Cert.algebraic_Kernel25Ideal_Reference25Ideal (hKernel25Ideal := Cert.Kernel25Ideal.Gen.facts)
    (hReference25Ideal := Cert.Reference25Ideal.Gen.facts) := by
  intro m g m' g' hpre hargs
  refine ⟨fun c => _, fun c => _, fun c => _, run (F := Ideal) m g, ?_⟩
  refine (θ_run (Cert.Reference25Ideal.defs (F := Ideal)) _ _).mono (fun r h c => ?_) (Cert.Reference25Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW25

end
-- ==== Proof.AdamW26.lean ====
/-
  AdamW on the weights of shape 2 × 768.
-/
module

public import proofs.«01_k».proof.Defs
public import proofs.«01_k».proof.Proof.AdamW
public import proofs.«01_k».proof.Proof.Gen.Kernel26Ideal.Value
public import proofs.«01_k».proof.Proof.Gen.Reference26Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW26

open Cert.Kernel26Ideal Cert.Kernel26Ideal.Gen Cert.Kernel26Ideal.Value Cert.AdamW

variable (m : (ℓ : Loc nD τ sig) → Buf (Elt Ideal) ℓ) (c : Dev nD) (t : Fin cfg0.N)

theorem pay2 (g a : Vec Ideal S1x2x768 .f32) : k0_pay2 (F := Ideal) g a = fun y => mom (g y) (a y) := by
  funext y; pointwise [k0_pay2, k0_pay1, mom]
theorem pay3 (g a : Vec Ideal S1x2x768 .f32) : k0_pay3 (F := Ideal) g a = fun y => vel (g y) (a y) := by
  funext y; pointwise [k0_pay3, k0_pay1, vel]
theorem pay4 (w g a b : Vec Ideal S1x2x768 .f32) :
    k0_pay4 (F := Ideal) w g a b = fun y => delta (w y) (g y) (a y) (b y) := by
  funext y; delta k0_pay4; simp only [pay2, pay3]; pointwise [delta, mom, vel]

abbrev w0 : FVec Ideal S1x2x768 .f32 := V m c main_v0
abbrev g0 : FVec Ideal S1x2x768 .f32 := V m c main_v1
abbrev m0 : FVec Ideal S1x2x768 .f32 := V m c main_v2
abbrev v0 : FVec Ideal S1x2x768 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x768 (m ((c : Thread nD τ).loc main_arg0)) shapeCasts_S2x768_S1x2x768 := by
  simp only [w0, V, hostOps0]; after_results_simp; rfl
theorem V1 : g0 m c = shapeCast S1x2x768 (m ((c : Thread nD τ).loc main_arg1)) shapeCasts_S2x768_S1x2x768 := by
  simp only [g0, V, hostOps0]; after_results_simp; rfl
theorem V2 : m0 m c = shapeCast S1x2x768 (m ((c : Thread nD τ).loc main_arg2)) shapeCasts_S2x768_S1x2x768 := by
  simp only [m0, V, hostOps0]; after_results_simp; rfl
theorem V3 : v0 m c = shapeCast S1x2x768 (m ((c : Thread nD τ).loc main_arg3)) shapeCasts_S2x768_S1x2x768 := by
  simp only [v0, V, hostOps0]; after_results_simp; rfl

/-- The claim: delta and both moments. -/
theorem algebraic : Cert.algebraic_Kernel26Ideal_Reference26Ideal (hKernel26Ideal := Cert.Kernel26Ideal.Gen.facts)
    (hReference26Ideal := Cert.Reference26Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference26Ideal.defs (F := Ideal)) _ _).mono (fun r h c => ?_) (Cert.Reference26Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x768 z shapeCasts_S2x768_S1x2x768) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x768 z shapeCasts_S2x768_S1x2x768) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x768 z shapeCasts_S2x768_S1x2x768) (?_ : _ = fun j => vel (x1 j) (x3 j))
    funext j
    pointwise [vel]

end Cert.AdamW26

end
-- ==== Proof.AdamW27.lean ====
/-
  AdamW on the weights of shape 2 × 3 × 128.
-/
module

public import proofs.«01_k».proof.Defs
public import proofs.«01_k».proof.Proof.Gen.Kernel27Ideal.Value
public import proofs.«01_k».proof.Proof.Gen.Reference27Ideal.Run
public import Idealize.ShloMosaic.Lib.Pointwise

@[expose] public section

set_option maxRecDepth 16384

noncomputable section

open Idealize.ShloMosaic Idealize.ShloMosaic.TcCoe Idealize.SL.Sem

namespace Cert.AdamW27

open Cert.Kernel27Ideal Cert.Kernel27Ideal.Gen Cert.Kernel27Ideal.Value

/-- The claim: delta and both moments. -/
theorem algebraic : Cert.algebraic_Kernel27Ideal_Reference27Ideal (hKernel27Ideal := Cert.Kernel27Ideal.Gen.facts)
    (hReference27Ideal := Cert.Reference27Ideal.Gen.facts) := by
  intro m g m' g' hpre hargs
  refine ⟨fun c => _, fun c => _, fun c => _, run (F := Ideal) m g, ?_⟩
  refine (θ_run (Cert.Reference27Ideal.defs (F := Ideal)) _ _).mono (fun r h c => ?_) (Cert.Reference27Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW27

end
-- ==== Proof.AdamW28.lean ====
/-
  AdamW on the weights of shape 2 × 512.
-/
module

public import proofs.«01_k».proof.Defs
public import proofs.«01_k».proof.Proof.AdamW
public import proofs.«01_k».proof.Proof.Gen.Kernel28Ideal.Value
public import proofs.«01_k».proof.Proof.Gen.Reference28Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW28

open Cert.Kernel28Ideal Cert.Kernel28Ideal.Gen Cert.Kernel28Ideal.Value Cert.AdamW

variable (m : (ℓ : Loc nD τ sig) → Buf (Elt Ideal) ℓ) (c : Dev nD) (t : Fin cfg0.N)

theorem pay2 (g a : Vec Ideal S1x2x512 .f32) : k0_pay2 (F := Ideal) g a = fun y => mom (g y) (a y) := by
  funext y; pointwise [k0_pay2, k0_pay1, mom]
theorem pay3 (g a : Vec Ideal S1x2x512 .f32) : k0_pay3 (F := Ideal) g a = fun y => vel (g y) (a y) := by
  funext y; pointwise [k0_pay3, k0_pay1, vel]
theorem pay4 (w g a b : Vec Ideal S1x2x512 .f32) :
    k0_pay4 (F := Ideal) w g a b = fun y => delta (w y) (g y) (a y) (b y) := by
  funext y; delta k0_pay4; simp only [pay2, pay3]; pointwise [delta, mom, vel]

abbrev w0 : FVec Ideal S1x2x512 .f32 := V m c main_v0
abbrev g0 : FVec Ideal S1x2x512 .f32 := V m c main_v1
abbrev m0 : FVec Ideal S1x2x512 .f32 := V m c main_v2
abbrev v0 : FVec Ideal S1x2x512 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x2x512 (m ((c : Thread nD τ).loc main_arg0)) shapeCasts_S2x512_S1x2x512 := by
  simp only [w0, V, hostOps0]; after_results_simp; rfl
theorem V1 : g0 m c = shapeCast S1x2x512 (m ((c : Thread nD τ).loc main_arg1)) shapeCasts_S2x512_S1x2x512 := by
  simp only [g0, V, hostOps0]; after_results_simp; rfl
theorem V2 : m0 m c = shapeCast S1x2x512 (m ((c : Thread nD τ).loc main_arg2)) shapeCasts_S2x512_S1x2x512 := by
  simp only [m0, V, hostOps0]; after_results_simp; rfl
theorem V3 : v0 m c = shapeCast S1x2x512 (m ((c : Thread nD τ).loc main_arg3)) shapeCasts_S2x512_S1x2x512 := by
  simp only [v0, V, hostOps0]; after_results_simp; rfl

/-- The claim: delta and both moments. -/
theorem algebraic : Cert.algebraic_Kernel28Ideal_Reference28Ideal (hKernel28Ideal := Cert.Kernel28Ideal.Gen.facts)
    (hReference28Ideal := Cert.Reference28Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference28Ideal.defs (F := Ideal)) _ _).mono (fun r h c => ?_) (Cert.Reference28Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x2x512 z shapeCasts_S2x512_S1x2x512) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x2x512 z shapeCasts_S2x512_S1x2x512) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x2x512 z shapeCasts_S2x512_S1x2x512) (?_ : _ = fun j => vel (x1 j) (x3 j))
    funext j
    pointwise [vel]

end Cert.AdamW28

end
-- ==== Proof.AdamW29.lean ====
/-
  AdamW on the weights of shape 2 × 512 × 2048.
-/
module

public import proofs.«01_k».proof.Defs
public import proofs.«01_k».proof.Proof.Gen.Kernel29Ideal.Value
public import proofs.«01_k».proof.Proof.Gen.Reference29Ideal.Run
public import Idealize.ShloMosaic.Lib.Pointwise

@[expose] public section

set_option maxRecDepth 16384

noncomputable section

open Idealize.ShloMosaic Idealize.ShloMosaic.TcCoe Idealize.SL.Sem

namespace Cert.AdamW29

open Cert.Kernel29Ideal Cert.Kernel29Ideal.Gen Cert.Kernel29Ideal.Value

/-- The claim: delta and both moments. -/
theorem algebraic : Cert.algebraic_Kernel29Ideal_Reference29Ideal (hKernel29Ideal := Cert.Kernel29Ideal.Gen.facts)
    (hReference29Ideal := Cert.Reference29Ideal.Gen.facts) := by
  intro m g m' g' hpre hargs
  refine ⟨fun c => _, fun c => _, fun c => _, run (F := Ideal) m g, ?_⟩
  refine (θ_run (Cert.Reference29Ideal.defs (F := Ideal)) _ _).mono (fun r h c => ?_) (Cert.Reference29Ideal.Value.run (F := Ideal) m' g')
  obtain ⟨h0, h1, h2, hrest⟩ := h c
  obtain ⟨e0, e1, e2, e3⟩ := hargs c
  refine ⟨h0.trans ?_, h1.trans ?_, h2.trans ?_, hrest⟩
  · rw [e0, e1, e2, e3]
    funext i
    pointwise [G4]
  · rw [e1, e2]
    funext i
    pointwise [G5]
  · rw [e1, e3]
    funext i
    pointwise [G6]

end Cert.AdamW29

end
-- ==== Proof.AdamW30.lean ====
/-
  AdamW on the weight of length 2048.
-/
module

public import proofs.«01_k».proof.Defs
public import proofs.«01_k».proof.Proof.AdamW
public import proofs.«01_k».proof.Proof.Gen.Kernel30Ideal.Value
public import proofs.«01_k».proof.Proof.Gen.Reference30Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW30

open Cert.Kernel30Ideal Cert.Kernel30Ideal.Gen Cert.Kernel30Ideal.Value Cert.AdamW

variable (m : (ℓ : Loc nD τ sig) → Buf (Elt Ideal) ℓ) (c : Dev nD) (t : Fin cfg0.N)

theorem pay2 (g a : Vec Ideal S1x1x2048 .f32) : k0_pay2 (F := Ideal) g a = fun y => mom (g y) (a y) := by
  funext y; pointwise [k0_pay2, k0_pay1, mom]
theorem pay3 (g a : Vec Ideal S1x1x2048 .f32) : k0_pay3 (F := Ideal) g a = fun y => vel (g y) (a y) := by
  funext y; pointwise [k0_pay3, k0_pay1, vel]
theorem pay4 (w g a b : Vec Ideal S1x1x2048 .f32) :
    k0_pay4 (F := Ideal) w g a b = fun y => delta (w y) (g y) (a y) (b y) := by
  funext y; delta k0_pay4; simp only [pay2, pay3]; pointwise [delta, mom, vel]

abbrev w0 : FVec Ideal S1x1x2048 .f32 := V m c main_v0
abbrev g0 : FVec Ideal S1x1x2048 .f32 := V m c main_v1
abbrev m0 : FVec Ideal S1x1x2048 .f32 := V m c main_v2
abbrev v0 : FVec Ideal S1x1x2048 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = shapeCast S1x1x2048 (m ((c : Thread nD τ).loc main_arg0)) shapeCasts_S2048_S1x1x2048 := by
  simp only [w0, V, hostOps0]; after_results_simp; rfl
theorem V1 : g0 m c = shapeCast S1x1x2048 (m ((c : Thread nD τ).loc main_arg1)) shapeCasts_S2048_S1x1x2048 := by
  simp only [g0, V, hostOps0]; after_results_simp; rfl
theorem V2 : m0 m c = shapeCast S1x1x2048 (m ((c : Thread nD τ).loc main_arg2)) shapeCasts_S2048_S1x1x2048 := by
  simp only [m0, V, hostOps0]; after_results_simp; rfl
theorem V3 : v0 m c = shapeCast S1x1x2048 (m ((c : Thread nD τ).loc main_arg3)) shapeCasts_S2048_S1x1x2048 := by
  simp only [v0, V, hostOps0]; after_results_simp; rfl

/-- The claim: delta and both moments. -/
theorem algebraic : Cert.algebraic_Kernel30Ideal_Reference30Ideal (hKernel30Ideal := Cert.Kernel30Ideal.Gen.facts)
    (hReference30Ideal := Cert.Reference30Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference30Ideal.defs (F := Ideal)) _ _).mono (fun r h c => ?_) (Cert.Reference30Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => shapeCast S1x1x2048 z shapeCasts_S2048_S1x1x2048) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => shapeCast S1x1x2048 z shapeCasts_S2048_S1x1x2048) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => shapeCast S1x1x2048 z shapeCasts_S2048_S1x1x2048) (?_ : _ = fun j => vel (x1 j) (x3 j))
    funext j
    pointwise [vel]

end Cert.AdamW30

end
-- ==== Proof.AdamW31.lean ====
/-
  AdamW on the input projection's weights, rows and columns exchanged.
-/
module

public import proofs.«01_k».proof.Defs
public import proofs.«01_k».proof.Proof.AdamW
public import proofs.«01_k».proof.Proof.Gen.Kernel31Ideal.Value
public import proofs.«01_k».proof.Proof.Gen.Reference31Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.AdamW31

open Cert.Kernel31Ideal Cert.Kernel31Ideal.Gen Cert.Kernel31Ideal.Value Cert.AdamW

variable (m : (ℓ : Loc nD τ sig) → Buf (Elt Ideal) ℓ) (c : Dev nD) (t : Fin cfg0.N)

theorem pay2 (g a : Vec Ideal S1x1464x128 .f32) : k0_pay2 (F := Ideal) g a = fun y => mom (g y) (a y) := by
  funext y; pointwise [k0_pay2, k0_pay1, mom]
theorem pay3 (g a : Vec Ideal S1x1464x128 .f32) : k0_pay3 (F := Ideal) g a = fun y => vel (g y) (a y) := by
  funext y; pointwise [k0_pay3, k0_pay1, vel]
theorem pay4 (w g a b : Vec Ideal S1x1464x128 .f32) :
    k0_pay4 (F := Ideal) w g a b = fun y => delta (w y) (g y) (a y) (b y) := by
  funext y; delta k0_pay4; simp only [pay2, pay3]; pointwise [delta, mom, vel]

abbrev w0 : FVec Ideal S2x1464x2048 .f32 := V m c main_v0
abbrev g0 : FVec Ideal S2x1464x2048 .f32 := V m c main_v1
abbrev m0 : FVec Ideal S2x1464x2048 .f32 := V m c main_v2
abbrev v0 : FVec Ideal S2x1464x2048 .f32 := V m c main_v3

theorem arr4 : (dats m 0 c).arrAt 4 cfg0.N = fun i => delta (w0 m c i) (g0 m c i) (m0 m c i) (v0 m c i) := by
  refine (dats m 0 c).arrAt_eq_of_covers 4 _ (by decide +kernel) fun t hf y => ?_
  blk_simp; rw [after0_4]
  frame_out
  refine (congrFun (pay4 _ _ _ _) y).trans ?_
  rfl
theorem arr5 : (dats m 0 c).arrAt 5 cfg0.N = fun i => mom (g0 m c i) (m0 m c i) := by
  refine (dats m 0 c).arrAt_eq_of_covers 5 _ (by decide +kernel) fun t hf y => ?_
  blk_simp; rw [after0_5]
  frame_out
  refine (congrFun (pay2 _ _) y).trans ?_
  rfl
theorem arr6 : (dats m 0 c).arrAt 6 cfg0.N = fun i => vel (g0 m c i) (v0 m c i) := by
  refine (dats m 0 c).arrAt_eq_of_covers 6 _ (by decide +kernel) fun t hf y => ?_
  blk_simp; rw [after0_6]
  frame_out
  refine (congrFun (pay3 _ _) y).trans ?_
  rfl

theorem V0 : w0 m c = transpose S2x1464x2048 [0, 2, 1] (m ((c : Thread nD τ).loc main_arg0)) transposes_S2x2048x1464_S2x1464x2048_0_2_1 := by
  simp only [w0, V, hostOps0]; after_results_simp
theorem V1 : g0 m c = transpose S2x1464x2048 [0, 2, 1] (m ((c : Thread nD τ).loc main_arg1)) transposes_S2x2048x1464_S2x1464x2048_0_2_1 := by
  simp only [g0, V, hostOps0]; after_results_simp
theorem V2 : m0 m c = transpose S2x1464x2048 [0, 2, 1] (m ((c : Thread nD τ).loc main_arg2)) transposes_S2x2048x1464_S2x1464x2048_0_2_1 := by
  simp only [m0, V, hostOps0]; after_results_simp
theorem V3 : v0 m c = transpose S2x1464x2048 [0, 2, 1] (m ((c : Thread nD τ).loc main_arg3)) transposes_S2x2048x1464_S2x1464x2048_0_2_1 := by
  simp only [v0, V, hostOps0]; after_results_simp

/-- The claim: delta and both moments. -/
theorem algebraic : Cert.algebraic_Kernel31Ideal_Reference31Ideal (hKernel31Ideal := Cert.Kernel31Ideal.Gen.facts)
    (hReference31Ideal := Cert.Reference31Ideal.Gen.facts) := by
  intro m g m' g' hpre hargs
  refine ⟨fun c => (dats m 0 c).arrAt 4 cfg0.N, fun c => (dats m 0 c).arrAt 5 cfg0.N, fun c => (dats m 0 c).arrAt 6 cfg0.N,
    run_blocks (F := Ideal) m g, ?_⟩
  refine (θ_run (Cert.Reference31Ideal.defs (F := Ideal)) _ _).mono (fun r h c => ?_) (Cert.Reference31Ideal.Value.run (F := Ideal) m' g')
  obtain ⟨h0, h1, h2, hrest⟩ := h c
  obtain ⟨e0, e1, e2, e3⟩ := hargs c
  refine ⟨h0.trans (Eq.trans ?_ (arr4 m c).symm), h1.trans (Eq.trans ?_ (arr5 m c).symm),
    h2.trans (Eq.trans ?_ (arr6 m c).symm), hrest⟩
  · rw [e0, e1, e2, e3, V0, V1, V2, V3]
    generalize m ((c : Thread nD τ).loc main_arg0) = x0
    generalize m ((c : Thread nD τ).loc main_arg1) = x1
    generalize m ((c : Thread nD τ).loc main_arg2) = x2
    generalize m ((c : Thread nD τ).loc main_arg3) = x3
    refine congrArg (fun z => transpose S2x1464x2048 [0, 2, 1] z transposes_S2x2048x1464_S2x1464x2048_0_2_1) (?_ : _ = fun j => delta (x0 j) (x1 j) (x2 j) (x3 j))
    funext j
    pointwise [delta, mom, vel]
  · rw [e1, e2, V1, V2]
    generalize m ((c : Thread nD τ).loc main_arg1) = x1
    generalize m ((c : Thread nD τ).loc main_arg2) = x2
    refine congrArg (fun z => transpose S2x1464x2048 [0, 2, 1] z transposes_S2x2048x1464_S2x1464x2048_0_2_1) (?_ : _ = fun j => mom (x1 j) (x2 j))
    funext j
    pointwise [mom]
  · rw [e1, e3, V1, V3]
    generalize m ((c : Thread nD τ).loc main_arg1) = x1
    generalize m ((c : Thread nD τ).loc main_arg3) = x3
    refine congrArg (fun z => transpose S2x1464x2048 [0, 2, 1] z transposes_S2x2048x1464_S2x1464x2048_0_2_1) (?_ : _ = fun j => vel (x1 j) (x3 j))
    funext j
    pointwise [vel]

end Cert.AdamW31

end
-- ==== Proof.Pair32.lean ====
/-
  The sum of the two cores' halves of a weight's gradient.
-/
module

public import proofs.«01_k».proof.Defs
public import proofs.«01_k».proof.Proof.Gen.Kernel32.Frame
public import proofs.«01_k».proof.Proof.Gen.Kernel32Ideal.Frame
public import proofs.«01_k».proof.Proof.Gen.Reference32Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Pair32

/-! ## The table holds zero, so the blocks lie inside their arrays -/

section bits
open Cert.Kernel32 Cert.Kernel32.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_bits]
  rfl
theorem inside_bits : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x1464x256.size a ≤ S2x4x1464x1024.size a),
    EltTy.bits .bf16 = 32 ∨ (Rect.block (s := S2x4x1464x1024) S1x1x1464x256.size ![0, (BitVec.ofNat 32 (i 0).val).toNat, (BitVec.ofNat 32 (i 1).val).toNat, (BitVec.ofNat 32 (i 2).val).toNat] h).WholeWords (EltTy.packing .bf16) := by
  decide +kernel
theorem ok_bits : Cert.Kernel32.Gen.Ok m := by
  intro i
  rw [map_bits]
  exact inside_bits i
end bits

open Cert.Kernel32Ideal Cert.Kernel32Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_ideal]
  rfl
theorem inside_ideal : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x1464x256.size a ≤ S2x4x1464x1024.size a),
    EltTy.bits .bf16 = 32 ∨ (Rect.block (s := S2x4x1464x1024) S1x1x1464x256.size ![0, (BitVec.ofNat 32 (i 0).val).toNat, (BitVec.ofNat 32 (i 1).val).toNat, (BitVec.ofNat 32 (i 2).val).toNat] h).WholeWords (EltTy.packing .bf16) := by
  decide +kernel
theorem ok : Ok m := by
  intro i
  rw [map_ideal]
  exact inside_ideal i
end ideal

/-- One block's sum. -/
theorem pay_apply (b0 : Vec Ideal S1x1x1464x256 .bf16) (b1 : Vec Ideal S1x1464x256 .bf16) (r : Fin 1464) (e : Fin 256) :
    k0_pay1 (F := Ideal) b0 b1 (ix3 0 r e) = b0 (ix4 0 0 r e) + b1 (ix3 0 r e) := by
  pointwise [k0_pay1]

variable (m : (ℓ : Loc nD τ sig) → Buf (Elt Ideal) ℓ) (c : Dev nD) (t : Fin (cfgM m (ok m)).N)

theorem lt_N : t.val < 16 := lt_of_lt_of_eq t.isLt (show grid0.N = 16 from N_0)

/-- The chip whose part point `t` adds. -/
def chip : Fin 4 := ⟨t.val / 4, by have := lt_N m t; omega⟩
/-- The column, in the whole array, of column `e` of point `t`'s block. -/
def col (e : Fin 256) : Fin 1024 := ⟨t.val % 4 * 256 + e.val, by omega⟩

abbrev a0 : FVec Ideal S2x4x1464x1024 .bf16 := m ((c : Thread nD τ).loc main_arg0)
abbrev a1 : FVec Ideal S4x1464x1024 .bf16 := m ((c : Thread nD τ).loc main_arg1)

theorem idx0 : ((cfgM m (ok m)).win 0).index t = ![0, t.val / 4, 0, t.val % 4] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat, (BitVec.ofNat 32 (grid0.coords t 2).val).toNat] : Fin 4 → Nat) = ![0, t.val / 4, 0, t.val % 4]) t
theorem idx1 : ((cfgM m (ok m)).win 1).index t = ![t.val / 4, 0, t.val % 4] :=
  (by decide +kernel : ∀ t : Fin grid0.N, cc0_transform_1 (grid0.coords t) = ![t.val / 4, 0, t.val % 4]) t
theorem idx2 : cc0_transform_2 (grid0.coords t) = ![t.val / 4, 0, t.val % 4] :=
  (by decide +kernel : ∀ t : Fin grid0.N, cc0_transform_2 (grid0.coords t) = ![t.val / 4, 0, t.val % 4]) t

theorem blk0 (r : Fin 1464) (e : Fin 256) :
    iblk m (ok m) c 0 t (ix4 0 0 r e) = a0 m c (ix4 0 (chip m t) r (col m t e)) := by
  have := lt_N m t
  have e0 := idx0 m t
  refine Eq.trans (b := V m c main_arg0 (ix4 0 (chip m t) r (col m t e))) ?_ (congrFun (V_main_arg0 m c) _)
  blk_ext [iblk, e0, chip, col]
theorem blk1 (r : Fin 1464) (e : Fin 256) :
    iblk m (ok m) c 1 t (ix3 0 r e) = a1 m c (ix3 (chip m t) r (col m t e)) := by
  have := lt_N m t
  have e0 := idx1 m t
  refine Eq.trans (b := V m c main_arg1 (ix3 (chip m t) r (col m t e))) ?_ (congrFun (V_main_arg1 m c) _)
  blk_ext [iblk, e0, chip, col]

/-- The index in the array of place (r, e) of point `t`'s block. -/
theorem emb (r : Fin 1464) (e : Fin 256) :
    (((cfgM m (ok m)).win 2).blk t).view.emb (ix3 0 r e) = ix3 (chip m t) r (col m t e) := by
  have e0 := idx2 m t
  funext a; apply Fin.ext
  match a with
  | ⟨0, _⟩ =>
    show cc0_transform_2 (grid0.coords t) 0 * 1 + 1 * 0 = t.val / 4
    rw [e0]; show t.val / 4 * 1 + 1 * 0 = _; omega
  | ⟨1, _⟩ =>
    show cc0_transform_2 (grid0.coords t) 1 * 1464 + 1 * r.val = r.val
    rw [e0]; show 0 * 1464 + 1 * r.val = _; omega
  | ⟨2, _⟩ =>
    show cc0_transform_2 (grid0.coords t) 2 * 256 + 1 * e.val = t.val % 4 * 256 + e.val
    rw [e0]; show t.val % 4 * 256 + 1 * e.val = _; omega

/-- The array the kernel leaves. -/
def out (x0 : FVec Ideal S2x4x1464x1024 .bf16) (x1 : FVec Ideal S4x1464x1024 .bf16) : FVec Ideal S4x1464x1024 .bf16 := fun i =>
  x0 (ix4 0 (i 0) (i 1) (i 2)) + x1 (ix3 (i 0) (i 1) (i 2))

theorem out_apply (x0 : FVec Ideal S2x4x1464x1024 .bf16) (x1 : FVec Ideal S4x1464x1024 .bf16) (k : Fin 4) (r : Fin 1464) (e : Fin 1024) :
    out x0 x1 (ix3 k r e) = x0 (ix4 0 k r e) + x1 (ix3 k r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 2).Covers := by
  have h : ∀ z, z = zero → ((cfg0 z).win 2).Covers := by rintro _ rfl; decide +kernel
  exact h _ (Subtype.ext (tbl_ideal m))

theorem onto (y : S1x1464x256.Idx) : ∃ (a : Fin 1464) (b : Fin 256), y = ix3 0 a b :=
  ⟨y 1, y 2, (eq_ix3 y).trans (congrArg (fun z : Fin 1 => (ix3 z (y 1 : Fin 1464) (y 2 : Fin 256) : S1x1464x256.Idx)) (Subsingleton.elim (α := Fin 1) (y 0) 0))⟩

/-- What the body leaves in the output block. -/
theorem left (x0 : Vec Ideal S1x1x1464x256 .bf16) (x1 : Vec Ideal S1x1464x256 .bf16) :
    out0_A_2 c (grid0.coords t) (ms0_0 m (ok m) t) (hs0_0 m (ok m) t) (ms0_1 m (ok m) t) (hs0_1 m (ok m) t) (ms0_2 m (ok m) t) (hs0_2 m (ok m) t)
      x0 x1 (tbl m 0) = k0_pay1 (F := Ideal) x0 x1 := by
  frame_out

theorem arr : (dats m (ok m) 0 c).arrAt 2 (cfgM m (ok m)).N = out (a0 m c) (a1 m c) := by
  refine (dats m (ok m) 0 c).arrAt_eq_of_covers 2 _ (cov m) fun t hf y => ?_
  blk_simp; rw [after0_2]
  obtain ⟨r, e, rfl⟩ := onto y
  rw [emb, out_apply]
  unfold outsAt0
  refine (congrFun (left m c t _ _) _).trans ((pay_apply _ _ r e).trans ?_)
  rw [blk0, blk1]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

/-- The claim: at every index the reference adds the same two numbers. -/
theorem algebraic : Cert.algebraic_Kernel32Ideal_Reference32Ideal (hKernel32Ideal := Cert.Kernel32Ideal.Gen.facts)
    (hReference32Ideal := Cert.Reference32Ideal.Gen.facts) := by
  intro m g m' g' hpre hargs
  refine ⟨fun c => (dats m (ok m) 0 c).arrAt 2 (cfgM m (ok m)).N, run m g, ?_⟩
  refine (θ_run (Cert.Reference32Ideal.defs (F := Ideal)) _ _).mono (fun r h c => ?_) (Cert.Reference32Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨k, r, e, rfl⟩ : ∃ (k : Fin 4) (a : Fin 1464) (b : Fin 1024), i = ix3 k a b := ⟨i 0, i 1, i 2, eq_ix3 i⟩
  rw [out_apply]
  pointwise []

end Cert.Pair32

end
-- ==== Proof.Pair33.lean ====
/-
  The sum of the two cores' halves of a weight's gradient.
-/
module

public import proofs.«01_k».proof.Defs
public import proofs.«01_k».proof.Proof.Gen.Kernel33.Frame
public import proofs.«01_k».proof.Proof.Gen.Kernel33Ideal.Frame
public import proofs.«01_k».proof.Proof.Gen.Reference33Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Pair33

/-! ## The table holds zero, so the blocks lie inside their arrays -/

section bits
open Cert.Kernel33 Cert.Kernel33.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_bits]
  rfl
theorem inside_bits : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x256x2048.size a ≤ S2x4x256x2048.size a),
    EltTy.bits .bf16 = 32 ∨ (Rect.block (s := S2x4x256x2048) S1x1x256x2048.size ![0, (BitVec.ofNat 32 (i 0).val).toNat, (BitVec.ofNat 32 (i 1).val).toNat, (BitVec.ofNat 32 (i 2).val).toNat] h).WholeWords (EltTy.packing .bf16) := by
  decide +kernel
theorem ok_bits : Cert.Kernel33.Gen.Ok m := by
  intro i
  rw [map_bits]
  exact inside_bits i
end bits

open Cert.Kernel33Ideal Cert.Kernel33Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_ideal]
  rfl
theorem inside_ideal : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x256x2048.size a ≤ S2x4x256x2048.size a),
    EltTy.bits .bf16 = 32 ∨ (Rect.block (s := S2x4x256x2048) S1x1x256x2048.size ![0, (BitVec.ofNat 32 (i 0).val).toNat, (BitVec.ofNat 32 (i 1).val).toNat, (BitVec.ofNat 32 (i 2).val).toNat] h).WholeWords (EltTy.packing .bf16) := by
  decide +kernel
theorem ok : Ok m := by
  intro i
  rw [map_ideal]
  exact inside_ideal i
end ideal

/-- One block's sum. -/
theorem pay_apply (b0 : Vec Ideal S1x1x256x2048 .bf16) (b1 : Vec Ideal S1x256x2048 .bf16) (r : Fin 256) (e : Fin 2048) :
    k0_pay1 (F := Ideal) b0 b1 (ix3 0 r e) = b0 (ix4 0 0 r e) + b1 (ix3 0 r e) := by
  pointwise [k0_pay1]

variable (m : (ℓ : Loc nD τ sig) → Buf (Elt Ideal) ℓ) (c : Dev nD) (t : Fin (cfgM m (ok m)).N)

theorem lt_N : t.val < 4 := lt_of_lt_of_eq t.isLt (show grid0.N = 4 from N_0)

/-- The chip whose part point `t` adds. -/
def chip : Fin 4 := ⟨t.val / 1, by have := lt_N m t; omega⟩
/-- The column, in the whole array, of column `e` of point `t`'s block. -/
def col (e : Fin 2048) : Fin 2048 := ⟨t.val % 1 * 2048 + e.val, by omega⟩

abbrev a0 : FVec Ideal S2x4x256x2048 .bf16 := m ((c : Thread nD τ).loc main_arg0)
abbrev a1 : FVec Ideal S4x256x2048 .bf16 := m ((c : Thread nD τ).loc main_arg1)

theorem idx0 : ((cfgM m (ok m)).win 0).index t = ![0, t.val / 1, 0, t.val % 1] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat, (BitVec.ofNat 32 (grid0.coords t 2).val).toNat] : Fin 4 → Nat) = ![0, t.val / 1, 0, t.val % 1]) t
theorem idx1 : ((cfgM m (ok m)).win 1).index t = ![t.val / 1, 0, t.val % 1] :=
  (by decide +kernel : ∀ t : Fin grid0.N, cc0_transform_1 (grid0.coords t) = ![t.val / 1, 0, t.val % 1]) t
theorem idx2 : cc0_transform_2 (grid0.coords t) = ![t.val / 1, 0, t.val % 1] :=
  (by decide +kernel : ∀ t : Fin grid0.N, cc0_transform_2 (grid0.coords t) = ![t.val / 1, 0, t.val % 1]) t

theorem blk0 (r : Fin 256) (e : Fin 2048) :
    iblk m (ok m) c 0 t (ix4 0 0 r e) = a0 m c (ix4 0 (chip m t) r (col m t e)) := by
  have := lt_N m t
  have e0 := idx0 m t
  refine Eq.trans (b := V m c main_arg0 (ix4 0 (chip m t) r (col m t e))) ?_ (congrFun (V_main_arg0 m c) _)
  blk_ext [iblk, e0, chip, col]
theorem blk1 (r : Fin 256) (e : Fin 2048) :
    iblk m (ok m) c 1 t (ix3 0 r e) = a1 m c (ix3 (chip m t) r (col m t e)) := by
  have := lt_N m t
  have e0 := idx1 m t
  refine Eq.trans (b := V m c main_arg1 (ix3 (chip m t) r (col m t e))) ?_ (congrFun (V_main_arg1 m c) _)
  blk_ext [iblk, e0, chip, col]

/-- The index in the array of place (r, e) of point `t`'s block. -/
theorem emb (r : Fin 256) (e : Fin 2048) :
    (((cfgM m (ok m)).win 2).blk t).view.emb (ix3 0 r e) = ix3 (chip m t) r (col m t e) := by
  have e0 := idx2 m t
  funext a; apply Fin.ext
  match a with
  | ⟨0, _⟩ =>
    show cc0_transform_2 (grid0.coords t) 0 * 1 + 1 * 0 = t.val / 1
    rw [e0]; show t.val / 1 * 1 + 1 * 0 = _; omega
  | ⟨1, _⟩ =>
    show cc0_transform_2 (grid0.coords t) 1 * 256 + 1 * r.val = r.val
    rw [e0]; show 0 * 256 + 1 * r.val = _; omega
  | ⟨2, _⟩ =>
    show cc0_transform_2 (grid0.coords t) 2 * 2048 + 1 * e.val = t.val % 1 * 2048 + e.val
    rw [e0]; show t.val % 1 * 2048 + 1 * e.val = _; omega

/-- The array the kernel leaves. -/
def out (x0 : FVec Ideal S2x4x256x2048 .bf16) (x1 : FVec Ideal S4x256x2048 .bf16) : FVec Ideal S4x256x2048 .bf16 := fun i =>
  x0 (ix4 0 (i 0) (i 1) (i 2)) + x1 (ix3 (i 0) (i 1) (i 2))

theorem out_apply (x0 : FVec Ideal S2x4x256x2048 .bf16) (x1 : FVec Ideal S4x256x2048 .bf16) (k : Fin 4) (r : Fin 256) (e : Fin 2048) :
    out x0 x1 (ix3 k r e) = x0 (ix4 0 k r e) + x1 (ix3 k r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 2).Covers := by
  have h : ∀ z, z = zero → ((cfg0 z).win 2).Covers := by rintro _ rfl; decide +kernel
  exact h _ (Subtype.ext (tbl_ideal m))

theorem onto (y : S1x256x2048.Idx) : ∃ (a : Fin 256) (b : Fin 2048), y = ix3 0 a b :=
  ⟨y 1, y 2, (eq_ix3 y).trans (congrArg (fun z : Fin 1 => (ix3 z (y 1 : Fin 256) (y 2 : Fin 2048) : S1x256x2048.Idx)) (Subsingleton.elim (α := Fin 1) (y 0) 0))⟩

/-- What the body leaves in the output block. -/
theorem left (x0 : Vec Ideal S1x1x256x2048 .bf16) (x1 : Vec Ideal S1x256x2048 .bf16) :
    out0_A_2 c (grid0.coords t) (ms0_0 m (ok m) t) (hs0_0 m (ok m) t) (ms0_1 m (ok m) t) (hs0_1 m (ok m) t) (ms0_2 m (ok m) t) (hs0_2 m (ok m) t)
      x0 x1 (tbl m 0) = k0_pay1 (F := Ideal) x0 x1 := by
  frame_out

theorem arr : (dats m (ok m) 0 c).arrAt 2 (cfgM m (ok m)).N = out (a0 m c) (a1 m c) := by
  refine (dats m (ok m) 0 c).arrAt_eq_of_covers 2 _ (cov m) fun t hf y => ?_
  blk_simp; rw [after0_2]
  obtain ⟨r, e, rfl⟩ := onto y
  rw [emb, out_apply]
  unfold outsAt0
  refine (congrFun (left m c t _ _) _).trans ((pay_apply _ _ r e).trans ?_)
  rw [blk0, blk1]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

/-- The claim: at every index the reference adds the same two numbers. -/
theorem algebraic : Cert.algebraic_Kernel33Ideal_Reference33Ideal (hKernel33Ideal := Cert.Kernel33Ideal.Gen.facts)
    (hReference33Ideal := Cert.Reference33Ideal.Gen.facts) := by
  intro m g m' g' hpre hargs
  refine ⟨fun c => (dats m (ok m) 0 c).arrAt 2 (cfgM m (ok m)).N, run m g, ?_⟩
  refine (θ_run (Cert.Reference33Ideal.defs (F := Ideal)) _ _).mono (fun r h c => ?_) (Cert.Reference33Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨k, r, e, rfl⟩ : ∃ (k : Fin 4) (a : Fin 256) (b : Fin 2048), i = ix3 k a b := ⟨i 0, i 1, i 2, eq_ix3 i⟩
  rw [out_apply]
  pointwise []

end Cert.Pair33

end
-- ==== Proof.Pair34.lean ====
/-
  The sum of the two cores' halves of a weight's gradient.
-/
module

public import proofs.«01_k».proof.Defs
public import proofs.«01_k».proof.Proof.Gen.Kernel34.Frame
public import proofs.«01_k».proof.Proof.Gen.Kernel34Ideal.Frame
public import proofs.«01_k».proof.Proof.Gen.Reference34Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Pair34

/-! ## The table holds zero, so the blocks lie inside their arrays -/

section bits
open Cert.Kernel34 Cert.Kernel34.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_bits]
  rfl
theorem inside_bits : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x192x288.size a ≤ S2x4x192x288.size a),
    EltTy.bits .bf16 = 32 ∨ (Rect.block (s := S2x4x192x288) S1x1x192x288.size ![0, (BitVec.ofNat 32 (i 0).val).toNat, (BitVec.ofNat 32 (i 1).val).toNat, (BitVec.ofNat 32 (i 2).val).toNat] h).WholeWords (EltTy.packing .bf16) := by
  decide +kernel
theorem ok_bits : Cert.Kernel34.Gen.Ok m := by
  intro i
  rw [map_bits]
  exact inside_bits i
end bits

open Cert.Kernel34Ideal Cert.Kernel34Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_ideal]
  rfl
theorem inside_ideal : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x192x288.size a ≤ S2x4x192x288.size a),
    EltTy.bits .bf16 = 32 ∨ (Rect.block (s := S2x4x192x288) S1x1x192x288.size ![0, (BitVec.ofNat 32 (i 0).val).toNat, (BitVec.ofNat 32 (i 1).val).toNat, (BitVec.ofNat 32 (i 2).val).toNat] h).WholeWords (EltTy.packing .bf16) := by
  decide +kernel
theorem ok : Ok m := by
  intro i
  rw [map_ideal]
  exact inside_ideal i
end ideal

/-- One block's sum. -/
theorem pay_apply (b0 : Vec Ideal S1x1x192x288 .bf16) (b1 : Vec Ideal S1x192x288 .bf16) (r : Fin 192) (e : Fin 288) :
    k0_pay1 (F := Ideal) b0 b1 (ix3 0 r e) = b0 (ix4 0 0 r e) + b1 (ix3 0 r e) := by
  pointwise [k0_pay1]

variable (m : (ℓ : Loc nD τ sig) → Buf (Elt Ideal) ℓ) (c : Dev nD) (t : Fin (cfgM m (ok m)).N)

theorem lt_N : t.val < 4 := lt_of_lt_of_eq t.isLt (show grid0.N = 4 from N_0)

/-- The chip whose part point `t` adds. -/
def chip : Fin 4 := ⟨t.val / 1, by have := lt_N m t; omega⟩
/-- The column, in the whole array, of column `e` of point `t`'s block. -/
def col (e : Fin 288) : Fin 288 := ⟨t.val % 1 * 288 + e.val, by omega⟩

abbrev a0 : FVec Ideal S2x4x192x288 .bf16 := m ((c : Thread nD τ).loc main_arg0)
abbrev a1 : FVec Ideal S4x192x288 .bf16 := m ((c : Thread nD τ).loc main_arg1)

theorem idx0 : ((cfgM m (ok m)).win 0).index t = ![0, t.val / 1, 0, t.val % 1] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat, (BitVec.ofNat 32 (grid0.coords t 2).val).toNat] : Fin 4 → Nat) = ![0, t.val / 1, 0, t.val % 1]) t
theorem idx1 : ((cfgM m (ok m)).win 1).index t = ![t.val / 1, 0, t.val % 1] :=
  (by decide +kernel : ∀ t : Fin grid0.N, cc0_transform_1 (grid0.coords t) = ![t.val / 1, 0, t.val % 1]) t
theorem idx2 : cc0_transform_2 (grid0.coords t) = ![t.val / 1, 0, t.val % 1] :=
  (by decide +kernel : ∀ t : Fin grid0.N, cc0_transform_2 (grid0.coords t) = ![t.val / 1, 0, t.val % 1]) t

theorem blk0 (r : Fin 192) (e : Fin 288) :
    iblk m (ok m) c 0 t (ix4 0 0 r e) = a0 m c (ix4 0 (chip m t) r (col m t e)) := by
  have := lt_N m t
  have e0 := idx0 m t
  refine Eq.trans (b := V m c main_arg0 (ix4 0 (chip m t) r (col m t e))) ?_ (congrFun (V_main_arg0 m c) _)
  blk_ext [iblk, e0, chip, col]
theorem blk1 (r : Fin 192) (e : Fin 288) :
    iblk m (ok m) c 1 t (ix3 0 r e) = a1 m c (ix3 (chip m t) r (col m t e)) := by
  have := lt_N m t
  have e0 := idx1 m t
  refine Eq.trans (b := V m c main_arg1 (ix3 (chip m t) r (col m t e))) ?_ (congrFun (V_main_arg1 m c) _)
  blk_ext [iblk, e0, chip, col]

/-- The index in the array of place (r, e) of point `t`'s block. -/
theorem emb (r : Fin 192) (e : Fin 288) :
    (((cfgM m (ok m)).win 2).blk t).view.emb (ix3 0 r e) = ix3 (chip m t) r (col m t e) := by
  have e0 := idx2 m t
  funext a; apply Fin.ext
  match a with
  | ⟨0, _⟩ =>
    show cc0_transform_2 (grid0.coords t) 0 * 1 + 1 * 0 = t.val / 1
    rw [e0]; show t.val / 1 * 1 + 1 * 0 = _; omega
  | ⟨1, _⟩ =>
    show cc0_transform_2 (grid0.coords t) 1 * 192 + 1 * r.val = r.val
    rw [e0]; show 0 * 192 + 1 * r.val = _; omega
  | ⟨2, _⟩ =>
    show cc0_transform_2 (grid0.coords t) 2 * 288 + 1 * e.val = t.val % 1 * 288 + e.val
    rw [e0]; show t.val % 1 * 288 + 1 * e.val = _; omega

/-- The array the kernel leaves. -/
def out (x0 : FVec Ideal S2x4x192x288 .bf16) (x1 : FVec Ideal S4x192x288 .bf16) : FVec Ideal S4x192x288 .bf16 := fun i =>
  x0 (ix4 0 (i 0) (i 1) (i 2)) + x1 (ix3 (i 0) (i 1) (i 2))

theorem out_apply (x0 : FVec Ideal S2x4x192x288 .bf16) (x1 : FVec Ideal S4x192x288 .bf16) (k : Fin 4) (r : Fin 192) (e : Fin 288) :
    out x0 x1 (ix3 k r e) = x0 (ix4 0 k r e) + x1 (ix3 k r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 2).Covers := by
  have h : ∀ z, z = zero → ((cfg0 z).win 2).Covers := by rintro _ rfl; decide +kernel
  exact h _ (Subtype.ext (tbl_ideal m))

theorem onto (y : S1x192x288.Idx) : ∃ (a : Fin 192) (b : Fin 288), y = ix3 0 a b :=
  ⟨y 1, y 2, (eq_ix3 y).trans (congrArg (fun z : Fin 1 => (ix3 z (y 1 : Fin 192) (y 2 : Fin 288) : S1x192x288.Idx)) (Subsingleton.elim (α := Fin 1) (y 0) 0))⟩

/-- What the body leaves in the output block. -/
theorem left (x0 : Vec Ideal S1x1x192x288 .bf16) (x1 : Vec Ideal S1x192x288 .bf16) :
    out0_A_2 c (grid0.coords t) (ms0_0 m (ok m) t) (hs0_0 m (ok m) t) (ms0_1 m (ok m) t) (hs0_1 m (ok m) t) (ms0_2 m (ok m) t) (hs0_2 m (ok m) t)
      x0 x1 (tbl m 0) = k0_pay1 (F := Ideal) x0 x1 := by
  frame_out

theorem arr : (dats m (ok m) 0 c).arrAt 2 (cfgM m (ok m)).N = out (a0 m c) (a1 m c) := by
  refine (dats m (ok m) 0 c).arrAt_eq_of_covers 2 _ (cov m) fun t hf y => ?_
  blk_simp; rw [after0_2]
  obtain ⟨r, e, rfl⟩ := onto y
  rw [emb, out_apply]
  unfold outsAt0
  refine (congrFun (left m c t _ _) _).trans ((pay_apply _ _ r e).trans ?_)
  rw [blk0, blk1]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

/-- The claim: at every index the reference adds the same two numbers. -/
theorem algebraic : Cert.algebraic_Kernel34Ideal_Reference34Ideal (hKernel34Ideal := Cert.Kernel34Ideal.Gen.facts)
    (hReference34Ideal := Cert.Reference34Ideal.Gen.facts) := by
  intro m g m' g' hpre hargs
  refine ⟨fun c => (dats m (ok m) 0 c).arrAt 2 (cfgM m (ok m)).N, run m g, ?_⟩
  refine (θ_run (Cert.Reference34Ideal.defs (F := Ideal)) _ _).mono (fun r h c => ?_) (Cert.Reference34Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨k, r, e, rfl⟩ : ∃ (k : Fin 4) (a : Fin 192) (b : Fin 288), i = ix3 k a b := ⟨i 0, i 1, i 2, eq_ix3 i⟩
  rw [out_apply]
  pointwise []

end Cert.Pair34

end
-- ==== Proof.Pair35.lean ====
/-
  The sum of the two cores' halves of a weight's gradient.
-/
module

public import proofs.«01_k».proof.Defs
public import proofs.«01_k».proof.Proof.Gen.Kernel35.Frame
public import proofs.«01_k».proof.Proof.Gen.Kernel35Ideal.Frame
public import proofs.«01_k».proof.Proof.Gen.Reference35Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Pair35

/-! ## The table holds zero, so the blocks lie inside their arrays -/

section bits
open Cert.Kernel35 Cert.Kernel35.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_bits]
  rfl
theorem inside_bits : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x128x384.size a ≤ S2x4x128x384.size a),
    EltTy.bits .bf16 = 32 ∨ (Rect.block (s := S2x4x128x384) S1x1x128x384.size ![0, (BitVec.ofNat 32 (i 0).val).toNat, (BitVec.ofNat 32 (i 1).val).toNat, (BitVec.ofNat 32 (i 2).val).toNat] h).WholeWords (EltTy.packing .bf16) := by
  decide +kernel
theorem ok_bits : Cert.Kernel35.Gen.Ok m := by
  intro i
  rw [map_bits]
  exact inside_bits i
end bits

open Cert.Kernel35Ideal Cert.Kernel35Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat, (BitVec.ofNat 32 (i 2).val).toNat] := by
  rw [tbl_ideal]
  rfl
theorem inside_ideal : ∀ i : grid0.Coords, ∃ h : (∀ a, ((![0, (BitVec.ofNat 32 (i 0).val).toNat, (BitVec.ofNat 32 (i 1).val).toNat, (BitVec.ofNat 32 (i 2).val).toNat] : Fin 4 → Nat) a + 1) * S1x1x128x384.size a ≤ S2x4x128x384.size a),
    EltTy.bits .bf16 = 32 ∨ (Rect.block (s := S2x4x128x384) S1x1x128x384.size ![0, (BitVec.ofNat 32 (i 0).val).toNat, (BitVec.ofNat 32 (i 1).val).toNat, (BitVec.ofNat 32 (i 2).val).toNat] h).WholeWords (EltTy.packing .bf16) := by
  decide +kernel
theorem ok : Ok m := by
  intro i
  rw [map_ideal]
  exact inside_ideal i
end ideal

/-- One block's sum. -/
theorem pay_apply (b0 : Vec Ideal S1x1x128x384 .bf16) (b1 : Vec Ideal S1x128x384 .bf16) (r : Fin 128) (e : Fin 384) :
    k0_pay1 (F := Ideal) b0 b1 (ix3 0 r e) = b0 (ix4 0 0 r e) + b1 (ix3 0 r e) := by
  pointwise [k0_pay1]

variable (m : (ℓ : Loc nD τ sig) → Buf (Elt Ideal) ℓ) (c : Dev nD) (t : Fin (cfgM m (ok m)).N)

theorem lt_N : t.val < 4 := lt_of_lt_of_eq t.isLt (show grid0.N = 4 from N_0)

/-- The chip whose part point `t` adds. -/
def chip : Fin 4 := ⟨t.val / 1, by have := lt_N m t; omega⟩
/-- The column, in the whole array, of column `e` of point `t`'s block. -/
def col (e : Fin 384) : Fin 384 := ⟨t.val % 1 * 384 + e.val, by omega⟩

abbrev a0 : FVec Ideal S2x4x128x384 .bf16 := m ((c : Thread nD τ).loc main_arg0)
abbrev a1 : FVec Ideal S4x128x384 .bf16 := m ((c : Thread nD τ).loc main_arg1)

theorem idx0 : ((cfgM m (ok m)).win 0).index t = ![0, t.val / 1, 0, t.val % 1] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat, (BitVec.ofNat 32 (grid0.coords t 2).val).toNat] : Fin 4 → Nat) = ![0, t.val / 1, 0, t.val % 1]) t
theorem idx1 : ((cfgM m (ok m)).win 1).index t = ![t.val / 1, 0, t.val % 1] :=
  (by decide +kernel : ∀ t : Fin grid0.N, cc0_transform_1 (grid0.coords t) = ![t.val / 1, 0, t.val % 1]) t
theorem idx2 : cc0_transform_2 (grid0.coords t) = ![t.val / 1, 0, t.val % 1] :=
  (by decide +kernel : ∀ t : Fin grid0.N, cc0_transform_2 (grid0.coords t) = ![t.val / 1, 0, t.val % 1]) t

theorem blk0 (r : Fin 128) (e : Fin 384) :
    iblk m (ok m) c 0 t (ix4 0 0 r e) = a0 m c (ix4 0 (chip m t) r (col m t e)) := by
  have := lt_N m t
  have e0 := idx0 m t
  refine Eq.trans (b := V m c main_arg0 (ix4 0 (chip m t) r (col m t e))) ?_ (congrFun (V_main_arg0 m c) _)
  blk_ext [iblk, e0, chip, col]
theorem blk1 (r : Fin 128) (e : Fin 384) :
    iblk m (ok m) c 1 t (ix3 0 r e) = a1 m c (ix3 (chip m t) r (col m t e)) := by
  have := lt_N m t
  have e0 := idx1 m t
  refine Eq.trans (b := V m c main_arg1 (ix3 (chip m t) r (col m t e))) ?_ (congrFun (V_main_arg1 m c) _)
  blk_ext [iblk, e0, chip, col]

/-- The index in the array of place (r, e) of point `t`'s block. -/
theorem emb (r : Fin 128) (e : Fin 384) :
    (((cfgM m (ok m)).win 2).blk t).view.emb (ix3 0 r e) = ix3 (chip m t) r (col m t e) := by
  have e0 := idx2 m t
  funext a; apply Fin.ext
  match a with
  | ⟨0, _⟩ =>
    show cc0_transform_2 (grid0.coords t) 0 * 1 + 1 * 0 = t.val / 1
    rw [e0]; show t.val / 1 * 1 + 1 * 0 = _; omega
  | ⟨1, _⟩ =>
    show cc0_transform_2 (grid0.coords t) 1 * 128 + 1 * r.val = r.val
    rw [e0]; show 0 * 128 + 1 * r.val = _; omega
  | ⟨2, _⟩ =>
    show cc0_transform_2 (grid0.coords t) 2 * 384 + 1 * e.val = t.val % 1 * 384 + e.val
    rw [e0]; show t.val % 1 * 384 + 1 * e.val = _; omega

/-- The array the kernel leaves. -/
def out (x0 : FVec Ideal S2x4x128x384 .bf16) (x1 : FVec Ideal S4x128x384 .bf16) : FVec Ideal S4x128x384 .bf16 := fun i =>
  x0 (ix4 0 (i 0) (i 1) (i 2)) + x1 (ix3 (i 0) (i 1) (i 2))

theorem out_apply (x0 : FVec Ideal S2x4x128x384 .bf16) (x1 : FVec Ideal S4x128x384 .bf16) (k : Fin 4) (r : Fin 128) (e : Fin 384) :
    out x0 x1 (ix3 k r e) = x0 (ix4 0 k r e) + x1 (ix3 k r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 2).Covers := by
  have h : ∀ z, z = zero → ((cfg0 z).win 2).Covers := by rintro _ rfl; decide +kernel
  exact h _ (Subtype.ext (tbl_ideal m))

theorem onto (y : S1x128x384.Idx) : ∃ (a : Fin 128) (b : Fin 384), y = ix3 0 a b :=
  ⟨y 1, y 2, (eq_ix3 y).trans (congrArg (fun z : Fin 1 => (ix3 z (y 1 : Fin 128) (y 2 : Fin 384) : S1x128x384.Idx)) (Subsingleton.elim (α := Fin 1) (y 0) 0))⟩

/-- What the body leaves in the output block. -/
theorem left (x0 : Vec Ideal S1x1x128x384 .bf16) (x1 : Vec Ideal S1x128x384 .bf16) :
    out0_A_2 c (grid0.coords t) (ms0_0 m (ok m) t) (hs0_0 m (ok m) t) (ms0_1 m (ok m) t) (hs0_1 m (ok m) t) (ms0_2 m (ok m) t) (hs0_2 m (ok m) t)
      x0 x1 (tbl m 0) = k0_pay1 (F := Ideal) x0 x1 := by
  frame_out

theorem arr : (dats m (ok m) 0 c).arrAt 2 (cfgM m (ok m)).N = out (a0 m c) (a1 m c) := by
  refine (dats m (ok m) 0 c).arrAt_eq_of_covers 2 _ (cov m) fun t hf y => ?_
  blk_simp; rw [after0_2]
  obtain ⟨r, e, rfl⟩ := onto y
  rw [emb, out_apply]
  unfold outsAt0
  refine (congrFun (left m c t _ _) _).trans ((pay_apply _ _ r e).trans ?_)
  rw [blk0, blk1]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

/-- The claim: at every index the reference adds the same two numbers. -/
theorem algebraic : Cert.algebraic_Kernel35Ideal_Reference35Ideal (hKernel35Ideal := Cert.Kernel35Ideal.Gen.facts)
    (hReference35Ideal := Cert.Reference35Ideal.Gen.facts) := by
  intro m g m' g' hpre hargs
  refine ⟨fun c => (dats m (ok m) 0 c).arrAt 2 (cfgM m (ok m)).N, run m g, ?_⟩
  refine (θ_run (Cert.Reference35Ideal.defs (F := Ideal)) _ _).mono (fun r h c => ?_) (Cert.Reference35Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨k, r, e, rfl⟩ : ∃ (k : Fin 4) (a : Fin 128) (b : Fin 384), i = ix3 k a b := ⟨i 0, i 1, i 2, eq_ix3 i⟩
  rw [out_apply]
  pointwise []

end Cert.Pair35

end
-- ==== Proof.Chips36.lean ====
/-
  The sum over the four chips.
-/
module

public import proofs.«01_k».proof.Defs
public import proofs.«01_k».proof.Proof.Gen.Kernel36.Frame
public import proofs.«01_k».proof.Proof.Gen.Kernel36Ideal.Frame
public import proofs.«01_k».proof.Proof.Gen.Reference36Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Chips36

/-! ## The table holds zero, so the blocks lie inside their arrays -/

section bits
open Cert.Kernel36 Cert.Kernel36.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat] := by
  rw [tbl_bits]
  rfl
theorem inside_bits : ∀ i : grid0.Coords, ∃ h : (∀ a, ((![0, (BitVec.ofNat 32 (i 0).val).toNat, (BitVec.ofNat 32 (i 1).val).toNat] : Fin 3 → Nat) a + 1) * S1x1464x256.size a ≤ S4x1464x1024.size a),
    EltTy.bits .bf16 = 32 ∨ (Rect.block (s := S4x1464x1024) S1x1464x256.size ![0, (BitVec.ofNat 32 (i 0).val).toNat, (BitVec.ofNat 32 (i 1).val).toNat] h).WholeWords (EltTy.packing .bf16) := by
  decide +kernel
theorem ok_bits : Ok m := by
  intro i
  rw [map_bits]
  exact inside_bits i
end bits

open Cert.Kernel36Ideal Cert.Kernel36Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat] := by
  rw [tbl_ideal]
  rfl
theorem inside_ideal : ∀ i : grid0.Coords, ∃ h : (∀ a, ((![0, (BitVec.ofNat 32 (i 0).val).toNat, (BitVec.ofNat 32 (i 1).val).toNat] : Fin 3 → Nat) a + 1) * S1x1464x256.size a ≤ S4x1464x1024.size a),
    EltTy.bits .bf16 = 32 ∨ (Rect.block (s := S4x1464x1024) S1x1464x256.size ![0, (BitVec.ofNat 32 (i 0).val).toNat, (BitVec.ofNat 32 (i 1).val).toNat] h).WholeWords (EltTy.packing .bf16) := by
  decide +kernel
theorem ok : Ok m := by
  intro i
  rw [map_ideal]
  exact inside_ideal i
end ideal

/-- One block's sum. -/
theorem pay_apply (b0 b1 b2 b3 : Vec Ideal S1x1464x256 .bf16) (r : Fin 1464) (e : Fin 256) :
    k0_pay1 (F := Ideal) b0 b1 b2 b3 (ix2 r e) = b0 (ix3 0 r e) + b1 (ix3 0 r e) + b2 (ix3 0 r e) + b3 (ix3 0 r e) := by
  pointwise [k0_pay1]

variable (m : (ℓ : Loc nD τ sig) → Buf (Elt Ideal) ℓ) (c : Dev nD) (t : Fin (cfgM m (ok m)).N)

theorem lt_N : t.val < 4 := lt_of_lt_of_eq t.isLt (show grid0.N = 4 from N_0)

abbrev a0 : FVec Ideal S4x1464x1024 .bf16 := m ((c : Thread nD τ).loc main_arg0)
abbrev a1 : FVec Ideal S3x1464x1024 .bf16 := m ((c : Thread nD τ).loc main_arg1)

theorem idx0 : ((cfgM m (ok m)).win 0).index t = ![0, 0, t.val] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat] : Fin 3 → Nat) = ![0, 0, t.val]) t
theorem idx1 : ((cfgM m (ok m)).win 1).index t = ![0, 0, t.val] :=
  (by decide +kernel : ∀ t : Fin grid0.N, cc0_transform_1 (grid0.coords t) = ![0, 0, t.val]) t
theorem idx2 : ((cfgM m (ok m)).win 2).index t = ![1, 0, t.val] :=
  (by decide +kernel : ∀ t : Fin grid0.N, cc0_transform_2 (grid0.coords t) = ![1, 0, t.val]) t
theorem idx3 : ((cfgM m (ok m)).win 3).index t = ![2, 0, t.val] :=
  (by decide +kernel : ∀ t : Fin grid0.N, cc0_transform_3 (grid0.coords t) = ![2, 0, t.val]) t
theorem idx4 : cc0_transform_4 (grid0.coords t) = ![0, t.val] :=
  (by decide +kernel : ∀ t : Fin grid0.N, cc0_transform_4 (grid0.coords t) = ![0, t.val]) t

theorem blk0 (r : Fin 1464) (e : Fin 256) :
    iblk m (ok m) c 0 t (ix3 0 r e) = a0 m c (ix3 0 r ⟨t.val * 256 + e.val, by have := lt_N m t; omega⟩) := by
  have := lt_N m t
  have e0 := idx0 m t
  refine Eq.trans (b := V m c main_arg0 (ix3 0 r ⟨t.val * 256 + e.val, by omega⟩)) ?_ (congrFun (V_main_arg0 m c) _)
  blk_ext [iblk, e0]
theorem blk1 (r : Fin 1464) (e : Fin 256) :
    iblk m (ok m) c 1 t (ix3 0 r e) = a1 m c (ix3 0 r ⟨t.val * 256 + e.val, by have := lt_N m t; omega⟩) := by
  have := lt_N m t
  have e0 := idx1 m t
  refine Eq.trans (b := V m c main_arg1 (ix3 0 r ⟨t.val * 256 + e.val, by omega⟩)) ?_ (congrFun (V_main_arg1 m c) _)
  blk_ext [iblk, e0]
theorem blk2 (r : Fin 1464) (e : Fin 256) :
    iblk m (ok m) c 2 t (ix3 0 r e) = a1 m c (ix3 1 r ⟨t.val * 256 + e.val, by have := lt_N m t; omega⟩) := by
  have := lt_N m t
  have e0 := idx2 m t
  refine Eq.trans (b := V m c main_arg1 (ix3 1 r ⟨t.val * 256 + e.val, by omega⟩)) ?_ (congrFun (V_main_arg1 m c) _)
  blk_ext [iblk, e0]
theorem blk3 (r : Fin 1464) (e : Fin 256) :
    iblk m (ok m) c 3 t (ix3 0 r e) = a1 m c (ix3 2 r ⟨t.val * 256 + e.val, by have := lt_N m t; omega⟩) := by
  have := lt_N m t
  have e0 := idx3 m t
  refine Eq.trans (b := V m c main_arg1 (ix3 2 r ⟨t.val * 256 + e.val, by omega⟩)) ?_ (congrFun (V_main_arg1 m c) _)
  blk_ext [iblk, e0]

/-- The index in the array of place (r, e) of point `t`'s block. -/
theorem emb (r : Fin 1464) (e : Fin 256) :
    (((cfgM m (ok m)).win 4).blk t).view.emb (ix2 r e) = ix2 r ⟨t.val * 256 + e.val, by have := lt_N m t; omega⟩ := by
  have e0 := idx4 m t
  funext a; apply Fin.ext
  match a with
  | ⟨0, _⟩ =>
    show cc0_transform_4 (grid0.coords t) 0 * 1464 + 1 * r.val = r.val
    rw [e0]; show 0 * 1464 + 1 * r.val = _; omega
  | ⟨1, _⟩ =>
    show cc0_transform_4 (grid0.coords t) 1 * 256 + 1 * e.val = t.val * 256 + e.val
    rw [e0]; show t.val * 256 + 1 * e.val = _; omega

/-- The array the kernel leaves. -/
def out (x0 : FVec Ideal S4x1464x1024 .bf16) (x1 : FVec Ideal S3x1464x1024 .bf16) : FVec Ideal S1464x1024 .f32 := fun i =>
  x0 (ix3 0 (i 0) (i 1)) + x1 (ix3 0 (i 0) (i 1)) + x1 (ix3 1 (i 0) (i 1)) + x1 (ix3 2 (i 0) (i 1))

theorem out_apply (x0 : FVec Ideal S4x1464x1024 .bf16) (x1 : FVec Ideal S3x1464x1024 .bf16) (r : Fin 1464) (e : Fin 1024) :
    out x0 x1 (ix2 r e) = x0 (ix3 0 r e) + x1 (ix3 0 r e) + x1 (ix3 1 r e) + x1 (ix3 2 r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 4).Covers := by
  have h : ∀ z, z = zero → ((cfg0 z).win 4).Covers := by rintro _ rfl; decide +kernel
  exact h _ (Subtype.ext (tbl_ideal m))

theorem onto (y : S1464x256.Idx) : ∃ (a : Fin 1464) (b : Fin 256), y = ix2 a b := ⟨y 0, y 1, eq_ix2 y⟩

/-- What the body leaves in the output block. -/
theorem left (x0 x1 x2 x3 : Vec Ideal S1x1464x256 .bf16) :
    out0_A_4 c (grid0.coords t) (ms0_0 m (ok m) t) (hs0_0 m (ok m) t) (ms0_1 m (ok m) t) (hs0_1 m (ok m) t) (ms0_2 m (ok m) t) (hs0_2 m (ok m) t)
      (ms0_3 m (ok m) t) (hs0_3 m (ok m) t) (ms0_4 m (ok m) t) (hs0_4 m (ok m) t) x0 x1 x2 x3 (tbl m 0) = k0_pay1 (F := Ideal) x0 x1 x2 x3 := by
  frame_out

theorem arr : (dats m (ok m) 0 c).arrAt 4 (cfgM m (ok m)).N = out (a0 m c) (a1 m c) := by
  refine (dats m (ok m) 0 c).arrAt_eq_of_covers 4 _ (cov m) fun t hf y => ?_
  blk_simp; rw [after0_4]
  obtain ⟨r, e, rfl⟩ : ∃ (a : Fin 1464) (b : Fin 256), y = ix2 a b := onto y
  rw [emb, out_apply]
  unfold outsAt0
  refine (congrFun (left m c t _ _ _ _) _).trans ((pay_apply _ _ _ _ r e).trans ?_)
  rw [blk0, blk1, blk2, blk3]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 4 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 0).trans (((dats m (ok m) 0 c).arrAt_in 0 rfl _).trans ((A_eq m (ok m) c 0).trans (V_main_arg0 m c))),
      ((h c).1 3).trans (((dats m (ok m) 0 c).arrAt_in 3 rfl _).trans ((A_eq m (ok m) c 3).trans (V_main_arg1 m c)))⟩)
    (run_main m ρ (ok m))

/-- The claim: at every index the reference adds the same four numbers. -/
theorem algebraic : Cert.algebraic_Kernel36Ideal_Reference36Ideal (hKernel36Ideal := Cert.Kernel36Ideal.Gen.facts)
    (hReference36Ideal := Cert.Reference36Ideal.Gen.facts) := by
  intro m g m' g' hpre hargs
  refine ⟨fun c => (dats m (ok m) 0 c).arrAt 4 (cfgM m (ok m)).N, run m g, ?_⟩
  refine (θ_run (Cert.Reference36Ideal.defs (F := Ideal)) _ _).mono (fun r h c => ?_) (Cert.Reference36Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 1464) (b : Fin 1024), i = ix2 a b := ⟨i 0, i 1, eq_ix2 i⟩
  rw [out_apply]
  pointwise []
  simp only [Fin.sum_univ_three, add_assoc]

end Cert.Chips36

end
-- ==== Proof.Chips37.lean ====
/-
  The sum over the four chips.
-/
module

public import proofs.«01_k».proof.Defs
public import proofs.«01_k».proof.Proof.Gen.Kernel37.Frame
public import proofs.«01_k».proof.Proof.Gen.Kernel37Ideal.Frame
public import proofs.«01_k».proof.Proof.Gen.Reference37Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Chips37

/-! ## The table holds zero, so the blocks lie inside their arrays -/

section bits
open Cert.Kernel37 Cert.Kernel37.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat] := by
  rw [tbl_bits]
  rfl
theorem inside_bits : ∀ i : grid0.Coords, ∃ h : (∀ a, ((![0, (BitVec.ofNat 32 (i 0).val).toNat, (BitVec.ofNat 32 (i 1).val).toNat] : Fin 3 → Nat) a + 1) * S1x256x2048.size a ≤ S4x256x2048.size a),
    EltTy.bits .bf16 = 32 ∨ (Rect.block (s := S4x256x2048) S1x256x2048.size ![0, (BitVec.ofNat 32 (i 0).val).toNat, (BitVec.ofNat 32 (i 1).val).toNat] h).WholeWords (EltTy.packing .bf16) := by
  decide +kernel
theorem ok_bits : Ok m := by
  intro i
  rw [map_bits]
  exact inside_bits i
end bits

open Cert.Kernel37Ideal Cert.Kernel37Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat] := by
  rw [tbl_ideal]
  rfl
theorem inside_ideal : ∀ i : grid0.Coords, ∃ h : (∀ a, ((![0, (BitVec.ofNat 32 (i 0).val).toNat, (BitVec.ofNat 32 (i 1).val).toNat] : Fin 3 → Nat) a + 1) * S1x256x2048.size a ≤ S4x256x2048.size a),
    EltTy.bits .bf16 = 32 ∨ (Rect.block (s := S4x256x2048) S1x256x2048.size ![0, (BitVec.ofNat 32 (i 0).val).toNat, (BitVec.ofNat 32 (i 1).val).toNat] h).WholeWords (EltTy.packing .bf16) := by
  decide +kernel
theorem ok : Ok m := by
  intro i
  rw [map_ideal]
  exact inside_ideal i
end ideal

/-- One block's sum. -/
theorem pay_apply (b0 b1 b2 b3 : Vec Ideal S1x256x2048 .bf16) (r : Fin 256) (e : Fin 2048) :
    k0_pay1 (F := Ideal) b0 b1 b2 b3 (ix2 r e) = b0 (ix3 0 r e) + b1 (ix3 0 r e) + b2 (ix3 0 r e) + b3 (ix3 0 r e) := by
  pointwise [k0_pay1]

variable (m : (ℓ : Loc nD τ sig) → Buf (Elt Ideal) ℓ) (c : Dev nD) (t : Fin (cfgM m (ok m)).N)

theorem lt_N : t.val < 1 := lt_of_lt_of_eq t.isLt (show grid0.N = 1 from N_0)

abbrev a0 : FVec Ideal S4x256x2048 .bf16 := m ((c : Thread nD τ).loc main_arg0)
abbrev a1 : FVec Ideal S3x256x2048 .bf16 := m ((c : Thread nD τ).loc main_arg1)

theorem idx0 : ((cfgM m (ok m)).win 0).index t = ![0, 0, t.val] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat] : Fin 3 → Nat) = ![0, 0, t.val]) t
theorem idx1 : ((cfgM m (ok m)).win 1).index t = ![0, 0, t.val] :=
  (by decide +kernel : ∀ t : Fin grid0.N, cc0_transform_1 (grid0.coords t) = ![0, 0, t.val]) t
theorem idx2 : ((cfgM m (ok m)).win 2).index t = ![1, 0, t.val] :=
  (by decide +kernel : ∀ t : Fin grid0.N, cc0_transform_2 (grid0.coords t) = ![1, 0, t.val]) t
theorem idx3 : ((cfgM m (ok m)).win 3).index t = ![2, 0, t.val] :=
  (by decide +kernel : ∀ t : Fin grid0.N, cc0_transform_3 (grid0.coords t) = ![2, 0, t.val]) t
theorem idx4 : cc0_transform_4 (grid0.coords t) = ![0, t.val] :=
  (by decide +kernel : ∀ t : Fin grid0.N, cc0_transform_4 (grid0.coords t) = ![0, t.val]) t

theorem blk0 (r : Fin 256) (e : Fin 2048) :
    iblk m (ok m) c 0 t (ix3 0 r e) = a0 m c (ix3 0 r ⟨t.val * 2048 + e.val, by have := lt_N m t; omega⟩) := by
  have := lt_N m t
  have e0 := idx0 m t
  refine Eq.trans (b := V m c main_arg0 (ix3 0 r ⟨t.val * 2048 + e.val, by omega⟩)) ?_ (congrFun (V_main_arg0 m c) _)
  blk_ext [iblk, e0]
theorem blk1 (r : Fin 256) (e : Fin 2048) :
    iblk m (ok m) c 1 t (ix3 0 r e) = a1 m c (ix3 0 r ⟨t.val * 2048 + e.val, by have := lt_N m t; omega⟩) := by
  have := lt_N m t
  have e0 := idx1 m t
  refine Eq.trans (b := V m c main_arg1 (ix3 0 r ⟨t.val * 2048 + e.val, by omega⟩)) ?_ (congrFun (V_main_arg1 m c) _)
  blk_ext [iblk, e0]
theorem blk2 (r : Fin 256) (e : Fin 2048) :
    iblk m (ok m) c 2 t (ix3 0 r e) = a1 m c (ix3 1 r ⟨t.val * 2048 + e.val, by have := lt_N m t; omega⟩) := by
  have := lt_N m t
  have e0 := idx2 m t
  refine Eq.trans (b := V m c main_arg1 (ix3 1 r ⟨t.val * 2048 + e.val, by omega⟩)) ?_ (congrFun (V_main_arg1 m c) _)
  blk_ext [iblk, e0]
theorem blk3 (r : Fin 256) (e : Fin 2048) :
    iblk m (ok m) c 3 t (ix3 0 r e) = a1 m c (ix3 2 r ⟨t.val * 2048 + e.val, by have := lt_N m t; omega⟩) := by
  have := lt_N m t
  have e0 := idx3 m t
  refine Eq.trans (b := V m c main_arg1 (ix3 2 r ⟨t.val * 2048 + e.val, by omega⟩)) ?_ (congrFun (V_main_arg1 m c) _)
  blk_ext [iblk, e0]

/-- The index in the array of place (r, e) of point `t`'s block. -/
theorem emb (r : Fin 256) (e : Fin 2048) :
    (((cfgM m (ok m)).win 4).blk t).view.emb (ix2 r e) = ix2 r ⟨t.val * 2048 + e.val, by have := lt_N m t; omega⟩ := by
  have e0 := idx4 m t
  funext a; apply Fin.ext
  match a with
  | ⟨0, _⟩ =>
    show cc0_transform_4 (grid0.coords t) 0 * 256 + 1 * r.val = r.val
    rw [e0]; show 0 * 256 + 1 * r.val = _; omega
  | ⟨1, _⟩ =>
    show cc0_transform_4 (grid0.coords t) 1 * 2048 + 1 * e.val = t.val * 2048 + e.val
    rw [e0]; show t.val * 2048 + 1 * e.val = _; omega

/-- The array the kernel leaves. -/
def out (x0 : FVec Ideal S4x256x2048 .bf16) (x1 : FVec Ideal S3x256x2048 .bf16) : FVec Ideal S256x2048 .f32 := fun i =>
  x0 (ix3 0 (i 0) (i 1)) + x1 (ix3 0 (i 0) (i 1)) + x1 (ix3 1 (i 0) (i 1)) + x1 (ix3 2 (i 0) (i 1))

theorem out_apply (x0 : FVec Ideal S4x256x2048 .bf16) (x1 : FVec Ideal S3x256x2048 .bf16) (r : Fin 256) (e : Fin 2048) :
    out x0 x1 (ix2 r e) = x0 (ix3 0 r e) + x1 (ix3 0 r e) + x1 (ix3 1 r e) + x1 (ix3 2 r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 4).Covers := by
  have h : ∀ z, z = zero → ((cfg0 z).win 4).Covers := by rintro _ rfl; decide +kernel
  exact h _ (Subtype.ext (tbl_ideal m))

theorem onto (y : S256x2048.Idx) : ∃ (a : Fin 256) (b : Fin 2048), y = ix2 a b := ⟨y 0, y 1, eq_ix2 y⟩

/-- What the body leaves in the output block. -/
theorem left (x0 x1 x2 x3 : Vec Ideal S1x256x2048 .bf16) :
    out0_A_4 c (grid0.coords t) (ms0_0 m (ok m) t) (hs0_0 m (ok m) t) (ms0_1 m (ok m) t) (hs0_1 m (ok m) t) (ms0_2 m (ok m) t) (hs0_2 m (ok m) t)
      (ms0_3 m (ok m) t) (hs0_3 m (ok m) t) (ms0_4 m (ok m) t) (hs0_4 m (ok m) t) x0 x1 x2 x3 (tbl m 0) = k0_pay1 (F := Ideal) x0 x1 x2 x3 := by
  frame_out

theorem arr : (dats m (ok m) 0 c).arrAt 4 (cfgM m (ok m)).N = out (a0 m c) (a1 m c) := by
  refine (dats m (ok m) 0 c).arrAt_eq_of_covers 4 _ (cov m) fun t hf y => ?_
  blk_simp; rw [after0_4]
  obtain ⟨r, e, rfl⟩ : ∃ (a : Fin 256) (b : Fin 2048), y = ix2 a b := onto y
  rw [emb, out_apply]
  unfold outsAt0
  refine (congrFun (left m c t _ _ _ _) _).trans ((pay_apply _ _ _ _ r e).trans ?_)
  rw [blk0, blk1, blk2, blk3]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 4 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 0).trans (((dats m (ok m) 0 c).arrAt_in 0 rfl _).trans ((A_eq m (ok m) c 0).trans (V_main_arg0 m c))),
      ((h c).1 3).trans (((dats m (ok m) 0 c).arrAt_in 3 rfl _).trans ((A_eq m (ok m) c 3).trans (V_main_arg1 m c)))⟩)
    (run_main m ρ (ok m))

/-- The claim: at every index the reference adds the same four numbers. -/
theorem algebraic : Cert.algebraic_Kernel37Ideal_Reference37Ideal (hKernel37Ideal := Cert.Kernel37Ideal.Gen.facts)
    (hReference37Ideal := Cert.Reference37Ideal.Gen.facts) := by
  intro m g m' g' hpre hargs
  refine ⟨fun c => (dats m (ok m) 0 c).arrAt 4 (cfgM m (ok m)).N, run m g, ?_⟩
  refine (θ_run (Cert.Reference37Ideal.defs (F := Ideal)) _ _).mono (fun r h c => ?_) (Cert.Reference37Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 256) (b : Fin 2048), i = ix2 a b := ⟨i 0, i 1, eq_ix2 i⟩
  rw [out_apply]
  pointwise []
  simp only [Fin.sum_univ_three, add_assoc]

end Cert.Chips37

end
-- ==== Proof.Chips38.lean ====
/-
  The sum over the four chips.
-/
module

public import proofs.«01_k».proof.Defs
public import proofs.«01_k».proof.Proof.Gen.Kernel38.Frame
public import proofs.«01_k».proof.Proof.Gen.Kernel38Ideal.Frame
public import proofs.«01_k».proof.Proof.Gen.Reference38Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Chips38

/-! ## The table holds zero, so the blocks lie inside their arrays -/

section bits
open Cert.Kernel38 Cert.Kernel38.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat] := by
  rw [tbl_bits]
  rfl
theorem inside_bits : ∀ i : grid0.Coords, ∃ h : (∀ a, ((![0, (BitVec.ofNat 32 (i 0).val).toNat, (BitVec.ofNat 32 (i 1).val).toNat] : Fin 3 → Nat) a + 1) * S1x192x288.size a ≤ S4x192x288.size a),
    EltTy.bits .bf16 = 32 ∨ (Rect.block (s := S4x192x288) S1x192x288.size ![0, (BitVec.ofNat 32 (i 0).val).toNat, (BitVec.ofNat 32 (i 1).val).toNat] h).WholeWords (EltTy.packing .bf16) := by
  decide +kernel
theorem ok_bits : Ok m := by
  intro i
  rw [map_bits]
  exact inside_bits i
end bits

open Cert.Kernel38Ideal Cert.Kernel38Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat] := by
  rw [tbl_ideal]
  rfl
theorem inside_ideal : ∀ i : grid0.Coords, ∃ h : (∀ a, ((![0, (BitVec.ofNat 32 (i 0).val).toNat, (BitVec.ofNat 32 (i 1).val).toNat] : Fin 3 → Nat) a + 1) * S1x192x288.size a ≤ S4x192x288.size a),
    EltTy.bits .bf16 = 32 ∨ (Rect.block (s := S4x192x288) S1x192x288.size ![0, (BitVec.ofNat 32 (i 0).val).toNat, (BitVec.ofNat 32 (i 1).val).toNat] h).WholeWords (EltTy.packing .bf16) := by
  decide +kernel
theorem ok : Ok m := by
  intro i
  rw [map_ideal]
  exact inside_ideal i
end ideal

/-- One block's sum. -/
theorem pay_apply (b0 b1 b2 b3 : Vec Ideal S1x192x288 .bf16) (r : Fin 192) (e : Fin 288) :
    k0_pay1 (F := Ideal) b0 b1 b2 b3 (ix2 r e) = b0 (ix3 0 r e) + b1 (ix3 0 r e) + b2 (ix3 0 r e) + b3 (ix3 0 r e) := by
  pointwise [k0_pay1]

variable (m : (ℓ : Loc nD τ sig) → Buf (Elt Ideal) ℓ) (c : Dev nD) (t : Fin (cfgM m (ok m)).N)

theorem lt_N : t.val < 1 := lt_of_lt_of_eq t.isLt (show grid0.N = 1 from N_0)

abbrev a0 : FVec Ideal S4x192x288 .bf16 := m ((c : Thread nD τ).loc main_arg0)
abbrev a1 : FVec Ideal S3x192x288 .bf16 := m ((c : Thread nD τ).loc main_arg1)

theorem idx0 : ((cfgM m (ok m)).win 0).index t = ![0, 0, t.val] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat] : Fin 3 → Nat) = ![0, 0, t.val]) t
theorem idx1 : ((cfgM m (ok m)).win 1).index t = ![0, 0, t.val] :=
  (by decide +kernel : ∀ t : Fin grid0.N, cc0_transform_1 (grid0.coords t) = ![0, 0, t.val]) t
theorem idx2 : ((cfgM m (ok m)).win 2).index t = ![1, 0, t.val] :=
  (by decide +kernel : ∀ t : Fin grid0.N, cc0_transform_2 (grid0.coords t) = ![1, 0, t.val]) t
theorem idx3 : ((cfgM m (ok m)).win 3).index t = ![2, 0, t.val] :=
  (by decide +kernel : ∀ t : Fin grid0.N, cc0_transform_3 (grid0.coords t) = ![2, 0, t.val]) t
theorem idx4 : cc0_transform_4 (grid0.coords t) = ![0, t.val] :=
  (by decide +kernel : ∀ t : Fin grid0.N, cc0_transform_4 (grid0.coords t) = ![0, t.val]) t

theorem blk0 (r : Fin 192) (e : Fin 288) :
    iblk m (ok m) c 0 t (ix3 0 r e) = a0 m c (ix3 0 r ⟨t.val * 288 + e.val, by have := lt_N m t; omega⟩) := by
  have := lt_N m t
  have e0 := idx0 m t
  refine Eq.trans (b := V m c main_arg0 (ix3 0 r ⟨t.val * 288 + e.val, by omega⟩)) ?_ (congrFun (V_main_arg0 m c) _)
  blk_ext [iblk, e0]
theorem blk1 (r : Fin 192) (e : Fin 288) :
    iblk m (ok m) c 1 t (ix3 0 r e) = a1 m c (ix3 0 r ⟨t.val * 288 + e.val, by have := lt_N m t; omega⟩) := by
  have := lt_N m t
  have e0 := idx1 m t
  refine Eq.trans (b := V m c main_arg1 (ix3 0 r ⟨t.val * 288 + e.val, by omega⟩)) ?_ (congrFun (V_main_arg1 m c) _)
  blk_ext [iblk, e0]
theorem blk2 (r : Fin 192) (e : Fin 288) :
    iblk m (ok m) c 2 t (ix3 0 r e) = a1 m c (ix3 1 r ⟨t.val * 288 + e.val, by have := lt_N m t; omega⟩) := by
  have := lt_N m t
  have e0 := idx2 m t
  refine Eq.trans (b := V m c main_arg1 (ix3 1 r ⟨t.val * 288 + e.val, by omega⟩)) ?_ (congrFun (V_main_arg1 m c) _)
  blk_ext [iblk, e0]
theorem blk3 (r : Fin 192) (e : Fin 288) :
    iblk m (ok m) c 3 t (ix3 0 r e) = a1 m c (ix3 2 r ⟨t.val * 288 + e.val, by have := lt_N m t; omega⟩) := by
  have := lt_N m t
  have e0 := idx3 m t
  refine Eq.trans (b := V m c main_arg1 (ix3 2 r ⟨t.val * 288 + e.val, by omega⟩)) ?_ (congrFun (V_main_arg1 m c) _)
  blk_ext [iblk, e0]

/-- The index in the array of place (r, e) of point `t`'s block. -/
theorem emb (r : Fin 192) (e : Fin 288) :
    (((cfgM m (ok m)).win 4).blk t).view.emb (ix2 r e) = ix2 r ⟨t.val * 288 + e.val, by have := lt_N m t; omega⟩ := by
  have e0 := idx4 m t
  funext a; apply Fin.ext
  match a with
  | ⟨0, _⟩ =>
    show cc0_transform_4 (grid0.coords t) 0 * 192 + 1 * r.val = r.val
    rw [e0]; show 0 * 192 + 1 * r.val = _; omega
  | ⟨1, _⟩ =>
    show cc0_transform_4 (grid0.coords t) 1 * 288 + 1 * e.val = t.val * 288 + e.val
    rw [e0]; show t.val * 288 + 1 * e.val = _; omega

/-- The array the kernel leaves. -/
def out (x0 : FVec Ideal S4x192x288 .bf16) (x1 : FVec Ideal S3x192x288 .bf16) : FVec Ideal S192x288 .f32 := fun i =>
  x0 (ix3 0 (i 0) (i 1)) + x1 (ix3 0 (i 0) (i 1)) + x1 (ix3 1 (i 0) (i 1)) + x1 (ix3 2 (i 0) (i 1))

theorem out_apply (x0 : FVec Ideal S4x192x288 .bf16) (x1 : FVec Ideal S3x192x288 .bf16) (r : Fin 192) (e : Fin 288) :
    out x0 x1 (ix2 r e) = x0 (ix3 0 r e) + x1 (ix3 0 r e) + x1 (ix3 1 r e) + x1 (ix3 2 r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 4).Covers := by
  have h : ∀ z, z = zero → ((cfg0 z).win 4).Covers := by rintro _ rfl; decide +kernel
  exact h _ (Subtype.ext (tbl_ideal m))

theorem onto (y : S192x288.Idx) : ∃ (a : Fin 192) (b : Fin 288), y = ix2 a b := ⟨y 0, y 1, eq_ix2 y⟩

/-- What the body leaves in the output block. -/
theorem left (x0 x1 x2 x3 : Vec Ideal S1x192x288 .bf16) :
    out0_A_4 c (grid0.coords t) (ms0_0 m (ok m) t) (hs0_0 m (ok m) t) (ms0_1 m (ok m) t) (hs0_1 m (ok m) t) (ms0_2 m (ok m) t) (hs0_2 m (ok m) t)
      (ms0_3 m (ok m) t) (hs0_3 m (ok m) t) (ms0_4 m (ok m) t) (hs0_4 m (ok m) t) x0 x1 x2 x3 (tbl m 0) = k0_pay1 (F := Ideal) x0 x1 x2 x3 := by
  frame_out

theorem arr : (dats m (ok m) 0 c).arrAt 4 (cfgM m (ok m)).N = out (a0 m c) (a1 m c) := by
  refine (dats m (ok m) 0 c).arrAt_eq_of_covers 4 _ (cov m) fun t hf y => ?_
  blk_simp; rw [after0_4]
  obtain ⟨r, e, rfl⟩ : ∃ (a : Fin 192) (b : Fin 288), y = ix2 a b := onto y
  rw [emb, out_apply]
  unfold outsAt0
  refine (congrFun (left m c t _ _ _ _) _).trans ((pay_apply _ _ _ _ r e).trans ?_)
  rw [blk0, blk1, blk2, blk3]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 4 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 0).trans (((dats m (ok m) 0 c).arrAt_in 0 rfl _).trans ((A_eq m (ok m) c 0).trans (V_main_arg0 m c))),
      ((h c).1 3).trans (((dats m (ok m) 0 c).arrAt_in 3 rfl _).trans ((A_eq m (ok m) c 3).trans (V_main_arg1 m c)))⟩)
    (run_main m ρ (ok m))

/-- The claim: at every index the reference adds the same four numbers. -/
theorem algebraic : Cert.algebraic_Kernel38Ideal_Reference38Ideal (hKernel38Ideal := Cert.Kernel38Ideal.Gen.facts)
    (hReference38Ideal := Cert.Reference38Ideal.Gen.facts) := by
  intro m g m' g' hpre hargs
  refine ⟨fun c => (dats m (ok m) 0 c).arrAt 4 (cfgM m (ok m)).N, run m g, ?_⟩
  refine (θ_run (Cert.Reference38Ideal.defs (F := Ideal)) _ _).mono (fun r h c => ?_) (Cert.Reference38Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 192) (b : Fin 288), i = ix2 a b := ⟨i 0, i 1, eq_ix2 i⟩
  rw [out_apply]
  pointwise []
  simp only [Fin.sum_univ_three, add_assoc]

end Cert.Chips38

end
-- ==== Proof.Chips39.lean ====
/-
  The sum over the four chips.
-/
module

public import proofs.«01_k».proof.Defs
public import proofs.«01_k».proof.Proof.Gen.Kernel39.Frame
public import proofs.«01_k».proof.Proof.Gen.Kernel39Ideal.Frame
public import proofs.«01_k».proof.Proof.Gen.Reference39Ideal.Run
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Chips39

/-! ## The table holds zero, so the blocks lie inside their arrays -/

section bits
open Cert.Kernel39 Cert.Kernel39.Gen
variable {F : FTy → Type} [FloatOps F] (m : (ℓ : Loc nD τ sig) → Buf (Elt F) ℓ)

theorem tbl_bits : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_bits (i : grid0.Coords) : cc0_transform_0 inb_S1_S1_0 numel1_S1 (tbl m) i = ![0, (BitVec.ofNat 32 (i 0).val).toNat, (BitVec.ofNat 32 (i 1).val).toNat] := by
  rw [tbl_bits]
  rfl
theorem inside_bits : ∀ i : grid0.Coords, ∃ h : (∀ a, ((![0, (BitVec.ofNat 32 (i 0).val).toNat, (BitVec.ofNat 32 (i 1).val).toNat] : Fin 3 → Nat) a + 1) * S1x128x384.size a ≤ S4x128x384.size a),
    EltTy.bits .bf16 = 32 ∨ (Rect.block (s := S4x128x384) S1x128x384.size ![0, (BitVec.ofNat 32 (i 0).val).toNat, (BitVec.ofNat 32 (i 1).val).toNat] h).WholeWords (EltTy.packing .bf16) := by
  decide +kernel
theorem ok_bits : Ok m := by
  intro i
  rw [map_bits]
  exact inside_bits i
end bits

open Cert.Kernel39Ideal Cert.Kernel39Ideal.Gen

section ideal
variable {F : FTy → Type} [FloatOps F] (m : (ℓ : Loc nD τ sig) → Buf (Elt F) ℓ)

theorem tbl_ideal : tbl m = fun | 0 => (fun _ => 0#32 : IVec S1 32) | ⟨_ + 1, h⟩ => absurd h (Nat.not_lt.2 (Nat.le_add_left _ _)) := by
  funext j
  obtain rfl : j = 0 := Subsingleton.elim _ _
  show V m 0 main_v0 = _
  simp only [V, hostOps0]
  after_results_simp
  rfl
theorem map_ideal (i : grid0.Coords) : cc0_transform_0 inb_S1_S1_0 numel1_S1 (tbl m) i = ![0, (BitVec.ofNat 32 (i 0).val).toNat, (BitVec.ofNat 32 (i 1).val).toNat] := by
  rw [tbl_ideal]
  rfl
theorem inside_ideal : ∀ i : grid0.Coords, ∃ h : (∀ a, ((![0, (BitVec.ofNat 32 (i 0).val).toNat, (BitVec.ofNat 32 (i 1).val).toNat] : Fin 3 → Nat) a + 1) * S1x128x384.size a ≤ S4x128x384.size a),
    EltTy.bits .bf16 = 32 ∨ (Rect.block (s := S4x128x384) S1x128x384.size ![0, (BitVec.ofNat 32 (i 0).val).toNat, (BitVec.ofNat 32 (i 1).val).toNat] h).WholeWords (EltTy.packing .bf16) := by
  decide +kernel
theorem ok : Ok m := by
  intro i
  rw [map_ideal]
  exact inside_ideal i
end ideal

/-- One block's sum. -/
theorem pay_apply (b0 b1 b2 b3 : Vec Ideal S1x128x384 .bf16) (r : Fin 128) (e : Fin 384) :
    k0_pay1 (F := Ideal) b0 b1 b2 b3 (ix2 r e) = b0 (ix3 0 r e) + b1 (ix3 0 r e) + b2 (ix3 0 r e) + b3 (ix3 0 r e) := by
  pointwise [k0_pay1]

variable (m : (ℓ : Loc nD τ sig) → Buf (Elt Ideal) ℓ) (c : Dev nD) (t : Fin (cfgM m (ok m)).N)

theorem lt_N : t.val < 1 := lt_of_lt_of_eq t.isLt (show grid0.N = 1 from N_0)

abbrev a0 : FVec Ideal S4x128x384 .bf16 := m ((c : Thread nD τ).loc main_arg0)
abbrev a1 : FVec Ideal S3x128x384 .bf16 := m ((c : Thread nD τ).loc main_arg1)

theorem idx0 : ((cfgM m (ok m)).win 0).index t = ![0, 0, t.val] := by
  show cc0_transform_0 _ _ (tbl m) (grid0.coords t) = _
  rw [map_ideal]
  exact (by decide +kernel : ∀ t : Fin grid0.N, (![0, (BitVec.ofNat 32 (grid0.coords t 0).val).toNat, (BitVec.ofNat 32 (grid0.coords t 1).val).toNat] : Fin 3 → Nat) = ![0, 0, t.val]) t
theorem idx1 : ((cfgM m (ok m)).win 1).index t = ![0, 0, t.val] :=
  (by decide +kernel : ∀ t : Fin grid0.N, cc0_transform_1 (grid0.coords t) = ![0, 0, t.val]) t
theorem idx2 : ((cfgM m (ok m)).win 2).index t = ![1, 0, t.val] :=
  (by decide +kernel : ∀ t : Fin grid0.N, cc0_transform_2 (grid0.coords t) = ![1, 0, t.val]) t
theorem idx3 : ((cfgM m (ok m)).win 3).index t = ![2, 0, t.val] :=
  (by decide +kernel : ∀ t : Fin grid0.N, cc0_transform_3 (grid0.coords t) = ![2, 0, t.val]) t
theorem idx4 : cc0_transform_4 (grid0.coords t) = ![0, t.val] :=
  (by decide +kernel : ∀ t : Fin grid0.N, cc0_transform_4 (grid0.coords t) = ![0, t.val]) t

theorem blk0 (r : Fin 128) (e : Fin 384) :
    iblk m (ok m) c 0 t (ix3 0 r e) = a0 m c (ix3 0 r ⟨t.val * 384 + e.val, by have := lt_N m t; omega⟩) := by
  have := lt_N m t
  have e0 := idx0 m t
  refine Eq.trans (b := V m c main_arg0 (ix3 0 r ⟨t.val * 384 + e.val, by omega⟩)) ?_ (congrFun (V_main_arg0 m c) _)
  blk_ext [iblk, e0]
theorem blk1 (r : Fin 128) (e : Fin 384) :
    iblk m (ok m) c 1 t (ix3 0 r e) = a1 m c (ix3 0 r ⟨t.val * 384 + e.val, by have := lt_N m t; omega⟩) := by
  have := lt_N m t
  have e0 := idx1 m t
  refine Eq.trans (b := V m c main_arg1 (ix3 0 r ⟨t.val * 384 + e.val, by omega⟩)) ?_ (congrFun (V_main_arg1 m c) _)
  blk_ext [iblk, e0]
theorem blk2 (r : Fin 128) (e : Fin 384) :
    iblk m (ok m) c 2 t (ix3 0 r e) = a1 m c (ix3 1 r ⟨t.val * 384 + e.val, by have := lt_N m t; omega⟩) := by
  have := lt_N m t
  have e0 := idx2 m t
  refine Eq.trans (b := V m c main_arg1 (ix3 1 r ⟨t.val * 384 + e.val, by omega⟩)) ?_ (congrFun (V_main_arg1 m c) _)
  blk_ext [iblk, e0]
theorem blk3 (r : Fin 128) (e : Fin 384) :
    iblk m (ok m) c 3 t (ix3 0 r e) = a1 m c (ix3 2 r ⟨t.val * 384 + e.val, by have := lt_N m t; omega⟩) := by
  have := lt_N m t
  have e0 := idx3 m t
  refine Eq.trans (b := V m c main_arg1 (ix3 2 r ⟨t.val * 384 + e.val, by omega⟩)) ?_ (congrFun (V_main_arg1 m c) _)
  blk_ext [iblk, e0]

/-- The index in the array of place (r, e) of point `t`'s block. -/
theorem emb (r : Fin 128) (e : Fin 384) :
    (((cfgM m (ok m)).win 4).blk t).view.emb (ix2 r e) = ix2 r ⟨t.val * 384 + e.val, by have := lt_N m t; omega⟩ := by
  have e0 := idx4 m t
  funext a; apply Fin.ext
  match a with
  | ⟨0, _⟩ =>
    show cc0_transform_4 (grid0.coords t) 0 * 128 + 1 * r.val = r.val
    rw [e0]; show 0 * 128 + 1 * r.val = _; omega
  | ⟨1, _⟩ =>
    show cc0_transform_4 (grid0.coords t) 1 * 384 + 1 * e.val = t.val * 384 + e.val
    rw [e0]; show t.val * 384 + 1 * e.val = _; omega

/-- The array the kernel leaves. -/
def out (x0 : FVec Ideal S4x128x384 .bf16) (x1 : FVec Ideal S3x128x384 .bf16) : FVec Ideal S128x384 .f32 := fun i =>
  x0 (ix3 0 (i 0) (i 1)) + x1 (ix3 0 (i 0) (i 1)) + x1 (ix3 1 (i 0) (i 1)) + x1 (ix3 2 (i 0) (i 1))

theorem out_apply (x0 : FVec Ideal S4x128x384 .bf16) (x1 : FVec Ideal S3x128x384 .bf16) (r : Fin 128) (e : Fin 384) :
    out x0 x1 (ix2 r e) = x0 (ix3 0 r e) + x1 (ix3 0 r e) + x1 (ix3 1 r e) + x1 (ix3 2 r e) := rfl

/-- The table of zeros, with its blocks inside. -/
def zero : (pcfg0 (F := Ideal)).Adm :=
  ⟨fun | 0 => (fun _ => 0#32 : IVec S1 32) | ⟨_ + 1, h⟩ => absurd h (Nat.not_lt.2 (Nat.le_add_left _ _)), by
    intro i
    exact inside_ideal i⟩

/-- The blocks cover the array. -/
theorem cov : ((cfgM m (ok m)).win 4).Covers := by
  have h : ∀ z, z = zero → ((cfg0 z).win 4).Covers := by rintro _ rfl; decide +kernel
  exact h _ (Subtype.ext (tbl_ideal m))

theorem onto (y : S128x384.Idx) : ∃ (a : Fin 128) (b : Fin 384), y = ix2 a b := ⟨y 0, y 1, eq_ix2 y⟩

/-- What the body leaves in the output block. -/
theorem left (x0 x1 x2 x3 : Vec Ideal S1x128x384 .bf16) :
    out0_A_4 c (grid0.coords t) (ms0_0 m (ok m) t) (hs0_0 m (ok m) t) (ms0_1 m (ok m) t) (hs0_1 m (ok m) t) (ms0_2 m (ok m) t) (hs0_2 m (ok m) t)
      (ms0_3 m (ok m) t) (hs0_3 m (ok m) t) (ms0_4 m (ok m) t) (hs0_4 m (ok m) t) x0 x1 x2 x3 (tbl m 0) = k0_pay1 (F := Ideal) x0 x1 x2 x3 := by
  frame_out

theorem arr : (dats m (ok m) 0 c).arrAt 4 (cfgM m (ok m)).N = out (a0 m c) (a1 m c) := by
  refine (dats m (ok m) 0 c).arrAt_eq_of_covers 4 _ (cov m) fun t hf y => ?_
  blk_simp; rw [after0_4]
  obtain ⟨r, e, rfl⟩ : ∃ (a : Fin 128) (b : Fin 384), y = ix2 a b := onto y
  rw [emb, out_apply]
  unfold outsAt0
  refine (congrFun (left m c t _ _ _ _) _).trans ((pay_apply _ _ _ _ r e).trans ?_)
  rw [blk0, blk1, blk2, blk3]

/-- The run leaves the output array and the arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (ok m) 0 c).arrAt 4 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 0).trans (((dats m (ok m) 0 c).arrAt_in 0 rfl _).trans ((A_eq m (ok m) c 0).trans (V_main_arg0 m c))),
      ((h c).1 3).trans (((dats m (ok m) 0 c).arrAt_in 3 rfl _).trans ((A_eq m (ok m) c 3).trans (V_main_arg1 m c)))⟩)
    (run_main m ρ (ok m))

/-- The claim: at every index the reference adds the same four numbers. -/
theorem algebraic : Cert.algebraic_Kernel39Ideal_Reference39Ideal (hKernel39Ideal := Cert.Kernel39Ideal.Gen.facts)
    (hReference39Ideal := Cert.Reference39Ideal.Gen.facts) := by
  intro m g m' g' hpre hargs
  refine ⟨fun c => (dats m (ok m) 0 c).arrAt 4 (cfgM m (ok m)).N, run m g, ?_⟩
  refine (θ_run (Cert.Reference39Ideal.defs (F := Ideal)) _ _).mono (fun r h c => ?_) (Cert.Reference39Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 128) (b : Fin 384), i = ix2 a b := ⟨i 0, i 1, eq_ix2 i⟩
  rw [out_apply]
  pointwise []
  simp only [Fin.sum_univ_three, add_assoc]

end Cert.Chips39

end
-- ==== Proof.NopeFwd.lean ====
/-
  The queries' unrotated part from their latent: blocks of 384 columns, each a sum over the 384 latent features that is taken in
  three runs.
-/
module

public import proofs.«01_k».proof.Defs
public import proofs.«01_k».proof.Proof.Gen.Kernel40Ideal.Value
public import proofs.«01_k».proof.Proof.Gen.Reference40Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.NopeFwd

open Cert.Kernel40Ideal Cert.Kernel40Ideal.Gen Cert.Kernel40Ideal.Value

theorem lt_N (t : Fin cfg0.N) : t.val < 6 := lt_of_lt_of_eq t.isLt (show cfg0.N = 6 from N_0)

theorem idx : ∀ t : Fin cfg0.N, win0_0.index t = ![0, t.val % 3] ∧ win0_1.index t = ![t.val % 3, t.val / 3]
    ∧ win0_2.index t = ![0, t.val / 3] :=
  (by decide +kernel : ∀ t : Fin grid0.N, _)

/-- The product over the whole contracted axis. -/
def prod (x0 : FVec Ideal S2048x384 .f32) (x1 : FVec Ideal S384x768 .bf16) (r : Fin 2048) (e : Fin 768) : EReal :=
  ∑ s : Fin 384, (x0 (ix2 r s) : EReal) * (x1 (ix2 s e) : EReal)

/-- Its run `k` of 128 terms. -/
def part (x0 : FVec Ideal S2048x384 .f32) (x1 : FVec Ideal S384x768 .bf16) (r : Fin 2048) (e : Fin 768) (k : Fin 3) : EReal :=
  ∑ s : Fin 128, (x0 (ix2 r ⟨k.val * 128 + s.val, by omega⟩) : EReal) * (x1 (ix2 ⟨k.val * 128 + s.val, by omega⟩ e) : EReal)

theorem sum384 (f : Fin 384 → EReal) :
    ∑ s, f s = ∑ s : Fin 128, f ⟨s.val, by omega⟩ + ∑ s : Fin 128, f ⟨128 + s.val, by omega⟩ + ∑ s : Fin 128, f ⟨256 + s.val, by omega⟩ := by
  refine (Fin.sum_univ_add (a := 256) (b := 128) f).trans ?_
  refine congrArg₂ (· + ·) ?_ rfl
  exact Fin.sum_univ_add (a := 128) (b := 128) fun s => f (Fin.castAdd 128 s)

/-- The three runs make the product. -/
theorem part_sum (x0 : FVec Ideal S2048x384 .f32) (x1 : FVec Ideal S384x768 .bf16) (r : Fin 2048) (e : Fin 768) :
    part x0 x1 r e 0 + part x0 x1 r e 1 + part x0 x1 r e 2 = prod x0 x1 r e := by
  unfold prod
  rw [sum384]
  unfold part
  have e0 : ∀ s : Fin 128, (⟨(0 : Fin 3).val * 128 + s.val, by show 0 * 128 + s.val < 384; omega⟩ : Fin 384) = ⟨s.val, by omega⟩ :=
    fun s => Fin.ext (by show 0 * 128 + s.val = s.val; omega)
  simp only [e0]
  rfl

/-- One block's product. -/
theorem pay_apply (b0 : Vec Ideal S2048x128 .f32) (b1 : Vec Ideal S128x384 .bf16) (r : Fin 2048) (e : Fin 384) :
    k0_pay1 (F := Ideal) b0 b1 (ix2 r e) = ∑ s : Fin 128, (b0 (ix2 r s) : EReal) * (b1 (ix2 s e) : EReal) := by
  pointwise [k0_pay1]
theorem pay2_apply (b0 : Vec Ideal S2048x128 .f32) (b1 : Vec Ideal S128x384 .bf16) (r : Fin 2048) (e : Fin 384) :
    k0_pay2 (F := Ideal) b0 b1 (ix2 r e) = k0_pay1 (F := Ideal) b0 b1 (ix2 r e) := by
  pointwise [k0_pay2]
theorem pay3_apply (b0 : Vec Ideal S2048x128 .f32) (b1 : Vec Ideal S128x384 .bf16) (acc : Vec Ideal S2048x384 .f32) (r : Fin 2048) (e : Fin 384) :
    k0_pay3 (F := Ideal) b0 b1 acc (ix2 r e) = (acc (ix2 r e) : EReal) + k0_pay1 (F := Ideal) b0 b1 (ix2 r e) := by
  pointwise [k0_pay3]
theorem pay4_apply (acc : Vec Ideal S2048x384 .f32) (r : Fin 2048) (e : Fin 384) :
    k0_pay4 (F := Ideal) acc (ix2 r e) = (acc (ix2 r e) : EReal) := by
  pointwise [k0_pay4]

variable (m : (ℓ : Loc nD τ sig) → Buf (Elt Ideal) ℓ) (c : Dev nD) (t : Fin cfg0.N)

abbrev a0 : FVec Ideal S2048x384 .f32 := m ((c : Thread nD τ).loc main_arg0)
abbrev a1 : FVec Ideal S384x768 .bf16 := m ((c : Thread nD τ).loc main_arg1)

theorem blk0 (r : Fin 2048) (e : Fin 128) :
    iblk m c 0 t (ix2 r e) = a0 m c (ix2 r ⟨t.val % 3 * 128 + e.val, by have := lt_N t; omega⟩) := by
  have := lt_N t
  obtain ⟨e0, -, -⟩ := idx t
  refine Eq.trans (b := V m c main_arg0 (ix2 r ⟨t.val % 3 * 128 + e.val, by have := lt_N t; omega⟩)) ?_ (congrFun (V_main_arg0 m c) _)
  blk_ext [iblk, e0]
theorem blk1 (r : Fin 128) (e : Fin 384) :
    iblk m c 1 t (ix2 r e) = a1 m c (ix2 ⟨t.val % 3 * 128 + r.val, by have := lt_N t; omega⟩ ⟨t.val / 3 * 384 + e.val, by have := lt_N t; omega⟩) := by
  have := lt_N t
  obtain ⟨-, e0, -⟩ := idx t
  refine Eq.trans (b := V m c main_arg1 (ix2 ⟨t.val % 3 * 128 + r.val, by have := lt_N t; omega⟩ ⟨t.val / 3 * 384 + e.val, by have := lt_N t; omega⟩)) ?_ (congrFun (V_main_arg1 m c) _)
  blk_ext [iblk, e0]

/-- The index in the array of place (r, e) of point `t`'s block. -/
theorem emb (r : Fin 2048) (e : Fin 384) :
    ((cfg0.win 2).blk t).view.emb (ix2 r e) = ix2 r ⟨t.val / 3 * 384 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 384 + 1 * e.val = t.val / 3 * 384 + e.val
    rw [e0]; show t.val / 3 * 384 + 1 * e.val = _; omega

/-- Point `t`'s block product is the run of its place among three. -/
theorem pay_part (r : Fin 2048) (e : Fin 384) :
    k0_pay1 (F := Ideal) (iblk m c 0 t) (iblk m c 1 t) (ix2 r e)
      = part (a0 m c) (a1 m c) r ⟨t.val / 3 * 384 + e.val, by have := lt_N t; omega⟩ ⟨t.val % 3, by omega⟩ := by
  rw [pay_apply]
  simp only [blk0, blk1]
  rfl

/-! ## The carried sum -/

abbrev St := Vec Ideal S2048x384 .bf16 × Vec Ideal S2048x384 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay4 (F := Ideal) (k0_pay3 (F := Ideal) (iblk m c 0 t) (iblk m c 1 t) acc.2) := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 384) (h : t.val % 3 = 2) :
    (outsAt0 m c t.val t.isLt).1 (ix2 r e)
      = prod (a0 m c) (a1 m c) r ⟨t.val / 3 * 384 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 6 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans ((pay4_apply _ r e).trans (pay3_apply _ _ _ r e))
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 384 + e.val < 768 := by omega
  have c0 : (⟨(3 * j) / 3 * 384 + e.val, by omega⟩ : Fin 768) = ⟨(3 * j + 2) / 3 * 384 + e.val, by omega⟩ :=
    Fin.ext (by show (3 * j) / 3 * 384 + e.val = (3 * j + 2) / 3 * 384 + e.val; omega)
  have c1 : (⟨(3 * j + 1) / 3 * 384 + e.val, by omega⟩ : Fin 768) = ⟨(3 * j + 2) / 3 * 384 + e.val, by omega⟩ :=
    Fin.ext (by show (3 * j + 1) / 3 * 384 + e.val = (3 * j + 2) / 3 * 384 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 384 + e.val, _⟩ ⟨(3 * j) % 3, _⟩ + part _ _ r ⟨(3 * j + 1) / 3 * 384 + e.val, _⟩ ⟨(3 * j + 1) % 3, _⟩
    + part _ _ r ⟨(3 * j + 2) / 3 * 384 + e.val, _⟩ ⟨(3 * j + 2) % 3, _⟩ = _
  rw [c0, c1, k0, k1, k2]

/-- The array the kernel leaves. -/
def out (x0 : FVec Ideal S2048x384 .f32) (x1 : FVec Ideal S384x768 .bf16) : FVec Ideal S2048x768 .bf16 := fun i => prod x0 x1 (i 0) (i 1)

theorem out_apply (x0 : FVec Ideal S2048x384 .f32) (x1 : FVec Ideal S384x768 .bf16) (r : Fin 2048) (e : Fin 768) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 384), y = ix2 a b := ⟨y 0, y 1, eq_ix2 y⟩
  rw [emb, out_apply]
  exact outs_out m c t r e ((flush0_2 t).mp hf)

/-- The claim: the reference's one product at every index is the kernel's. -/
theorem algebraic : Cert.algebraic_Kernel40Ideal_Reference40Ideal (hKernel40Ideal := Cert.Kernel40Ideal.Gen.facts)
    (hReference40Ideal := Cert.Reference40Ideal.Gen.facts) := by
  intro m g m' g' hpre hargs
  refine ⟨fun c => (dats m 0 c).arrAt 2 cfg0.N, run_blocks (F := Ideal) m g, ?_⟩
  refine (θ_run (Cert.Reference40Ideal.defs (F := Ideal)) _ _).mono (fun r h c => ?_) (Cert.Reference40Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 768), i = ix2 a b := ⟨i 0, i 1, eq_ix2 i⟩
  rw [out_apply]
  unfold prod
  pointwise []

end Cert.NopeFwd

end
-- ==== Proof.RopeFwd.lean ====
/-
  The queries' rotated part from their latent: a sum over the 384 latent features, taken in three runs.
-/
module

public import proofs.«01_k».proof.Defs
public import proofs.«01_k».proof.Proof.Gen.Kernel41Ideal.Value
public import proofs.«01_k».proof.Proof.Gen.Reference41Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.RopeFwd

open Cert.Kernel41Ideal Cert.Kernel41Ideal.Gen Cert.Kernel41Ideal.Value

theorem lt_N (t : Fin cfg0.N) : t.val < 3 := lt_of_lt_of_eq t.isLt (show cfg0.N = 3 from N_0)

theorem idx : ∀ t : Fin cfg0.N, win0_0.index t = ![0, t.val % 3] ∧ win0_1.index t = ![t.val % 3, t.val / 3]
    ∧ win0_2.index t = ![0, t.val / 3] :=
  (by decide +kernel : ∀ t : Fin grid0.N, _)

/-- The product over the whole contracted axis. -/
def prod (x0 : FVec Ideal S2048x384 .f32) (x1 : FVec Ideal S384x384 .bf16) (r : Fin 2048) (e : Fin 384) : EReal :=
  ∑ s : Fin 384, (x0 (ix2 r s) : EReal) * (x1 (ix2 s e) : EReal)

/-- Its run `k` of 128 terms. -/
def part (x0 : FVec Ideal S2048x384 .f32) (x1 : FVec Ideal S384x384 .bf16) (r : Fin 2048) (e : Fin 384) (k : Fin 3) : EReal :=
  ∑ s : Fin 128, (x0 (ix2 r ⟨k.val * 128 + s.val, by omega⟩) : EReal) * (x1 (ix2 ⟨k.val * 128 + s.val, by omega⟩ e) : EReal)

theorem sum384 (f : Fin 384 → EReal) :
    ∑ s, f s = ∑ s : Fin 128, f ⟨s.val, by omega⟩ + ∑ s : Fin 128, f ⟨128 + s.val, by omega⟩ + ∑ s : Fin 128, f ⟨256 + s.val, by omega⟩ := by
  refine (Fin.sum_univ_add (a := 256) (b := 128) f).trans ?_
  refine congrArg₂ (· + ·) ?_ rfl
  exact Fin.sum_univ_add (a := 128) (b := 128) fun s => f (Fin.castAdd 128 s)

/-- The three runs make the product. -/
theorem part_sum (x0 : FVec Ideal S2048x384 .f32) (x1 : FVec Ideal S384x384 .bf16) (r : Fin 2048) (e : Fin 384) :
    part x0 x1 r e 0 + part x0 x1 r e 1 + part x0 x1 r e 2 = prod x0 x1 r e := by
  unfold prod
  rw [sum384]
  unfold part
  have e0 : ∀ s : Fin 128, (⟨(0 : Fin 3).val * 128 + s.val, by show 0 * 128 + s.val < 384; omega⟩ : Fin 384) = ⟨s.val, by omega⟩ :=
    fun s => Fin.ext (by show 0 * 128 + s.val = s.val; omega)
  simp only [e0]
  rfl

/-- One block's product. -/
theorem pay_apply (b0 : Vec Ideal S2048x128 .f32) (b1 : Vec Ideal S128x384 .bf16) (r : Fin 2048) (e : Fin 384) :
    k0_pay1 (F := Ideal) b0 b1 (ix2 r e) = ∑ s : Fin 128, (b0 (ix2 r s) : EReal) * (b1 (ix2 s e) : EReal) := by
  pointwise [k0_pay1]
theorem pay2_apply (b0 : Vec Ideal S2048x128 .f32) (b1 : Vec Ideal S128x384 .bf16) (r : Fin 2048) (e : Fin 384) :
    k0_pay2 (F := Ideal) b0 b1 (ix2 r e) = k0_pay1 (F := Ideal) b0 b1 (ix2 r e) := by
  pointwise [k0_pay2]
theorem pay3_apply (b0 : Vec Ideal S2048x128 .f32) (b1 : Vec Ideal S128x384 .bf16) (acc : Vec Ideal S2048x384 .f32) (r : Fin 2048) (e : Fin 384) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x384 .f32 := m ((c : Thread nD τ).loc main_arg0)
abbrev a1 : FVec Ideal S384x384 .bf16 := m ((c : Thread nD τ).loc main_arg1)

theorem blk0 (r : Fin 2048) (e : Fin 128) :
    iblk m c 0 t (ix2 r e) = a0 m c (ix2 r ⟨t.val % 3 * 128 + e.val, by have := lt_N t; omega⟩) := by
  have := lt_N t
  obtain ⟨e0, -, -⟩ := idx t
  refine Eq.trans (b := V m c main_arg0 (ix2 r ⟨t.val % 3 * 128 + e.val, by have := lt_N t; omega⟩)) ?_ (congrFun (V_main_arg0 m c) _)
  blk_ext [iblk, e0]
theorem blk1 (r : Fin 128) (e : Fin 384) :
    iblk m c 1 t (ix2 r e) = a1 m c (ix2 ⟨t.val % 3 * 128 + r.val, by have := lt_N t; omega⟩ ⟨t.val / 3 * 384 + e.val, by have := lt_N t; omega⟩) := by
  have := lt_N t
  obtain ⟨-, e0, -⟩ := idx t
  refine Eq.trans (b := V m c main_arg1 (ix2 ⟨t.val % 3 * 128 + r.val, by have := lt_N t; omega⟩ ⟨t.val / 3 * 384 + e.val, by have := lt_N t; omega⟩)) ?_ (congrFun (V_main_arg1 m c) _)
  blk_ext [iblk, e0]

/-- The index in the array of place (r, e) of point `t`'s block. -/
theorem emb (r : Fin 2048) (e : Fin 384) :
    ((cfg0.win 2).blk t).view.emb (ix2 r e) = ix2 r ⟨t.val / 3 * 384 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 384 + 1 * e.val = t.val / 3 * 384 + e.val
    rw [e0]; show t.val / 3 * 384 + 1 * e.val = _; omega

/-- Point `t`'s block product is the run of its place among three. -/
theorem pay_part (r : Fin 2048) (e : Fin 384) :
    k0_pay1 (F := Ideal) (iblk m c 0 t) (iblk m c 1 t) (ix2 r e)
      = part (a0 m c) (a1 m c) r ⟨t.val / 3 * 384 + e.val, by have := lt_N t; omega⟩ ⟨t.val % 3, by omega⟩ := by
  rw [pay_apply]
  simp only [blk0, blk1]
  rfl

/-! ## The carried sum -/

abbrev St := Vec Ideal S2048x384 .f32 × Vec Ideal S2048x384 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 384) (h : t.val % 3 = 2) :
    (outsAt0 m c t.val t.isLt).1 (ix2 r e)
      = prod (a0 m c) (a1 m c) r ⟨t.val / 3 * 384 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 3 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 384 + e.val < 384 := by omega
  have c0 : (⟨(3 * j) / 3 * 384 + e.val, by omega⟩ : Fin 384) = ⟨(3 * j + 2) / 3 * 384 + e.val, by omega⟩ :=
    Fin.ext (by show (3 * j) / 3 * 384 + e.val = (3 * j + 2) / 3 * 384 + e.val; omega)
  have c1 : (⟨(3 * j + 1) / 3 * 384 + e.val, by omega⟩ : Fin 384) = ⟨(3 * j + 2) / 3 * 384 + e.val, by omega⟩ :=
    Fin.ext (by show (3 * j + 1) / 3 * 384 + e.val = (3 * j + 2) / 3 * 384 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 384 + e.val, _⟩ ⟨(3 * j) % 3, _⟩ + part _ _ r ⟨(3 * j + 1) / 3 * 384 + e.val, _⟩ ⟨(3 * j + 1) % 3, _⟩
    + part _ _ r ⟨(3 * j + 2) / 3 * 384 + e.val, _⟩ ⟨(3 * j + 2) % 3, _⟩ = _
  rw [c0, c1, k0, k1, k2]

/-- The array the kernel leaves. -/
def out (x0 : FVec Ideal S2048x384 .f32) (x1 : FVec Ideal S384x384 .bf16) : FVec Ideal S2048x384 .f32 := fun i => prod x0 x1 (i 0) (i 1)

theorem out_apply (x0 : FVec Ideal S2048x384 .f32) (x1 : FVec Ideal S384x384 .bf16) (r : Fin 2048) (e : Fin 384) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 384), y = ix2 a b := ⟨y 0, y 1, eq_ix2 y⟩
  rw [emb, out_apply]
  exact outs_out m c t r e ((flush0_2 t).mp hf)

/-- The claim: the reference's one product at every index is the kernel's. -/
theorem algebraic : Cert.algebraic_Kernel41Ideal_Reference41Ideal (hKernel41Ideal := Cert.Kernel41Ideal.Gen.facts)
    (hReference41Ideal := Cert.Reference41Ideal.Gen.facts) := by
  intro m g m' g' hpre hargs
  refine ⟨fun c => (dats m 0 c).arrAt 2 cfg0.N, run_blocks (F := Ideal) m g, ?_⟩
  refine (θ_run (Cert.Reference41Ideal.defs (F := Ideal)) _ _).mono (fun r h c => ?_) (Cert.Reference41Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 384), i = ix2 a b := ⟨i 0, i 1, eq_ix2 i⟩
  rw [out_apply]
  unfold prod
  pointwise []

end Cert.RopeFwd

end
-- ==== Proof.KvFwd.lean ====
/-
  The keys and values from their latent: every block of 512 columns is one product over the 256 latent features.
-/
module

public import proofs.«01_k».proof.Defs
public import proofs.«01_k».proof.Proof.Gen.Kernel42Ideal.Value
public import proofs.«01_k».proof.Proof.Gen.Reference42Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KvFwd

open Cert.Kernel42Ideal Cert.Kernel42Ideal.Gen Cert.Kernel42Ideal.Value

theorem lt_N (t : Fin cfg0.N) : t.val < 3 := lt_of_lt_of_eq t.isLt (show cfg0.N = 3 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x256 .f32) (x1 : FVec Ideal S256x1536 .bf16) (r : Fin 2048) (e : Fin 1536) : EReal :=
  ∑ s : Fin 256, (x0 (ix2 r s) : EReal) * (x1 (ix2 s e) : EReal)

/-- One block's product. -/
theorem pay_apply (b0 : Vec Ideal S2048x256 .f32) (b1 : Vec Ideal S256x512 .bf16) (r : Fin 2048) (e : Fin 512) :
    k0_pay1 (F := Ideal) b0 b1 (ix2 r e) = ∑ s : Fin 256, (b0 (ix2 r s) : EReal) * (b1 (ix2 s e) : EReal) := by
  pointwise [k0_pay1]

variable (m : (ℓ : Loc nD τ sig) → Buf (Elt Ideal) ℓ) (c : Dev nD) (t : Fin cfg0.N)

abbrev a0 : FVec Ideal S2048x256 .f32 := m ((c : Thread nD τ).loc main_arg0)
abbrev a1 : FVec Ideal S256x1536 .bf16 := m ((c : Thread nD τ).loc main_arg1)

theorem blk0 (r : Fin 2048) (e : Fin 256) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 256) (e : Fin 512) :
    iblk m c 1 t (ix2 r e) = a1 m c (ix2 r ⟨t.val * 512 + e.val, by have := lt_N t; omega⟩) := by
  have := lt_N t
  obtain ⟨-, e0, -⟩ := idx t
  refine Eq.trans (b := V m c main_arg1 (ix2 r ⟨t.val * 512 + e.val, by have := lt_N t; omega⟩)) ?_ (congrFun (V_main_arg1 m c) _)
  blk_ext [iblk, e0]

/-- The index in the array of place (r, e) of point `t`'s block. -/
theorem emb (r : Fin 2048) (e : Fin 512) :
    ((cfg0.win 2).blk t).view.emb (ix2 r e) = ix2 r ⟨t.val * 512 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x256 .f32) (x1 : FVec Ideal S256x1536 .bf16) : FVec Ideal S2048x1536 .bf16 := fun i => prod x0 x1 (i 0) (i 1)

theorem out_apply (x0 : FVec Ideal S2048x256 .f32) (x1 : FVec Ideal S256x1536 .bf16) (r : Fin 2048) (e : Fin 1536) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel42Ideal_Reference42Ideal (hKernel42Ideal := Cert.Kernel42Ideal.Gen.facts)
    (hReference42Ideal := Cert.Reference42Ideal.Gen.facts) := by
  intro m g m' g' hpre hargs
  refine ⟨fun c => (dats m 0 c).arrAt 2 cfg0.N, run_blocks (F := Ideal) m g, ?_⟩
  refine (θ_run (Cert.Reference42Ideal.defs (F := Ideal)) _ _).mono (fun r h c => ?_) (Cert.Reference42Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 1536), i = ix2 a b := ⟨i 0, i 1, eq_ix2 i⟩
  rw [out_apply]
  unfold prod
  pointwise []

end Cert.KvFwd

end
-- ==== Proof.NopeDa.lean ====
/-
  The gradient of the queries' latent through the unrotated part: a sum over its 768 features, taken in three runs.
-/
module

public import proofs.«01_k».proof.Defs
public import proofs.«01_k».proof.Proof.Gen.Kernel43Ideal.Value
public import proofs.«01_k».proof.Proof.Gen.Reference43Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.NopeDa

open Cert.Kernel43Ideal Cert.Kernel43Ideal.Gen Cert.Kernel43Ideal.Value

theorem lt_N (t : Fin cfg0.N) : t.val < 3 := lt_of_lt_of_eq t.isLt (show cfg0.N = 3 from N_0)

theorem idx : ∀ t : Fin cfg0.N, win0_0.index t = ![0, t.val % 3] ∧ win0_1.index t = ![t.val / 3, t.val % 3]
    ∧ win0_2.index t = ![0, t.val / 3] :=
  (by decide +kernel : ∀ t : Fin grid0.N, _)

/-- The product over the whole contracted axis. -/
def prod (x0 : FVec Ideal S2048x768 .bf16) (x1 : FVec Ideal S384x768 .bf16) (r : Fin 2048) (e : Fin 384) : EReal :=
  ∑ s : Fin 768, (x0 (ix2 r s) : EReal) * (x1 (ix2 e s) : EReal)

/-- Its run `k` of 256 terms. -/
def part (x0 : FVec Ideal S2048x768 .bf16) (x1 : FVec Ideal S384x768 .bf16) (r : Fin 2048) (e : Fin 384) (k : Fin 3) : EReal :=
  ∑ s : Fin 256, (x0 (ix2 r ⟨k.val * 256 + s.val, by omega⟩) : EReal) * (x1 (ix2 e ⟨k.val * 256 + s.val, by omega⟩) : EReal)

theorem sum768 (f : Fin 768 → EReal) :
    ∑ s, f s = ∑ s : Fin 256, f ⟨s.val, by omega⟩ + ∑ s : Fin 256, f ⟨256 + s.val, by omega⟩ + ∑ s : Fin 256, f ⟨512 + s.val, by omega⟩ := by
  refine (Fin.sum_univ_add (a := 512) (b := 256) f).trans ?_
  refine congrArg₂ (· + ·) ?_ rfl
  exact Fin.sum_univ_add (a := 256) (b := 256) fun s => f (Fin.castAdd 256 s)

/-- The three runs make the product. -/
theorem part_sum (x0 : FVec Ideal S2048x768 .bf16) (x1 : FVec Ideal S384x768 .bf16) (r : Fin 2048) (e : Fin 384) :
    part x0 x1 r e 0 + part x0 x1 r e 1 + part x0 x1 r e 2 = prod x0 x1 r e := by
  unfold prod
  rw [sum768]
  unfold part
  have e0 : ∀ s : Fin 256, (⟨(0 : Fin 3).val * 256 + s.val, by show 0 * 256 + s.val < 768; omega⟩ : Fin 768) = ⟨s.val, by omega⟩ :=
    fun s => Fin.ext (by show 0 * 256 + s.val = s.val; omega)
  simp only [e0]
  rfl

/-- One block's product. -/
theorem pay_apply (b0 : Vec Ideal S2048x256 .bf16) (b1 : Vec Ideal S384x256 .bf16) (r : Fin 2048) (e : Fin 384) :
    k0_pay1 (F := Ideal) b0 b1 (ix2 r e) = ∑ s : Fin 256, (b0 (ix2 r s) : EReal) * (b1 (ix2 e s) : EReal) := by
  pointwise [k0_pay1]
theorem pay2_apply (b0 : Vec Ideal S2048x256 .bf16) (b1 : Vec Ideal S384x256 .bf16) (r : Fin 2048) (e : Fin 384) :
    k0_pay2 (F := Ideal) b0 b1 (ix2 r e) = k0_pay1 (F := Ideal) b0 b1 (ix2 r e) := by
  pointwise [k0_pay2]
theorem pay3_apply (b0 : Vec Ideal S2048x256 .bf16) (b1 : Vec Ideal S384x256 .bf16) (acc : Vec Ideal S2048x384 .f32) (r : Fin 2048) (e : Fin 384) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x768 .bf16 := m ((c : Thread nD τ).loc main_arg0)
abbrev a1 : FVec Ideal S384x768 .bf16 := m ((c : Thread nD τ).loc main_arg1)

theorem blk0 (r : Fin 2048) (e : Fin 256) :
    iblk m c 0 t (ix2 r e) = a0 m c (ix2 r ⟨t.val % 3 * 256 + e.val, by have := lt_N t; omega⟩) := by
  have := lt_N t
  obtain ⟨e0, -, -⟩ := idx t
  refine Eq.trans (b := V m c main_arg0 (ix2 r ⟨t.val % 3 * 256 + e.val, by have := lt_N t; omega⟩)) ?_ (congrFun (V_main_arg0 m c) _)
  blk_ext [iblk, e0]
theorem blk1 (r : Fin 384) (e : Fin 256) :
    iblk m c 1 t (ix2 r e) = a1 m c (ix2 ⟨t.val / 3 * 384 + r.val, by have := lt_N t; omega⟩ ⟨t.val % 3 * 256 + e.val, by have := lt_N t; omega⟩) := by
  have := lt_N t
  obtain ⟨-, e0, -⟩ := idx t
  refine Eq.trans (b := V m c main_arg1 (ix2 ⟨t.val / 3 * 384 + r.val, by have := lt_N t; omega⟩ ⟨t.val % 3 * 256 + e.val, by have := lt_N t; omega⟩)) ?_ (congrFun (V_main_arg1 m c) _)
  blk_ext [iblk, e0]

/-- The index in the array of place (r, e) of point `t`'s block. -/
theorem emb (r : Fin 2048) (e : Fin 384) :
    ((cfg0.win 2).blk t).view.emb (ix2 r e) = ix2 r ⟨t.val / 3 * 384 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 384 + 1 * e.val = t.val / 3 * 384 + e.val
    rw [e0]; show t.val / 3 * 384 + 1 * e.val = _; omega

/-- Point `t`'s block product is the run of its place among three. -/
theorem pay_part (r : Fin 2048) (e : Fin 384) :
    k0_pay1 (F := Ideal) (iblk m c 0 t) (iblk m c 1 t) (ix2 r e)
      = part (a0 m c) (a1 m c) r ⟨t.val / 3 * 384 + e.val, by have := lt_N t; omega⟩ ⟨t.val % 3, by omega⟩ := by
  rw [pay_apply]
  simp only [blk0, blk1]
  rfl

/-! ## The carried sum -/

abbrev St := Vec Ideal S2048x384 .f32 × Vec Ideal S2048x384 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 384) (h : t.val % 3 = 2) :
    (outsAt0 m c t.val t.isLt).1 (ix2 r e)
      = prod (a0 m c) (a1 m c) r ⟨t.val / 3 * 384 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 3 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 384 + e.val < 384 := by omega
  have c0 : (⟨(3 * j) / 3 * 384 + e.val, by omega⟩ : Fin 384) = ⟨(3 * j + 2) / 3 * 384 + e.val, by omega⟩ :=
    Fin.ext (by show (3 * j) / 3 * 384 + e.val = (3 * j + 2) / 3 * 384 + e.val; omega)
  have c1 : (⟨(3 * j + 1) / 3 * 384 + e.val, by omega⟩ : Fin 384) = ⟨(3 * j + 2) / 3 * 384 + e.val, by omega⟩ :=
    Fin.ext (by show (3 * j + 1) / 3 * 384 + e.val = (3 * j + 2) / 3 * 384 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 384 + e.val, _⟩ ⟨(3 * j) % 3, _⟩ + part _ _ r ⟨(3 * j + 1) / 3 * 384 + e.val, _⟩ ⟨(3 * j + 1) % 3, _⟩
    + part _ _ r ⟨(3 * j + 2) / 3 * 384 + e.val, _⟩ ⟨(3 * j + 2) % 3, _⟩ = _
  rw [c0, c1, k0, k1, k2]

/-- The array the kernel leaves. -/
def out (x0 : FVec Ideal S2048x768 .bf16) (x1 : FVec Ideal S384x768 .bf16) : FVec Ideal S2048x384 .f32 := fun i => prod x0 x1 (i 0) (i 1)

theorem out_apply (x0 : FVec Ideal S2048x768 .bf16) (x1 : FVec Ideal S384x768 .bf16) (r : Fin 2048) (e : Fin 384) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 384), y = ix2 a b := ⟨y 0, y 1, eq_ix2 y⟩
  rw [emb, out_apply]
  exact outs_out m c t r e ((flush0_2 t).mp hf)

/-- The claim: the reference's one product at every index is the kernel's. -/
theorem algebraic : Cert.algebraic_Kernel43Ideal_Reference43Ideal (hKernel43Ideal := Cert.Kernel43Ideal.Gen.facts)
    (hReference43Ideal := Cert.Reference43Ideal.Gen.facts) := by
  intro m g m' g' hpre hargs
  refine ⟨fun c => (dats m 0 c).arrAt 2 cfg0.N, run_blocks (F := Ideal) m g, ?_⟩
  refine (θ_run (Cert.Reference43Ideal.defs (F := Ideal)) _ _).mono (fun r h c => ?_) (Cert.Reference43Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 384), i = ix2 a b := ⟨i 0, i 1, eq_ix2 i⟩
  rw [out_apply]
  unfold prod
  pointwise []

end Cert.NopeDa

end
-- ==== Proof.RopeDa.lean ====
/-
  The gradient of the queries' latent through the rotated part: a sum over its 384 features, taken in three runs.
-/
module

public import proofs.«01_k».proof.Defs
public import proofs.«01_k».proof.Proof.Gen.Kernel44Ideal.Value
public import proofs.«01_k».proof.Proof.Gen.Reference44Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.RopeDa

open Cert.Kernel44Ideal Cert.Kernel44Ideal.Gen Cert.Kernel44Ideal.Value

theorem lt_N (t : Fin cfg0.N) : t.val < 3 := lt_of_lt_of_eq t.isLt (show cfg0.N = 3 from N_0)

theorem idx : ∀ t : Fin cfg0.N, win0_0.index t = ![0, t.val % 3] ∧ win0_1.index t = ![t.val / 3, t.val % 3]
    ∧ win0_2.index t = ![0, t.val / 3] :=
  (by decide +kernel : ∀ t : Fin grid0.N, _)

/-- The product over the whole contracted axis. -/
def prod (x0 : FVec Ideal S2048x384 .f32) (x1 : FVec Ideal S384x384 .bf16) (r : Fin 2048) (e : Fin 384) : EReal :=
  ∑ s : Fin 384, (x0 (ix2 r s) : EReal) * (x1 (ix2 e s) : EReal)

/-- Its run `k` of 128 terms. -/
def part (x0 : FVec Ideal S2048x384 .f32) (x1 : FVec Ideal S384x384 .bf16) (r : Fin 2048) (e : Fin 384) (k : Fin 3) : EReal :=
  ∑ s : Fin 128, (x0 (ix2 r ⟨k.val * 128 + s.val, by omega⟩) : EReal) * (x1 (ix2 e ⟨k.val * 128 + s.val, by omega⟩) : EReal)

theorem sum384 (f : Fin 384 → EReal) :
    ∑ s, f s = ∑ s : Fin 128, f ⟨s.val, by omega⟩ + ∑ s : Fin 128, f ⟨128 + s.val, by omega⟩ + ∑ s : Fin 128, f ⟨256 + s.val, by omega⟩ := by
  refine (Fin.sum_univ_add (a := 256) (b := 128) f).trans ?_
  refine congrArg₂ (· + ·) ?_ rfl
  exact Fin.sum_univ_add (a := 128) (b := 128) fun s => f (Fin.castAdd 128 s)

/-- The three runs make the product. -/
theorem part_sum (x0 : FVec Ideal S2048x384 .f32) (x1 : FVec Ideal S384x384 .bf16) (r : Fin 2048) (e : Fin 384) :
    part x0 x1 r e 0 + part x0 x1 r e 1 + part x0 x1 r e 2 = prod x0 x1 r e := by
  unfold prod
  rw [sum384]
  unfold part
  have e0 : ∀ s : Fin 128, (⟨(0 : Fin 3).val * 128 + s.val, by show 0 * 128 + s.val < 384; omega⟩ : Fin 384) = ⟨s.val, by omega⟩ :=
    fun s => Fin.ext (by show 0 * 128 + s.val = s.val; omega)
  simp only [e0]
  rfl

/-- One block's product. -/
theorem pay_apply (b0 : Vec Ideal S2048x128 .f32) (b1 : Vec Ideal S384x128 .bf16) (r : Fin 2048) (e : Fin 384) :
    k0_pay1 (F := Ideal) b0 b1 (ix2 r e) = ∑ s : Fin 128, (b0 (ix2 r s) : EReal) * (b1 (ix2 e s) : EReal) := by
  pointwise [k0_pay1]
theorem pay2_apply (b0 : Vec Ideal S2048x128 .f32) (b1 : Vec Ideal S384x128 .bf16) (r : Fin 2048) (e : Fin 384) :
    k0_pay2 (F := Ideal) b0 b1 (ix2 r e) = k0_pay1 (F := Ideal) b0 b1 (ix2 r e) := by
  pointwise [k0_pay2]
theorem pay3_apply (b0 : Vec Ideal S2048x128 .f32) (b1 : Vec Ideal S384x128 .bf16) (acc : Vec Ideal S2048x384 .f32) (r : Fin 2048) (e : Fin 384) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x384 .f32 := m ((c : Thread nD τ).loc main_arg0)
abbrev a1 : FVec Ideal S384x384 .bf16 := m ((c : Thread nD τ).loc main_arg1)

theorem blk0 (r : Fin 2048) (e : Fin 128) :
    iblk m c 0 t (ix2 r e) = a0 m c (ix2 r ⟨t.val % 3 * 128 + e.val, by have := lt_N t; omega⟩) := by
  have := lt_N t
  obtain ⟨e0, -, -⟩ := idx t
  refine Eq.trans (b := V m c main_arg0 (ix2 r ⟨t.val % 3 * 128 + e.val, by have := lt_N t; omega⟩)) ?_ (congrFun (V_main_arg0 m c) _)
  blk_ext [iblk, e0]
theorem blk1 (r : Fin 384) (e : Fin 128) :
    iblk m c 1 t (ix2 r e) = a1 m c (ix2 ⟨t.val / 3 * 384 + r.val, by have := lt_N t; omega⟩ ⟨t.val % 3 * 128 + e.val, by have := lt_N t; omega⟩) := by
  have := lt_N t
  obtain ⟨-, e0, -⟩ := idx t
  refine Eq.trans (b := V m c main_arg1 (ix2 ⟨t.val / 3 * 384 + r.val, by have := lt_N t; omega⟩ ⟨t.val % 3 * 128 + e.val, by have := lt_N t; omega⟩)) ?_ (congrFun (V_main_arg1 m c) _)
  blk_ext [iblk, e0]

/-- The index in the array of place (r, e) of point `t`'s block. -/
theorem emb (r : Fin 2048) (e : Fin 384) :
    ((cfg0.win 2).blk t).view.emb (ix2 r e) = ix2 r ⟨t.val / 3 * 384 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 384 + 1 * e.val = t.val / 3 * 384 + e.val
    rw [e0]; show t.val / 3 * 384 + 1 * e.val = _; omega

/-- Point `t`'s block product is the run of its place among three. -/
theorem pay_part (r : Fin 2048) (e : Fin 384) :
    k0_pay1 (F := Ideal) (iblk m c 0 t) (iblk m c 1 t) (ix2 r e)
      = part (a0 m c) (a1 m c) r ⟨t.val / 3 * 384 + e.val, by have := lt_N t; omega⟩ ⟨t.val % 3, by omega⟩ := by
  rw [pay_apply]
  simp only [blk0, blk1]
  rfl

/-! ## The carried sum -/

abbrev St := Vec Ideal S2048x384 .f32 × Vec Ideal S2048x384 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 384) (h : t.val % 3 = 2) :
    (outsAt0 m c t.val t.isLt).1 (ix2 r e)
      = prod (a0 m c) (a1 m c) r ⟨t.val / 3 * 384 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 3 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 384 + e.val < 384 := by omega
  have c0 : (⟨(3 * j) / 3 * 384 + e.val, by omega⟩ : Fin 384) = ⟨(3 * j + 2) / 3 * 384 + e.val, by omega⟩ :=
    Fin.ext (by show (3 * j) / 3 * 384 + e.val = (3 * j + 2) / 3 * 384 + e.val; omega)
  have c1 : (⟨(3 * j + 1) / 3 * 384 + e.val, by omega⟩ : Fin 384) = ⟨(3 * j + 2) / 3 * 384 + e.val, by omega⟩ :=
    Fin.ext (by show (3 * j + 1) / 3 * 384 + e.val = (3 * j + 2) / 3 * 384 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 384 + e.val, _⟩ ⟨(3 * j) % 3, _⟩ + part _ _ r ⟨(3 * j + 1) / 3 * 384 + e.val, _⟩ ⟨(3 * j + 1) % 3, _⟩
    + part _ _ r ⟨(3 * j + 2) / 3 * 384 + e.val, _⟩ ⟨(3 * j + 2) % 3, _⟩ = _
  rw [c0, c1, k0, k1, k2]

/-- The array the kernel leaves. -/
def out (x0 : FVec Ideal S2048x384 .f32) (x1 : FVec Ideal S384x384 .bf16) : FVec Ideal S2048x384 .f32 := fun i => prod x0 x1 (i 0) (i 1)

theorem out_apply (x0 : FVec Ideal S2048x384 .f32) (x1 : FVec Ideal S384x384 .bf16) (r : Fin 2048) (e : Fin 384) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 384), y = ix2 a b := ⟨y 0, y 1, eq_ix2 y⟩
  rw [emb, out_apply]
  exact outs_out m c t r e ((flush0_2 t).mp hf)

/-- The claim: the reference's one product at every index is the kernel's. -/
theorem algebraic : Cert.algebraic_Kernel44Ideal_Reference44Ideal (hKernel44Ideal := Cert.Kernel44Ideal.Gen.facts)
    (hReference44Ideal := Cert.Reference44Ideal.Gen.facts) := by
  intro m g m' g' hpre hargs
  refine ⟨fun c => (dats m 0 c).arrAt 2 cfg0.N, run_blocks (F := Ideal) m g, ?_⟩
  refine (θ_run (Cert.Reference44Ideal.defs (F := Ideal)) _ _).mono (fun r h c => ?_) (Cert.Reference44Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 384), i = ix2 a b := ⟨i 0, i 1, eq_ix2 i⟩
  rw [out_apply]
  unfold prod
  pointwise []

end Cert.RopeDa

end
-- ==== Proof.KvDa.lean ====
/-
  The gradient of the keys' and values' latent: a sum over their 1536 features, taken in three runs.
-/
module

public import proofs.«01_k».proof.Defs
public import proofs.«01_k».proof.Proof.Gen.Kernel45Ideal.Value
public import proofs.«01_k».proof.Proof.Gen.Reference45Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KvDa

open Cert.Kernel45Ideal Cert.Kernel45Ideal.Gen Cert.Kernel45Ideal.Value

theorem lt_N (t : Fin cfg0.N) : t.val < 3 := lt_of_lt_of_eq t.isLt (show cfg0.N = 3 from N_0)

theorem idx : ∀ t : Fin cfg0.N, win0_0.index t = ![0, t.val % 3] ∧ win0_1.index t = ![t.val / 3, t.val % 3]
    ∧ win0_2.index t = ![0, t.val / 3] :=
  (by decide +kernel : ∀ t : Fin grid0.N, _)

/-- The product over the whole contracted axis. -/
def prod (x0 : FVec Ideal S2048x1536 .bf16) (x1 : FVec Ideal S256x1536 .bf16) (r : Fin 2048) (e : Fin 256) : EReal :=
  ∑ s : Fin 1536, (x0 (ix2 r s) : EReal) * (x1 (ix2 e s) : EReal)

/-- Its run `k` of 512 terms. -/
def part (x0 : FVec Ideal S2048x1536 .bf16) (x1 : FVec Ideal S256x1536 .bf16) (r : Fin 2048) (e : Fin 256) (k : Fin 3) : EReal :=
  ∑ s : Fin 512, (x0 (ix2 r ⟨k.val * 512 + s.val, by omega⟩) : EReal) * (x1 (ix2 e ⟨k.val * 512 + s.val, by omega⟩) : EReal)

theorem sum1536 (f : Fin 1536 → EReal) :
    ∑ s, f s = ∑ s : Fin 512, f ⟨s.val, by omega⟩ + ∑ s : Fin 512, f ⟨512 + s.val, by omega⟩ + ∑ s : Fin 512, f ⟨1024 + s.val, by omega⟩ := by
  refine (Fin.sum_univ_add (a := 1024) (b := 512) f).trans ?_
  refine congrArg₂ (· + ·) ?_ rfl
  exact Fin.sum_univ_add (a := 512) (b := 512) fun s => f (Fin.castAdd 512 s)

/-- The three runs make the product. -/
theorem part_sum (x0 : FVec Ideal S2048x1536 .bf16) (x1 : FVec Ideal S256x1536 .bf16) (r : Fin 2048) (e : Fin 256) :
    part x0 x1 r e 0 + part x0 x1 r e 1 + part x0 x1 r e 2 = prod x0 x1 r e := by
  unfold prod
  rw [sum1536]
  unfold part
  have e0 : ∀ s : Fin 512, (⟨(0 : Fin 3).val * 512 + s.val, by show 0 * 512 + s.val < 1536; omega⟩ : Fin 1536) = ⟨s.val, by omega⟩ :=
    fun s => Fin.ext (by show 0 * 512 + s.val = s.val; omega)
  simp only [e0]
  rfl

/-- One block's product. -/
theorem pay_apply (b0 : Vec Ideal S2048x512 .bf16) (b1 : Vec Ideal S256x512 .bf16) (r : Fin 2048) (e : Fin 256) :
    k0_pay1 (F := Ideal) b0 b1 (ix2 r e) = ∑ s : Fin 512, (b0 (ix2 r s) : EReal) * (b1 (ix2 e s) : EReal) := by
  pointwise [k0_pay1]
theorem pay2_apply (b0 : Vec Ideal S2048x512 .bf16) (b1 : Vec Ideal S256x512 .bf16) (r : Fin 2048) (e : Fin 256) :
    k0_pay2 (F := Ideal) b0 b1 (ix2 r e) = k0_pay1 (F := Ideal) b0 b1 (ix2 r e) := by
  pointwise [k0_pay2]
theorem pay3_apply (b0 : Vec Ideal S2048x512 .bf16) (b1 : Vec Ideal S256x512 .bf16) (acc : Vec Ideal S2048x256 .f32) (r : Fin 2048) (e : Fin 256) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x1536 .bf16 := m ((c : Thread nD τ).loc main_arg0)
abbrev a1 : FVec Ideal S256x1536 .bf16 := m ((c : Thread nD τ).loc main_arg1)

theorem blk0 (r : Fin 2048) (e : Fin 512) :
    iblk m c 0 t (ix2 r e) = a0 m c (ix2 r ⟨t.val % 3 * 512 + e.val, by have := lt_N t; omega⟩) := by
  have := lt_N t
  obtain ⟨e0, -, -⟩ := idx t
  refine Eq.trans (b := V m c main_arg0 (ix2 r ⟨t.val % 3 * 512 + e.val, by have := lt_N t; omega⟩)) ?_ (congrFun (V_main_arg0 m c) _)
  blk_ext [iblk, e0]
theorem blk1 (r : Fin 256) (e : Fin 512) :
    iblk m c 1 t (ix2 r e) = a1 m c (ix2 ⟨t.val / 3 * 256 + r.val, by have := lt_N t; omega⟩ ⟨t.val % 3 * 512 + e.val, by have := lt_N t; omega⟩) := by
  have := lt_N t
  obtain ⟨-, e0, -⟩ := idx t
  refine Eq.trans (b := V m c main_arg1 (ix2 ⟨t.val / 3 * 256 + r.val, by have := lt_N t; omega⟩ ⟨t.val % 3 * 512 + e.val, by have := lt_N t; omega⟩)) ?_ (congrFun (V_main_arg1 m c) _)
  blk_ext [iblk, e0]

/-- The index in the array of place (r, e) of point `t`'s block. -/
theorem emb (r : Fin 2048) (e : Fin 256) :
    ((cfg0.win 2).blk t).view.emb (ix2 r e) = ix2 r ⟨t.val / 3 * 256 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 256 + 1 * e.val = t.val / 3 * 256 + e.val
    rw [e0]; show t.val / 3 * 256 + 1 * e.val = _; omega

/-- Point `t`'s block product is the run of its place among three. -/
theorem pay_part (r : Fin 2048) (e : Fin 256) :
    k0_pay1 (F := Ideal) (iblk m c 0 t) (iblk m c 1 t) (ix2 r e)
      = part (a0 m c) (a1 m c) r ⟨t.val / 3 * 256 + e.val, by have := lt_N t; omega⟩ ⟨t.val % 3, by omega⟩ := by
  rw [pay_apply]
  simp only [blk0, blk1]
  rfl

/-! ## The carried sum -/

abbrev St := Vec Ideal S2048x256 .f32 × Vec Ideal S2048x256 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 256) (h : t.val % 3 = 2) :
    (outsAt0 m c t.val t.isLt).1 (ix2 r e)
      = prod (a0 m c) (a1 m c) r ⟨t.val / 3 * 256 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 3 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 256 + e.val < 256 := by omega
  have c0 : (⟨(3 * j) / 3 * 256 + e.val, by omega⟩ : Fin 256) = ⟨(3 * j + 2) / 3 * 256 + e.val, by omega⟩ :=
    Fin.ext (by show (3 * j) / 3 * 256 + e.val = (3 * j + 2) / 3 * 256 + e.val; omega)
  have c1 : (⟨(3 * j + 1) / 3 * 256 + e.val, by omega⟩ : Fin 256) = ⟨(3 * j + 2) / 3 * 256 + e.val, by omega⟩ :=
    Fin.ext (by show (3 * j + 1) / 3 * 256 + e.val = (3 * j + 2) / 3 * 256 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 256 + e.val, _⟩ ⟨(3 * j) % 3, _⟩ + part _ _ r ⟨(3 * j + 1) / 3 * 256 + e.val, _⟩ ⟨(3 * j + 1) % 3, _⟩
    + part _ _ r ⟨(3 * j + 2) / 3 * 256 + e.val, _⟩ ⟨(3 * j + 2) % 3, _⟩ = _
  rw [c0, c1, k0, k1, k2]

/-- The array the kernel leaves. -/
def out (x0 : FVec Ideal S2048x1536 .bf16) (x1 : FVec Ideal S256x1536 .bf16) : FVec Ideal S2048x256 .f32 := fun i => prod x0 x1 (i 0) (i 1)

theorem out_apply (x0 : FVec Ideal S2048x1536 .bf16) (x1 : FVec Ideal S256x1536 .bf16) (r : Fin 2048) (e : Fin 256) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 256), y = ix2 a b := ⟨y 0, y 1, eq_ix2 y⟩
  rw [emb, out_apply]
  exact outs_out m c t r e ((flush0_2 t).mp hf)

/-- The claim: the reference's one product at every index is the kernel's. -/
theorem algebraic : Cert.algebraic_Kernel45Ideal_Reference45Ideal (hKernel45Ideal := Cert.Kernel45Ideal.Gen.facts)
    (hReference45Ideal := Cert.Reference45Ideal.Gen.facts) := by
  intro m g m' g' hpre hargs
  refine ⟨fun c => (dats m 0 c).arrAt 2 cfg0.N, run_blocks (F := Ideal) m g, ?_⟩
  refine (θ_run (Cert.Reference45Ideal.defs (F := Ideal)) _ _).mono (fun r h c => ?_) (Cert.Reference45Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 256), i = ix2 a b := ⟨i 0, i 1, eq_ix2 i⟩
  rw [out_apply]
  unfold prod
  pointwise []

end Cert.KvDa

end
-- ==== Proof.NopeDb.lean ====
/-
  The gradient of the weight of the queries' unrotated part: every block of rows and columns is one product over all 2048
  positions.
-/
module

public import proofs.«01_k».proof.Defs
public import proofs.«01_k».proof.Proof.Gen.Kernel46Ideal.Value
public import proofs.«01_k».proof.Proof.Gen.Reference46Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NopeDb

open Cert.Kernel46Ideal Cert.Kernel46Ideal.Gen Cert.Kernel46Ideal.Value

theorem lt_N (t : Fin cfg0.N) : t.val < 6 := lt_of_lt_of_eq t.isLt (show cfg0.N = 6 from N_0)

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The product over the whole contracted axis. -/
def prod (x0 : FVec Ideal S2048x384 .f32) (x1 : FVec Ideal S2048x768 .bf16) (r : Fin 384) (e : Fin 768) : EReal :=
  ∑ s : Fin 2048, (x0 (ix2 s r) : EReal) * (x1 (ix2 s e) : EReal)

/-- One block's product. -/
theorem pay_apply (b0 : Vec Ideal S2048x128 .f32) (b1 : Vec Ideal S2048x384 .bf16) (r : Fin 128) (e : Fin 384) :
    k0_pay1 (F := Ideal) b0 b1 (ix2 r e) = ∑ s : Fin 2048, (b0 (ix2 s r) : EReal) * (b1 (ix2 s e) : EReal) := by
  pointwise [k0_pay1]

variable (m : (ℓ : Loc nD τ sig) → Buf (Elt Ideal) ℓ) (c : Dev nD) (t : Fin cfg0.N)

abbrev a0 : FVec Ideal S2048x384 .f32 := m ((c : Thread nD τ).loc main_arg0)
abbrev a1 : FVec Ideal S2048x768 .bf16 := m ((c : Thread nD τ).loc main_arg1)

theorem blk0 (r : Fin 2048) (e : Fin 128) :
    iblk m c 0 t (ix2 r e) = a0 m c (ix2 r ⟨t.val / 2 * 128 + e.val, by have := lt_N t; omega⟩) := by
  have := lt_N t
  obtain ⟨e0, -, -⟩ := idx t
  refine Eq.trans (b := V m c main_arg0 (ix2 r ⟨t.val / 2 * 128 + e.val, by have := lt_N t; omega⟩)) ?_ (congrFun (V_main_arg0 m c) _)
  blk_ext [iblk, e0]
theorem blk1 (r : Fin 2048) (e : Fin 384) :
    iblk m c 1 t (ix2 r e) = a1 m c (ix2 r ⟨t.val % 2 * 384 + e.val, by have := lt_N t; omega⟩) := by
  have := lt_N t
  obtain ⟨-, e0, -⟩ := idx t
  refine Eq.trans (b := V m c main_arg1 (ix2 r ⟨t.val % 2 * 384 + e.val, by have := lt_N t; omega⟩)) ?_ (congrFun (V_main_arg1 m c) _)
  blk_ext [iblk, e0]

/-- The index in the array of place (r, e) of point `t`'s block. -/
theorem emb (r : Fin 128) (e : Fin 384) :
    ((cfg0.win 2).blk t).view.emb (ix2 r e) = ix2 ⟨t.val / 2 * 128 + r.val, by have := lt_N t; omega⟩ ⟨t.val % 2 * 384 + e.val, by have := lt_N t; omega⟩ := by
  have := lt_N t
  obtain ⟨-, -, e0⟩ := idx t
  funext a; apply Fin.ext
  match a with
  | ⟨0, _⟩ =>
    show win0_2.index t 0 * 128 + 1 * r.val = t.val / 2 * 128 + r.val
    rw [e0]; show t.val / 2 * 128 + 1 * r.val = _; omega
  | ⟨1, _⟩ =>
    show win0_2.index t 1 * 384 + 1 * e.val = t.val % 2 * 384 + e.val
    rw [e0]; show t.val % 2 * 384 + 1 * e.val = _; omega

/-- The array the kernel leaves. -/
def out (x0 : FVec Ideal S2048x384 .f32) (x1 : FVec Ideal S2048x768 .bf16) : FVec Ideal S384x768 .bf16 := fun i => prod x0 x1 (i 0) (i 1)

theorem out_apply (x0 : FVec Ideal S2048x384 .f32) (x1 : FVec Ideal S2048x768 .bf16) (r : Fin 384) (e : Fin 768) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 128) (b : Fin 384), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel46Ideal_Reference46Ideal (hKernel46Ideal := Cert.Kernel46Ideal.Gen.facts)
    (hReference46Ideal := Cert.Reference46Ideal.Gen.facts) := by
  intro m g m' g' hpre hargs
  refine ⟨fun c => (dats m 0 c).arrAt 2 cfg0.N, run_blocks (F := Ideal) m g, ?_⟩
  refine (θ_run (Cert.Reference46Ideal.defs (F := Ideal)) _ _).mono (fun r h c => ?_) (Cert.Reference46Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 384) (b : Fin 768), i = ix2 a b := ⟨i 0, i 1, eq_ix2 i⟩
  rw [out_apply]
  unfold prod
  pointwise []
  exact Finset.sum_congr rfl fun s _ => mul_comm _ _

end Cert.NopeDb

end
-- ==== Proof.RopeDb.lean ====
/-
  The gradient of the weight of the queries' rotated part: every block of 128 rows is one product over all 2048 positions.
-/
module

public import proofs.«01_k».proof.Defs
public import proofs.«01_k».proof.Proof.Gen.Kernel47Ideal.Value
public import proofs.«01_k».proof.Proof.Gen.Reference47Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.RopeDb

open Cert.Kernel47Ideal Cert.Kernel47Ideal.Gen Cert.Kernel47Ideal.Value

theorem lt_N (t : Fin cfg0.N) : t.val < 3 := lt_of_lt_of_eq t.isLt (show cfg0.N = 3 from N_0)

theorem idx : ∀ t : Fin cfg0.N, win0_0.index t = ![0, t.val] ∧ win0_1.index t = ![0, 0]
    ∧ win0_2.index t = ![t.val, 0] :=
  (by decide +kernel : ∀ t : Fin grid0.N, _)

/-- The product over the whole contracted axis. -/
def prod (x0 : FVec Ideal S2048x384 .f32) (x1 : FVec Ideal S2048x384 .f32) (r : Fin 384) (e : Fin 384) : EReal :=
  ∑ s : Fin 2048, (x0 (ix2 s r) : EReal) * (x1 (ix2 s e) : EReal)

/-- One block's product. -/
theorem pay_apply (b0 : Vec Ideal S2048x128 .f32) (b1 : Vec Ideal S2048x384 .f32) (r : Fin 128) (e : Fin 384) :
    k0_pay1 (F := Ideal) b0 b1 (ix2 r e) = ∑ s : Fin 2048, (b0 (ix2 s r) : EReal) * (b1 (ix2 s e) : EReal) := by
  pointwise [k0_pay1]

variable (m : (ℓ : Loc nD τ sig) → Buf (Elt Ideal) ℓ) (c : Dev nD) (t : Fin cfg0.N)

abbrev a0 : FVec Ideal S2048x384 .f32 := m ((c : Thread nD τ).loc main_arg0)
abbrev a1 : FVec Ideal S2048x384 .f32 := m ((c : Thread nD τ).loc main_arg1)

theorem blk0 (r : Fin 2048) (e : Fin 128) :
    iblk m c 0 t (ix2 r e) = a0 m c (ix2 r ⟨t.val * 128 + e.val, by have := lt_N t; omega⟩) := by
  have := lt_N t
  obtain ⟨e0, -, -⟩ := idx t
  refine Eq.trans (b := V m c main_arg0 (ix2 r ⟨t.val * 128 + e.val, by have := lt_N t; omega⟩)) ?_ (congrFun (V_main_arg0 m c) _)
  blk_ext [iblk, e0]
theorem blk1 (r : Fin 2048) (e : Fin 384) :
    iblk m c 1 t (ix2 r e) = a1 m c (ix2 r e) := by
  have := lt_N t
  obtain ⟨-, e0, -⟩ := idx t
  refine Eq.trans (b := V m c main_arg1 (ix2 r e)) ?_ (congrFun (V_main_arg1 m c) _)
  blk_ext [iblk, e0]

/-- The index in the array of place (r, e) of point `t`'s block. -/
theorem emb (r : Fin 128) (e : Fin 384) :
    ((cfg0.win 2).blk t).view.emb (ix2 r e) = ix2 ⟨t.val * 128 + r.val, by have := lt_N t; omega⟩ e := by
  have := lt_N t
  obtain ⟨-, -, e0⟩ := idx t
  funext a; apply Fin.ext
  match a with
  | ⟨0, _⟩ =>
    show win0_2.index t 0 * 128 + 1 * r.val = t.val * 128 + r.val
    rw [e0]; show t.val * 128 + 1 * r.val = _; omega
  | ⟨1, _⟩ =>
    show win0_2.index t 1 * 384 + 1 * e.val = e.val
    rw [e0]; show 0 * 384 + 1 * e.val = _; omega

/-- The array the kernel leaves. -/
def out (x0 : FVec Ideal S2048x384 .f32) (x1 : FVec Ideal S2048x384 .f32) : FVec Ideal S384x384 .bf16 := fun i => prod x0 x1 (i 0) (i 1)

theorem out_apply (x0 : FVec Ideal S2048x384 .f32) (x1 : FVec Ideal S2048x384 .f32) (r : Fin 384) (e : Fin 384) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 128) (b : Fin 384), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel47Ideal_Reference47Ideal (hKernel47Ideal := Cert.Kernel47Ideal.Gen.facts)
    (hReference47Ideal := Cert.Reference47Ideal.Gen.facts) := by
  intro m g m' g' hpre hargs
  refine ⟨fun c => (dats m 0 c).arrAt 2 cfg0.N, run_blocks (F := Ideal) m g, ?_⟩
  refine (θ_run (Cert.Reference47Ideal.defs (F := Ideal)) _ _).mono (fun r h c => ?_) (Cert.Reference47Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 384) (b : Fin 384), i = ix2 a b := ⟨i 0, i 1, eq_ix2 i⟩
  rw [out_apply]
  unfold prod
  pointwise []
  exact Finset.sum_congr rfl fun s _ => mul_comm _ _

end Cert.RopeDb

end
-- ==== Proof.KvDb.lean ====
/-
  The gradient of the weight of the keys and values: every block of 512 columns is one product over all 2048 positions.
-/
module

public import proofs.«01_k».proof.Defs
public import proofs.«01_k».proof.Proof.Gen.Kernel48Ideal.Value
public import proofs.«01_k».proof.Proof.Gen.Reference48Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KvDb

open Cert.Kernel48Ideal Cert.Kernel48Ideal.Gen Cert.Kernel48Ideal.Value

theorem lt_N (t : Fin cfg0.N) : t.val < 3 := lt_of_lt_of_eq t.isLt (show cfg0.N = 3 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x256 .f32) (x1 : FVec Ideal S2048x1536 .bf16) (r : Fin 256) (e : Fin 1536) : EReal :=
  ∑ s : Fin 2048, (x0 (ix2 s r) : EReal) * (x1 (ix2 s e) : EReal)

/-- One block's product. -/
theorem pay_apply (b0 : Vec Ideal S2048x256 .f32) (b1 : Vec Ideal S2048x512 .bf16) (r : Fin 256) (e : Fin 512) :
    k0_pay1 (F := Ideal) b0 b1 (ix2 r e) = ∑ s : Fin 2048, (b0 (ix2 s r) : EReal) * (b1 (ix2 s e) : EReal) := by
  pointwise [k0_pay1]

variable (m : (ℓ : Loc nD τ sig) → Buf (Elt Ideal) ℓ) (c : Dev nD) (t : Fin cfg0.N)

abbrev a0 : FVec Ideal S2048x256 .f32 := m ((c : Thread nD τ).loc main_arg0)
abbrev a1 : FVec Ideal S2048x1536 .bf16 := m ((c : Thread nD τ).loc main_arg1)

theorem blk0 (r : Fin 2048) (e : Fin 256) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 2048) (e : Fin 512) :
    iblk m c 1 t (ix2 r e) = a1 m c (ix2 r ⟨t.val * 512 + e.val, by have := lt_N t; omega⟩) := by
  have := lt_N t
  obtain ⟨-, e0, -⟩ := idx t
  refine Eq.trans (b := V m c main_arg1 (ix2 r ⟨t.val * 512 + e.val, by have := lt_N t; omega⟩)) ?_ (congrFun (V_main_arg1 m c) _)
  blk_ext [iblk, e0]

/-- The index in the array of place (r, e) of point `t`'s block. -/
theorem emb (r : Fin 256) (e : Fin 512) :
    ((cfg0.win 2).blk t).view.emb (ix2 r e) = ix2 r ⟨t.val * 512 + e.val, by have := lt_N t; omega⟩ := by
  have := lt_N t
  obtain ⟨-, -, e0⟩ := idx t
  funext a; apply Fin.ext
  match a with
  | ⟨0, _⟩ =>
    show win0_2.index t 0 * 256 + 1 * r.val = r.val
    rw [e0]; show 0 * 256 + 1 * r.val = _; omega
  | ⟨1, _⟩ =>
    show win0_2.index t 1 * 512 + 1 * e.val = t.val * 512 + e.val
    rw [e0]; show t.val * 512 + 1 * e.val = _; omega

/-- The array the kernel leaves. -/
def out (x0 : FVec Ideal S2048x256 .f32) (x1 : FVec Ideal S2048x1536 .bf16) : FVec Ideal S256x1536 .bf16 := fun i => prod x0 x1 (i 0) (i 1)

theorem out_apply (x0 : FVec Ideal S2048x256 .f32) (x1 : FVec Ideal S2048x1536 .bf16) (r : Fin 256) (e : Fin 1536) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 256) (b : Fin 512), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel48Ideal_Reference48Ideal (hKernel48Ideal := Cert.Kernel48Ideal.Gen.facts)
    (hReference48Ideal := Cert.Reference48Ideal.Gen.facts) := by
  intro m g m' g' hpre hargs
  refine ⟨fun c => (dats m 0 c).arrAt 2 cfg0.N, run_blocks (F := Ideal) m g, ?_⟩
  refine (θ_run (Cert.Reference48Ideal.defs (F := Ideal)) _ _).mono (fun r h c => ?_) (Cert.Reference48Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 256) (b : Fin 1536), i = ix2 a b := ⟨i 0, i 1, eq_ix2 i⟩
  rw [out_apply]
  unfold prod
  pointwise []
  exact Finset.sum_congr rfl fun s _ => mul_comm _ _

end Cert.KvDb

end
-- ==== Proof.GlrFwd.lean ====
/-
  The gates' logits from their low-rank features: every block of 384 columns is one product over the 128 features.
-/
module

public import proofs.«01_k».proof.Defs
public import proofs.«01_k».proof.Proof.Gen.Kernel49Ideal.Value
public import proofs.«01_k».proof.Proof.Gen.Reference49Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.GlrFwd

open Cert.Kernel49Ideal Cert.Kernel49Ideal.Gen Cert.Kernel49Ideal.Value

theorem lt_N (t : Fin cfg0.N) : t.val < 2 := lt_of_lt_of_eq t.isLt (show cfg0.N = 2 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x128 .f32) (x1 : FVec Ideal S128x768 .f32) (r : Fin 2048) (e : Fin 768) : EReal :=
  ∑ s : Fin 128, (x0 (ix2 r s) : EReal) * (x1 (ix2 s e) : EReal)

/-- One block's product. -/
theorem pay_apply (b0 : Vec Ideal S2048x128 .f32) (b1 : Vec Ideal S128x384 .f32) (r : Fin 2048) (e : Fin 384) :
    k0_pay1 (F := Ideal) b0 b1 (ix2 r e) = ∑ s : Fin 128, (b0 (ix2 r s) : EReal) * (b1 (ix2 s e) : EReal) := by
  pointwise [k0_pay1]

variable (m : (ℓ : Loc nD τ sig) → Buf (Elt Ideal) ℓ) (c : Dev nD) (t : Fin cfg0.N)

abbrev a0 : FVec Ideal S2048x128 .f32 := m ((c : Thread nD τ).loc main_arg0)
abbrev a1 : FVec Ideal S128x768 .f32 := m ((c : Thread nD τ).loc main_arg1)

theorem blk0 (r : Fin 2048) (e : Fin 128) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 128) (e : Fin 384) :
    iblk m c 1 t (ix2 r e) = a1 m c (ix2 r ⟨t.val * 384 + e.val, by have := lt_N t; omega⟩) := by
  have := lt_N t
  obtain ⟨-, e0, -⟩ := idx t
  refine Eq.trans (b := V m c main_arg1 (ix2 r ⟨t.val * 384 + e.val, by have := lt_N t; omega⟩)) ?_ (congrFun (V_main_arg1 m c) _)
  blk_ext [iblk, e0]

/-- The index in the array of place (r, e) of point `t`'s block. -/
theorem emb (r : Fin 2048) (e : Fin 384) :
    ((cfg0.win 2).blk t).view.emb (ix2 r e) = ix2 r ⟨t.val * 384 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 384 + 1 * e.val = t.val * 384 + e.val
    rw [e0]; show t.val * 384 + 1 * e.val = _; omega

/-- The array the kernel leaves. -/
def out (x0 : FVec Ideal S2048x128 .f32) (x1 : FVec Ideal S128x768 .f32) : FVec Ideal S2048x768 .f32 := fun i => prod x0 x1 (i 0) (i 1)

theorem out_apply (x0 : FVec Ideal S2048x128 .f32) (x1 : FVec Ideal S128x768 .f32) (r : Fin 2048) (e : Fin 768) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 384), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel49Ideal_Reference49Ideal (hKernel49Ideal := Cert.Kernel49Ideal.Gen.facts)
    (hReference49Ideal := Cert.Reference49Ideal.Gen.facts) := by
  intro m g m' g' hpre hargs
  refine ⟨fun c => (dats m 0 c).arrAt 2 cfg0.N, run_blocks (F := Ideal) m g, ?_⟩
  refine (θ_run (Cert.Reference49Ideal.defs (F := Ideal)) _ _).mono (fun r h c => ?_) (Cert.Reference49Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 768), i = ix2 a b := ⟨i 0, i 1, eq_ix2 i⟩
  rw [out_apply]
  unfold prod
  pointwise []

end Cert.GlrFwd

end
-- ==== Proof.GlrDa.lean ====
/-
  The gradient of the gates' low-rank features: a sum over the 768 logits, taken in three runs.
-/
module

public import proofs.«01_k».proof.Defs
public import proofs.«01_k».proof.Proof.Gen.Kernel50Ideal.Value
public import proofs.«01_k».proof.Proof.Gen.Reference50Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GlrDa

open Cert.Kernel50Ideal Cert.Kernel50Ideal.Gen Cert.Kernel50Ideal.Value

theorem lt_N (t : Fin cfg0.N) : t.val < 3 := lt_of_lt_of_eq t.isLt (show cfg0.N = 3 from N_0)

theorem idx : ∀ t : Fin cfg0.N, win0_0.index t = ![0, t.val % 3] ∧ win0_1.index t = ![t.val / 3, t.val % 3]
    ∧ win0_2.index t = ![0, t.val / 3] :=
  (by decide +kernel : ∀ t : Fin grid0.N, _)

/-- The product over the whole contracted axis. -/
def prod (x0 : FVec Ideal S2048x768 .f32) (x1 : FVec Ideal S128x768 .f32) (r : Fin 2048) (e : Fin 128) : EReal :=
  ∑ s : Fin 768, (x0 (ix2 r s) : EReal) * (x1 (ix2 e s) : EReal)

/-- Its run `k` of 256 terms. -/
def part (x0 : FVec Ideal S2048x768 .f32) (x1 : FVec Ideal S128x768 .f32) (r : Fin 2048) (e : Fin 128) (k : Fin 3) : EReal :=
  ∑ s : Fin 256, (x0 (ix2 r ⟨k.val * 256 + s.val, by omega⟩) : EReal) * (x1 (ix2 e ⟨k.val * 256 + s.val, by omega⟩) : EReal)

theorem sum768 (f : Fin 768 → EReal) :
    ∑ s, f s = ∑ s : Fin 256, f ⟨s.val, by omega⟩ + ∑ s : Fin 256, f ⟨256 + s.val, by omega⟩ + ∑ s : Fin 256, f ⟨512 + s.val, by omega⟩ := by
  refine (Fin.sum_univ_add (a := 512) (b := 256) f).trans ?_
  refine congrArg₂ (· + ·) ?_ rfl
  exact Fin.sum_univ_add (a := 256) (b := 256) fun s => f (Fin.castAdd 256 s)

/-- The three runs make the product. -/
theorem part_sum (x0 : FVec Ideal S2048x768 .f32) (x1 : FVec Ideal S128x768 .f32) (r : Fin 2048) (e : Fin 128) :
    part x0 x1 r e 0 + part x0 x1 r e 1 + part x0 x1 r e 2 = prod x0 x1 r e := by
  unfold prod
  rw [sum768]
  unfold part
  have e0 : ∀ s : Fin 256, (⟨(0 : Fin 3).val * 256 + s.val, by show 0 * 256 + s.val < 768; omega⟩ : Fin 768) = ⟨s.val, by omega⟩ :=
    fun s => Fin.ext (by show 0 * 256 + s.val = s.val; omega)
  simp only [e0]
  rfl

/-- One block's product. -/
theorem pay_apply (b0 : Vec Ideal S2048x256 .f32) (b1 : Vec Ideal S128x256 .f32) (r : Fin 2048) (e : Fin 128) :
    k0_pay1 (F := Ideal) b0 b1 (ix2 r e) = ∑ s : Fin 256, (b0 (ix2 r s) : EReal) * (b1 (ix2 e s) : EReal) := by
  pointwise [k0_pay1]
theorem pay2_apply (b0 : Vec Ideal S2048x256 .f32) (b1 : Vec Ideal S128x256 .f32) (r : Fin 2048) (e : Fin 128) :
    k0_pay2 (F := Ideal) b0 b1 (ix2 r e) = k0_pay1 (F := Ideal) b0 b1 (ix2 r e) := by
  pointwise [k0_pay2]
theorem pay3_apply (b0 : Vec Ideal S2048x256 .f32) (b1 : Vec Ideal S128x256 .f32) (acc : Vec Ideal S2048x128 .f32) (r : Fin 2048) (e : Fin 128) :
    k0_pay3 (F := Ideal) b0 b1 acc (ix2 r e) = (acc (ix2 r e) : EReal) + k0_pay1 (F := Ideal) b0 b1 (ix2 r e) := by
  pointwise [k0_pay3]

variable (m : (ℓ : Loc nD τ sig) → Buf (Elt Ideal) ℓ) (c : Dev nD) (t : Fin cfg0.N)

abbrev a0 : FVec Ideal S2048x768 .f32 := m ((c : Thread nD τ).loc main_arg0)
abbrev a1 : FVec Ideal S128x768 .f32 := m ((c : Thread nD τ).loc main_arg1)

theorem blk0 (r : Fin 2048) (e : Fin 256) :
    iblk m c 0 t (ix2 r e) = a0 m c (ix2 r ⟨t.val % 3 * 256 + e.val, by have := lt_N t; omega⟩) := by
  have := lt_N t
  obtain ⟨e0, -, -⟩ := idx t
  refine Eq.trans (b := V m c main_arg0 (ix2 r ⟨t.val % 3 * 256 + e.val, by have := lt_N t; omega⟩)) ?_ (congrFun (V_main_arg0 m c) _)
  blk_ext [iblk, e0]
theorem blk1 (r : Fin 128) (e : Fin 256) :
    iblk m c 1 t (ix2 r e) = a1 m c (ix2 ⟨t.val / 3 * 128 + r.val, by have := lt_N t; omega⟩ ⟨t.val % 3 * 256 + e.val, by have := lt_N t; omega⟩) := by
  have := lt_N t
  obtain ⟨-, e0, -⟩ := idx t
  refine Eq.trans (b := V m c main_arg1 (ix2 ⟨t.val / 3 * 128 + r.val, by have := lt_N t; omega⟩ ⟨t.val % 3 * 256 + e.val, by have := lt_N t; omega⟩)) ?_ (congrFun (V_main_arg1 m c) _)
  blk_ext [iblk, e0]

/-- The index in the array of place (r, e) of point `t`'s block. -/
theorem emb (r : Fin 2048) (e : Fin 128) :
    ((cfg0.win 2).blk t).view.emb (ix2 r e) = ix2 r ⟨t.val / 3 * 128 + e.val, by have := lt_N t; omega⟩ := by
  have := lt_N t
  obtain ⟨-, -, e0⟩ := idx t
  funext a; apply Fin.ext
  match a with
  | ⟨0, _⟩ =>
    show win0_2.index t 0 * 2048 + 1 * r.val = r.val
    rw [e0]; show 0 * 2048 + 1 * r.val = _; omega
  | ⟨1, _⟩ =>
    show win0_2.index t 1 * 128 + 1 * e.val = t.val / 3 * 128 + e.val
    rw [e0]; show t.val / 3 * 128 + 1 * e.val = _; omega

/-- Point `t`'s block product is the run of its place among three. -/
theorem pay_part (r : Fin 2048) (e : Fin 128) :
    k0_pay1 (F := Ideal) (iblk m c 0 t) (iblk m c 1 t) (ix2 r e)
      = part (a0 m c) (a1 m c) r ⟨t.val / 3 * 128 + e.val, by have := lt_N t; omega⟩ ⟨t.val % 3, by omega⟩ := by
  rw [pay_apply]
  simp only [blk0, blk1]
  rfl

/-! ## The carried sum -/

abbrev St := Vec Ideal S2048x128 .f32 × Vec Ideal S2048x128 .f32

variable (acc : St)

theorem st_first (h : t.val % 3 = 0) : (stAt0 m c t.val t.isLt acc).2 = k0_pay2 (F := Ideal) (iblk m c 0 t) (iblk m c 1 t) := by
  have := lt_N t; rw [stAt0_A m c t acc (by omega) (by omega) (by omega)]; frame_out
theorem st_next (h : t.val % 3 = 1) : (stAt0 m c t.val t.isLt acc).2 = k0_pay3 (F := Ideal) (iblk m c 0 t) (iblk m c 1 t) acc.2 := by
  have := lt_N t; rw [stAt0_B m c t acc (by omega) (by omega) (by omega)]; frame_out; simp only [read_unread_whole]
/-- The last point of a run hands out the sum it completes. -/
theorem st_last (h : t.val % 3 = 2) : (stAt0 m c t.val t.isLt acc).1 = k0_pay3 (F := Ideal) (iblk m c 0 t) (iblk m c 1 t) acc.2 := by
  have := lt_N t; rw [stAt0_C m c t acc (by omega) (by omega) (by omega)]; frame_out; simp only [read_unread_whole]

theorem outs_step (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_out (r : Fin 2048) (e : Fin 128) (h : t.val % 3 = 2) :
    (outsAt0 m c t.val t.isLt).1 (ix2 r e)
      = prod (a0 m c) (a1 m c) r ⟨t.val / 3 * 128 + e.val, by have := lt_N t; omega⟩ := by
  obtain ⟨n, hn⟩ := t
  obtain ⟨j, rfl⟩ : ∃ j, n = 3 * j + 2 := ⟨n / 3, by have : n % 3 = 2 := h; omega⟩
  have hN : 3 * j + 2 < 3 := lt_N ⟨3 * j + 2, hn⟩
  have h1 : 3 * j + 1 < cfg0.N := Nat.lt_of_succ_lt hn
  have h0 : 3 * j < cfg0.N := Nat.lt_of_succ_lt h1
  obtain ⟨acc, s0⟩ := outs_step m c ⟨3 * j, h0⟩
  have f0 := st_first m c ⟨3 * j, h0⟩ acc (by show 3 * j % 3 = 0; omega)
  rw [← s0] at f0
  have f1 := st_next m c ⟨3 * j + 1, h1⟩ (outsAt0 m c (3 * j) h0) (by show (3 * j + 1) % 3 = 1; omega)
  have f2 := st_last m c ⟨3 * j + 2, hn⟩ (outsAt0 m c (3 * j + 1) h1) h
  have g0 := (congrFun f0 (ix2 r e)).trans ((pay2_apply _ _ r e).trans (pay_part m c ⟨3 * j, h0⟩ r e))
  have g1 := (congrFun f1 (ix2 r e)).trans (pay3_apply _ _ _ r e)
  have g2 := (congrFun f2 (ix2 r e)).trans (pay3_apply _ _ _ r e)
  rw [pay_part] at g1 g2
  refine (congrFun (congrArg Prod.fst (outsAt0_succ m c (3 * j + 1) hn)) (ix2 r e)).trans (g2.trans ?_)
  rw [show (outsAt0 m c (3 * j + 1) h1).2 (ix2 r e) = _ from (congrFun (congrArg Prod.snd (outsAt0_succ m c (3 * j) h1)) (ix2 r e)).trans g1,
    show (outsAt0 m c (3 * j) h0).2 (ix2 r e) = _ from g0]
  have hb : 3 * j / 3 * 128 + e.val < 128 := by omega
  have c0 : (⟨(3 * j) / 3 * 128 + e.val, by omega⟩ : Fin 128) = ⟨(3 * j + 2) / 3 * 128 + e.val, by omega⟩ :=
    Fin.ext (by show (3 * j) / 3 * 128 + e.val = (3 * j + 2) / 3 * 128 + e.val; omega)
  have c1 : (⟨(3 * j + 1) / 3 * 128 + e.val, by omega⟩ : Fin 128) = ⟨(3 * j + 2) / 3 * 128 + e.val, by omega⟩ :=
    Fin.ext (by show (3 * j + 1) / 3 * 128 + e.val = (3 * j + 2) / 3 * 128 + e.val; omega)
  have k0 : (⟨(3 * j) % 3, by omega⟩ : Fin 3) = 0 := Fin.ext (by show (3 * j) % 3 = 0; omega)
  have k1 : (⟨(3 * j + 1) % 3, by omega⟩ : Fin 3) = 1 := Fin.ext (by show (3 * j + 1) % 3 = 1; omega)
  have k2 : (⟨(3 * j + 2) % 3, by omega⟩ : Fin 3) = 2 := Fin.ext (by show (3 * j + 2) % 3 = 2; omega)
  rw [← part_sum]
  show part _ _ r ⟨(3 * j) / 3 * 128 + e.val, _⟩ ⟨(3 * j) % 3, _⟩ + part _ _ r ⟨(3 * j + 1) / 3 * 128 + e.val, _⟩ ⟨(3 * j + 1) % 3, _⟩
    + part _ _ r ⟨(3 * j + 2) / 3 * 128 + e.val, _⟩ ⟨(3 * j + 2) % 3, _⟩ = _
  rw [c0, c1, k0, k1, k2]

/-- The array the kernel leaves. -/
def out (x0 : FVec Ideal S2048x768 .f32) (x1 : FVec Ideal S128x768 .f32) : FVec Ideal S2048x128 .f32 := fun i => prod x0 x1 (i 0) (i 1)

theorem out_apply (x0 : FVec Ideal S2048x768 .f32) (x1 : FVec Ideal S128x768 .f32) (r : Fin 2048) (e : Fin 128) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 2048) (b : Fin 128), y = ix2 a b := ⟨y 0, y 1, eq_ix2 y⟩
  rw [emb, out_apply]
  exact outs_out m c t r e ((flush0_2 t).mp hf)

/-- The claim: the reference's one product at every index is the kernel's. -/
theorem algebraic : Cert.algebraic_Kernel50Ideal_Reference50Ideal (hKernel50Ideal := Cert.Kernel50Ideal.Gen.facts)
    (hReference50Ideal := Cert.Reference50Ideal.Gen.facts) := by
  intro m g m' g' hpre hargs
  refine ⟨fun c => (dats m 0 c).arrAt 2 cfg0.N, run_blocks (F := Ideal) m g, ?_⟩
  refine (θ_run (Cert.Reference50Ideal.defs (F := Ideal)) _ _).mono (fun r h c => ?_) (Cert.Reference50Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 2048) (b : Fin 128), i = ix2 a b := ⟨i 0, i 1, eq_ix2 i⟩
  rw [out_apply]
  unfold prod
  pointwise []

end Cert.GlrDa

end
-- ==== Proof.GlrDb.lean ====
/-
  The gradient of the gates' low-rank weight: every block of 384 columns is one product over all 2048 positions.
-/
module

public import proofs.«01_k».proof.Defs
public import proofs.«01_k».proof.Proof.Gen.Kernel51Ideal.Value
public import proofs.«01_k».proof.Proof.Gen.Reference51Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.GlrDb

open Cert.Kernel51Ideal Cert.Kernel51Ideal.Gen Cert.Kernel51Ideal.Value

theorem lt_N (t : Fin cfg0.N) : t.val < 2 := lt_of_lt_of_eq t.isLt (show cfg0.N = 2 from N_0)

theorem idx : ∀ t : Fin cfg0.N, win0_0.index t = ![0, 0] ∧ win0_1.index t = ![0, t.val]
    ∧ win0_2.index t = ![0, t.val] :=
  (by decide +kernel : ∀ t : Fin grid0.N, _)

/-- The product over the whole contracted axis. -/
def prod (x0 : FVec Ideal S2048x128 .f32) (x1 : FVec Ideal S2048x768 .f32) (r : Fin 128) (e : Fin 768) : EReal :=
  ∑ s : Fin 2048, (x0 (ix2 s r) : EReal) * (x1 (ix2 s e) : EReal)

/-- One block's product. -/
theorem pay_apply (b0 : Vec Ideal S2048x128 .f32) (b1 : Vec Ideal S2048x384 .f32) (r : Fin 128) (e : Fin 384) :
    k0_pay1 (F := Ideal) b0 b1 (ix2 r e) = ∑ s : Fin 2048, (b0 (ix2 s r) : EReal) * (b1 (ix2 s e) : EReal) := by
  pointwise [k0_pay1]

variable (m : (ℓ : Loc nD τ sig) → Buf (Elt Ideal) ℓ) (c : Dev nD) (t : Fin cfg0.N)

abbrev a0 : FVec Ideal S2048x128 .f32 := m ((c : Thread nD τ).loc main_arg0)
abbrev a1 : FVec Ideal S2048x768 .f32 := m ((c : Thread nD τ).loc main_arg1)

theorem blk0 (r : Fin 2048) (e : Fin 128) :
    iblk m c 0 t (ix2 r e) = a0 m c (ix2 r e) := by
  have := lt_N t
  obtain ⟨e0, -, -⟩ := idx t
  refine Eq.trans (b := V m c main_arg0 (ix2 r e)) ?_ (congrFun (V_main_arg0 m c) _)
  blk_ext [iblk, e0]
theorem blk1 (r : Fin 2048) (e : Fin 384) :
    iblk m c 1 t (ix2 r e) = a1 m c (ix2 r ⟨t.val * 384 + e.val, by have := lt_N t; omega⟩) := by
  have := lt_N t
  obtain ⟨-, e0, -⟩ := idx t
  refine Eq.trans (b := V m c main_arg1 (ix2 r ⟨t.val * 384 + e.val, by have := lt_N t; omega⟩)) ?_ (congrFun (V_main_arg1 m c) _)
  blk_ext [iblk, e0]

/-- The index in the array of place (r, e) of point `t`'s block. -/
theorem emb (r : Fin 128) (e : Fin 384) :
    ((cfg0.win 2).blk t).view.emb (ix2 r e) = ix2 r ⟨t.val * 384 + e.val, by have := lt_N t; omega⟩ := by
  have := lt_N t
  obtain ⟨-, -, e0⟩ := idx t
  funext a; apply Fin.ext
  match a with
  | ⟨0, _⟩ =>
    show win0_2.index t 0 * 128 + 1 * r.val = r.val
    rw [e0]; show 0 * 128 + 1 * r.val = _; omega
  | ⟨1, _⟩ =>
    show win0_2.index t 1 * 384 + 1 * e.val = t.val * 384 + e.val
    rw [e0]; show t.val * 384 + 1 * e.val = _; omega

/-- The array the kernel leaves. -/
def out (x0 : FVec Ideal S2048x128 .f32) (x1 : FVec Ideal S2048x768 .f32) : FVec Ideal S128x768 .f32 := fun i => prod x0 x1 (i 0) (i 1)

theorem out_apply (x0 : FVec Ideal S2048x128 .f32) (x1 : FVec Ideal S2048x768 .f32) (r : Fin 128) (e : Fin 768) :
    out x0 x1 (ix2 r e) = prod x0 x1 r e := rfl

theorem arr : (dats m 0 c).arrAt 2 cfg0.N = out (a0 m c) (a1 m c) := by
  refine (dats m 0 c).arrAt_eq_of_covers 2 _ (by decide +kernel) fun t hf y => ?_
  blk_simp; rw [after0_2]
  obtain ⟨r, e, rfl⟩ : ∃ (a : Fin 128) (b : Fin 384), y = ix2 a b := ⟨y 0, y 1, eq_ix2 y⟩
  rw [emb, out_apply]
  frame_out
  refine (pay_apply _ _ r e).trans ?_
  simp only [blk0, blk1]
  rfl

/-- The claim: the reference's one product at every index is the kernel's. -/
theorem algebraic : Cert.algebraic_Kernel51Ideal_Reference51Ideal (hKernel51Ideal := Cert.Kernel51Ideal.Gen.facts)
    (hReference51Ideal := Cert.Reference51Ideal.Gen.facts) := by
  intro m g m' g' hpre hargs
  refine ⟨fun c => (dats m 0 c).arrAt 2 cfg0.N, run_blocks (F := Ideal) m g, ?_⟩
  refine (θ_run (Cert.Reference51Ideal.defs (F := Ideal)) _ _).mono (fun r h c => ?_) (Cert.Reference51Ideal.Value.run (F := Ideal) m' g')
  obtain ⟨h0, hrest⟩ := h c
  obtain ⟨e0, e1⟩ := hargs c
  refine ⟨h0.trans (Eq.trans ?_ (arr m c).symm), hrest⟩
  rw [e0, e1]
  generalize hx0 : m ((c : Thread nD τ).loc main_arg0) = x0
  generalize hx1 : m ((c : Thread nD τ).loc main_arg1) = x1
  rw [show a0 m c = x0 from hx0, show a1 m c = x1 from hx1]
  clear hx0 hx1 e0 e1 h0 hrest
  funext i
  obtain ⟨r, e, rfl⟩ : ∃ (a : Fin 128) (b : Fin 768), i = ix2 a b := ⟨i 0, i 1, eq_ix2 i⟩
  rw [out_apply]
  unfold prod
  pointwise []
  exact Finset.sum_congr rfl fun s _ => mul_comm _ _

end Cert.GlrDb

end
-- ==== Proof.lean ====
/-
  The certificate: the frames come from the generated modules (every program runs, keeps its arguments and leaves its
  semaphores at zero), and each value claim from the module of its call.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Reference35Ideal
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Reference37Ideal
public import proofs.«01_k».proof.Proof.Gen.Reference37Ideal.Run
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Reference38Ideal
public import proofs.«01_k».proof.Proof.Gen.Reference38Ideal.Run
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Reference39Ideal
public import proofs.«01_k».proof.Proof.Gen.Reference39Ideal.Run
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Kernel44
public import proofs.«01_k».proof.Proof.Gen.Kernel44.Frame
public import proofs.«01_k».proof.Proof.Gen.Kernel44Ideal
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Kernel45
public import proofs.«01_k».proof.Proof.Gen.Kernel45.Frame
public import proofs.«01_k».proof.Proof.Gen.Kernel45Ideal
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Kernel46
public import proofs.«01_k».proof.Proof.Gen.Kernel46.Frame
public import proofs.«01_k».proof.Proof.Gen.Kernel46Ideal
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Kernel47
public import proofs.«01_k».proof.Proof.Gen.Kernel47.Frame
public import proofs.«01_k».proof.Proof.Gen.Kernel47Ideal
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Kernel48
public import proofs.«01_k».proof.Proof.Gen.Kernel48.Frame
public import proofs.«01_k».proof.Proof.Gen.Kernel48Ideal
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Kernel49
public import proofs.«01_k».proof.Proof.Gen.Kernel49.Frame
public import proofs.«01_k».proof.Proof.Gen.Kernel49Ideal
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Kernel50
public import proofs.«01_k».proof.Proof.Gen.Kernel50.Frame
public import proofs.«01_k».proof.Proof.Gen.Kernel50Ideal
public import proofs.«01_k».proof.Proof.Gen.Kernel50Ideal.Frame
public import proofs.«01_k».proof.Proof.Gen.Kernel50Ideal.Value
public import proofs.«01_k».proof.Proof.Gen.Reference50Ideal
public import proofs.«01_k».proof.Proof.Gen.Reference50Ideal.Run
public import proofs.«01_k».proof.Proof.Gen.Kernel51
public import proofs.«01_k».proof.Proof.Gen.Kernel51.Frame
public import proofs.«01_k».proof.Proof.Gen.Kernel51Ideal
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Pre_finite
public import proofs.«01_k».proof.Proof.Gen.Pre_finite2
public import proofs.«01_k».proof.Proof.Gen.Pre_finite10
public import proofs.«01_k».proof.Proof.Backward
public import proofs.«01_k».proof.Proof.Forward
public import proofs.«01_k».proof.Proof.InDh
public import proofs.«01_k».proof.Proof.InDw
public import proofs.«01_k».proof.Proof.InFwd
public import proofs.«01_k».proof.Proof.OutDy
public import proofs.«01_k».proof.Proof.OutDw
public import proofs.«01_k».proof.Proof.OutFwd
public import proofs.«01_k».proof.Proof.ConvBwd
public import proofs.«01_k».proof.Proof.GateBwd
public import proofs.«01_k».proof.Proof.ModBwd
public import proofs.«01_k».proof.Proof.NormBwd
public import proofs.«01_k».proof.Proof.ResidBwd
public import proofs.«01_k».proof.Proof.DecayBwd
public import proofs.«01_k».proof.Proof.AdaBwd
public import proofs.«01_k».proof.Proof.SumDevices
public import proofs.«01_k».proof.Proof.AdamW17
public import proofs.«01_k».proof.Proof.AdamW18
public import proofs.«01_k».proof.Proof.AdamW19
public import proofs.«01_k».proof.Proof.AdamW20
public import proofs.«01_k».proof.Proof.AdamW21
public import proofs.«01_k».proof.Proof.AdamW22
public import proofs.«01_k».proof.Proof.AdamW23
public import proofs.«01_k».proof.Proof.AdamW24
public import proofs.«01_k».proof.Proof.AdamW25
public import proofs.«01_k».proof.Proof.AdamW26
public import proofs.«01_k».proof.Proof.AdamW27
public import proofs.«01_k».proof.Proof.AdamW28
public import proofs.«01_k».proof.Proof.AdamW29
public import proofs.«01_k».proof.Proof.AdamW30
public import proofs.«01_k».proof.Proof.AdamW31
public import proofs.«01_k».proof.Proof.Pair32
public import proofs.«01_k».proof.Proof.Pair33
public import proofs.«01_k».proof.Proof.Pair34
public import proofs.«01_k».proof.Proof.Pair35
public import proofs.«01_k».proof.Proof.Chips36
public import proofs.«01_k».proof.Proof.Chips37
public import proofs.«01_k».proof.Proof.Chips38
public import proofs.«01_k».proof.Proof.Chips39
public import proofs.«01_k».proof.Proof.NopeFwd
public import proofs.«01_k».proof.Proof.RopeFwd
public import proofs.«01_k».proof.Proof.KvFwd
public import proofs.«01_k».proof.Proof.NopeDa
public import proofs.«01_k».proof.Proof.RopeDa
public import proofs.«01_k».proof.Proof.KvDa
public import proofs.«01_k».proof.Proof.NopeDb
public import proofs.«01_k».proof.Proof.RopeDb
public import proofs.«01_k».proof.Proof.KvDb
public import proofs.«01_k».proof.Proof.GlrFwd
public import proofs.«01_k».proof.Proof.GlrDa
public import proofs.«01_k».proof.Proof.GlrDb
public import Idealize.ShloMosaic.Adequacy
public import Idealize.ShloMosaic.Init

@[expose] public section

set_option maxRecDepth 16384

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Kernel39.Gen.facts,
    Cert.Kernel39Ideal.Gen.facts,
    Cert.Reference39Ideal.Gen.facts,
    Cert.Kernel40.Gen.facts,
    Cert.Kernel40Ideal.Gen.facts,
    Cert.Reference40Ideal.Gen.facts,
    Cert.Kernel41.Gen.facts,
    Cert.Kernel41Ideal.Gen.facts,
    Cert.Reference41Ideal.Gen.facts,
    Cert.Kernel42.Gen.facts,
    Cert.Kernel42Ideal.Gen.facts,
    Cert.Reference42Ideal.Gen.facts,
    Cert.Kernel43.Gen.facts,
    Cert.Kernel43Ideal.Gen.facts,
    Cert.Reference43Ideal.Gen.facts,
    Cert.Kernel44.Gen.facts,
    Cert.Kernel44Ideal.Gen.facts,
    Cert.Reference44Ideal.Gen.facts,
    Cert.Kernel45.Gen.facts,
    Cert.Kernel45Ideal.Gen.facts,
    Cert.Reference45Ideal.Gen.facts,
    Cert.Kernel46.Gen.facts,
    Cert.Kernel46Ideal.Gen.facts,
    Cert.Reference46Ideal.Gen.facts,
    Cert.Kernel47.Gen.facts,
    Cert.Kernel47Ideal.Gen.facts,
    Cert.Reference47Ideal.Gen.facts,
    Cert.Kernel48.Gen.facts,
    Cert.Kernel48Ideal.Gen.facts,
    Cert.Reference48Ideal.Gen.facts,
    Cert.Kernel49.Gen.facts,
    Cert.Kernel49Ideal.Gen.facts,
    Cert.Reference49Ideal.Gen.facts,
    Cert.Kernel50.Gen.facts,
    Cert.Kernel50Ideal.Gen.facts,
    Cert.Reference50Ideal.Gen.facts,
    Cert.Kernel51.Gen.facts,
    Cert.Kernel51Ideal.Gen.facts,
    Cert.Reference51Ideal.Gen.facts,
    Cert.Pre_finite.Gen.facts,
    Cert.Pre_finite2.Gen.facts,
    Cert.Pre_finite10.Gen.facts,
    fun m ρ _ => Cert.Kernel.Gen.frame m ρ,
    fun m ρ _ => Cert.KernelIdeal.Gen.frame m ρ,
    fun m ρ _ => Cert.KernelIdeal.Gen.frame m ρ,
    fun m ρ _ => Cert.Backward.frame_reference m ρ,
    fun m ρ _ => Cert.Backward.frame_reference m ρ,
    fun m ρ _ => Cert.Kernel2.Gen.frame m ρ,
    fun m ρ _ => Cert.Kernel2Ideal.Gen.frame m ρ,
    fun m ρ _ => Cert.Kernel2Ideal.Gen.frame m ρ,
    fun m ρ _ => (θ_run (Cert.Reference2Ideal.defs (F := Ideal)) _ _).mono (fun r h => ⟨fun c => (h c).2.2,
      Idealize.ShloMosaic.sem_eq_zero_of_no_sems (by decide) r.2⟩) (Cert.Reference2Ideal.Value.run (F := Ideal) m ρ),
    fun m ρ _ => (θ_run (Cert.Reference2Ideal.defs (F := Ideal)) _ _).mono (fun r h => ⟨fun c => (h c).2.2,
      Idealize.ShloMosaic.sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run (Cert.Reference3Ideal.defs (F := Ideal)) _ _).mono (fun r h => ⟨fun c => (h c).2,
      Idealize.ShloMosaic.sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run (Cert.Reference4Ideal.defs (F := Ideal)) _ _).mono (fun r h => ⟨fun c => (h c).2,
      Idealize.ShloMosaic.sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run (Cert.Reference5Ideal.defs (F := Ideal)) _ _).mono (fun r h => ⟨fun c => (h c).2,
      Idealize.ShloMosaic.sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run (Cert.Reference6Ideal.defs (F := Ideal)) _ _).mono (fun r h => ⟨fun c => (h c).2,
      Idealize.ShloMosaic.sem_eq_zero_of_no_sems (by decide) r.2⟩) (Cert.Reference6Ideal.Value.run (F := Ideal) m ρ),
    fun m ρ _ => Cert.Kernel7.Gen.frame m ρ,
    fun m ρ _ => Cert.Kernel7Ideal.Gen.frame m ρ,
    fun m ρ _ => (θ_run (Cert.Reference7Ideal.defs (F := Ideal)) _ _).mono (fun r h => ⟨fun c => (h c).2,
      Idealize.ShloMosaic.sem_eq_zero_of_no_sems (by decide) r.2⟩) (Cert.Reference7Ideal.Value.run (F := Ideal) m ρ),
    fun m ρ _ => Cert.Kernel8.Gen.frame m ρ,
    fun m ρ _ => Cert.Kernel8Ideal.Gen.frame m ρ,
    fun m ρ _ => (θ_run (Cert.Reference8Ideal.defs (F := Ideal)) _ _).mono (fun r h => ⟨fun c => (h c).2,
      Idealize.ShloMosaic.sem_eq_zero_of_no_sems (by decide) r.2⟩) (Cert.Reference8Ideal.Value.run (F := Ideal) m ρ),
    fun m ρ _ => Cert.Kernel9.Gen.frame m ρ,
    fun m ρ _ => Cert.Kernel9Ideal.Gen.frame m ρ,
    fun m ρ _ => (θ_run (Cert.Reference9Ideal.defs (F := Ideal)) _ _).mono (fun r h => ⟨fun c => (h c).2.2.2.2,
      Idealize.ShloMosaic.sem_eq_zero_of_no_sems (by decide) r.2⟩) (Cert.Reference9Ideal.Value.run (F := Ideal) m ρ),
    fun m ρ _ => Cert.Kernel10.Gen.frame m ρ,
    fun m ρ _ => Cert.Kernel10Ideal.Gen.frame m ρ,
    fun m ρ _ => Cert.Kernel10Ideal.Gen.frame m ρ,
    fun m ρ _ => (θ_run (Cert.Reference10Ideal.defs (F := Ideal)) _ _).mono (fun r h => ⟨fun c => (h c).2.2,
      Idealize.ShloMosaic.sem_eq_zero_of_no_sems (by decide) r.2⟩) (Cert.Reference10Ideal.Value.run (F := Ideal) m ρ),
    fun m ρ _ => (θ_run (Cert.Reference10Ideal.defs (F := Ideal)) _ _).mono (fun r h => ⟨fun c => (h c).2.2,
      Idealize.ShloMosaic.sem_eq_zero_of_no_sems (by decide) r.2⟩) (Cert.Reference10Ideal.Value.run (F := Ideal) m ρ),
    fun m ρ _ => Cert.Kernel11.Gen.frame m ρ,
    fun m ρ _ => Cert.Kernel11Ideal.Gen.frame m ρ,
    fun m ρ _ => (θ_run (Cert.Reference11Ideal.defs (F := Ideal)) _ _).mono (fun r h => ⟨fun c => (h c).2.2.2.2,
      Idealize.ShloMosaic.sem_eq_zero_of_no_sems (by decide) r.2⟩) (Cert.Reference11Ideal.Value.run (F := Ideal) m ρ),
    fun m ρ _ => Cert.Kernel12.Gen.frame m ρ,
    fun m ρ _ => Cert.Kernel12Ideal.Gen.frame m ρ,
    fun m ρ _ => (θ_run (Cert.Reference12Ideal.defs (F := Ideal)) _ _).mono (fun r h => ⟨fun c => (h c).2.2,
      Idealize.ShloMosaic.sem_eq_zero_of_no_sems (by decide) r.2⟩) (Cert.Reference12Ideal.Value.run (F := Ideal) m ρ),
    fun m ρ _ => Cert.Kernel13.Gen.frame m ρ,
    fun m ρ _ => Cert.Kernel13Ideal.Gen.frame m ρ,
    fun m ρ _ => (θ_run (Cert.Reference13Ideal.defs (F := Ideal)) _ _).mono (fun r h => ⟨fun c => (h c).2.2,
      Idealize.ShloMosaic.sem_eq_zero_of_no_sems (by decide) r.2⟩) (Cert.Reference13Ideal.Value.run (F := Ideal) m ρ),
    fun m ρ _ => Cert.Kernel14.Gen.frame m ρ,
    fun m ρ _ => Cert.Kernel14Ideal.Gen.frame m ρ,
    fun m ρ _ => (θ_run (Cert.Reference14Ideal.defs (F := Ideal)) _ _).mono (fun r h => ⟨fun c => (h c).2.2,
      Idealize.ShloMosaic.sem_eq_zero_of_no_sems (by decide) r.2⟩) (Cert.Reference14Ideal.Value.run (F := Ideal) m ρ),
    fun m ρ _ => Cert.Kernel15.Gen.frame m ρ,
    fun m ρ _ => Cert.Kernel15Ideal.Gen.frame m ρ,
    fun m ρ _ => (θ_run (Cert.Reference15Ideal.defs (F := Ideal)) _ _).mono (fun r h => ⟨fun c => (h c).2,
      Idealize.ShloMosaic.sem_eq_zero_of_no_sems (by decide) r.2⟩) (Cert.Reference15Ideal.Value.run (F := Ideal) m ρ),
    fun m ρ _ => Cert.Kernel16.Gen.frame m ρ,
    fun m ρ _ => Cert.Kernel16Ideal.Gen.frame m ρ,
    fun m ρ _ => (θ_run (Cert.Reference16Ideal.defs (F := Ideal)) _ _).mono (fun r h => ⟨fun c => (h c).2.2,
      Idealize.ShloMosaic.sem_eq_zero_of_no_sems (by decide) r.2⟩) (Cert.Reference16Ideal.Value.run (F := Ideal) m ρ),
    fun m ρ _ => Cert.Kernel17.Gen.frame m ρ,
    fun m ρ _ => Cert.Kernel17Ideal.Gen.frame m ρ,
    fun m ρ _ => (θ_run (Cert.Reference17Ideal.defs (F := Ideal)) _ _).mono (fun r h => ⟨fun c => (h c).2.2.2,
      Idealize.ShloMosaic.sem_eq_zero_of_no_sems (by decide) r.2⟩) (Cert.Reference17Ideal.Value.run (F := Ideal) m ρ),
    fun m ρ _ => Cert.Kernel18.Gen.frame m ρ,
    fun m ρ _ => Cert.Kernel18Ideal.Gen.frame m ρ,
    fun m ρ _ => (θ_run (Cert.Reference18Ideal.defs (F := Ideal)) _ _).mono (fun r h => ⟨fun c => (h c).2.2.2,
      Idealize.ShloMosaic.sem_eq_zero_of_no_sems (by decide) r.2⟩) (Cert.Reference18Ideal.Value.run (F := Ideal) m ρ),
    fun m ρ _ => Cert.Kernel19.Gen.frame m ρ,
    fun m ρ _ => Cert.Kernel19Ideal.Gen.frame m ρ,
    fun m ρ _ => (θ_run (Cert.Reference19Ideal.defs (F := Ideal)) _ _).mono (fun r h => ⟨fun c => (h c).2.2.2,
      Idealize.ShloMosaic.sem_eq_zero_of_no_sems (by decide) r.2⟩) (Cert.Reference19Ideal.Value.run (F := Ideal) m ρ),
    fun m ρ _ => Cert.Kernel20.Gen.frame m ρ,
    fun m ρ _ => Cert.Kernel20Ideal.Gen.frame m ρ,
    fun m ρ _ => (θ_run (Cert.Reference20Ideal.defs (F := Ideal)) _ _).mono (fun r h => ⟨fun c => (h c).2.2.2,
      Idealize.ShloMosaic.sem_eq_zero_of_no_sems (by decide) r.2⟩) (Cert.Reference20Ideal.Value.run (F := Ideal) m ρ),
    fun m ρ _ => Cert.Kernel21.Gen.frame m ρ,
    fun m ρ _ => Cert.Kernel21Ideal.Gen.frame m ρ,
    fun m ρ _ => (θ_run (Cert.Reference21Ideal.defs (F := Ideal)) _ _).mono (fun r h => ⟨fun c => (h c).2.2.2,
      Idealize.ShloMosaic.sem_eq_zero_of_no_sems (by decide) r.2⟩) (Cert.Reference21Ideal.Value.run (F := Ideal) m ρ),
    fun m ρ _ => Cert.Kernel22.Gen.frame m ρ,
    fun m ρ _ => Cert.Kernel22Ideal.Gen.frame m ρ,
    fun m ρ _ => (θ_run (Cert.Reference22Ideal.defs (F := Ideal)) _ _).mono (fun r h => ⟨fun c => (h c).2.2.2,
      Idealize.ShloMosaic.sem_eq_zero_of_no_sems (by decide) r.2⟩) (Cert.Reference22Ideal.Value.run (F := Ideal) m ρ),
    fun m ρ _ => Cert.Kernel23.Gen.frame m ρ,
    fun m ρ _ => Cert.Kernel23Ideal.Gen.frame m ρ,
    fun m ρ _ => (θ_run (Cert.Reference23Ideal.defs (F := Ideal)) _ _).mono (fun r h => ⟨fun c => (h c).2.2.2,
      Idealize.ShloMosaic.sem_eq_zero_of_no_sems (by decide) r.2⟩) (Cert.Reference23Ideal.Value.run (F := Ideal) m ρ),
    fun m ρ _ => Cert.Kernel24.Gen.frame m ρ,
    fun m ρ _ => Cert.Kernel24Ideal.Gen.frame m ρ,
    fun m ρ _ => (θ_run (Cert.Reference24Ideal.defs (F := Ideal)) _ _).mono (fun r h => ⟨fun c => (h c).2.2.2,
      Idealize.ShloMosaic.sem_eq_zero_of_no_sems (by decide) r.2⟩) (Cert.Reference24Ideal.Value.run (F := Ideal) m ρ),
    fun m ρ _ => Cert.Kernel25.Gen.frame m ρ,
    fun m ρ _ => Cert.Kernel25Ideal.Gen.frame m ρ,
    fun m ρ _ => (θ_run (Cert.Reference25Ideal.defs (F := Ideal)) _ _).mono (fun r h => ⟨fun c => (h c).2.2.2,
      Idealize.ShloMosaic.sem_eq_zero_of_no_sems (by decide) r.2⟩) (Cert.Reference25Ideal.Value.run (F := Ideal) m ρ),
    fun m ρ _ => Cert.Kernel26.Gen.frame m ρ,
    fun m ρ _ => Cert.Kernel26Ideal.Gen.frame m ρ,
    fun m ρ _ => (θ_run (Cert.Reference26Ideal.defs (F := Ideal)) _ _).mono (fun r h => ⟨fun c => (h c).2.2.2,
      Idealize.ShloMosaic.sem_eq_zero_of_no_sems (by decide) r.2⟩) (Cert.Reference26Ideal.Value.run (F := Ideal) m ρ),
    fun m ρ _ => Cert.Kernel27.Gen.frame m ρ,
    fun m ρ _ => Cert.Kernel27Ideal.Gen.frame m ρ,
    fun m ρ _ => (θ_run (Cert.Reference27Ideal.defs (F := Ideal)) _ _).mono (fun r h => ⟨fun c => (h c).2.2.2,
      Idealize.ShloMosaic.sem_eq_zero_of_no_sems (by decide) r.2⟩) (Cert.Reference27Ideal.Value.run (F := Ideal) m ρ),
    fun m ρ _ => Cert.Kernel28.Gen.frame m ρ,
    fun m ρ _ => Cert.Kernel28Ideal.Gen.frame m ρ,
    fun m ρ _ => (θ_run (Cert.Reference28Ideal.defs (F := Ideal)) _ _).mono (fun r h => ⟨fun c => (h c).2.2.2,
      Idealize.ShloMosaic.sem_eq_zero_of_no_sems (by decide) r.2⟩) (Cert.Reference28Ideal.Value.run (F := Ideal) m ρ),
    fun m ρ _ => Cert.Kernel29.Gen.frame m ρ,
    fun m ρ _ => Cert.Kernel29Ideal.Gen.frame m ρ,
    fun m ρ _ => (θ_run (Cert.Reference29Ideal.defs (F := Ideal)) _ _).mono (fun r h => ⟨fun c => (h c).2.2.2,
      Idealize.ShloMosaic.sem_eq_zero_of_no_sems (by decide) r.2⟩) (Cert.Reference29Ideal.Value.run (F := Ideal) m ρ),
    fun m ρ _ => Cert.Kernel30.Gen.frame m ρ,
    fun m ρ _ => Cert.Kernel30Ideal.Gen.frame m ρ,
    fun m ρ _ => (θ_run (Cert.Reference30Ideal.defs (F := Ideal)) _ _).mono (fun r h => ⟨fun c => (h c).2.2.2,
      Idealize.ShloMosaic.sem_eq_zero_of_no_sems (by decide) r.2⟩) (Cert.Reference30Ideal.Value.run (F := Ideal) m ρ),
    fun m ρ _ => Cert.Kernel31.Gen.frame m ρ,
    fun m ρ _ => Cert.Kernel31Ideal.Gen.frame m ρ,
    fun m ρ _ => (θ_run (Cert.Reference31Ideal.defs (F := Ideal)) _ _).mono (fun r h => ⟨fun c => (h c).2.2.2,
      Idealize.ShloMosaic.sem_eq_zero_of_no_sems (by decide) r.2⟩) (Cert.Reference31Ideal.Value.run (F := Ideal) m ρ),
    fun m ρ _ => Cert.Kernel32.Gen.frame m ρ (Cert.Pair32.ok_bits m),
    fun m ρ _ => Cert.Kernel32Ideal.Gen.frame m ρ (Cert.Pair32.ok m),
    fun m ρ _ => (θ_run (Cert.Reference32Ideal.defs (F := Ideal)) _ _).mono (fun r h => ⟨fun c => (h c).2,
      Idealize.ShloMosaic.sem_eq_zero_of_no_sems (by decide) r.2⟩) (Cert.Reference32Ideal.Value.run (F := Ideal) m ρ),
    fun m ρ _ => Cert.Kernel33.Gen.frame m ρ (Cert.Pair33.ok_bits m),
    fun m ρ _ => Cert.Kernel33Ideal.Gen.frame m ρ (Cert.Pair33.ok m),
    fun m ρ _ => (θ_run (Cert.Reference33Ideal.defs (F := Ideal)) _ _).mono (fun r h => ⟨fun c => (h c).2,
      Idealize.ShloMosaic.sem_eq_zero_of_no_sems (by decide) r.2⟩) (Cert.Reference33Ideal.Value.run (F := Ideal) m ρ),
    fun m ρ _ => Cert.Kernel34.Gen.frame m ρ (Cert.Pair34.ok_bits m),
    fun m ρ _ => Cert.Kernel34Ideal.Gen.frame m ρ (Cert.Pair34.ok m),
    fun m ρ _ => (θ_run (Cert.Reference34Ideal.defs (F := Ideal)) _ _).mono (fun r h => ⟨fun c => (h c).2,
      Idealize.ShloMosaic.sem_eq_zero_of_no_sems (by decide) r.2⟩) (Cert.Reference34Ideal.Value.run (F := Ideal) m ρ),
    fun m ρ _ => Cert.Kernel35.Gen.frame m ρ (Cert.Pair35.ok_bits m),
    fun m ρ _ => Cert.Kernel35Ideal.Gen.frame m ρ (Cert.Pair35.ok m),
    fun m ρ _ => (θ_run (Cert.Reference35Ideal.defs (F := Ideal)) _ _).mono (fun r h => ⟨fun c => (h c).2,
      Idealize.ShloMosaic.sem_eq_zero_of_no_sems (by decide) r.2⟩) (Cert.Reference35Ideal.Value.run (F := Ideal) m ρ),
    fun m ρ _ => Cert.Kernel36.Gen.frame m ρ (Cert.Chips36.ok_bits m),
    fun m ρ _ => Cert.Kernel36Ideal.Gen.frame m ρ (Cert.Chips36.ok m),
    fun m ρ _ => (θ_run (Cert.Reference36Ideal.defs (F := Ideal)) _ _).mono (fun r h => ⟨fun c => (h c).2,
      Idealize.ShloMosaic.sem_eq_zero_of_no_sems (by decide) r.2⟩) (Cert.Reference36Ideal.Value.run (F := Ideal) m ρ),
    fun m ρ _ => Cert.Kernel37.Gen.frame m ρ (Cert.Chips37.ok_bits m),
    fun m ρ _ => Cert.Kernel37Ideal.Gen.frame m ρ (Cert.Chips37.ok m),
    fun m ρ _ => (θ_run (Cert.Reference37Ideal.defs (F := Ideal)) _ _).mono (fun r h => ⟨fun c => (h c).2,
      Idealize.ShloMosaic.sem_eq_zero_of_no_sems (by decide) r.2⟩) (Cert.Reference37Ideal.Value.run (F := Ideal) m ρ),
    fun m ρ _ => Cert.Kernel38.Gen.frame m ρ (Cert.Chips38.ok_bits m),
    fun m ρ _ => Cert.Kernel38Ideal.Gen.frame m ρ (Cert.Chips38.ok m),
    fun m ρ _ => (θ_run (Cert.Reference38Ideal.defs (F := Ideal)) _ _).mono (fun r h => ⟨fun c => (h c).2,
      Idealize.ShloMosaic.sem_eq_zero_of_no_sems (by decide) r.2⟩) (Cert.Reference38Ideal.Value.run (F := Ideal) m ρ),
    fun m ρ _ => Cert.Kernel39.Gen.frame m ρ (Cert.Chips39.ok_bits m),
    fun m ρ _ => Cert.Kernel39Ideal.Gen.frame m ρ (Cert.Chips39.ok m),
    fun m ρ _ => (θ_run (Cert.Reference39Ideal.defs (F := Ideal)) _ _).mono (fun r h => ⟨fun c => (h c).2,
      Idealize.ShloMosaic.sem_eq_zero_of_no_sems (by decide) r.2⟩) (Cert.Reference39Ideal.Value.run (F := Ideal) m ρ),
    fun m ρ _ => Cert.Kernel40.Gen.frame m ρ,
    fun m ρ _ => Cert.Kernel40Ideal.Gen.frame m ρ,
    fun m ρ _ => (θ_run (Cert.Reference40Ideal.defs (F := Ideal)) _ _).mono (fun r h => ⟨fun c => (h c).2,
      Idealize.ShloMosaic.sem_eq_zero_of_no_sems (by decide) r.2⟩) (Cert.Reference40Ideal.Value.run (F := Ideal) m ρ),
    fun m ρ _ => Cert.Kernel41.Gen.frame m ρ,
    fun m ρ _ => Cert.Kernel41Ideal.Gen.frame m ρ,
    fun m ρ _ => (θ_run (Cert.Reference41Ideal.defs (F := Ideal)) _ _).mono (fun r h => ⟨fun c => (h c).2,
      Idealize.ShloMosaic.sem_eq_zero_of_no_sems (by decide) r.2⟩) (Cert.Reference41Ideal.Value.run (F := Ideal) m ρ),
    fun m ρ _ => Cert.Kernel42.Gen.frame m ρ,
    fun m ρ _ => Cert.Kernel42Ideal.Gen.frame m ρ,
    fun m ρ _ => (θ_run (Cert.Reference42Ideal.defs (F := Ideal)) _ _).mono (fun r h => ⟨fun c => (h c).2,
      Idealize.ShloMosaic.sem_eq_zero_of_no_sems (by decide) r.2⟩) (Cert.Reference42Ideal.Value.run (F := Ideal) m ρ),
    fun m ρ _ => Cert.Kernel43.Gen.frame m ρ,
    fun m ρ _ => Cert.Kernel43Ideal.Gen.frame m ρ,
    fun m ρ _ => (θ_run (Cert.Reference43Ideal.defs (F := Ideal)) _ _).mono (fun r h => ⟨fun c => (h c).2,
      Idealize.ShloMosaic.sem_eq_zero_of_no_sems (by decide) r.2⟩) (Cert.Reference43Ideal.Value.run (F := Ideal) m ρ),
    fun m ρ _ => Cert.Kernel44.Gen.frame m ρ,
    fun m ρ _ => Cert.Kernel44Ideal.Gen.frame m ρ,
    fun m ρ _ => (θ_run (Cert.Reference44Ideal.defs (F := Ideal)) _ _).mono (fun r h => ⟨fun c => (h c).2,
      Idealize.ShloMosaic.sem_eq_zero_of_no_sems (by decide) r.2⟩) (Cert.Reference44Ideal.Value.run (F := Ideal) m ρ),
    fun m ρ _ => Cert.Kernel45.Gen.frame m ρ,
    fun m ρ _ => Cert.Kernel45Ideal.Gen.frame m ρ,
    fun m ρ _ => (θ_run (Cert.Reference45Ideal.defs (F := Ideal)) _ _).mono (fun r h => ⟨fun c => (h c).2,
      Idealize.ShloMosaic.sem_eq_zero_of_no_sems (by decide) r.2⟩) (Cert.Reference45Ideal.Value.run (F := Ideal) m ρ),
    fun m ρ _ => Cert.Kernel46.Gen.frame m ρ,
    fun m ρ _ => Cert.Kernel46Ideal.Gen.frame m ρ,
    fun m ρ _ => (θ_run (Cert.Reference46Ideal.defs (F := Ideal)) _ _).mono (fun r h => ⟨fun c => (h c).2,
      Idealize.ShloMosaic.sem_eq_zero_of_no_sems (by decide) r.2⟩) (Cert.Reference46Ideal.Value.run (F := Ideal) m ρ),
    fun m ρ _ => Cert.Kernel47.Gen.frame m ρ,
    fun m ρ _ => Cert.Kernel47Ideal.Gen.frame m ρ,
    fun m ρ _ => (θ_run (Cert.Reference47Ideal.defs (F := Ideal)) _ _).mono (fun r h => ⟨fun c => (h c).2,
      Idealize.ShloMosaic.sem_eq_zero_of_no_sems (by decide) r.2⟩) (Cert.Reference47Ideal.Value.run (F := Ideal) m ρ),
    fun m ρ _ => Cert.Kernel48.Gen.frame m ρ,
    fun m ρ _ => Cert.Kernel48Ideal.Gen.frame m ρ,
    fun m ρ _ => (θ_run (Cert.Reference48Ideal.defs (F := Ideal)) _ _).mono (fun r h => ⟨fun c => (h c).2,
      Idealize.ShloMosaic.sem_eq_zero_of_no_sems (by decide) r.2⟩) (Cert.Reference48Ideal.Value.run (F := Ideal) m ρ),
    fun m ρ _ => Cert.Kernel49.Gen.frame m ρ,
    fun m ρ _ => Cert.Kernel49Ideal.Gen.frame m ρ,
    fun m ρ _ => (θ_run (Cert.Reference49Ideal.defs (F := Ideal)) _ _).mono (fun r h => ⟨fun c => (h c).2,
      Idealize.ShloMosaic.sem_eq_zero_of_no_sems (by decide) r.2⟩) (Cert.Reference49Ideal.Value.run (F := Ideal) m ρ),
    fun m ρ _ => Cert.Kernel50.Gen.frame m ρ,
    fun m ρ _ => Cert.Kernel50Ideal.Gen.frame m ρ,
    fun m ρ _ => (θ_run (Cert.Reference50Ideal.defs (F := Ideal)) _ _).mono (fun r h => ⟨fun c => (h c).2,
      Idealize.ShloMosaic.sem_eq_zero_of_no_sems (by decide) r.2⟩) (Cert.Reference50Ideal.Value.run (F := Ideal) m ρ),
    fun m ρ _ => Cert.Kernel51.Gen.frame m ρ,
    fun m ρ _ => Cert.Kernel51Ideal.Gen.frame m ρ,
    fun m ρ _ => (θ_run (Cert.Reference51Ideal.defs (F := Ideal)) _ _).mono (fun r h => ⟨fun c => (h c).2,
      Idealize.ShloMosaic.sem_eq_zero_of_no_sems (by decide) r.2⟩) (Cert.Reference51Ideal.Value.run (F := Ideal) m ρ),
    trivial,
    Cert.Backward.algebraic,
    trivial,
    Cert.Forward.algebraic,
    trivial,
    Cert.InDh.algebraic,
    trivial,
    Cert.InDw.algebraic,
    trivial,
    Cert.InFwd.algebraic,
    trivial,
    Cert.OutDy.algebraic,
    trivial,
    Cert.OutDw.algebraic,
    trivial,
    Cert.OutFwd.algebraic,
    trivial,
    Cert.ConvBwd.algebraic,
    trivial,
    Cert.GateBwd.algebraic,
    trivial,
    Cert.ModBwd.algebraic,
    trivial,
    Cert.NormBwd.algebraic,
    trivial,
    Cert.ResidBwd.algebraic,
    trivial,
    Cert.DecayBwd.algebraic,
    trivial,
    Cert.AdaBwd.algebraic,
    trivial,
    Cert.SumDevices.algebraic,
    trivial,
    Cert.AdamW17.algebraic,
    trivial,
    Cert.AdamW18.algebraic,
    trivial,
    Cert.AdamW19.algebraic,
    trivial,
    Cert.AdamW20.algebraic,
    trivial,
    Cert.AdamW21.algebraic,
    trivial,
    Cert.AdamW22.algebraic,
    trivial,
    Cert.AdamW23.algebraic,
    trivial,
    Cert.AdamW24.algebraic,
    trivial,
    Cert.AdamW25.algebraic,
    trivial,
    Cert.AdamW26.algebraic,
    trivial,
    Cert.AdamW27.algebraic,
    trivial,
    Cert.AdamW28.algebraic,
    trivial,
    Cert.AdamW29.algebraic,
    trivial,
    Cert.AdamW30.algebraic,
    trivial,
    Cert.AdamW31.algebraic,
    trivial,
    Cert.Pair32.algebraic,
    trivial,
    Cert.Pair33.algebraic,
    trivial,
    Cert.Pair34.algebraic,
    trivial,
    Cert.Pair35.algebraic,
    trivial,
    Cert.Chips36.algebraic,
    trivial,
    Cert.Chips37.algebraic,
    trivial,
    Cert.Chips38.algebraic,
    trivial,
    Cert.Chips39.algebraic,
    trivial,
    Cert.NopeFwd.algebraic,
    trivial,
    Cert.RopeFwd.algebraic,
    trivial,
    Cert.KvFwd.algebraic,
    trivial,
    Cert.NopeDa.algebraic,
    trivial,
    Cert.RopeDa.algebraic,
    trivial,
    Cert.KvDa.algebraic,
    trivial,
    Cert.NopeDb.algebraic,
    trivial,
    Cert.RopeDb.algebraic,
    trivial,
    Cert.KvDb.algebraic,
    trivial,
    Cert.GlrFwd.algebraic,
    trivial,
    Cert.GlrDa.algebraic,
    trivial,
    Cert.GlrDb.algebraic⟩

end Cert.Proof

end
